-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S12x264x2x128 Cert.KernelIdeal.S12x264x1x128
  ∧ IdealRules.bf16_pair.BufferStatement Cert.KernelIdeal.S2x3x360x2x128 Cert.KernelIdeal.S2x3x360x1x128
  ∧ IdealRules.bf16_pair.PackStatement Cert.KernelIdeal.S8x128
  ∧ IdealRules.bf16_pair.Statement Cert.KernelIdeal.S1x8x2x128 Cert.KernelIdeal.S1x8x1x128
  ∧ IdealRules.bf16_pair.Statement Cert.KernelIdeal.S16x128 Cert.KernelIdeal.S8x128
  ∧ IdealRules.bf16_pair.Statement Cert.KernelIdeal.S1x1x8x2x128 Cert.KernelIdeal.S1x1x8x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S384x3x2048 : Shape := ⟨3, ![384, 3, 2048]⟩
abbrev S384x3 : Shape := ⟨2, ![384, 3]⟩
abbrev S2048x4096 : Shape := ⟨2, ![2048, 4096]⟩
abbrev S4096 : Shape := ⟨1, ![4096]⟩
abbrev S3x384x2048 : Shape := ⟨3, ![3, 384, 2048]⟩
abbrev S3x384 : Shape := ⟨2, ![3, 384]⟩
abbrev S32x128 : Shape := ⟨2, ![32, 128]⟩
abbrev S3x5x384x1024 : Shape := ⟨4, ![3, 5, 384, 1024]⟩
abbrev S3x384x128 : Shape := ⟨3, ![3, 384, 128]⟩
abbrev S12x264x128 : Shape := ⟨3, ![12, 264, 128]⟩
abbrev S384x3x4x8x128 : Shape := ⟨5, ![384, 3, 4, 8, 128]⟩
abbrev S392x3x8x128 : Shape := ⟨4, ![392, 3, 8, 128]⟩
abbrev S192x3x8x128 : Shape := ⟨4, ![192, 3, 8, 128]⟩
abbrev S48x3x8x128 : Shape := ⟨4, ![48, 3, 8, 128]⟩
abbrev S3x392x128 : Shape := ⟨3, ![3, 392, 128]⟩
abbrev S2x3x360x128 : Shape := ⟨4, ![2, 3, 360, 128]⟩
abbrev S8x128 : Shape := ⟨2, ![8, 128]⟩
abbrev S1x128 : Shape := ⟨2, ![1, 128]⟩
abbrev S128x128 : Shape := ⟨2, ![128, 128]⟩
abbrev S1x128x128 : Shape := ⟨3, ![1, 128, 128]⟩
abbrev S1x32x2048 : Shape := ⟨3, ![1, 32, 2048]⟩
abbrev S32x2048 : Shape := ⟨2, ![32, 2048]⟩
abbrev S192x2048 : Shape := ⟨2, ![192, 2048]⟩
abbrev S2048x512 : Shape := ⟨2, ![2048, 512]⟩
abbrev S192x512 : Shape := ⟨2, ![192, 512]⟩
abbrev S1x8x128 : Shape := ⟨3, ![1, 8, 128]⟩
abbrev S8x128x1 : Shape := ⟨3, ![8, 128, 1]⟩
abbrev S1x1x1x8x128 : Shape := ⟨5, ![1, 1, 1, 8, 128]⟩
abbrev S1x1x8x128 : Shape := ⟨4, ![1, 1, 8, 128]⟩
abbrev S1 : Shape := ⟨1, ![1]⟩
abbrev S1x1x1 : Shape := ⟨3, ![1, 1, 1]⟩
abbrev S1x1 : Shape := ⟨2, ![1, 1]⟩
abbrev S1x1x128 : Shape := ⟨3, ![1, 1, 128]⟩
abbrev S16x128 : Shape := ⟨2, ![16, 128]⟩
abbrev S1x1x16x128 : Shape := ⟨4, ![1, 1, 16, 128]⟩
abbrev S7x3x8x128 : Shape := ⟨4, ![7, 3, 8, 128]⟩
abbrev S128 : Shape := ⟨1, ![128]⟩
abbrev S1x384 : Shape := ⟨2, ![1, 384]⟩
abbrev S1x384x128 : Shape := ⟨3, ![1, 384, 128]⟩
abbrev S384x128 : Shape := ⟨2, ![384, 128]⟩
abbrev S8x384 : Shape := ⟨2, ![8, 384]⟩

abbrev nBuf : Space → Nat
  | .hbm => 11
  | .vmem => 18
  | .smem => 0
  | _ => 0

abbrev bufTy : (tb : Table) → Fin (tcTables nBuf tb) → BufTy
  | .hbm, ⟨0, _⟩ => ⟨S384x3x2048, .fp8e4m3⟩
  | .hbm, ⟨1, _⟩ => ⟨S384x3, .f32⟩
  | .hbm, ⟨2, _⟩ => ⟨S2048x4096, .fp8e4m3⟩
  | .hbm, ⟨3, _⟩ => ⟨S4096, .f32⟩
  | .hbm, ⟨4, _⟩ => ⟨S4096, .f32⟩
  | .hbm, ⟨5, _⟩ => ⟨S3x384x2048, .fp8e4m3⟩
  | .hbm, ⟨6, _⟩ => ⟨S3x384, .f32⟩
  | .hbm, ⟨7, _⟩ => ⟨S32x128, .f32⟩
  | .hbm, ⟨8, _⟩ => ⟨S32x128, .f32⟩
  | .hbm, ⟨9, _⟩ => ⟨S3x384, .f32⟩
  | .hbm, ⟨10, _⟩ => ⟨S3x5x384x1024, .bf16⟩
  | .local _ .vmem, ⟨0, _⟩ => ⟨S3x384x2048, .fp8e4m3⟩
  | .local _ .vmem, ⟨1, _⟩ => ⟨S3x384, .f32⟩
  | .local _ .vmem, ⟨2, _⟩ => ⟨S2048x4096, .fp8e4m3⟩
  | .local _ .vmem, ⟨3, _⟩ => ⟨S32x128, .f32⟩
  | .local _ .vmem, ⟨4, _⟩ => ⟨S32x128, .f32⟩
  | .local _ .vmem, ⟨5, _⟩ => ⟨S3x384, .f32⟩
  | .local _ .vmem, ⟨6, _⟩ => ⟨S3x5x384x1024, .bf16⟩
  | .local _ .vmem, ⟨7, _⟩ => ⟨S3x384x128, .f32⟩
  | .local _ .vmem, ⟨8, _⟩ => ⟨S12x264x128, .i32⟩
  | .local _ .vmem, ⟨9, _⟩ => ⟨S384x3x4x8x128, .f32⟩
  | .local _ .vmem, ⟨10, _⟩ => ⟨S392x3x8x128, .f32⟩
  | .local _ .vmem, ⟨11, _⟩ => ⟨S192x3x8x128, .f32⟩
  | .local _ .vmem, ⟨12, _⟩ => ⟨S192x3x8x128, .f32⟩
  | .local _ .vmem, ⟨13, _⟩ => ⟨S48x3x8x128, .f32⟩
  | .local _ .vmem, ⟨14, _⟩ => ⟨S48x3x8x128, .f32⟩
  | .local _ .vmem, ⟨15, _⟩ => ⟨S3x392x128, .f32⟩
  | .local _ .vmem, ⟨16, _⟩ => ⟨S3x392x128, .f32⟩
  | .local _ .vmem, ⟨17, _⟩ => ⟨S2x3x360x128, .i32⟩
  | _, _ => ⟨S384x3x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32_102 : BitVec 32 := 0#32
  let c6_i32 : BitVec 32 := 6#32
  let v249 : BitVec 32 := Scalar.addi c0_i32_102 c6_i32
  let c1_i32_103 : BitVec 32 := 1#32
  ⟨c0_i32_102, v249, c1_i32_103⟩
def k0_mult1 (k0_t1 : Fin k0_t1_loop.trips) : BitVec 32 :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  v398
def k0_mult2 (k0_t1 : Fin k0_t1_loop.trips) : BitVec 32 :=
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  v402
@[reducible] def k0_t2_loop : Scf.Loop 32 :=
  let c0_i32_216 : BitVec 32 := 0#32
  let c8_i32_217 : BitVec 32 := 8#32
  let v404 : BitVec 32 := Scalar.addi c0_i32_216 c8_i32_217
  let c1_i32_218 : BitVec 32 := 1#32
  ⟨c0_i32_216, v404, c1_i32_218⟩
def k0_mult3 (k0_t2 : Fin k0_t2_loop.trips) : BitVec 32 :=
  let c0_i32_216 : BitVec 32 := 0#32
  let c1_i32_218 : BitVec 32 := 1#32
  let arg19 : BitVec 32 := Scf.iv c0_i32_216 c1_i32_218 k0_t2
  let c512_i32 : BitVec 32 := 512#32
  let v406 : BitVec 32 := Scalar.muli arg19 c512_i32
  v406
def k0_off1 (k0_t1 : Fin k0_t1_loop.trips) : Fin 3 → Nat :=
  let c0_223 : Index := 0#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v408 : Index := Scalar.indexCast v399
  let c0_224 : Index := 0#32
  ![0, v408.toNat, 0]
def k0_off2 (k0_t1 : Fin k0_t1_loop.trips) : Fin 3 → Nat :=
  let c0_225 : Index := 0#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v411 : Index := Scalar.indexCast v403
  let c0_226 : Index := 0#32
  ![0, v411.toNat, 0]
def k0_off3 (k0_t1 : Fin k0_t1_loop.trips) : Fin 3 → Nat :=
  let c1_227 : Index := 1#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v414 : Index := Scalar.indexCast v399
  let c0_228 : Index := 0#32
  ![1, v414.toNat, 0]
def k0_off4 (k0_t1 : Fin k0_t1_loop.trips) : Fin 3 → Nat :=
  let c1_229 : Index := 1#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v417 : Index := Scalar.indexCast v403
  let c0_230 : Index := 0#32
  ![1, v417.toNat, 0]
def k0_off5 (k0_t1 : Fin k0_t1_loop.trips) : Fin 3 → Nat :=
  let c2_231 : Index := 2#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v420 : Index := Scalar.indexCast v399
  let c0_232 : Index := 0#32
  ![2, v420.toNat, 0]
def k0_off6 (k0_t1 : Fin k0_t1_loop.trips) : Fin 3 → Nat :=
  let c2_233 : Index := 2#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v423 : Index := Scalar.indexCast v403
  let c0_234 : Index := 0#32
  ![2, v423.toNat, 0]
def k0_off7 (k0_t2 : Fin k0_t2_loop.trips) : Fin 2 → Nat :=
  let c0_235 : Index := 0#32
  let c0_i32_216 : BitVec 32 := 0#32
  let c1_i32_218 : BitVec 32 := 1#32
  let arg19 : BitVec 32 := Scf.iv c0_i32_216 c1_i32_218 k0_t2
  let c512_i32 : BitVec 32 := 512#32
  let v406 : BitVec 32 := Scalar.muli arg19 c512_i32
  let v407 : BitVec 32 := v406
  let v427 : Index := Scalar.indexCast v407
  ![0, v427.toNat]
def k0_off8 (k0_t2 : Fin k0_t2_loop.trips) (c0_i32_238 : BitVec 32) : Fin 2 → Nat :=
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v432 : Index := Scalar.indexCast v431
  let c0_239 : Index := 0#32
  ![v432.toNat, 0]
def k0_off9 (k0_t1 : Fin k0_t1_loop.trips) (c0_i32_241 : BitVec 32) (c0_i32_242 : BitVec 32) : Fin 3 → Nat :=
  let c0_243 : Index := 0#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v438 : BitVec 32 := Scalar.addi v399 c0_i32_241
  let v439 : BitVec 32 := Scalar.addi v438 c0_i32_242
  let v440 : Index := Scalar.indexCast v439
  let c0_244 : Index := 0#32
  ![0, v440.toNat, 0]
def k0_off10 (k0_t2 : Fin k0_t2_loop.trips) (c0_i32_238 : BitVec 32) : Fin 3 → Nat :=
  let c0_251 : Index := 0#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v467 : Index := Scalar.indexCast v431
  let c0_252 : Index := 0#32
  ![0, v467.toNat, 0]
def k0_off11 (k0_t2 : Fin k0_t2_loop.trips) (c0_i32_238 : BitVec 32) : Fin 3 → Nat :=
  let c1_262 : Index := 1#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v500 : Index := Scalar.indexCast v431
  let c0_263 : Index := 0#32
  ![1, v500.toNat, 0]
def k0_off12 (k0_t1 : Fin k0_t1_loop.trips) (c0_i32_264 : BitVec 32) (c0_i32_265 : BitVec 32) : Fin 3 → Nat :=
  let c0_266 : Index := 0#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v504 : BitVec 32 := Scalar.addi v403 c0_i32_264
  let v505 : BitVec 32 := Scalar.addi v504 c0_i32_265
  let v506 : Index := Scalar.indexCast v505
  let c0_267 : Index := 0#32
  ![0, v506.toNat, 0]
def k0_off13 (k0_t2 : Fin k0_t2_loop.trips) (c0_i32_238 : BitVec 32) : Fin 3 → Nat :=
  let c2_274 : Index := 2#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v533 : Index := Scalar.indexCast v431
  let c0_275 : Index := 0#32
  ![2, v533.toNat, 0]
def k0_off14 (k0_t2 : Fin k0_t2_loop.trips) (c0_i32_238 : BitVec 32) : Fin 3 → Nat :=
  let c3 : Index := 3#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v566 : Index := Scalar.indexCast v431
  let c0_286 : Index := 0#32
  ![3, v566.toNat, 0]
def k0_off15 (k0_t1 : Fin k0_t1_loop.trips) (c0_i32_287 : BitVec 32) (c0_i32_288 : BitVec 32) : Fin 3 → Nat :=
  let c1_289 : Index := 1#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v570 : BitVec 32 := Scalar.addi v399 c0_i32_287
  let v571 : BitVec 32 := Scalar.addi v570 c0_i32_288
  let v572 : Index := Scalar.indexCast v571
  let c0_290 : Index := 0#32
  ![1, v572.toNat, 0]
def k0_off16 (k0_t2 : Fin k0_t2_loop.trips) (c0_i32_238 : BitVec 32) : Fin 3 → Nat :=
  let c4 : Index := 4#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v599 : Index := Scalar.indexCast v431
  let c0_297 : Index := 0#32
  ![4, v599.toNat, 0]
def k0_off17 (k0_t2 : Fin k0_t2_loop.trips) (c0_i32_238 : BitVec 32) : Fin 3 → Nat :=
  let c5 : Index := 5#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v632 : Index := Scalar.indexCast v431
  let c0_308 : Index := 0#32
  ![5, v632.toNat, 0]
def k0_off18 (k0_t1 : Fin k0_t1_loop.trips) (c0_i32_309 : BitVec 32) (c0_i32_310 : BitVec 32) : Fin 3 → Nat :=
  let c1_311 : Index := 1#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v636 : BitVec 32 := Scalar.addi v403 c0_i32_309
  let v637 : BitVec 32 := Scalar.addi v636 c0_i32_310
  let v638 : Index := Scalar.indexCast v637
  let c0_312 : Index := 0#32
  ![1, v638.toNat, 0]
def k0_off19 (k0_t2 : Fin k0_t2_loop.trips) (c0_i32_238 : BitVec 32) : Fin 3 → Nat :=
  let c6 : Index := 6#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v665 : Index := Scalar.indexCast v431
  let c0_319 : Index := 0#32
  ![6, v665.toNat, 0]
def k0_off20 (k0_t2 : Fin k0_t2_loop.trips) (c0_i32_238 : BitVec 32) : Fin 3 → Nat :=
  let c7 : Index := 7#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v698 : Index := Scalar.indexCast v431
  let c0_330 : Index := 0#32
  ![7, v698.toNat, 0]
def k0_off21 (k0_t1 : Fin k0_t1_loop.trips) (c0_i32_331 : BitVec 32) (c0_i32_332 : BitVec 32) : Fin 3 → Nat :=
  let c2_333 : Index := 2#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v702 : BitVec 32 := Scalar.addi v399 c0_i32_331
  let v703 : BitVec 32 := Scalar.addi v702 c0_i32_332
  let v704 : Index := Scalar.indexCast v703
  let c0_334 : Index := 0#32
  ![2, v704.toNat, 0]
def k0_off22 (k0_t2 : Fin k0_t2_loop.trips) (c0_i32_238 : BitVec 32) : Fin 3 → Nat :=
  let c8 : Index := 8#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v731 : Index := Scalar.indexCast v431
  let c0_341 : Index := 0#32
  ![8, v731.toNat, 0]
def k0_off23 (k0_t2 : Fin k0_t2_loop.trips) (c0_i32_238 : BitVec 32) : Fin 3 → Nat :=
  let c9 : Index := 9#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v764 : Index := Scalar.indexCast v431
  let c0_352 : Index := 0#32
  ![9, v764.toNat, 0]
def k0_off24 (k0_t1 : Fin k0_t1_loop.trips) (c0_i32_353 : BitVec 32) (c0_i32_354 : BitVec 32) : Fin 3 → Nat :=
  let c2_355 : Index := 2#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v768 : BitVec 32 := Scalar.addi v403 c0_i32_353
  let v769 : BitVec 32 := Scalar.addi v768 c0_i32_354
  let v770 : Index := Scalar.indexCast v769
  let c0_356 : Index := 0#32
  ![2, v770.toNat, 0]
def k0_off25 (k0_t2 : Fin k0_t2_loop.trips) (c0_i32_238 : BitVec 32) : Fin 3 → Nat :=
  let c10 : Index := 10#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v797 : Index := Scalar.indexCast v431
  let c0_363 : Index := 0#32
  ![10, v797.toNat, 0]
def k0_off26 (k0_t2 : Fin k0_t2_loop.trips) (c0_i32_238 : BitVec 32) : Fin 3 → Nat :=
  let c11 : Index := 11#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v830 : Index := Scalar.indexCast v431
  let c0_374 : Index := 0#32
  ![11, v830.toNat, 0]
@[reducible] def k0_t3_loop : Scf.Loop 32 :=
  let c0_i32_220 : BitVec 32 := 0#32
  let c96_i32 : BitVec 32 := 96#32
  let v405 : BitVec 32 := Scalar.addi c0_i32_220 c96_i32
  let c1_i32_221 : BitVec 32 := 1#32
  ⟨c0_i32_220, v405, c1_i32_221⟩
def k0_off27 (k0_t3 : Fin k0_t3_loop.trips) (c0_i32_229 : BitVec 32) (c0_i32_230 : BitVec 32) : Fin 3 → Nat :=
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let v420 : Index := Scalar.indexCast v406
  let c33_i32 : BitVec 32 := 33#32
  let c7_i32_224 : BitVec 32 := 7#32
  let v407 : BitVec 32 := Scalar.andi arg19 c7_i32_224
  let v417 : BitVec 32 := Scalar.muli c33_i32 v407
  let v418 : BitVec 32 := Scalar.addi v417 c0_i32_229
  let v419 : BitVec 32 := Scalar.addi v418 c0_i32_230
  let v421 : Index := Scalar.indexCast v419
  let c0_231 : Index := 0#32
  ![v420.toNat, v421.toNat, 0]
def k0_off28 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c7_i32_224 : BitVec 32 := 7#32
  let v407 : BitVec 32 := Scalar.andi arg19 c7_i32_224
  let v558 : BitVec 32 := Scalar.addi v416 v407
  let v559 : Index := Scalar.indexCast v558
  let c2_i32_225 : BitVec 32 := 2#32
  let v408 : BitVec 32 := Scalar.shrsi v406 c2_i32_225
  let v560 : Index := Scalar.indexCast v408
  let c0_251 : Index := 0#32
  let c0_252 : Index := 0#32
  let c0_253 : Index := 0#32
  ![v559.toNat, v560.toNat, 0, 0, 0]
def k0_off29 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c8_i32_254 : BitVec 32 := 8#32
  let v565 : BitVec 32 := Scalar.addi v416 c8_i32_254
  let c7_i32_224 : BitVec 32 := 7#32
  let v407 : BitVec 32 := Scalar.andi arg19 c7_i32_224
  let v566 : BitVec 32 := Scalar.addi v565 v407
  let v567 : Index := Scalar.indexCast v566
  let c2_i32_225 : BitVec 32 := 2#32
  let v408 : BitVec 32 := Scalar.shrsi v406 c2_i32_225
  let v568 : Index := Scalar.indexCast v408
  let c0_255 : Index := 0#32
  let c0_256 : Index := 0#32
  let c0_257 : Index := 0#32
  ![v567.toNat, v568.toNat, 0, 0, 0]
def k0_off30 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c7_i32_224 : BitVec 32 := 7#32
  let v407 : BitVec 32 := Scalar.andi arg19 c7_i32_224
  let v573 : BitVec 32 := Scalar.addi v416 v407
  let v574 : Index := Scalar.indexCast v573
  let c2_i32_225 : BitVec 32 := 2#32
  let v408 : BitVec 32 := Scalar.shrsi v406 c2_i32_225
  let v575 : Index := Scalar.indexCast v408
  let c1_258 : Index := 1#32
  let c0_259 : Index := 0#32
  let c0_260 : Index := 0#32
  ![v574.toNat, v575.toNat, 1, 0, 0]
def k0_off31 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c8_i32_261 : BitVec 32 := 8#32
  let v580 : BitVec 32 := Scalar.addi v416 c8_i32_261
  let c7_i32_224 : BitVec 32 := 7#32
  let v407 : BitVec 32 := Scalar.andi arg19 c7_i32_224
  let v581 : BitVec 32 := Scalar.addi v580 v407
  let v582 : Index := Scalar.indexCast v581
  let c2_i32_225 : BitVec 32 := 2#32
  let v408 : BitVec 32 := Scalar.shrsi v406 c2_i32_225
  let v583 : Index := Scalar.indexCast v408
  let c1_262 : Index := 1#32
  let c0_263 : Index := 0#32
  let c0_264 : Index := 0#32
  ![v582.toNat, v583.toNat, 1, 0, 0]
def k0_off32 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c7_i32_224 : BitVec 32 := 7#32
  let v407 : BitVec 32 := Scalar.andi arg19 c7_i32_224
  let v588 : BitVec 32 := Scalar.addi v416 v407
  let v589 : Index := Scalar.indexCast v588
  let c2_i32_225 : BitVec 32 := 2#32
  let v408 : BitVec 32 := Scalar.shrsi v406 c2_i32_225
  let v590 : Index := Scalar.indexCast v408
  let c2_265 : Index := 2#32
  let c0_266 : Index := 0#32
  let c0_267 : Index := 0#32
  ![v589.toNat, v590.toNat, 2, 0, 0]
def k0_off33 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c8_i32_268 : BitVec 32 := 8#32
  let v595 : BitVec 32 := Scalar.addi v416 c8_i32_268
  let c7_i32_224 : BitVec 32 := 7#32
  let v407 : BitVec 32 := Scalar.andi arg19 c7_i32_224
  let v596 : BitVec 32 := Scalar.addi v595 v407
  let v597 : Index := Scalar.indexCast v596
  let c2_i32_225 : BitVec 32 := 2#32
  let v408 : BitVec 32 := Scalar.shrsi v406 c2_i32_225
  let v598 : Index := Scalar.indexCast v408
  let c2_269 : Index := 2#32
  let c0_270 : Index := 0#32
  let c0_271 : Index := 0#32
  ![v597.toNat, v598.toNat, 2, 0, 0]
def k0_off34 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c7_i32_224 : BitVec 32 := 7#32
  let v407 : BitVec 32 := Scalar.andi arg19 c7_i32_224
  let v603 : BitVec 32 := Scalar.addi v416 v407
  let v604 : Index := Scalar.indexCast v603
  let c2_i32_225 : BitVec 32 := 2#32
  let v408 : BitVec 32 := Scalar.shrsi v406 c2_i32_225
  let v605 : Index := Scalar.indexCast v408
  let c3 : Index := 3#32
  let c0_272 : Index := 0#32
  let c0_273 : Index := 0#32
  ![v604.toNat, v605.toNat, 3, 0, 0]
def k0_off35 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c8_i32_274 : BitVec 32 := 8#32
  let v610 : BitVec 32 := Scalar.addi v416 c8_i32_274
  let c7_i32_224 : BitVec 32 := 7#32
  let v407 : BitVec 32 := Scalar.andi arg19 c7_i32_224
  let v611 : BitVec 32 := Scalar.addi v610 v407
  let v612 : Index := Scalar.indexCast v611
  let c2_i32_225 : BitVec 32 := 2#32
  let v408 : BitVec 32 := Scalar.shrsi v406 c2_i32_225
  let v613 : Index := Scalar.indexCast v408
  let c3_275 : Index := 3#32
  let c0_276 : Index := 0#32
  let c0_277 : Index := 0#32
  ![v612.toNat, v613.toNat, 3, 0, 0]
@[reducible] def k0_t4_loop : Scf.Loop 32 :=
  let c0_i32_110 : BitVec 32 := 0#32
  let c24_i32 : BitVec 32 := 24#32
  let v255 : BitVec 32 := Scalar.addi c0_i32_110 c24_i32
  let c1_i32_111 : BitVec 32 := 1#32
  ⟨c0_i32_110, v255, c1_i32_111⟩
def k0_off36 (k0_t4 : Fin k0_t4_loop.trips) : Fin 4 → Nat :=
  let c0_i32_110 : BitVec 32 := 0#32
  let c1_i32_111 : BitVec 32 := 1#32
  let arg18 : BitVec 32 := Scf.iv c0_i32_110 c1_i32_111 k0_t4
  let v402 : Index := Scalar.indexCast arg18
  let c0_214 : Index := 0#32
  let c0_215 : Index := 0#32
  let c0_216 : Index := 0#32
  ![v402.toNat, 0, 0, 0]
def k0_off37 (k0_t4 : Fin k0_t4_loop.trips) : Fin 4 → Nat :=
  let c0_i32_110 : BitVec 32 := 0#32
  let c1_i32_111 : BitVec 32 := 1#32
  let arg18 : BitVec 32 := Scf.iv c0_i32_110 c1_i32_111 k0_t4
  let v406 : Index := Scalar.indexCast arg18
  let c1_217 : Index := 1#32
  let c0_218 : Index := 0#32
  let c0_219 : Index := 0#32
  ![v406.toNat, 1, 0, 0]
def k0_off38 (k0_t4 : Fin k0_t4_loop.trips) : Fin 4 → Nat :=
  let c0_i32_110 : BitVec 32 := 0#32
  let c1_i32_111 : BitVec 32 := 1#32
  let arg18 : BitVec 32 := Scf.iv c0_i32_110 c1_i32_111 k0_t4
  let v410 : Index := Scalar.indexCast arg18
  let c2_220 : Index := 2#32
  let c0_221 : Index := 0#32
  let c0_222 : Index := 0#32
  ![v410.toNat, 2, 0, 0]
def k0_off39 (k0_t4 : Fin k0_t4_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let v459 : Index := Scalar.indexCast v398
  let c0_232 : Index := 0#32
  let c0_233 : Index := 0#32
  let c0_234 : Index := 0#32
  ![v459.toNat, 0, 0, 0]
def k0_off40 (k0_t4 : Fin k0_t4_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let v463 : Index := Scalar.indexCast v398
  let c1_235 : Index := 1#32
  let c0_236 : Index := 0#32
  let c0_237 : Index := 0#32
  ![v463.toNat, 1, 0, 0]
def k0_off41 (k0_t4 : Fin k0_t4_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let v467 : Index := Scalar.indexCast v398
  let c2_238 : Index := 2#32
  let c0_239 : Index := 0#32
  let c0_240 : Index := 0#32
  ![v467.toNat, 2, 0, 0]
def k0_off42 (k0_t4 : Fin k0_t4_loop.trips) : Fin 3 → Nat :=
  let c0_251 : Index := 0#32
  let c0_i32_110 : BitVec 32 := 0#32
  let c1_i32_111 : BitVec 32 := 1#32
  let arg18 : BitVec 32 := Scf.iv c0_i32_110 c1_i32_111 k0_t4
  let c8_i32_250 : BitVec 32 := 8#32
  let v514 : BitVec 32 := Scalar.muli arg18 c8_i32_250
  let v515 : Index := Scalar.indexCast v514
  let c0_252 : Index := 0#32
  ![0, v515.toNat, 0]
def k0_off43 (k0_t4 : Fin k0_t4_loop.trips) : Fin 3 → Nat :=
  let c1_254 : Index := 1#32
  let c0_i32_110 : BitVec 32 := 0#32
  let c1_i32_111 : BitVec 32 := 1#32
  let arg18 : BitVec 32 := Scf.iv c0_i32_110 c1_i32_111 k0_t4
  let c8_i32_253 : BitVec 32 := 8#32
  let v520 : BitVec 32 := Scalar.muli arg18 c8_i32_253
  let v521 : Index := Scalar.indexCast v520
  let c0_255 : Index := 0#32
  ![1, v521.toNat, 0]
def k0_off44 (k0_t4 : Fin k0_t4_loop.trips) : Fin 3 → Nat :=
  let c2_257 : Index := 2#32
  let c0_i32_110 : BitVec 32 := 0#32
  let c1_i32_111 : BitVec 32 := 1#32
  let arg18 : BitVec 32 := Scf.iv c0_i32_110 c1_i32_111 k0_t4
  let c8_i32_256 : BitVec 32 := 8#32
  let v526 : BitVec 32 := Scalar.muli arg18 c8_i32_256
  let v527 : Index := Scalar.indexCast v526
  let c0_258 : Index := 0#32
  ![2, v527.toNat, 0]
@[reducible] def k0_t5_loop : Scf.Loop 32 :=
  let c0_i32_259 : BitVec 32 := 0#32
  let c8_i32_260 : BitVec 32 := 8#32
  let v531 : BitVec 32 := Scalar.addi c0_i32_259 c8_i32_260
  let c1_i32_261 : BitVec 32 := 1#32
  ⟨c0_i32_259, v531, c1_i32_261⟩
def k0_off45 (k0_t4 : Fin k0_t4_loop.trips) (k0_t5 : Fin k0_t5_loop.trips) : Fin 4 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v539 : Index := Scalar.indexCast v534
  let c0_267 : Index := 0#32
  let c0_268 : Index := 0#32
  let c0_269 : Index := 0#32
  ![v539.toNat, 0, 0, 0]
def k0_off46 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v543 : Index := Scalar.indexCast v534
  let c0_270 : Index := 0#32
  let c0_271 : Index := 0#32
  let c0_272 : Index := 0#32
  let c0_273 : Index := 0#32
  ![v543.toNat, 0, 0, 0, 0]
def k0_off47 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v546 : Index := Scalar.indexCast v534
  let c0_274 : Index := 0#32
  let c1_275 : Index := 1#32
  let c0_276 : Index := 0#32
  let c0_277 : Index := 0#32
  ![v546.toNat, 0, 1, 0, 0]
def k0_off48 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v549 : Index := Scalar.indexCast v534
  let c0_278 : Index := 0#32
  let c2_279 : Index := 2#32
  let c0_280 : Index := 0#32
  let c0_281 : Index := 0#32
  ![v549.toNat, 0, 2, 0, 0]
def k0_off49 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v552 : Index := Scalar.indexCast v534
  let c0_282 : Index := 0#32
  let c3 : Index := 3#32
  let c0_283 : Index := 0#32
  let c0_284 : Index := 0#32
  ![v552.toNat, 0, 3, 0, 0]
def k0_off50 (k0_t4 : Fin k0_t4_loop.trips) (k0_t5 : Fin k0_t5_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let c192_i32 : BitVec 32 := 192#32
  let v600 : BitVec 32 := Scalar.subi v538 c192_i32
  let v601 : Index := Scalar.indexCast v600
  let c0_285 : Index := 0#32
  let c0_286 : Index := 0#32
  let c0_287 : Index := 0#32
  ![v601.toNat, 0, 0, 0]
def k0_off51 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v622 : Index := Scalar.indexCast v538
  let c0_292 : Index := 0#32
  let c0_293 : Index := 0#32
  let c0_294 : Index := 0#32
  let c0_295 : Index := 0#32
  ![v622.toNat, 0, 0, 0, 0]
def k0_off52 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v625 : Index := Scalar.indexCast v538
  let c0_296 : Index := 0#32
  let c1_297 : Index := 1#32
  let c0_298 : Index := 0#32
  let c0_299 : Index := 0#32
  ![v625.toNat, 0, 1, 0, 0]
def k0_off53 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v628 : Index := Scalar.indexCast v538
  let c0_300 : Index := 0#32
  let c2_301 : Index := 2#32
  let c0_302 : Index := 0#32
  let c0_303 : Index := 0#32
  ![v628.toNat, 0, 2, 0, 0]
def k0_off54 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v631 : Index := Scalar.indexCast v538
  let c0_304 : Index := 0#32
  let c3_305 : Index := 3#32
  let c0_306 : Index := 0#32
  let c0_307 : Index := 0#32
  ![v631.toNat, 0, 3, 0, 0]
def k0_off55 (k0_t4 : Fin k0_t4_loop.trips) (k0_t5 : Fin k0_t5_loop.trips) : Fin 4 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v646 : Index := Scalar.indexCast v534
  let c1_309 : Index := 1#32
  let c0_310 : Index := 0#32
  let c0_311 : Index := 0#32
  ![v646.toNat, 1, 0, 0]
def k0_off56 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v650 : Index := Scalar.indexCast v534
  let c1_312 : Index := 1#32
  let c0_313 : Index := 0#32
  let c0_314 : Index := 0#32
  let c0_315 : Index := 0#32
  ![v650.toNat, 1, 0, 0, 0]
def k0_off57 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v653 : Index := Scalar.indexCast v534
  let c1_316 : Index := 1#32
  let c1_317 : Index := 1#32
  let c0_318 : Index := 0#32
  let c0_319 : Index := 0#32
  ![v653.toNat, 1, 1, 0, 0]
def k0_off58 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v656 : Index := Scalar.indexCast v534
  let c1_320 : Index := 1#32
  let c2_321 : Index := 2#32
  let c0_322 : Index := 0#32
  let c0_323 : Index := 0#32
  ![v656.toNat, 1, 2, 0, 0]
def k0_off59 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v659 : Index := Scalar.indexCast v534
  let c1_324 : Index := 1#32
  let c3_325 : Index := 3#32
  let c0_326 : Index := 0#32
  let c0_327 : Index := 0#32
  ![v659.toNat, 1, 3, 0, 0]
def k0_off60 (k0_t4 : Fin k0_t4_loop.trips) (k0_t5 : Fin k0_t5_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let c192_i32_328 : BitVec 32 := 192#32
  let v707 : BitVec 32 := Scalar.subi v538 c192_i32_328
  let v708 : Index := Scalar.indexCast v707
  let c1_329 : Index := 1#32
  let c0_330 : Index := 0#32
  let c0_331 : Index := 0#32
  ![v708.toNat, 1, 0, 0]
def k0_off61 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v729 : Index := Scalar.indexCast v538
  let c1_336 : Index := 1#32
  let c0_337 : Index := 0#32
  let c0_338 : Index := 0#32
  let c0_339 : Index := 0#32
  ![v729.toNat, 1, 0, 0, 0]
def k0_off62 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v732 : Index := Scalar.indexCast v538
  let c1_340 : Index := 1#32
  let c1_341 : Index := 1#32
  let c0_342 : Index := 0#32
  let c0_343 : Index := 0#32
  ![v732.toNat, 1, 1, 0, 0]
def k0_off63 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v735 : Index := Scalar.indexCast v538
  let c1_344 : Index := 1#32
  let c2_345 : Index := 2#32
  let c0_346 : Index := 0#32
  let c0_347 : Index := 0#32
  ![v735.toNat, 1, 2, 0, 0]
def k0_off64 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v738 : Index := Scalar.indexCast v538
  let c1_348 : Index := 1#32
  let c3_349 : Index := 3#32
  let c0_350 : Index := 0#32
  let c0_351 : Index := 0#32
  ![v738.toNat, 1, 3, 0, 0]
def k0_off65 (k0_t4 : Fin k0_t4_loop.trips) (k0_t5 : Fin k0_t5_loop.trips) : Fin 4 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v753 : Index := Scalar.indexCast v534
  let c2_353 : Index := 2#32
  let c0_354 : Index := 0#32
  let c0_355 : Index := 0#32
  ![v753.toNat, 2, 0, 0]
def k0_off66 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v757 : Index := Scalar.indexCast v534
  let c2_356 : Index := 2#32
  let c0_357 : Index := 0#32
  let c0_358 : Index := 0#32
  let c0_359 : Index := 0#32
  ![v757.toNat, 2, 0, 0, 0]
def k0_off67 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v760 : Index := Scalar.indexCast v534
  let c2_360 : Index := 2#32
  let c1_361 : Index := 1#32
  let c0_362 : Index := 0#32
  let c0_363 : Index := 0#32
  ![v760.toNat, 2, 1, 0, 0]
def k0_off68 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v763 : Index := Scalar.indexCast v534
  let c2_364 : Index := 2#32
  let c2_365 : Index := 2#32
  let c0_366 : Index := 0#32
  let c0_367 : Index := 0#32
  ![v763.toNat, 2, 2, 0, 0]
def k0_off69 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v766 : Index := Scalar.indexCast v534
  let c2_368 : Index := 2#32
  let c3_369 : Index := 3#32
  let c0_370 : Index := 0#32
  let c0_371 : Index := 0#32
  ![v766.toNat, 2, 3, 0, 0]
def k0_off70 (k0_t4 : Fin k0_t4_loop.trips) (k0_t5 : Fin k0_t5_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let c192_i32_372 : BitVec 32 := 192#32
  let v814 : BitVec 32 := Scalar.subi v538 c192_i32_372
  let v815 : Index := Scalar.indexCast v814
  let c2_373 : Index := 2#32
  let c0_374 : Index := 0#32
  let c0_375 : Index := 0#32
  ![v815.toNat, 2, 0, 0]
def k0_off71 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v836 : Index := Scalar.indexCast v538
  let c2_380 : Index := 2#32
  let c0_381 : Index := 0#32
  let c0_382 : Index := 0#32
  let c0_383 : Index := 0#32
  ![v836.toNat, 2, 0, 0, 0]
def k0_off72 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v839 : Index := Scalar.indexCast v538
  let c2_384 : Index := 2#32
  let c1_385 : Index := 1#32
  let c0_386 : Index := 0#32
  let c0_387 : Index := 0#32
  ![v839.toNat, 2, 1, 0, 0]
def k0_off73 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v842 : Index := Scalar.indexCast v538
  let c2_388 : Index := 2#32
  let c2_389 : Index := 2#32
  let c0_390 : Index := 0#32
  let c0_391 : Index := 0#32
  ![v842.toNat, 2, 2, 0, 0]
def k0_off74 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v845 : Index := Scalar.indexCast v538
  let c2_392 : Index := 2#32
  let c3_393 : Index := 3#32
  let c0_394 : Index := 0#32
  let c0_395 : Index := 0#32
  ![v845.toNat, 2, 3, 0, 0]
@[reducible] def k0_t6_loop : Scf.Loop 32 :=
  let c0_i32_141 : BitVec 32 := 0#32
  let c12_i32 : BitVec 32 := 12#32
  let v308 : BitVec 32 := Scalar.addi c0_i32_141 c12_i32
  let c1_i32_142 : BitVec 32 := 1#32
  ⟨c0_i32_141, v308, c1_i32_142⟩
@[reducible] def k0_t7_loop : Scf.Loop 32 :=
  let c0_i32_214 : BitVec 32 := 0#32
  let c2_i32_215 : BitVec 32 := 2#32
  let v398 : BitVec 32 := Scalar.addi c0_i32_214 c2_i32_215
  let c1_i32_216 : BitVec 32 := 1#32
  ⟨c0_i32_214, v398, c1_i32_216⟩
def k0_off75 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c1_i32_226 : BitVec 32 := 1#32
  let v410 : BitVec 32 := Scalar.subi v408 c1_i32_226
  let v411 : Index := Scalar.indexCast v410
  let c0_227 : Index := 0#32
  let c0_228 : Index := 0#32
  let c0_229 : Index := 0#32
  ![v411.toNat, 0, 0, 0]
def k0_off76 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c1_i32_230 : BitVec 32 := 1#32
  let v416 : BitVec 32 := Scalar.subi v408 c1_i32_230
  let v417 : Index := Scalar.indexCast v416
  let c1_231 : Index := 1#32
  let c0_232 : Index := 0#32
  let c0_233 : Index := 0#32
  ![v417.toNat, 1, 0, 0]
def k0_off77 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c1_i32_234 : BitVec 32 := 1#32
  let v422 : BitVec 32 := Scalar.subi v408 c1_i32_234
  let v423 : Index := Scalar.indexCast v422
  let c2_235 : Index := 2#32
  let c0_236 : Index := 0#32
  let c0_237 : Index := 0#32
  ![v423.toNat, 2, 0, 0]
def k0_off78 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c1_i32_238 : BitVec 32 := 1#32
  let v428 : BitVec 32 := Scalar.addi v409 c1_i32_238
  let v429 : Index := Scalar.indexCast v428
  let c0_239 : Index := 0#32
  let c0_240 : Index := 0#32
  let c0_241 : Index := 0#32
  ![v429.toNat, 0, 0, 0]
def k0_off79 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c1_i32_242 : BitVec 32 := 1#32
  let v434 : BitVec 32 := Scalar.addi v409 c1_i32_242
  let v435 : Index := Scalar.indexCast v434
  let c1_243 : Index := 1#32
  let c0_244 : Index := 0#32
  let c0_245 : Index := 0#32
  ![v435.toNat, 1, 0, 0]
def k0_off80 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c1_i32_246 : BitVec 32 := 1#32
  let v440 : BitVec 32 := Scalar.addi v409 c1_i32_246
  let v441 : Index := Scalar.indexCast v440
  let c2_247 : Index := 2#32
  let c0_248 : Index := 0#32
  let c0_249 : Index := 0#32
  ![v441.toNat, 2, 0, 0]
def k0_off81 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v449 : Index := Scalar.indexCast v408
  let c0_250 : Index := 0#32
  let c0_251 : Index := 0#32
  let c0_252 : Index := 0#32
  ![v449.toNat, 0, 0, 0]
def k0_off82 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v453 : Index := Scalar.indexCast v408
  let c1_253 : Index := 1#32
  let c0_254 : Index := 0#32
  let c0_255 : Index := 0#32
  ![v453.toNat, 1, 0, 0]
def k0_off83 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v457 : Index := Scalar.indexCast v408
  let c2_256 : Index := 2#32
  let c0_257 : Index := 0#32
  let c0_258 : Index := 0#32
  ![v457.toNat, 2, 0, 0]
def k0_off84 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let v506 : Index := Scalar.indexCast v409
  let c0_268 : Index := 0#32
  let c0_269 : Index := 0#32
  let c0_270 : Index := 0#32
  ![v506.toNat, 0, 0, 0]
def k0_off85 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let v510 : Index := Scalar.indexCast v409
  let c1_271 : Index := 1#32
  let c0_272 : Index := 0#32
  let c0_273 : Index := 0#32
  ![v510.toNat, 1, 0, 0]
def k0_off86 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let v514 : Index := Scalar.indexCast v409
  let c2_274 : Index := 2#32
  let c0_275 : Index := 0#32
  let c0_276 : Index := 0#32
  ![v514.toNat, 2, 0, 0]
def k0_off87 (k0_t6 : Fin k0_t6_loop.trips) (k0_t7 : Fin k0_t7_loop.trips) : Fin 3 → Nat :=
  let c0_287 : Index := 0#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_286 : BitVec 32 := 8#32
  let v561 : BitVec 32 := Scalar.muli v408 c8_i32_286
  let v562 : Index := Scalar.indexCast v561
  let c0_288 : Index := 0#32
  ![0, v562.toNat, 0]
def k0_off88 (k0_t6 : Fin k0_t6_loop.trips) (k0_t7 : Fin k0_t7_loop.trips) : Fin 3 → Nat :=
  let c1_290 : Index := 1#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_289 : BitVec 32 := 8#32
  let v567 : BitVec 32 := Scalar.muli v408 c8_i32_289
  let v568 : Index := Scalar.indexCast v567
  let c0_291 : Index := 0#32
  ![1, v568.toNat, 0]
def k0_off89 (k0_t6 : Fin k0_t6_loop.trips) (k0_t7 : Fin k0_t7_loop.trips) : Fin 3 → Nat :=
  let c2_293 : Index := 2#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_292 : BitVec 32 := 8#32
  let v573 : BitVec 32 := Scalar.muli v408 c8_i32_292
  let v574 : Index := Scalar.indexCast v573
  let c0_294 : Index := 0#32
  ![2, v574.toNat, 0]
@[reducible] def k0_t8_loop : Scf.Loop 32 :=
  let c0_i32_295 : BitVec 32 := 0#32
  let c4_i32_296 : BitVec 32 := 4#32
  let v578 : BitVec 32 := Scalar.addi c0_i32_295 c4_i32_296
  let c1_i32_297 : BitVec 32 := 1#32
  ⟨c0_i32_295, v578, c1_i32_297⟩
def k0_off90 (k0_t6 : Fin k0_t6_loop.trips) (k0_t7 : Fin k0_t7_loop.trips) (k0_t8 : Fin k0_t8_loop.trips) (c0_i32_305 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let v596 : Index := Scalar.indexCast v589
  let c0_311 : Index := 0#32
  let c0_312 : Index := 0#32
  let c0_313 : Index := 0#32
  ![v596.toNat, 0, 0, 0]
def k0_off91 (k0_t6 : Fin k0_t6_loop.trips) (k0_t7 : Fin k0_t7_loop.trips) (k0_t8 : Fin k0_t8_loop.trips) (c0_i32_305 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let c192_i32_314 : BitVec 32 := 192#32
  let v600 : BitVec 32 := Scalar.subi v589 c192_i32_314
  let v601 : Index := Scalar.indexCast v600
  let c0_315 : Index := 0#32
  let c0_316 : Index := 0#32
  let c0_317 : Index := 0#32
  ![v601.toNat, 0, 0, 0]
def k0_off92 (k0_t6 : Fin k0_t6_loop.trips) (k0_t7 : Fin k0_t7_loop.trips) (k0_t8 : Fin k0_t8_loop.trips) (c0_i32_305 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let v617 : Index := Scalar.indexCast v589
  let c0_318 : Index := 0#32
  let c0_319 : Index := 0#32
  let c0_320 : Index := 0#32
  let c0_321 : Index := 0#32
  ![v617.toNat, 0, 0, 0, 0]
def k0_off93 (k0_t6 : Fin k0_t6_loop.trips) (k0_t7 : Fin k0_t7_loop.trips) (k0_t8 : Fin k0_t8_loop.trips) (c0_i32_305 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let v620 : Index := Scalar.indexCast v589
  let c0_322 : Index := 0#32
  let c1_323 : Index := 1#32
  let c0_324 : Index := 0#32
  let c0_325 : Index := 0#32
  ![v620.toNat, 0, 1, 0, 0]
def k0_off94 (k0_t6 : Fin k0_t6_loop.trips) (k0_t7 : Fin k0_t7_loop.trips) (k0_t8 : Fin k0_t8_loop.trips) (c0_i32_305 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let v623 : Index := Scalar.indexCast v589
  let c0_326 : Index := 0#32
  let c2_327 : Index := 2#32
  let c0_328 : Index := 0#32
  let c0_329 : Index := 0#32
  ![v623.toNat, 0, 2, 0, 0]
def k0_off95 (k0_t6 : Fin k0_t6_loop.trips) (k0_t7 : Fin k0_t7_loop.trips) (k0_t8 : Fin k0_t8_loop.trips) (c0_i32_305 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let v626 : Index := Scalar.indexCast v589
  let c0_330 : Index := 0#32
  let c3 : Index := 3#32
  let c0_331 : Index := 0#32
  let c0_332 : Index := 0#32
  ![v626.toNat, 0, 3, 0, 0]
def k0_off96 (k0_t6 : Fin k0_t6_loop.trips) (k0_t7 : Fin k0_t7_loop.trips) (k0_t8 : Fin k0_t8_loop.trips) (c0_i32_310 : BitVec 32) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_306 : BitVec 32 := 8#32
  let v590 : BitVec 32 := Scalar.muli v409 c8_i32_306
  let c8_i32_307 : BitVec 32 := 8#32
  let v591 : BitVec 32 := Scalar.addi v590 c8_i32_307
  let c1_i32_308 : BitVec 32 := 1#32
  let v592 : BitVec 32 := Scalar.subi v591 c1_i32_308
  let c2_i32_309 : BitVec 32 := 2#32
  let c0_i32_295 : BitVec 32 := 0#32
  let c1_i32_297 : BitVec 32 := 1#32
  let arg56 : BitVec 32 := Scf.iv c0_i32_295 c1_i32_297 k0_t8
  let v593 : BitVec 32 := Scalar.muli c2_i32_309 arg56
  let v594 : BitVec 32 := Scalar.subi v592 v593
  let v595 : BitVec 32 := Scalar.subi v594 c0_i32_310
  let v679 : Index := Scalar.indexCast v595
  let c0_337 : Index := 0#32
  let c0_338 : Index := 0#32
  let c0_339 : Index := 0#32
  ![v679.toNat, 0, 0, 0]
def k0_off97 (k0_t6 : Fin k0_t6_loop.trips) (k0_t7 : Fin k0_t7_loop.trips) (k0_t8 : Fin k0_t8_loop.trips) (c0_i32_310 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_306 : BitVec 32 := 8#32
  let v590 : BitVec 32 := Scalar.muli v409 c8_i32_306
  let c8_i32_307 : BitVec 32 := 8#32
  let v591 : BitVec 32 := Scalar.addi v590 c8_i32_307
  let c1_i32_308 : BitVec 32 := 1#32
  let v592 : BitVec 32 := Scalar.subi v591 c1_i32_308
  let c2_i32_309 : BitVec 32 := 2#32
  let c0_i32_295 : BitVec 32 := 0#32
  let c1_i32_297 : BitVec 32 := 1#32
  let arg56 : BitVec 32 := Scf.iv c0_i32_295 c1_i32_297 k0_t8
  let v593 : BitVec 32 := Scalar.muli c2_i32_309 arg56
  let v594 : BitVec 32 := Scalar.subi v592 v593
  let v595 : BitVec 32 := Scalar.subi v594 c0_i32_310
  let v707 : Index := Scalar.indexCast v595
  let c0_340 : Index := 0#32
  let c0_341 : Index := 0#32
  let c0_342 : Index := 0#32
  let c0_343 : Index := 0#32
  ![v707.toNat, 0, 0, 0, 0]
def k0_off98 (k0_t6 : Fin k0_t6_loop.trips) (k0_t7 : Fin k0_t7_loop.trips) (k0_t8 : Fin k0_t8_loop.trips) (c0_i32_310 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_306 : BitVec 32 := 8#32
  let v590 : BitVec 32 := Scalar.muli v409 c8_i32_306
  let c8_i32_307 : BitVec 32 := 8#32
  let v591 : BitVec 32 := Scalar.addi v590 c8_i32_307
  let c1_i32_308 : BitVec 32 := 1#32
  let v592 : BitVec 32 := Scalar.subi v591 c1_i32_308
  let c2_i32_309 : BitVec 32 := 2#32
  let c0_i32_295 : BitVec 32 := 0#32
  let c1_i32_297 : BitVec 32 := 1#32
  let arg56 : BitVec 32 := Scf.iv c0_i32_295 c1_i32_297 k0_t8
  let v593 : BitVec 32 := Scalar.muli c2_i32_309 arg56
  let v594 : BitVec 32 := Scalar.subi v592 v593
  let v595 : BitVec 32 := Scalar.subi v594 c0_i32_310
  let v710 : Index := Scalar.indexCast v595
  let c0_344 : Index := 0#32
  let c1_345 : Index := 1#32
  let c0_346 : Index := 0#32
  let c0_347 : Index := 0#32
  ![v710.toNat, 0, 1, 0, 0]
def k0_off99 (k0_t6 : Fin k0_t6_loop.trips) (k0_t7 : Fin k0_t7_loop.trips) (k0_t8 : Fin k0_t8_loop.trips) (c0_i32_310 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_306 : BitVec 32 := 8#32
  let v590 : BitVec 32 := Scalar.muli v409 c8_i32_306
  let c8_i32_307 : BitVec 32 := 8#32
  let v591 : BitVec 32 := Scalar.addi v590 c8_i32_307
  let c1_i32_308 : BitVec 32 := 1#32
  let v592 : BitVec 32 := Scalar.subi v591 c1_i32_308
  let c2_i32_309 : BitVec 32 := 2#32
  let c0_i32_295 : BitVec 32 := 0#32
  let c1_i32_297 : BitVec 32 := 1#32
  let arg56 : BitVec 32 := Scf.iv c0_i32_295 c1_i32_297 k0_t8
  let v593 : BitVec 32 := Scalar.muli c2_i32_309 arg56
  let v594 : BitVec 32 := Scalar.subi v592 v593
  let v595 : BitVec 32 := Scalar.subi v594 c0_i32_310
  let v713 : Index := Scalar.indexCast v595
  let c0_348 : Index := 0#32
  let c2_349 : Index := 2#32
  let c0_350 : Index := 0#32
  let c0_351 : Index := 0#32
  ![v713.toNat, 0, 2, 0, 0]
def k0_off100 (k0_t6 : Fin k0_t6_loop.trips) (k0_t7 : Fin k0_t7_loop.trips) (k0_t8 : Fin k0_t8_loop.trips) (c0_i32_310 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_306 : BitVec 32 := 8#32
  let v590 : BitVec 32 := Scalar.muli v409 c8_i32_306
  let c8_i32_307 : BitVec 32 := 8#32
  let v591 : BitVec 32 := Scalar.addi v590 c8_i32_307
  let c1_i32_308 : BitVec 32 := 1#32
  let v592 : BitVec 32 := Scalar.subi v591 c1_i32_308
  let c2_i32_309 : BitVec 32 := 2#32
  let c0_i32_295 : BitVec 32 := 0#32
  let c1_i32_297 : BitVec 32 := 1#32
  let arg56 : BitVec 32 := Scf.iv c0_i32_295 c1_i32_297 k0_t8
  let v593 : BitVec 32 := Scalar.muli c2_i32_309 arg56
  let v594 : BitVec 32 := Scalar.subi v592 v593
  let v595 : BitVec 32 := Scalar.subi v594 c0_i32_310
  let v716 : Index := Scalar.indexCast v595
  let c0_352 : Index := 0#32
  let c3_353 : Index := 3#32
  let c0_354 : Index := 0#32
  let c0_355 : Index := 0#32
  ![v716.toNat, 0, 3, 0, 0]
def k0_off101 (k0_t7 : Fin k0_t7_loop.trips) (k0_t8 : Fin k0_t8_loop.trips) (c0_i32_412 : BitVec 32) : Fin 4 → Nat :=
  let c0_413 : Index := 0#32
  let c0_414 : Index := 0#32
  let c0_i32_214 : BitVec 32 := 0#32
  let c1_i32_216 : BitVec 32 := 1#32
  let arg37 : BitVec 32 := Scf.iv c0_i32_214 c1_i32_216 k0_t7
  let c4_i32_299 : BitVec 32 := 4#32
  let v580 : BitVec 32 := Scalar.muli arg37 c4_i32_299
  let c0_i32_295 : BitVec 32 := 0#32
  let c1_i32_297 : BitVec 32 := 1#32
  let arg56 : BitVec 32 := Scf.iv c0_i32_295 c1_i32_297 k0_t8
  let v581 : BitVec 32 := Scalar.addi v580 arg56
  let v977 : BitVec 32 := Scalar.addi c0_i32_412 v581
  let v978 : Index := Scalar.indexCast v977
  let c0_415 : Index := 0#32
  ![0, 0, v978.toNat, 0]
def k0_off102 (k0_t7 : Fin k0_t7_loop.trips) (k0_t8 : Fin k0_t8_loop.trips) (c0_i32_428 : BitVec 32) : Fin 4 → Nat :=
  let c1_429 : Index := 1#32
  let c0_430 : Index := 0#32
  let c1_i32_300 : BitVec 32 := 1#32
  let c0_i32_214 : BitVec 32 := 0#32
  let c1_i32_216 : BitVec 32 := 1#32
  let arg37 : BitVec 32 := Scf.iv c0_i32_214 c1_i32_216 k0_t7
  let v582 : BitVec 32 := Scalar.subi c1_i32_300 arg37
  let c4_i32_301 : BitVec 32 := 4#32
  let v583 : BitVec 32 := Scalar.muli v582 c4_i32_301
  let c3_i32_302 : BitVec 32 := 3#32
  let v584 : BitVec 32 := Scalar.addi v583 c3_i32_302
  let c0_i32_295 : BitVec 32 := 0#32
  let c1_i32_297 : BitVec 32 := 1#32
  let arg56 : BitVec 32 := Scf.iv c0_i32_295 c1_i32_297 k0_t8
  let v585 : BitVec 32 := Scalar.subi v584 arg56
  let v1095 : BitVec 32 := Scalar.addi c0_i32_428 v585
  let v1096 : Index := Scalar.indexCast v1095
  let c0_431 : Index := 0#32
  ![1, 0, v1096.toNat, 0]
def k0_off103 (k0_t6 : Fin k0_t6_loop.trips) (k0_t7 : Fin k0_t7_loop.trips) (k0_t8 : Fin k0_t8_loop.trips) (c0_i32_450 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let v1134 : Index := Scalar.indexCast v1127
  let c1_456 : Index := 1#32
  let c0_457 : Index := 0#32
  let c0_458 : Index := 0#32
  ![v1134.toNat, 1, 0, 0]
def k0_off104 (k0_t6 : Fin k0_t6_loop.trips) (k0_t7 : Fin k0_t7_loop.trips) (k0_t8 : Fin k0_t8_loop.trips) (c0_i32_450 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let c192_i32_459 : BitVec 32 := 192#32
  let v1138 : BitVec 32 := Scalar.subi v1127 c192_i32_459
  let v1139 : Index := Scalar.indexCast v1138
  let c1_460 : Index := 1#32
  let c0_461 : Index := 0#32
  let c0_462 : Index := 0#32
  ![v1139.toNat, 1, 0, 0]
def k0_off105 (k0_t6 : Fin k0_t6_loop.trips) (k0_t7 : Fin k0_t7_loop.trips) (k0_t8 : Fin k0_t8_loop.trips) (c0_i32_450 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let v1155 : Index := Scalar.indexCast v1127
  let c1_463 : Index := 1#32
  let c0_464 : Index := 0#32
  let c0_465 : Index := 0#32
  let c0_466 : Index := 0#32
  ![v1155.toNat, 1, 0, 0, 0]
def k0_off106 (k0_t6 : Fin k0_t6_loop.trips) (k0_t7 : Fin k0_t7_loop.trips) (k0_t8 : Fin k0_t8_loop.trips) (c0_i32_450 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let v1158 : Index := Scalar.indexCast v1127
  let c1_467 : Index := 1#32
  let c1_468 : Index := 1#32
  let c0_469 : Index := 0#32
  let c0_470 : Index := 0#32
  ![v1158.toNat, 1, 1, 0, 0]
def k0_off107 (k0_t6 : Fin k0_t6_loop.trips) (k0_t7 : Fin k0_t7_loop.trips) (k0_t8 : Fin k0_t8_loop.trips) (c0_i32_450 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let v1161 : Index := Scalar.indexCast v1127
  let c1_471 : Index := 1#32
  let c2_472 : Index := 2#32
  let c0_473 : Index := 0#32
  let c0_474 : Index := 0#32
  ![v1161.toNat, 1, 2, 0, 0]
def k0_off108 (k0_t6 : Fin k0_t6_loop.trips) (k0_t7 : Fin k0_t7_loop.trips) (k0_t8 : Fin k0_t8_loop.trips) (c0_i32_450 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let v1164 : Index := Scalar.indexCast v1127
  let c1_475 : Index := 1#32
  let c3_476 : Index := 3#32
  let c0_477 : Index := 0#32
  let c0_478 : Index := 0#32
  ![v1164.toNat, 1, 3, 0, 0]
def k0_off109 (k0_t6 : Fin k0_t6_loop.trips) (k0_t7 : Fin k0_t7_loop.trips) (k0_t8 : Fin k0_t8_loop.trips) (c0_i32_455 : BitVec 32) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_451 : BitVec 32 := 8#32
  let v1128 : BitVec 32 := Scalar.muli v409 c8_i32_451
  let c8_i32_452 : BitVec 32 := 8#32
  let v1129 : BitVec 32 := Scalar.addi v1128 c8_i32_452
  let c1_i32_453 : BitVec 32 := 1#32
  let v1130 : BitVec 32 := Scalar.subi v1129 c1_i32_453
  let c2_i32_454 : BitVec 32 := 2#32
  let c0_i32_295 : BitVec 32 := 0#32
  let c1_i32_297 : BitVec 32 := 1#32
  let arg56 : BitVec 32 := Scf.iv c0_i32_295 c1_i32_297 k0_t8
  let v1131 : BitVec 32 := Scalar.muli c2_i32_454 arg56
  let v1132 : BitVec 32 := Scalar.subi v1130 v1131
  let v1133 : BitVec 32 := Scalar.subi v1132 c0_i32_455
  let v1217 : Index := Scalar.indexCast v1133
  let c1_483 : Index := 1#32
  let c0_484 : Index := 0#32
  let c0_485 : Index := 0#32
  ![v1217.toNat, 1, 0, 0]
def k0_off110 (k0_t6 : Fin k0_t6_loop.trips) (k0_t7 : Fin k0_t7_loop.trips) (k0_t8 : Fin k0_t8_loop.trips) (c0_i32_455 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_451 : BitVec 32 := 8#32
  let v1128 : BitVec 32 := Scalar.muli v409 c8_i32_451
  let c8_i32_452 : BitVec 32 := 8#32
  let v1129 : BitVec 32 := Scalar.addi v1128 c8_i32_452
  let c1_i32_453 : BitVec 32 := 1#32
  let v1130 : BitVec 32 := Scalar.subi v1129 c1_i32_453
  let c2_i32_454 : BitVec 32 := 2#32
  let c0_i32_295 : BitVec 32 := 0#32
  let c1_i32_297 : BitVec 32 := 1#32
  let arg56 : BitVec 32 := Scf.iv c0_i32_295 c1_i32_297 k0_t8
  let v1131 : BitVec 32 := Scalar.muli c2_i32_454 arg56
  let v1132 : BitVec 32 := Scalar.subi v1130 v1131
  let v1133 : BitVec 32 := Scalar.subi v1132 c0_i32_455
  let v1245 : Index := Scalar.indexCast v1133
  let c1_486 : Index := 1#32
  let c0_487 : Index := 0#32
  let c0_488 : Index := 0#32
  let c0_489 : Index := 0#32
  ![v1245.toNat, 1, 0, 0, 0]
def k0_off111 (k0_t6 : Fin k0_t6_loop.trips) (k0_t7 : Fin k0_t7_loop.trips) (k0_t8 : Fin k0_t8_loop.trips) (c0_i32_455 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_451 : BitVec 32 := 8#32
  let v1128 : BitVec 32 := Scalar.muli v409 c8_i32_451
  let c8_i32_452 : BitVec 32 := 8#32
  let v1129 : BitVec 32 := Scalar.addi v1128 c8_i32_452
  let c1_i32_453 : BitVec 32 := 1#32
  let v1130 : BitVec 32 := Scalar.subi v1129 c1_i32_453
  let c2_i32_454 : BitVec 32 := 2#32
  let c0_i32_295 : BitVec 32 := 0#32
  let c1_i32_297 : BitVec 32 := 1#32
  let arg56 : BitVec 32 := Scf.iv c0_i32_295 c1_i32_297 k0_t8
  let v1131 : BitVec 32 := Scalar.muli c2_i32_454 arg56
  let v1132 : BitVec 32 := Scalar.subi v1130 v1131
  let v1133 : BitVec 32 := Scalar.subi v1132 c0_i32_455
  let v1248 : Index := Scalar.indexCast v1133
  let c1_490 : Index := 1#32
  let c1_491 : Index := 1#32
  let c0_492 : Index := 0#32
  let c0_493 : Index := 0#32
  ![v1248.toNat, 1, 1, 0, 0]
def k0_off112 (k0_t6 : Fin k0_t6_loop.trips) (k0_t7 : Fin k0_t7_loop.trips) (k0_t8 : Fin k0_t8_loop.trips) (c0_i32_455 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_451 : BitVec 32 := 8#32
  let v1128 : BitVec 32 := Scalar.muli v409 c8_i32_451
  let c8_i32_452 : BitVec 32 := 8#32
  let v1129 : BitVec 32 := Scalar.addi v1128 c8_i32_452
  let c1_i32_453 : BitVec 32 := 1#32
  let v1130 : BitVec 32 := Scalar.subi v1129 c1_i32_453
  let c2_i32_454 : BitVec 32 := 2#32
  let c0_i32_295 : BitVec 32 := 0#32
  let c1_i32_297 : BitVec 32 := 1#32
  let arg56 : BitVec 32 := Scf.iv c0_i32_295 c1_i32_297 k0_t8
  let v1131 : BitVec 32 := Scalar.muli c2_i32_454 arg56
  let v1132 : BitVec 32 := Scalar.subi v1130 v1131
  let v1133 : BitVec 32 := Scalar.subi v1132 c0_i32_455
  let v1251 : Index := Scalar.indexCast v1133
  let c1_494 : Index := 1#32
  let c2_495 : Index := 2#32
  let c0_496 : Index := 0#32
  let c0_497 : Index := 0#32
  ![v1251.toNat, 1, 2, 0, 0]
def k0_off113 (k0_t6 : Fin k0_t6_loop.trips) (k0_t7 : Fin k0_t7_loop.trips) (k0_t8 : Fin k0_t8_loop.trips) (c0_i32_455 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_451 : BitVec 32 := 8#32
  let v1128 : BitVec 32 := Scalar.muli v409 c8_i32_451
  let c8_i32_452 : BitVec 32 := 8#32
  let v1129 : BitVec 32 := Scalar.addi v1128 c8_i32_452
  let c1_i32_453 : BitVec 32 := 1#32
  let v1130 : BitVec 32 := Scalar.subi v1129 c1_i32_453
  let c2_i32_454 : BitVec 32 := 2#32
  let c0_i32_295 : BitVec 32 := 0#32
  let c1_i32_297 : BitVec 32 := 1#32
  let arg56 : BitVec 32 := Scf.iv c0_i32_295 c1_i32_297 k0_t8
  let v1131 : BitVec 32 := Scalar.muli c2_i32_454 arg56
  let v1132 : BitVec 32 := Scalar.subi v1130 v1131
  let v1133 : BitVec 32 := Scalar.subi v1132 c0_i32_455
  let v1254 : Index := Scalar.indexCast v1133
  let c1_498 : Index := 1#32
  let c3_499 : Index := 3#32
  let c0_500 : Index := 0#32
  let c0_501 : Index := 0#32
  ![v1254.toNat, 1, 3, 0, 0]
def k0_off114 (k0_t7 : Fin k0_t7_loop.trips) (k0_t8 : Fin k0_t8_loop.trips) (c0_i32_558 : BitVec 32) : Fin 4 → Nat :=
  let c0_559 : Index := 0#32
  let c1_560 : Index := 1#32
  let c0_i32_214 : BitVec 32 := 0#32
  let c1_i32_216 : BitVec 32 := 1#32
  let arg37 : BitVec 32 := Scf.iv c0_i32_214 c1_i32_216 k0_t7
  let c4_i32_299 : BitVec 32 := 4#32
  let v580 : BitVec 32 := Scalar.muli arg37 c4_i32_299
  let c0_i32_295 : BitVec 32 := 0#32
  let c1_i32_297 : BitVec 32 := 1#32
  let arg56 : BitVec 32 := Scf.iv c0_i32_295 c1_i32_297 k0_t8
  let v581 : BitVec 32 := Scalar.addi v580 arg56
  let v1515 : BitVec 32 := Scalar.addi c0_i32_558 v581
  let v1516 : Index := Scalar.indexCast v1515
  let c0_561 : Index := 0#32
  ![0, 1, v1516.toNat, 0]
def k0_off115 (k0_t7 : Fin k0_t7_loop.trips) (k0_t8 : Fin k0_t8_loop.trips) (c0_i32_578 : BitVec 32) : Fin 4 → Nat :=
  let c1_579 : Index := 1#32
  let c1_580 : Index := 1#32
  let c1_i32_300 : BitVec 32 := 1#32
  let c0_i32_214 : BitVec 32 := 0#32
  let c1_i32_216 : BitVec 32 := 1#32
  let arg37 : BitVec 32 := Scf.iv c0_i32_214 c1_i32_216 k0_t7
  let v582 : BitVec 32 := Scalar.subi c1_i32_300 arg37
  let c4_i32_301 : BitVec 32 := 4#32
  let v583 : BitVec 32 := Scalar.muli v582 c4_i32_301
  let c3_i32_302 : BitVec 32 := 3#32
  let v584 : BitVec 32 := Scalar.addi v583 c3_i32_302
  let c0_i32_295 : BitVec 32 := 0#32
  let c1_i32_297 : BitVec 32 := 1#32
  let arg56 : BitVec 32 := Scf.iv c0_i32_295 c1_i32_297 k0_t8
  let v585 : BitVec 32 := Scalar.subi v584 arg56
  let v1633 : BitVec 32 := Scalar.addi c0_i32_578 v585
  let v1634 : Index := Scalar.indexCast v1633
  let c0_581 : Index := 0#32
  ![1, 1, v1634.toNat, 0]
def k0_off116 (k0_t6 : Fin k0_t6_loop.trips) (k0_t7 : Fin k0_t7_loop.trips) (k0_t8 : Fin k0_t8_loop.trips) (c0_i32_600 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let v1672 : Index := Scalar.indexCast v1665
  let c2_606 : Index := 2#32
  let c0_607 : Index := 0#32
  let c0_608 : Index := 0#32
  ![v1672.toNat, 2, 0, 0]
def k0_off117 (k0_t6 : Fin k0_t6_loop.trips) (k0_t7 : Fin k0_t7_loop.trips) (k0_t8 : Fin k0_t8_loop.trips) (c0_i32_600 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let c192_i32_609 : BitVec 32 := 192#32
  let v1676 : BitVec 32 := Scalar.subi v1665 c192_i32_609
  let v1677 : Index := Scalar.indexCast v1676
  let c2_610 : Index := 2#32
  let c0_611 : Index := 0#32
  let c0_612 : Index := 0#32
  ![v1677.toNat, 2, 0, 0]
def k0_off118 (k0_t6 : Fin k0_t6_loop.trips) (k0_t7 : Fin k0_t7_loop.trips) (k0_t8 : Fin k0_t8_loop.trips) (c0_i32_600 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let v1693 : Index := Scalar.indexCast v1665
  let c2_613 : Index := 2#32
  let c0_614 : Index := 0#32
  let c0_615 : Index := 0#32
  let c0_616 : Index := 0#32
  ![v1693.toNat, 2, 0, 0, 0]
def k0_off119 (k0_t6 : Fin k0_t6_loop.trips) (k0_t7 : Fin k0_t7_loop.trips) (k0_t8 : Fin k0_t8_loop.trips) (c0_i32_600 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let v1696 : Index := Scalar.indexCast v1665
  let c2_617 : Index := 2#32
  let c1_618 : Index := 1#32
  let c0_619 : Index := 0#32
  let c0_620 : Index := 0#32
  ![v1696.toNat, 2, 1, 0, 0]
def k0_off120 (k0_t6 : Fin k0_t6_loop.trips) (k0_t7 : Fin k0_t7_loop.trips) (k0_t8 : Fin k0_t8_loop.trips) (c0_i32_600 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let v1699 : Index := Scalar.indexCast v1665
  let c2_621 : Index := 2#32
  let c2_622 : Index := 2#32
  let c0_623 : Index := 0#32
  let c0_624 : Index := 0#32
  ![v1699.toNat, 2, 2, 0, 0]
def k0_off121 (k0_t6 : Fin k0_t6_loop.trips) (k0_t7 : Fin k0_t7_loop.trips) (k0_t8 : Fin k0_t8_loop.trips) (c0_i32_600 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let v1702 : Index := Scalar.indexCast v1665
  let c2_625 : Index := 2#32
  let c3_626 : Index := 3#32
  let c0_627 : Index := 0#32
  let c0_628 : Index := 0#32
  ![v1702.toNat, 2, 3, 0, 0]
def k0_off122 (k0_t6 : Fin k0_t6_loop.trips) (k0_t7 : Fin k0_t7_loop.trips) (k0_t8 : Fin k0_t8_loop.trips) (c0_i32_605 : BitVec 32) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_601 : BitVec 32 := 8#32
  let v1666 : BitVec 32 := Scalar.muli v409 c8_i32_601
  let c8_i32_602 : BitVec 32 := 8#32
  let v1667 : BitVec 32 := Scalar.addi v1666 c8_i32_602
  let c1_i32_603 : BitVec 32 := 1#32
  let v1668 : BitVec 32 := Scalar.subi v1667 c1_i32_603
  let c2_i32_604 : BitVec 32 := 2#32
  let c0_i32_295 : BitVec 32 := 0#32
  let c1_i32_297 : BitVec 32 := 1#32
  let arg56 : BitVec 32 := Scf.iv c0_i32_295 c1_i32_297 k0_t8
  let v1669 : BitVec 32 := Scalar.muli c2_i32_604 arg56
  let v1670 : BitVec 32 := Scalar.subi v1668 v1669
  let v1671 : BitVec 32 := Scalar.subi v1670 c0_i32_605
  let v1755 : Index := Scalar.indexCast v1671
  let c2_633 : Index := 2#32
  let c0_634 : Index := 0#32
  let c0_635 : Index := 0#32
  ![v1755.toNat, 2, 0, 0]
def k0_off123 (k0_t6 : Fin k0_t6_loop.trips) (k0_t7 : Fin k0_t7_loop.trips) (k0_t8 : Fin k0_t8_loop.trips) (c0_i32_605 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_601 : BitVec 32 := 8#32
  let v1666 : BitVec 32 := Scalar.muli v409 c8_i32_601
  let c8_i32_602 : BitVec 32 := 8#32
  let v1667 : BitVec 32 := Scalar.addi v1666 c8_i32_602
  let c1_i32_603 : BitVec 32 := 1#32
  let v1668 : BitVec 32 := Scalar.subi v1667 c1_i32_603
  let c2_i32_604 : BitVec 32 := 2#32
  let c0_i32_295 : BitVec 32 := 0#32
  let c1_i32_297 : BitVec 32 := 1#32
  let arg56 : BitVec 32 := Scf.iv c0_i32_295 c1_i32_297 k0_t8
  let v1669 : BitVec 32 := Scalar.muli c2_i32_604 arg56
  let v1670 : BitVec 32 := Scalar.subi v1668 v1669
  let v1671 : BitVec 32 := Scalar.subi v1670 c0_i32_605
  let v1783 : Index := Scalar.indexCast v1671
  let c2_636 : Index := 2#32
  let c0_637 : Index := 0#32
  let c0_638 : Index := 0#32
  let c0_639 : Index := 0#32
  ![v1783.toNat, 2, 0, 0, 0]
def k0_off124 (k0_t6 : Fin k0_t6_loop.trips) (k0_t7 : Fin k0_t7_loop.trips) (k0_t8 : Fin k0_t8_loop.trips) (c0_i32_605 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_601 : BitVec 32 := 8#32
  let v1666 : BitVec 32 := Scalar.muli v409 c8_i32_601
  let c8_i32_602 : BitVec 32 := 8#32
  let v1667 : BitVec 32 := Scalar.addi v1666 c8_i32_602
  let c1_i32_603 : BitVec 32 := 1#32
  let v1668 : BitVec 32 := Scalar.subi v1667 c1_i32_603
  let c2_i32_604 : BitVec 32 := 2#32
  let c0_i32_295 : BitVec 32 := 0#32
  let c1_i32_297 : BitVec 32 := 1#32
  let arg56 : BitVec 32 := Scf.iv c0_i32_295 c1_i32_297 k0_t8
  let v1669 : BitVec 32 := Scalar.muli c2_i32_604 arg56
  let v1670 : BitVec 32 := Scalar.subi v1668 v1669
  let v1671 : BitVec 32 := Scalar.subi v1670 c0_i32_605
  let v1786 : Index := Scalar.indexCast v1671
  let c2_640 : Index := 2#32
  let c1_641 : Index := 1#32
  let c0_642 : Index := 0#32
  let c0_643 : Index := 0#32
  ![v1786.toNat, 2, 1, 0, 0]
def k0_off125 (k0_t6 : Fin k0_t6_loop.trips) (k0_t7 : Fin k0_t7_loop.trips) (k0_t8 : Fin k0_t8_loop.trips) (c0_i32_605 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_601 : BitVec 32 := 8#32
  let v1666 : BitVec 32 := Scalar.muli v409 c8_i32_601
  let c8_i32_602 : BitVec 32 := 8#32
  let v1667 : BitVec 32 := Scalar.addi v1666 c8_i32_602
  let c1_i32_603 : BitVec 32 := 1#32
  let v1668 : BitVec 32 := Scalar.subi v1667 c1_i32_603
  let c2_i32_604 : BitVec 32 := 2#32
  let c0_i32_295 : BitVec 32 := 0#32
  let c1_i32_297 : BitVec 32 := 1#32
  let arg56 : BitVec 32 := Scf.iv c0_i32_295 c1_i32_297 k0_t8
  let v1669 : BitVec 32 := Scalar.muli c2_i32_604 arg56
  let v1670 : BitVec 32 := Scalar.subi v1668 v1669
  let v1671 : BitVec 32 := Scalar.subi v1670 c0_i32_605
  let v1789 : Index := Scalar.indexCast v1671
  let c2_644 : Index := 2#32
  let c2_645 : Index := 2#32
  let c0_646 : Index := 0#32
  let c0_647 : Index := 0#32
  ![v1789.toNat, 2, 2, 0, 0]
def k0_off126 (k0_t6 : Fin k0_t6_loop.trips) (k0_t7 : Fin k0_t7_loop.trips) (k0_t8 : Fin k0_t8_loop.trips) (c0_i32_605 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_601 : BitVec 32 := 8#32
  let v1666 : BitVec 32 := Scalar.muli v409 c8_i32_601
  let c8_i32_602 : BitVec 32 := 8#32
  let v1667 : BitVec 32 := Scalar.addi v1666 c8_i32_602
  let c1_i32_603 : BitVec 32 := 1#32
  let v1668 : BitVec 32 := Scalar.subi v1667 c1_i32_603
  let c2_i32_604 : BitVec 32 := 2#32
  let c0_i32_295 : BitVec 32 := 0#32
  let c1_i32_297 : BitVec 32 := 1#32
  let arg56 : BitVec 32 := Scf.iv c0_i32_295 c1_i32_297 k0_t8
  let v1669 : BitVec 32 := Scalar.muli c2_i32_604 arg56
  let v1670 : BitVec 32 := Scalar.subi v1668 v1669
  let v1671 : BitVec 32 := Scalar.subi v1670 c0_i32_605
  let v1792 : Index := Scalar.indexCast v1671
  let c2_648 : Index := 2#32
  let c3_649 : Index := 3#32
  let c0_650 : Index := 0#32
  let c0_651 : Index := 0#32
  ![v1792.toNat, 2, 3, 0, 0]
def k0_off127 (k0_t7 : Fin k0_t7_loop.trips) (k0_t8 : Fin k0_t8_loop.trips) (c0_i32_708 : BitVec 32) : Fin 4 → Nat :=
  let c0_709 : Index := 0#32
  let c2_710 : Index := 2#32
  let c0_i32_214 : BitVec 32 := 0#32
  let c1_i32_216 : BitVec 32 := 1#32
  let arg37 : BitVec 32 := Scf.iv c0_i32_214 c1_i32_216 k0_t7
  let c4_i32_299 : BitVec 32 := 4#32
  let v580 : BitVec 32 := Scalar.muli arg37 c4_i32_299
  let c0_i32_295 : BitVec 32 := 0#32
  let c1_i32_297 : BitVec 32 := 1#32
  let arg56 : BitVec 32 := Scf.iv c0_i32_295 c1_i32_297 k0_t8
  let v581 : BitVec 32 := Scalar.addi v580 arg56
  let v2053 : BitVec 32 := Scalar.addi c0_i32_708 v581
  let v2054 : Index := Scalar.indexCast v2053
  let c0_711 : Index := 0#32
  ![0, 2, v2054.toNat, 0]
def k0_off128 (k0_t7 : Fin k0_t7_loop.trips) (k0_t8 : Fin k0_t8_loop.trips) (c0_i32_728 : BitVec 32) : Fin 4 → Nat :=
  let c1_729 : Index := 1#32
  let c2_730 : Index := 2#32
  let c1_i32_300 : BitVec 32 := 1#32
  let c0_i32_214 : BitVec 32 := 0#32
  let c1_i32_216 : BitVec 32 := 1#32
  let arg37 : BitVec 32 := Scf.iv c0_i32_214 c1_i32_216 k0_t7
  let v582 : BitVec 32 := Scalar.subi c1_i32_300 arg37
  let c4_i32_301 : BitVec 32 := 4#32
  let v583 : BitVec 32 := Scalar.muli v582 c4_i32_301
  let c3_i32_302 : BitVec 32 := 3#32
  let v584 : BitVec 32 := Scalar.addi v583 c3_i32_302
  let c0_i32_295 : BitVec 32 := 0#32
  let c1_i32_297 : BitVec 32 := 1#32
  let arg56 : BitVec 32 := Scf.iv c0_i32_295 c1_i32_297 k0_t8
  let v585 : BitVec 32 := Scalar.subi v584 arg56
  let v2171 : BitVec 32 := Scalar.addi c0_i32_728 v585
  let v2172 : Index := Scalar.indexCast v2171
  let c0_731 : Index := 0#32
  ![1, 2, v2172.toNat, 0]
@[reducible] def k0_t9_loop : Scf.Loop 32 :=
  let c0_i32_221 : BitVec 32 := 0#32
  let c40_i32 : BitVec 32 := 40#32
  let v405 : BitVec 32 := Scalar.addi c0_i32_221 c40_i32
  let c1_i32_222 : BitVec 32 := 1#32
  ⟨c0_i32_221, v405, c1_i32_222⟩
def k0_mult4 (k0_t9 : Fin k0_t9_loop.trips) : BitVec 32 :=
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_230 : BitVec 32 := 4#32
  let v412 : BitVec 1 := Scalar.cmpi .eq v406 c4_i32_230
  let c2_i32_232 : BitVec 32 := 2#32
  let c7_i32_225 : BitVec 32 := 7#32
  let v407 : BitVec 32 := Scalar.andi arg37 c7_i32_225
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  v421
def k0_mult5 (k0_t6 : Fin k0_t6_loop.trips) : BitVec 32 :=
  let c192_i32 : BitVec 32 := 192#32
  let c16_i32 : BitVec 32 := 16#32
  let c0_i32_141 : BitVec 32 := 0#32
  let c1_i32_142 : BitVec 32 := 1#32
  let arg18 : BitVec 32 := Scf.iv c0_i32_141 c1_i32_142 k0_t6
  let v400 : BitVec 32 := Scalar.muli c16_i32 arg18
  let v401 : BitVec 32 := Scalar.addi c192_i32 v400
  v401
def k0_off129 (k0_t9 : Fin k0_t9_loop.trips) : Fin 4 → Nat :=
  let c0_236 : Index := 0#32
  let c0_237 : Index := 0#32
  let c0_i32_221 : BitVec 32 := 0#32
  let c1_i32_222 : BitVec 32 := 1#32
  let arg37 : BitVec 32 := Scf.iv c0_i32_221 c1_i32_222 k0_t9
  let c9_i32 : BitVec 32 := 9#32
  let v424 : BitVec 32 := Scalar.muli arg37 c9_i32
  let v425 : Index := Scalar.indexCast v424
  let c0_238 : Index := 0#32
  ![0, 0, v425.toNat, 0]
def k0_off130 (k0_t6 : Fin k0_t6_loop.trips) (k0_t9 : Fin k0_t9_loop.trips) : Fin 4 → Nat :=
  let c0_239 : Index := 0#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v429 : Index := Scalar.indexCast v411
  let c192_i32 : BitVec 32 := 192#32
  let c16_i32 : BitVec 32 := 16#32
  let c0_i32_141 : BitVec 32 := 0#32
  let c1_i32_142 : BitVec 32 := 1#32
  let arg18 : BitVec 32 := Scf.iv c0_i32_141 c1_i32_142 k0_t6
  let v400 : BitVec 32 := Scalar.muli c16_i32 arg18
  let v401 : BitVec 32 := Scalar.addi c192_i32 v400
  let v423 : BitVec 32 := v401
  let v430 : Index := Scalar.indexCast v423
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v431 : Index := Scalar.indexCast v422
  ![0, v429.toNat, v430.toNat, v431.toNat]
def k0_off131 (k0_t9 : Fin k0_t9_loop.trips) : Fin 4 → Nat :=
  let c0_241 : Index := 0#32
  let c1_242 : Index := 1#32
  let c0_i32_221 : BitVec 32 := 0#32
  let c1_i32_222 : BitVec 32 := 1#32
  let arg37 : BitVec 32 := Scf.iv c0_i32_221 c1_i32_222 k0_t9
  let c9_i32_240 : BitVec 32 := 9#32
  let v435 : BitVec 32 := Scalar.muli arg37 c9_i32_240
  let v436 : Index := Scalar.indexCast v435
  let c0_243 : Index := 0#32
  ![0, 1, v436.toNat, 0]
def k0_off132 (k0_t6 : Fin k0_t6_loop.trips) (k0_t9 : Fin k0_t9_loop.trips) : Fin 4 → Nat :=
  let c1_244 : Index := 1#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v440 : Index := Scalar.indexCast v411
  let c192_i32 : BitVec 32 := 192#32
  let c16_i32 : BitVec 32 := 16#32
  let c0_i32_141 : BitVec 32 := 0#32
  let c1_i32_142 : BitVec 32 := 1#32
  let arg18 : BitVec 32 := Scf.iv c0_i32_141 c1_i32_142 k0_t6
  let v400 : BitVec 32 := Scalar.muli c16_i32 arg18
  let v401 : BitVec 32 := Scalar.addi c192_i32 v400
  let v423 : BitVec 32 := v401
  let v441 : Index := Scalar.indexCast v423
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v442 : Index := Scalar.indexCast v422
  ![1, v440.toNat, v441.toNat, v442.toNat]
def k0_off133 (k0_t9 : Fin k0_t9_loop.trips) : Fin 4 → Nat :=
  let c0_246 : Index := 0#32
  let c2_247 : Index := 2#32
  let c0_i32_221 : BitVec 32 := 0#32
  let c1_i32_222 : BitVec 32 := 1#32
  let arg37 : BitVec 32 := Scf.iv c0_i32_221 c1_i32_222 k0_t9
  let c9_i32_245 : BitVec 32 := 9#32
  let v446 : BitVec 32 := Scalar.muli arg37 c9_i32_245
  let v447 : Index := Scalar.indexCast v446
  let c0_248 : Index := 0#32
  ![0, 2, v447.toNat, 0]
def k0_off134 (k0_t6 : Fin k0_t6_loop.trips) (k0_t9 : Fin k0_t9_loop.trips) : Fin 4 → Nat :=
  let c2_249 : Index := 2#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v451 : Index := Scalar.indexCast v411
  let c192_i32 : BitVec 32 := 192#32
  let c16_i32 : BitVec 32 := 16#32
  let c0_i32_141 : BitVec 32 := 0#32
  let c1_i32_142 : BitVec 32 := 1#32
  let arg18 : BitVec 32 := Scf.iv c0_i32_141 c1_i32_142 k0_t6
  let v400 : BitVec 32 := Scalar.muli c16_i32 arg18
  let v401 : BitVec 32 := Scalar.addi c192_i32 v400
  let v423 : BitVec 32 := v401
  let v452 : Index := Scalar.indexCast v423
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v453 : Index := Scalar.indexCast v422
  ![2, v451.toNat, v452.toNat, v453.toNat]
def k0_mult6 (k0_t6 : Fin k0_t6_loop.trips) : BitVec 32 :=
  let c192_i32_220 : BitVec 32 := 192#32
  let c16_i32_219 : BitVec 32 := 16#32
  let c0_i32_141 : BitVec 32 := 0#32
  let c1_i32_142 : BitVec 32 := 1#32
  let arg18 : BitVec 32 := Scf.iv c0_i32_141 c1_i32_142 k0_t6
  let c1_i32_218 : BitVec 32 := 1#32
  let v402 : BitVec 32 := Scalar.addi arg18 c1_i32_218
  let v403 : BitVec 32 := Scalar.muli c16_i32_219 v402
  let v404 : BitVec 32 := Scalar.subi c192_i32_220 v403
  v404
def k0_off135 (k0_t9 : Fin k0_t9_loop.trips) : Fin 4 → Nat :=
  let c1_251 : Index := 1#32
  let c0_252 : Index := 0#32
  let c0_i32_221 : BitVec 32 := 0#32
  let c1_i32_222 : BitVec 32 := 1#32
  let arg37 : BitVec 32 := Scf.iv c0_i32_221 c1_i32_222 k0_t9
  let c9_i32_250 : BitVec 32 := 9#32
  let v458 : BitVec 32 := Scalar.muli arg37 c9_i32_250
  let v459 : Index := Scalar.indexCast v458
  let c0_253 : Index := 0#32
  ![1, 0, v459.toNat, 0]
def k0_off136 (k0_t6 : Fin k0_t6_loop.trips) (k0_t9 : Fin k0_t9_loop.trips) : Fin 4 → Nat :=
  let c0_254 : Index := 0#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v463 : Index := Scalar.indexCast v411
  let c192_i32_220 : BitVec 32 := 192#32
  let c16_i32_219 : BitVec 32 := 16#32
  let c0_i32_141 : BitVec 32 := 0#32
  let c1_i32_142 : BitVec 32 := 1#32
  let arg18 : BitVec 32 := Scf.iv c0_i32_141 c1_i32_142 k0_t6
  let c1_i32_218 : BitVec 32 := 1#32
  let v402 : BitVec 32 := Scalar.addi arg18 c1_i32_218
  let v403 : BitVec 32 := Scalar.muli c16_i32_219 v402
  let v404 : BitVec 32 := Scalar.subi c192_i32_220 v403
  let v457 : BitVec 32 := v404
  let v464 : Index := Scalar.indexCast v457
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v465 : Index := Scalar.indexCast v422
  ![0, v463.toNat, v464.toNat, v465.toNat]
def k0_off137 (k0_t9 : Fin k0_t9_loop.trips) : Fin 4 → Nat :=
  let c1_256 : Index := 1#32
  let c1_257 : Index := 1#32
  let c0_i32_221 : BitVec 32 := 0#32
  let c1_i32_222 : BitVec 32 := 1#32
  let arg37 : BitVec 32 := Scf.iv c0_i32_221 c1_i32_222 k0_t9
  let c9_i32_255 : BitVec 32 := 9#32
  let v469 : BitVec 32 := Scalar.muli arg37 c9_i32_255
  let v470 : Index := Scalar.indexCast v469
  let c0_258 : Index := 0#32
  ![1, 1, v470.toNat, 0]
def k0_off138 (k0_t6 : Fin k0_t6_loop.trips) (k0_t9 : Fin k0_t9_loop.trips) : Fin 4 → Nat :=
  let c1_259 : Index := 1#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v474 : Index := Scalar.indexCast v411
  let c192_i32_220 : BitVec 32 := 192#32
  let c16_i32_219 : BitVec 32 := 16#32
  let c0_i32_141 : BitVec 32 := 0#32
  let c1_i32_142 : BitVec 32 := 1#32
  let arg18 : BitVec 32 := Scf.iv c0_i32_141 c1_i32_142 k0_t6
  let c1_i32_218 : BitVec 32 := 1#32
  let v402 : BitVec 32 := Scalar.addi arg18 c1_i32_218
  let v403 : BitVec 32 := Scalar.muli c16_i32_219 v402
  let v404 : BitVec 32 := Scalar.subi c192_i32_220 v403
  let v457 : BitVec 32 := v404
  let v475 : Index := Scalar.indexCast v457
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v476 : Index := Scalar.indexCast v422
  ![1, v474.toNat, v475.toNat, v476.toNat]
def k0_off139 (k0_t9 : Fin k0_t9_loop.trips) : Fin 4 → Nat :=
  let c1_261 : Index := 1#32
  let c2_262 : Index := 2#32
  let c0_i32_221 : BitVec 32 := 0#32
  let c1_i32_222 : BitVec 32 := 1#32
  let arg37 : BitVec 32 := Scf.iv c0_i32_221 c1_i32_222 k0_t9
  let c9_i32_260 : BitVec 32 := 9#32
  let v480 : BitVec 32 := Scalar.muli arg37 c9_i32_260
  let v481 : Index := Scalar.indexCast v480
  let c0_263 : Index := 0#32
  ![1, 2, v481.toNat, 0]
def k0_off140 (k0_t6 : Fin k0_t6_loop.trips) (k0_t9 : Fin k0_t9_loop.trips) : Fin 4 → Nat :=
  let c2_264 : Index := 2#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v485 : Index := Scalar.indexCast v411
  let c192_i32_220 : BitVec 32 := 192#32
  let c16_i32_219 : BitVec 32 := 16#32
  let c0_i32_141 : BitVec 32 := 0#32
  let c1_i32_142 : BitVec 32 := 1#32
  let arg18 : BitVec 32 := Scf.iv c0_i32_141 c1_i32_142 k0_t6
  let c1_i32_218 : BitVec 32 := 1#32
  let v402 : BitVec 32 := Scalar.addi arg18 c1_i32_218
  let v403 : BitVec 32 := Scalar.muli c16_i32_219 v402
  let v404 : BitVec 32 := Scalar.subi c192_i32_220 v403
  let v457 : BitVec 32 := v404
  let v486 : Index := Scalar.indexCast v457
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v487 : Index := Scalar.indexCast v422
  ![2, v485.toNat, v486.toNat, v487.toNat]
@[reducible] def k0_t10_loop : Scf.Loop 32 :=
  let c0_i32_160 : BitVec 32 := 0#32
  let c385_i32 : BitVec 32 := 385#32
  let v324 : BitVec 32 := Scalar.addi c0_i32_160 c385_i32
  let c1_i32_161 : BitVec 32 := 1#32
  ⟨c0_i32_160, v324, c1_i32_161⟩
def k0_off141 (k0_t10 : Fin k0_t10_loop.trips) : Fin 4 → Nat :=
  let c0_i32_160 : BitVec 32 := 0#32
  let c1_i32_161 : BitVec 32 := 1#32
  let arg18 : BitVec 32 := Scf.iv c0_i32_160 c1_i32_161 k0_t10
  let v398 : Index := Scalar.indexCast arg18
  let c0_214 : Index := 0#32
  let c0_215 : Index := 0#32
  let c0_216 : Index := 0#32
  ![v398.toNat, 0, 0, 0]
def k0_off142 (k0_t10 : Fin k0_t10_loop.trips) : Fin 3 → Nat :=
  let c0_218 : Index := 0#32
  let c0_i32_160 : BitVec 32 := 0#32
  let c1_i32_161 : BitVec 32 := 1#32
  let arg18 : BitVec 32 := Scf.iv c0_i32_160 c1_i32_161 k0_t10
  let v403 : Index := Scalar.indexCast arg18
  let c0_219 : Index := 0#32
  ![0, v403.toNat, 0]
def k0_off143 (k0_t10 : Fin k0_t10_loop.trips) : Fin 4 → Nat :=
  let c0_i32_160 : BitVec 32 := 0#32
  let c1_i32_161 : BitVec 32 := 1#32
  let arg18 : BitVec 32 := Scf.iv c0_i32_160 c1_i32_161 k0_t10
  let v407 : Index := Scalar.indexCast arg18
  let c1_220 : Index := 1#32
  let c0_221 : Index := 0#32
  let c0_222 : Index := 0#32
  ![v407.toNat, 1, 0, 0]
def k0_off144 (k0_t10 : Fin k0_t10_loop.trips) : Fin 3 → Nat :=
  let c1_224 : Index := 1#32
  let c0_i32_160 : BitVec 32 := 0#32
  let c1_i32_161 : BitVec 32 := 1#32
  let arg18 : BitVec 32 := Scf.iv c0_i32_160 c1_i32_161 k0_t10
  let v412 : Index := Scalar.indexCast arg18
  let c0_225 : Index := 0#32
  ![1, v412.toNat, 0]
def k0_off145 (k0_t10 : Fin k0_t10_loop.trips) : Fin 4 → Nat :=
  let c0_i32_160 : BitVec 32 := 0#32
  let c1_i32_161 : BitVec 32 := 1#32
  let arg18 : BitVec 32 := Scf.iv c0_i32_160 c1_i32_161 k0_t10
  let v416 : Index := Scalar.indexCast arg18
  let c2_226 : Index := 2#32
  let c0_227 : Index := 0#32
  let c0_228 : Index := 0#32
  ![v416.toNat, 2, 0, 0]
def k0_off146 (k0_t10 : Fin k0_t10_loop.trips) : Fin 3 → Nat :=
  let c2_230 : Index := 2#32
  let c0_i32_160 : BitVec 32 := 0#32
  let c1_i32_161 : BitVec 32 := 1#32
  let arg18 : BitVec 32 := Scf.iv c0_i32_160 c1_i32_161 k0_t10
  let v421 : Index := Scalar.indexCast arg18
  let c0_231 : Index := 0#32
  ![2, v421.toNat, 0]
abbrev stage0_0 : Fin 1 → Memref sig .tc .vmem S3x384x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x5x384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
abbrev S384x3x2048 : Shape := ⟨3, ![384, 3, 2048]⟩
abbrev S384x3 : Shape := ⟨2, ![384, 3]⟩
abbrev S2048x4096 : Shape := ⟨2, ![2048, 4096]⟩
abbrev S4096 : Shape := ⟨1, ![4096]⟩
abbrev S3x384x2048 : Shape := ⟨3, ![3, 384, 2048]⟩
abbrev S3x384 : Shape := ⟨2, ![3, 384]⟩
abbrev S32x128 : Shape := ⟨2, ![32, 128]⟩
abbrev S3x5x384x1024 : Shape := ⟨4, ![3, 5, 384, 1024]⟩
abbrev S3x384x128 : Shape := ⟨3, ![3, 384, 128]⟩
abbrev S12x264x128 : Shape := ⟨3, ![12, 264, 128]⟩
abbrev S12x264x2x128 : Shape := ⟨4, ![12, 264, 2, 128]⟩
abbrev S12x264x1x128 : Shape := ⟨4, ![12, 264, 1, 128]⟩
abbrev S384x3x4x8x128 : Shape := ⟨5, ![384, 3, 4, 8, 128]⟩
abbrev S392x3x8x128 : Shape := ⟨4, ![392, 3, 8, 128]⟩
abbrev S192x3x8x128 : Shape := ⟨4, ![192, 3, 8, 128]⟩
abbrev S48x3x8x128 : Shape := ⟨4, ![48, 3, 8, 128]⟩
abbrev S3x392x128 : Shape := ⟨3, ![3, 392, 128]⟩
abbrev S2x3x360x128 : Shape := ⟨4, ![2, 3, 360, 128]⟩
abbrev S2x3x360x2x128 : Shape := ⟨5, ![2, 3, 360, 2, 128]⟩
abbrev S2x3x360x1x128 : Shape := ⟨5, ![2, 3, 360, 1, 128]⟩
abbrev S8x128 : Shape := ⟨2, ![8, 128]⟩
abbrev S1x128 : Shape := ⟨2, ![1, 128]⟩
abbrev S128x128 : Shape := ⟨2, ![128, 128]⟩
abbrev S1x128x128 : Shape := ⟨3, ![1, 128, 128]⟩
abbrev S1x32x2048 : Shape := ⟨3, ![1, 32, 2048]⟩
abbrev S32x2048 : Shape := ⟨2, ![32, 2048]⟩
abbrev S192x2048 : Shape := ⟨2, ![192, 2048]⟩
abbrev S2048x512 : Shape := ⟨2, ![2048, 512]⟩
abbrev S192x512 : Shape := ⟨2, ![192, 512]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S16x128 : Shape := ⟨2, ![16, 128]⟩
abbrev S8x128x1 : Shape := ⟨3, ![8, 128, 1]⟩
abbrev S1x1x1x8x128 : Shape := ⟨5, ![1, 1, 1, 8, 128]⟩
abbrev S1x1x8x128 : Shape := ⟨4, ![1, 1, 8, 128]⟩
abbrev S1 : Shape := ⟨1, ![1]⟩
abbrev S1x1x1 : Shape := ⟨3, ![1, 1, 1]⟩
abbrev S1x1 : Shape := ⟨2, ![1, 1]⟩
abbrev S1x1x128 : Shape := ⟨3, ![1, 1, 128]⟩
abbrev S1x1x8x2x128 : Shape := ⟨5, ![1, 1, 8, 2, 128]⟩
abbrev S1x1x8x1x128 : Shape := ⟨5, ![1, 1, 8, 1, 128]⟩
abbrev S1x1x16x128 : Shape := ⟨4, ![1, 1, 16, 128]⟩
abbrev S7x3x8x128 : Shape := ⟨4, ![7, 3, 8, 128]⟩
abbrev S128 : Shape := ⟨1, ![128]⟩
abbrev S1x384 : Shape := ⟨2, ![1, 384]⟩
abbrev S1x384x128 : Shape := ⟨3, ![1, 384, 128]⟩
abbrev S384x128 : Shape := ⟨2, ![384, 128]⟩
abbrev S8x384 : Shape := ⟨2, ![8, 384]⟩

abbrev nBuf : Space → Nat
  | .hbm => 11
  | .vmem => 18
  | .smem => 0
  | _ => 0

abbrev bufTy : (tb : Table) → Fin (tcTables nBuf tb) → BufTy
  | .hbm, ⟨0, _⟩ => ⟨S384x3x2048, .fp8e4m3⟩
  | .hbm, ⟨1, _⟩ => ⟨S384x3, .f32⟩
  | .hbm, ⟨2, _⟩ => ⟨S2048x4096, .fp8e4m3⟩
  | .hbm, ⟨3, _⟩ => ⟨S4096, .f32⟩
  | .hbm, ⟨4, _⟩ => ⟨S4096, .f32⟩
  | .hbm, ⟨5, _⟩ => ⟨S3x384x2048, .fp8e4m3⟩
  | .hbm, ⟨6, _⟩ => ⟨S3x384, .f32⟩
  | .hbm, ⟨7, _⟩ => ⟨S32x128, .f32⟩
  | .hbm, ⟨8, _⟩ => ⟨S32x128, .f32⟩
  | .hbm, ⟨9, _⟩ => ⟨S3x384, .f32⟩
  | .hbm, ⟨10, _⟩ => ⟨S3x5x384x1024, .bf16⟩
  | .local _ .vmem, ⟨0, _⟩ => ⟨S3x384x2048, .fp8e4m3⟩
  | .local _ .vmem, ⟨1, _⟩ => ⟨S3x384, .f32⟩
  | .local _ .vmem, ⟨2, _⟩ => ⟨S2048x4096, .fp8e4m3⟩
  | .local _ .vmem, ⟨3, _⟩ => ⟨S32x128, .f32⟩
  | .local _ .vmem, ⟨4, _⟩ => ⟨S32x128, .f32⟩
  | .local _ .vmem, ⟨5, _⟩ => ⟨S3x384, .f32⟩
  | .local _ .vmem, ⟨6, _⟩ => ⟨S3x5x384x1024, .bf16⟩
  | .local _ .vmem, ⟨7, _⟩ => ⟨S3x384x128, .f32⟩
  | .local _ .vmem, ⟨8, _⟩ => ⟨S12x264x2x128, .bf16⟩
  | .local _ .vmem, ⟨9, _⟩ => ⟨S384x3x4x8x128, .f32⟩
  | .local _ .vmem, ⟨10, _⟩ => ⟨S392x3x8x128, .f32⟩
  | .local _ .vmem, ⟨11, _⟩ => ⟨S192x3x8x128, .f32⟩
  | .local _ .vmem, ⟨12, _⟩ => ⟨S192x3x8x128, .f32⟩
  | .local _ .vmem, ⟨13, _⟩ => ⟨S48x3x8x128, .f32⟩
  | .local _ .vmem, ⟨14, _⟩ => ⟨S48x3x8x128, .f32⟩
  | .local _ .vmem, ⟨15, _⟩ => ⟨S3x392x128, .f32⟩
  | .local _ .vmem, ⟨16, _⟩ => ⟨S3x392x128, .f32⟩
  | .local _ .vmem, ⟨17, _⟩ => ⟨S2x3x360x2x128, .bf16⟩
  | _, _ => ⟨S384x3x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_102 : BitVec 32 := 0#32
  let c6_i32 : BitVec 32 := 6#32
  let v249 : BitVec 32 := Scalar.addi c0_i32_102 c6_i32
  let c1_i32_103 : BitVec 32 := 1#32
  ⟨c0_i32_102, v249, c1_i32_103⟩
def k0_mult1 (k0_t1 : Fin k0_t1_loop.trips) : BitVec 32 :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  v398
def k0_mult2 (k0_t1 : Fin k0_t1_loop.trips) : BitVec 32 :=
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  v402
@[reducible] def k0_t2_loop : Scf.Loop 32 :=
  let c0_i32_216 : BitVec 32 := 0#32
  let c8_i32_217 : BitVec 32 := 8#32
  let v404 : BitVec 32 := Scalar.addi c0_i32_216 c8_i32_217
  let c1_i32_218 : BitVec 32 := 1#32
  ⟨c0_i32_216, v404, c1_i32_218⟩
def k0_mult3 (k0_t2 : Fin k0_t2_loop.trips) : BitVec 32 :=
  let c0_i32_216 : BitVec 32 := 0#32
  let c1_i32_218 : BitVec 32 := 1#32
  let arg19 : BitVec 32 := Scf.iv c0_i32_216 c1_i32_218 k0_t2
  let c512_i32 : BitVec 32 := 512#32
  let v406 : BitVec 32 := Scalar.muli arg19 c512_i32
  v406
def k0_off1 (k0_t1 : Fin k0_t1_loop.trips) : Fin 3 → Nat :=
  let c0_223 : Index := 0#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v408 : Index := Scalar.indexCast v399
  let c0_224 : Index := 0#32
  ![0, v408.toNat, 0]
def k0_off2 (k0_t1 : Fin k0_t1_loop.trips) : Fin 3 → Nat :=
  let c0_225 : Index := 0#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v411 : Index := Scalar.indexCast v403
  let c0_226 : Index := 0#32
  ![0, v411.toNat, 0]
def k0_off3 (k0_t1 : Fin k0_t1_loop.trips) : Fin 3 → Nat :=
  let c1_227 : Index := 1#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v414 : Index := Scalar.indexCast v399
  let c0_228 : Index := 0#32
  ![1, v414.toNat, 0]
def k0_off4 (k0_t1 : Fin k0_t1_loop.trips) : Fin 3 → Nat :=
  let c1_229 : Index := 1#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v417 : Index := Scalar.indexCast v403
  let c0_230 : Index := 0#32
  ![1, v417.toNat, 0]
def k0_off5 (k0_t1 : Fin k0_t1_loop.trips) : Fin 3 → Nat :=
  let c2_231 : Index := 2#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v420 : Index := Scalar.indexCast v399
  let c0_232 : Index := 0#32
  ![2, v420.toNat, 0]
def k0_off6 (k0_t1 : Fin k0_t1_loop.trips) : Fin 3 → Nat :=
  let c2_233 : Index := 2#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v423 : Index := Scalar.indexCast v403
  let c0_234 : Index := 0#32
  ![2, v423.toNat, 0]
def k0_off7 (k0_t2 : Fin k0_t2_loop.trips) : Fin 2 → Nat :=
  let c0_235 : Index := 0#32
  let c0_i32_216 : BitVec 32 := 0#32
  let c1_i32_218 : BitVec 32 := 1#32
  let arg19 : BitVec 32 := Scf.iv c0_i32_216 c1_i32_218 k0_t2
  let c512_i32 : BitVec 32 := 512#32
  let v406 : BitVec 32 := Scalar.muli arg19 c512_i32
  let v407 : BitVec 32 := v406
  let v427 : Index := Scalar.indexCast v407
  ![0, v427.toNat]
def k0_off8 (k0_t2 : Fin k0_t2_loop.trips) (c0_i32_238 : BitVec 32) : Fin 2 → Nat :=
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v432 : Index := Scalar.indexCast v431
  let c0_239 : Index := 0#32
  ![v432.toNat, 0]
def k0_off9 (k0_t1 : Fin k0_t1_loop.trips) (c0_i32_241 : BitVec 32) (c0_i32_242 : BitVec 32) : Fin 3 → Nat :=
  let c0_243 : Index := 0#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v438 : BitVec 32 := Scalar.addi v399 c0_i32_241
  let v439 : BitVec 32 := Scalar.addi v438 c0_i32_242
  let v440 : Index := Scalar.indexCast v439
  let c0_244 : Index := 0#32
  ![0, v440.toNat, 0]
def k0_off10 (k0_t2 : Fin k0_t2_loop.trips) (c0_i32_238 : BitVec 32) : Fin 4 → Nat :=
  let c0_251 : Index := 0#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v467 : Index := Scalar.indexCast v431
  let c0_252 : Index := 0#32
  ![0, v467.toNat, 0, 0]
def k0_off11 (k0_t2 : Fin k0_t2_loop.trips) (c0_i32_238 : BitVec 32) : Fin 4 → Nat :=
  let c1_262 : Index := 1#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v500 : Index := Scalar.indexCast v431
  let c0_263 : Index := 0#32
  ![1, v500.toNat, 0, 0]
def k0_off12 (k0_t1 : Fin k0_t1_loop.trips) (c0_i32_264 : BitVec 32) (c0_i32_265 : BitVec 32) : Fin 3 → Nat :=
  let c0_266 : Index := 0#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v504 : BitVec 32 := Scalar.addi v403 c0_i32_264
  let v505 : BitVec 32 := Scalar.addi v504 c0_i32_265
  let v506 : Index := Scalar.indexCast v505
  let c0_267 : Index := 0#32
  ![0, v506.toNat, 0]
def k0_off13 (k0_t2 : Fin k0_t2_loop.trips) (c0_i32_238 : BitVec 32) : Fin 4 → Nat :=
  let c2_274 : Index := 2#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v533 : Index := Scalar.indexCast v431
  let c0_275 : Index := 0#32
  ![2, v533.toNat, 0, 0]
def k0_off14 (k0_t2 : Fin k0_t2_loop.trips) (c0_i32_238 : BitVec 32) : Fin 4 → Nat :=
  let c3 : Index := 3#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v566 : Index := Scalar.indexCast v431
  let c0_286 : Index := 0#32
  ![3, v566.toNat, 0, 0]
def k0_off15 (k0_t1 : Fin k0_t1_loop.trips) (c0_i32_287 : BitVec 32) (c0_i32_288 : BitVec 32) : Fin 3 → Nat :=
  let c1_289 : Index := 1#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v570 : BitVec 32 := Scalar.addi v399 c0_i32_287
  let v571 : BitVec 32 := Scalar.addi v570 c0_i32_288
  let v572 : Index := Scalar.indexCast v571
  let c0_290 : Index := 0#32
  ![1, v572.toNat, 0]
def k0_off16 (k0_t2 : Fin k0_t2_loop.trips) (c0_i32_238 : BitVec 32) : Fin 4 → Nat :=
  let c4 : Index := 4#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v599 : Index := Scalar.indexCast v431
  let c0_297 : Index := 0#32
  ![4, v599.toNat, 0, 0]
def k0_off17 (k0_t2 : Fin k0_t2_loop.trips) (c0_i32_238 : BitVec 32) : Fin 4 → Nat :=
  let c5 : Index := 5#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v632 : Index := Scalar.indexCast v431
  let c0_308 : Index := 0#32
  ![5, v632.toNat, 0, 0]
def k0_off18 (k0_t1 : Fin k0_t1_loop.trips) (c0_i32_309 : BitVec 32) (c0_i32_310 : BitVec 32) : Fin 3 → Nat :=
  let c1_311 : Index := 1#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v636 : BitVec 32 := Scalar.addi v403 c0_i32_309
  let v637 : BitVec 32 := Scalar.addi v636 c0_i32_310
  let v638 : Index := Scalar.indexCast v637
  let c0_312 : Index := 0#32
  ![1, v638.toNat, 0]
def k0_off19 (k0_t2 : Fin k0_t2_loop.trips) (c0_i32_238 : BitVec 32) : Fin 4 → Nat :=
  let c6 : Index := 6#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v665 : Index := Scalar.indexCast v431
  let c0_319 : Index := 0#32
  ![6, v665.toNat, 0, 0]
def k0_off20 (k0_t2 : Fin k0_t2_loop.trips) (c0_i32_238 : BitVec 32) : Fin 4 → Nat :=
  let c7 : Index := 7#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v698 : Index := Scalar.indexCast v431
  let c0_330 : Index := 0#32
  ![7, v698.toNat, 0, 0]
def k0_off21 (k0_t1 : Fin k0_t1_loop.trips) (c0_i32_331 : BitVec 32) (c0_i32_332 : BitVec 32) : Fin 3 → Nat :=
  let c2_333 : Index := 2#32
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let v702 : BitVec 32 := Scalar.addi v399 c0_i32_331
  let v703 : BitVec 32 := Scalar.addi v702 c0_i32_332
  let v704 : Index := Scalar.indexCast v703
  let c0_334 : Index := 0#32
  ![2, v704.toNat, 0]
def k0_off22 (k0_t2 : Fin k0_t2_loop.trips) (c0_i32_238 : BitVec 32) : Fin 4 → Nat :=
  let c8 : Index := 8#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v731 : Index := Scalar.indexCast v431
  let c0_341 : Index := 0#32
  ![8, v731.toNat, 0, 0]
def k0_off23 (k0_t2 : Fin k0_t2_loop.trips) (c0_i32_238 : BitVec 32) : Fin 4 → Nat :=
  let c9 : Index := 9#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v764 : Index := Scalar.indexCast v431
  let c0_352 : Index := 0#32
  ![9, v764.toNat, 0, 0]
def k0_off24 (k0_t1 : Fin k0_t1_loop.trips) (c0_i32_353 : BitVec 32) (c0_i32_354 : BitVec 32) : Fin 3 → Nat :=
  let c2_355 : Index := 2#32
  let c384_i32 : BitVec 32 := 384#32
  let c0_i32_102 : BitVec 32 := 0#32
  let c1_i32_103 : BitVec 32 := 1#32
  let arg18 : BitVec 32 := Scf.iv c0_i32_102 c1_i32_103 k0_t1
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v768 : BitVec 32 := Scalar.addi v403 c0_i32_353
  let v769 : BitVec 32 := Scalar.addi v768 c0_i32_354
  let v770 : Index := Scalar.indexCast v769
  let c0_356 : Index := 0#32
  ![2, v770.toNat, 0]
def k0_off25 (k0_t2 : Fin k0_t2_loop.trips) (c0_i32_238 : BitVec 32) : Fin 4 → Nat :=
  let c10 : Index := 10#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v797 : Index := Scalar.indexCast v431
  let c0_363 : Index := 0#32
  ![10, v797.toNat, 0, 0]
def k0_off26 (k0_t2 : Fin k0_t2_loop.trips) (c0_i32_238 : BitVec 32) : Fin 4 → Nat :=
  let c11 : Index := 11#32
  let c0_i32_216 : BitVec 32 := 0#32
  let c1_i32_218 : BitVec 32 := 1#32
  let arg19 : BitVec 32 := Scf.iv c0_i32_216 c1_i32_218 k0_t2
  let c4_i32_237 : BitVec 32 := 4#32
  let v430 : BitVec 32 := Scalar.muli arg19 c4_i32_237
  let v431 : BitVec 32 := Scalar.addi v430 c0_i32_238
  let v830 : Index := Scalar.indexCast v431
  let c0_374 : Index := 0#32
  ![11, v830.toNat, 0, 0]
@[reducible] def k0_t3_loop : Scf.Loop 32 :=
  let c0_i32_220 : BitVec 32 := 0#32
  let c96_i32 : BitVec 32 := 96#32
  let v405 : BitVec 32 := Scalar.addi c0_i32_220 c96_i32
  let c1_i32_221 : BitVec 32 := 1#32
  ⟨c0_i32_220, v405, c1_i32_221⟩
def k0_off27 (k0_t3 : Fin k0_t3_loop.trips) (c0_i32_229 : BitVec 32) (c0_i32_230 : BitVec 32) : Fin 4 → Nat :=
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let v420 : Index := Scalar.indexCast v406
  let c33_i32 : BitVec 32 := 33#32
  let c7_i32_224 : BitVec 32 := 7#32
  let v407 : BitVec 32 := Scalar.andi arg19 c7_i32_224
  let v417 : BitVec 32 := Scalar.muli c33_i32 v407
  let v418 : BitVec 32 := Scalar.addi v417 c0_i32_229
  let v419 : BitVec 32 := Scalar.addi v418 c0_i32_230
  let v421 : Index := Scalar.indexCast v419
  let c0_231 : Index := 0#32
  ![v420.toNat, v421.toNat, 0, 0]
def k0_off28 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c7_i32_224 : BitVec 32 := 7#32
  let v407 : BitVec 32 := Scalar.andi arg19 c7_i32_224
  let v558 : BitVec 32 := Scalar.addi v416 v407
  let v559 : Index := Scalar.indexCast v558
  let c2_i32_225 : BitVec 32 := 2#32
  let v408 : BitVec 32 := Scalar.shrsi v406 c2_i32_225
  let v560 : Index := Scalar.indexCast v408
  let c0_251 : Index := 0#32
  let c0_252 : Index := 0#32
  let c0_253 : Index := 0#32
  ![v559.toNat, v560.toNat, 0, 0, 0]
def k0_off29 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c8_i32_254 : BitVec 32 := 8#32
  let v565 : BitVec 32 := Scalar.addi v416 c8_i32_254
  let c7_i32_224 : BitVec 32 := 7#32
  let v407 : BitVec 32 := Scalar.andi arg19 c7_i32_224
  let v566 : BitVec 32 := Scalar.addi v565 v407
  let v567 : Index := Scalar.indexCast v566
  let c2_i32_225 : BitVec 32 := 2#32
  let v408 : BitVec 32 := Scalar.shrsi v406 c2_i32_225
  let v568 : Index := Scalar.indexCast v408
  let c0_255 : Index := 0#32
  let c0_256 : Index := 0#32
  let c0_257 : Index := 0#32
  ![v567.toNat, v568.toNat, 0, 0, 0]
def k0_off30 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c7_i32_224 : BitVec 32 := 7#32
  let v407 : BitVec 32 := Scalar.andi arg19 c7_i32_224
  let v573 : BitVec 32 := Scalar.addi v416 v407
  let v574 : Index := Scalar.indexCast v573
  let c2_i32_225 : BitVec 32 := 2#32
  let v408 : BitVec 32 := Scalar.shrsi v406 c2_i32_225
  let v575 : Index := Scalar.indexCast v408
  let c1_258 : Index := 1#32
  let c0_259 : Index := 0#32
  let c0_260 : Index := 0#32
  ![v574.toNat, v575.toNat, 1, 0, 0]
def k0_off31 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c8_i32_261 : BitVec 32 := 8#32
  let v580 : BitVec 32 := Scalar.addi v416 c8_i32_261
  let c7_i32_224 : BitVec 32 := 7#32
  let v407 : BitVec 32 := Scalar.andi arg19 c7_i32_224
  let v581 : BitVec 32 := Scalar.addi v580 v407
  let v582 : Index := Scalar.indexCast v581
  let c2_i32_225 : BitVec 32 := 2#32
  let v408 : BitVec 32 := Scalar.shrsi v406 c2_i32_225
  let v583 : Index := Scalar.indexCast v408
  let c1_262 : Index := 1#32
  let c0_263 : Index := 0#32
  let c0_264 : Index := 0#32
  ![v582.toNat, v583.toNat, 1, 0, 0]
def k0_off32 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c7_i32_224 : BitVec 32 := 7#32
  let v407 : BitVec 32 := Scalar.andi arg19 c7_i32_224
  let v588 : BitVec 32 := Scalar.addi v416 v407
  let v589 : Index := Scalar.indexCast v588
  let c2_i32_225 : BitVec 32 := 2#32
  let v408 : BitVec 32 := Scalar.shrsi v406 c2_i32_225
  let v590 : Index := Scalar.indexCast v408
  let c2_265 : Index := 2#32
  let c0_266 : Index := 0#32
  let c0_267 : Index := 0#32
  ![v589.toNat, v590.toNat, 2, 0, 0]
def k0_off33 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c8_i32_268 : BitVec 32 := 8#32
  let v595 : BitVec 32 := Scalar.addi v416 c8_i32_268
  let c7_i32_224 : BitVec 32 := 7#32
  let v407 : BitVec 32 := Scalar.andi arg19 c7_i32_224
  let v596 : BitVec 32 := Scalar.addi v595 v407
  let v597 : Index := Scalar.indexCast v596
  let c2_i32_225 : BitVec 32 := 2#32
  let v408 : BitVec 32 := Scalar.shrsi v406 c2_i32_225
  let v598 : Index := Scalar.indexCast v408
  let c2_269 : Index := 2#32
  let c0_270 : Index := 0#32
  let c0_271 : Index := 0#32
  ![v597.toNat, v598.toNat, 2, 0, 0]
def k0_off34 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c7_i32_224 : BitVec 32 := 7#32
  let v407 : BitVec 32 := Scalar.andi arg19 c7_i32_224
  let v603 : BitVec 32 := Scalar.addi v416 v407
  let v604 : Index := Scalar.indexCast v603
  let c2_i32_225 : BitVec 32 := 2#32
  let v408 : BitVec 32 := Scalar.shrsi v406 c2_i32_225
  let v605 : Index := Scalar.indexCast v408
  let c3 : Index := 3#32
  let c0_272 : Index := 0#32
  let c0_273 : Index := 0#32
  ![v604.toNat, v605.toNat, 3, 0, 0]
def k0_off35 (k0_t1 : Fin k0_t1_loop.trips) (k0_t3 : Fin k0_t3_loop.trips) : Fin 5 → Nat :=
  let c0_i32_102 : BitVec 32 := 0#32
  let c1_i32_103 : BitVec 32 := 1#32
  let arg18 : BitVec 32 := Scf.iv c0_i32_102 c1_i32_103 k0_t1
  let c32_i32 : BitVec 32 := 32#32
  let v398 : BitVec 32 := Scalar.muli arg18 c32_i32
  let v399 : BitVec 32 := v398
  let c0_i32_220 : BitVec 32 := 0#32
  let c1_i32_221 : BitVec 32 := 1#32
  let arg19 : BitVec 32 := Scf.iv c0_i32_220 c1_i32_221 k0_t3
  let c3_i32_223 : BitVec 32 := 3#32
  let v406 : BitVec 32 := Scalar.shrsi arg19 c3_i32_223
  let c1_i32_226 : BitVec 32 := 1#32
  let v409 : BitVec 32 := Scalar.shrsi v406 c1_i32_226
  let c1_i32_227 : BitVec 32 := 1#32
  let v410 : BitVec 32 := Scalar.andi v409 c1_i32_227
  let c384_i32 : BitVec 32 := 384#32
  let c1_i32_214 : BitVec 32 := 1#32
  let v400 : BitVec 32 := Scalar.addi arg18 c1_i32_214
  let c32_i32_215 : BitVec 32 := 32#32
  let v401 : BitVec 32 := Scalar.muli v400 c32_i32_215
  let v402 : BitVec 32 := Scalar.subi c384_i32 v401
  let v403 : BitVec 32 := v402
  let v412 : BitVec 32 := Scalar.subi v403 v399
  let v413 : BitVec 32 := Scalar.muli v410 v412
  let v414 : BitVec 32 := Scalar.addi v399 v413
  let c16_i32 : BitVec 32 := 16#32
  let c1_i32_228 : BitVec 32 := 1#32
  let v411 : BitVec 32 := Scalar.andi v406 c1_i32_228
  let v415 : BitVec 32 := Scalar.muli c16_i32 v411
  let v416 : BitVec 32 := Scalar.addi v414 v415
  let c8_i32_274 : BitVec 32 := 8#32
  let v610 : BitVec 32 := Scalar.addi v416 c8_i32_274
  let c7_i32_224 : BitVec 32 := 7#32
  let v407 : BitVec 32 := Scalar.andi arg19 c7_i32_224
  let v611 : BitVec 32 := Scalar.addi v610 v407
  let v612 : Index := Scalar.indexCast v611
  let c2_i32_225 : BitVec 32 := 2#32
  let v408 : BitVec 32 := Scalar.shrsi v406 c2_i32_225
  let v613 : Index := Scalar.indexCast v408
  let c3_275 : Index := 3#32
  let c0_276 : Index := 0#32
  let c0_277 : Index := 0#32
  ![v612.toNat, v613.toNat, 3, 0, 0]
@[reducible] def k0_t4_loop : Scf.Loop 32 :=
  let c0_i32_110 : BitVec 32 := 0#32
  let c24_i32 : BitVec 32 := 24#32
  let v255 : BitVec 32 := Scalar.addi c0_i32_110 c24_i32
  let c1_i32_111 : BitVec 32 := 1#32
  ⟨c0_i32_110, v255, c1_i32_111⟩
def k0_off36 (k0_t4 : Fin k0_t4_loop.trips) : Fin 4 → Nat :=
  let c0_i32_110 : BitVec 32 := 0#32
  let c1_i32_111 : BitVec 32 := 1#32
  let arg18 : BitVec 32 := Scf.iv c0_i32_110 c1_i32_111 k0_t4
  let v402 : Index := Scalar.indexCast arg18
  let c0_214 : Index := 0#32
  let c0_215 : Index := 0#32
  let c0_216 : Index := 0#32
  ![v402.toNat, 0, 0, 0]
def k0_off37 (k0_t4 : Fin k0_t4_loop.trips) : Fin 4 → Nat :=
  let c0_i32_110 : BitVec 32 := 0#32
  let c1_i32_111 : BitVec 32 := 1#32
  let arg18 : BitVec 32 := Scf.iv c0_i32_110 c1_i32_111 k0_t4
  let v406 : Index := Scalar.indexCast arg18
  let c1_217 : Index := 1#32
  let c0_218 : Index := 0#32
  let c0_219 : Index := 0#32
  ![v406.toNat, 1, 0, 0]
def k0_off38 (k0_t4 : Fin k0_t4_loop.trips) : Fin 4 → Nat :=
  let c0_i32_110 : BitVec 32 := 0#32
  let c1_i32_111 : BitVec 32 := 1#32
  let arg18 : BitVec 32 := Scf.iv c0_i32_110 c1_i32_111 k0_t4
  let v410 : Index := Scalar.indexCast arg18
  let c2_220 : Index := 2#32
  let c0_221 : Index := 0#32
  let c0_222 : Index := 0#32
  ![v410.toNat, 2, 0, 0]
def k0_off39 (k0_t4 : Fin k0_t4_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let v459 : Index := Scalar.indexCast v398
  let c0_232 : Index := 0#32
  let c0_233 : Index := 0#32
  let c0_234 : Index := 0#32
  ![v459.toNat, 0, 0, 0]
def k0_off40 (k0_t4 : Fin k0_t4_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let v463 : Index := Scalar.indexCast v398
  let c1_235 : Index := 1#32
  let c0_236 : Index := 0#32
  let c0_237 : Index := 0#32
  ![v463.toNat, 1, 0, 0]
def k0_off41 (k0_t4 : Fin k0_t4_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let v467 : Index := Scalar.indexCast v398
  let c2_238 : Index := 2#32
  let c0_239 : Index := 0#32
  let c0_240 : Index := 0#32
  ![v467.toNat, 2, 0, 0]
def k0_off42 (k0_t4 : Fin k0_t4_loop.trips) : Fin 3 → Nat :=
  let c0_251 : Index := 0#32
  let c0_i32_110 : BitVec 32 := 0#32
  let c1_i32_111 : BitVec 32 := 1#32
  let arg18 : BitVec 32 := Scf.iv c0_i32_110 c1_i32_111 k0_t4
  let c8_i32_250 : BitVec 32 := 8#32
  let v514 : BitVec 32 := Scalar.muli arg18 c8_i32_250
  let v515 : Index := Scalar.indexCast v514
  let c0_252 : Index := 0#32
  ![0, v515.toNat, 0]
def k0_off43 (k0_t4 : Fin k0_t4_loop.trips) : Fin 3 → Nat :=
  let c1_254 : Index := 1#32
  let c0_i32_110 : BitVec 32 := 0#32
  let c1_i32_111 : BitVec 32 := 1#32
  let arg18 : BitVec 32 := Scf.iv c0_i32_110 c1_i32_111 k0_t4
  let c8_i32_253 : BitVec 32 := 8#32
  let v520 : BitVec 32 := Scalar.muli arg18 c8_i32_253
  let v521 : Index := Scalar.indexCast v520
  let c0_255 : Index := 0#32
  ![1, v521.toNat, 0]
def k0_off44 (k0_t4 : Fin k0_t4_loop.trips) : Fin 3 → Nat :=
  let c2_257 : Index := 2#32
  let c0_i32_110 : BitVec 32 := 0#32
  let c1_i32_111 : BitVec 32 := 1#32
  let arg18 : BitVec 32 := Scf.iv c0_i32_110 c1_i32_111 k0_t4
  let c8_i32_256 : BitVec 32 := 8#32
  let v526 : BitVec 32 := Scalar.muli arg18 c8_i32_256
  let v527 : Index := Scalar.indexCast v526
  let c0_258 : Index := 0#32
  ![2, v527.toNat, 0]
@[reducible] def k0_t5_loop : Scf.Loop 32 :=
  let c0_i32_259 : BitVec 32 := 0#32
  let c8_i32_260 : BitVec 32 := 8#32
  let v531 : BitVec 32 := Scalar.addi c0_i32_259 c8_i32_260
  let c1_i32_261 : BitVec 32 := 1#32
  ⟨c0_i32_259, v531, c1_i32_261⟩
def k0_off45 (k0_t4 : Fin k0_t4_loop.trips) (k0_t5 : Fin k0_t5_loop.trips) : Fin 4 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v539 : Index := Scalar.indexCast v534
  let c0_267 : Index := 0#32
  let c0_268 : Index := 0#32
  let c0_269 : Index := 0#32
  ![v539.toNat, 0, 0, 0]
def k0_off46 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v543 : Index := Scalar.indexCast v534
  let c0_270 : Index := 0#32
  let c0_271 : Index := 0#32
  let c0_272 : Index := 0#32
  let c0_273 : Index := 0#32
  ![v543.toNat, 0, 0, 0, 0]
def k0_off47 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v546 : Index := Scalar.indexCast v534
  let c0_274 : Index := 0#32
  let c1_275 : Index := 1#32
  let c0_276 : Index := 0#32
  let c0_277 : Index := 0#32
  ![v546.toNat, 0, 1, 0, 0]
def k0_off48 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v549 : Index := Scalar.indexCast v534
  let c0_278 : Index := 0#32
  let c2_279 : Index := 2#32
  let c0_280 : Index := 0#32
  let c0_281 : Index := 0#32
  ![v549.toNat, 0, 2, 0, 0]
def k0_off49 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v552 : Index := Scalar.indexCast v534
  let c0_282 : Index := 0#32
  let c3 : Index := 3#32
  let c0_283 : Index := 0#32
  let c0_284 : Index := 0#32
  ![v552.toNat, 0, 3, 0, 0]
def k0_off50 (k0_t4 : Fin k0_t4_loop.trips) (k0_t5 : Fin k0_t5_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let c192_i32 : BitVec 32 := 192#32
  let v600 : BitVec 32 := Scalar.subi v538 c192_i32
  let v601 : Index := Scalar.indexCast v600
  let c0_285 : Index := 0#32
  let c0_286 : Index := 0#32
  let c0_287 : Index := 0#32
  ![v601.toNat, 0, 0, 0]
def k0_off51 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v622 : Index := Scalar.indexCast v538
  let c0_292 : Index := 0#32
  let c0_293 : Index := 0#32
  let c0_294 : Index := 0#32
  let c0_295 : Index := 0#32
  ![v622.toNat, 0, 0, 0, 0]
def k0_off52 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v625 : Index := Scalar.indexCast v538
  let c0_296 : Index := 0#32
  let c1_297 : Index := 1#32
  let c0_298 : Index := 0#32
  let c0_299 : Index := 0#32
  ![v625.toNat, 0, 1, 0, 0]
def k0_off53 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v628 : Index := Scalar.indexCast v538
  let c0_300 : Index := 0#32
  let c2_301 : Index := 2#32
  let c0_302 : Index := 0#32
  let c0_303 : Index := 0#32
  ![v628.toNat, 0, 2, 0, 0]
def k0_off54 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v631 : Index := Scalar.indexCast v538
  let c0_304 : Index := 0#32
  let c3_305 : Index := 3#32
  let c0_306 : Index := 0#32
  let c0_307 : Index := 0#32
  ![v631.toNat, 0, 3, 0, 0]
def k0_off55 (k0_t4 : Fin k0_t4_loop.trips) (k0_t5 : Fin k0_t5_loop.trips) : Fin 4 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v646 : Index := Scalar.indexCast v534
  let c1_309 : Index := 1#32
  let c0_310 : Index := 0#32
  let c0_311 : Index := 0#32
  ![v646.toNat, 1, 0, 0]
def k0_off56 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v650 : Index := Scalar.indexCast v534
  let c1_312 : Index := 1#32
  let c0_313 : Index := 0#32
  let c0_314 : Index := 0#32
  let c0_315 : Index := 0#32
  ![v650.toNat, 1, 0, 0, 0]
def k0_off57 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v653 : Index := Scalar.indexCast v534
  let c1_316 : Index := 1#32
  let c1_317 : Index := 1#32
  let c0_318 : Index := 0#32
  let c0_319 : Index := 0#32
  ![v653.toNat, 1, 1, 0, 0]
def k0_off58 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v656 : Index := Scalar.indexCast v534
  let c1_320 : Index := 1#32
  let c2_321 : Index := 2#32
  let c0_322 : Index := 0#32
  let c0_323 : Index := 0#32
  ![v656.toNat, 1, 2, 0, 0]
def k0_off59 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v659 : Index := Scalar.indexCast v534
  let c1_324 : Index := 1#32
  let c3_325 : Index := 3#32
  let c0_326 : Index := 0#32
  let c0_327 : Index := 0#32
  ![v659.toNat, 1, 3, 0, 0]
def k0_off60 (k0_t4 : Fin k0_t4_loop.trips) (k0_t5 : Fin k0_t5_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let c192_i32_328 : BitVec 32 := 192#32
  let v707 : BitVec 32 := Scalar.subi v538 c192_i32_328
  let v708 : Index := Scalar.indexCast v707
  let c1_329 : Index := 1#32
  let c0_330 : Index := 0#32
  let c0_331 : Index := 0#32
  ![v708.toNat, 1, 0, 0]
def k0_off61 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v729 : Index := Scalar.indexCast v538
  let c1_336 : Index := 1#32
  let c0_337 : Index := 0#32
  let c0_338 : Index := 0#32
  let c0_339 : Index := 0#32
  ![v729.toNat, 1, 0, 0, 0]
def k0_off62 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v732 : Index := Scalar.indexCast v538
  let c1_340 : Index := 1#32
  let c1_341 : Index := 1#32
  let c0_342 : Index := 0#32
  let c0_343 : Index := 0#32
  ![v732.toNat, 1, 1, 0, 0]
def k0_off63 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v735 : Index := Scalar.indexCast v538
  let c1_344 : Index := 1#32
  let c2_345 : Index := 2#32
  let c0_346 : Index := 0#32
  let c0_347 : Index := 0#32
  ![v735.toNat, 1, 2, 0, 0]
def k0_off64 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v738 : Index := Scalar.indexCast v538
  let c1_348 : Index := 1#32
  let c3_349 : Index := 3#32
  let c0_350 : Index := 0#32
  let c0_351 : Index := 0#32
  ![v738.toNat, 1, 3, 0, 0]
def k0_off65 (k0_t4 : Fin k0_t4_loop.trips) (k0_t5 : Fin k0_t5_loop.trips) : Fin 4 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v753 : Index := Scalar.indexCast v534
  let c2_353 : Index := 2#32
  let c0_354 : Index := 0#32
  let c0_355 : Index := 0#32
  ![v753.toNat, 2, 0, 0]
def k0_off66 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v757 : Index := Scalar.indexCast v534
  let c2_356 : Index := 2#32
  let c0_357 : Index := 0#32
  let c0_358 : Index := 0#32
  let c0_359 : Index := 0#32
  ![v757.toNat, 2, 0, 0, 0]
def k0_off67 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v760 : Index := Scalar.indexCast v534
  let c2_360 : Index := 2#32
  let c1_361 : Index := 1#32
  let c0_362 : Index := 0#32
  let c0_363 : Index := 0#32
  ![v760.toNat, 2, 1, 0, 0]
def k0_off68 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v763 : Index := Scalar.indexCast v534
  let c2_364 : Index := 2#32
  let c2_365 : Index := 2#32
  let c0_366 : Index := 0#32
  let c0_367 : Index := 0#32
  ![v763.toNat, 2, 2, 0, 0]
def k0_off69 (k0_t4 : Fin k0_t4_loop.trips) (k0_t5 : Fin k0_t5_loop.trips) : Fin 5 → Nat :=
  let c0_i32_110 : BitVec 32 := 0#32
  let c1_i32_111 : BitVec 32 := 1#32
  let arg18 : BitVec 32 := Scf.iv c0_i32_110 c1_i32_111 k0_t4
  let c8_i32_263 : BitVec 32 := 8#32
  let v533 : BitVec 32 := Scalar.muli arg18 c8_i32_263
  let c0_i32_259 : BitVec 32 := 0#32
  let c1_i32_261 : BitVec 32 := 1#32
  let arg31 : BitVec 32 := Scf.iv c0_i32_259 c1_i32_261 k0_t5
  let v534 : BitVec 32 := Scalar.addi v533 arg31
  let v766 : Index := Scalar.indexCast v534
  let c2_368 : Index := 2#32
  let c3_369 : Index := 3#32
  let c0_370 : Index := 0#32
  let c0_371 : Index := 0#32
  ![v766.toNat, 2, 3, 0, 0]
def k0_off70 (k0_t4 : Fin k0_t4_loop.trips) (k0_t5 : Fin k0_t5_loop.trips) : Fin 4 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let c192_i32_372 : BitVec 32 := 192#32
  let v814 : BitVec 32 := Scalar.subi v538 c192_i32_372
  let v815 : Index := Scalar.indexCast v814
  let c2_373 : Index := 2#32
  let c0_374 : Index := 0#32
  let c0_375 : Index := 0#32
  ![v815.toNat, 2, 0, 0]
def k0_off71 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v836 : Index := Scalar.indexCast v538
  let c2_380 : Index := 2#32
  let c0_381 : Index := 0#32
  let c0_382 : Index := 0#32
  let c0_383 : Index := 0#32
  ![v836.toNat, 2, 0, 0, 0]
def k0_off72 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v839 : Index := Scalar.indexCast v538
  let c2_384 : Index := 2#32
  let c1_385 : Index := 1#32
  let c0_386 : Index := 0#32
  let c0_387 : Index := 0#32
  ![v839.toNat, 2, 1, 0, 0]
def k0_off73 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v842 : Index := Scalar.indexCast v538
  let c2_388 : Index := 2#32
  let c2_389 : Index := 2#32
  let c0_390 : Index := 0#32
  let c0_391 : Index := 0#32
  ![v842.toNat, 2, 2, 0, 0]
def k0_off74 (k0_t4 : Fin k0_t4_loop.trips) (k0_t5 : Fin k0_t5_loop.trips) : Fin 5 → Nat :=
  let c47_i32 : BitVec 32 := 47#32
  let c0_i32_110 : BitVec 32 := 0#32
  let c1_i32_111 : BitVec 32 := 1#32
  let arg18 : BitVec 32 := Scf.iv c0_i32_110 c1_i32_111 k0_t4
  let v398 : BitVec 32 := Scalar.subi c47_i32 arg18
  let c8_i32_264 : BitVec 32 := 8#32
  let v535 : BitVec 32 := Scalar.muli v398 c8_i32_264
  let c8_i32_265 : BitVec 32 := 8#32
  let v536 : BitVec 32 := Scalar.addi v535 c8_i32_265
  let c1_i32_266 : BitVec 32 := 1#32
  let v537 : BitVec 32 := Scalar.subi v536 c1_i32_266
  let c0_i32_259 : BitVec 32 := 0#32
  let c1_i32_261 : BitVec 32 := 1#32
  let arg31 : BitVec 32 := Scf.iv c0_i32_259 c1_i32_261 k0_t5
  let v538 : BitVec 32 := Scalar.subi v537 arg31
  let v845 : Index := Scalar.indexCast v538
  let c2_392 : Index := 2#32
  let c3_393 : Index := 3#32
  let c0_394 : Index := 0#32
  let c0_395 : Index := 0#32
  ![v845.toNat, 2, 3, 0, 0]
@[reducible] def k0_t6_loop : Scf.Loop 32 :=
  let c0_i32_141 : BitVec 32 := 0#32
  let c12_i32 : BitVec 32 := 12#32
  let v308 : BitVec 32 := Scalar.addi c0_i32_141 c12_i32
  let c1_i32_142 : BitVec 32 := 1#32
  ⟨c0_i32_141, v308, c1_i32_142⟩
@[reducible] def k0_t7_loop : Scf.Loop 32 :=
  let c0_i32_214 : BitVec 32 := 0#32
  let c2_i32_215 : BitVec 32 := 2#32
  let v398 : BitVec 32 := Scalar.addi c0_i32_214 c2_i32_215
  let c1_i32_216 : BitVec 32 := 1#32
  ⟨c0_i32_214, v398, c1_i32_216⟩
def k0_off75 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c1_i32_226 : BitVec 32 := 1#32
  let v410 : BitVec 32 := Scalar.subi v408 c1_i32_226
  let v411 : Index := Scalar.indexCast v410
  let c0_227 : Index := 0#32
  let c0_228 : Index := 0#32
  let c0_229 : Index := 0#32
  ![v411.toNat, 0, 0, 0]
def k0_off76 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c1_i32_230 : BitVec 32 := 1#32
  let v416 : BitVec 32 := Scalar.subi v408 c1_i32_230
  let v417 : Index := Scalar.indexCast v416
  let c1_231 : Index := 1#32
  let c0_232 : Index := 0#32
  let c0_233 : Index := 0#32
  ![v417.toNat, 1, 0, 0]
def k0_off77 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c1_i32_234 : BitVec 32 := 1#32
  let v422 : BitVec 32 := Scalar.subi v408 c1_i32_234
  let v423 : Index := Scalar.indexCast v422
  let c2_235 : Index := 2#32
  let c0_236 : Index := 0#32
  let c0_237 : Index := 0#32
  ![v423.toNat, 2, 0, 0]
def k0_off78 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c1_i32_238 : BitVec 32 := 1#32
  let v428 : BitVec 32 := Scalar.addi v409 c1_i32_238
  let v429 : Index := Scalar.indexCast v428
  let c0_239 : Index := 0#32
  let c0_240 : Index := 0#32
  let c0_241 : Index := 0#32
  ![v429.toNat, 0, 0, 0]
def k0_off79 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c1_i32_242 : BitVec 32 := 1#32
  let v434 : BitVec 32 := Scalar.addi v409 c1_i32_242
  let v435 : Index := Scalar.indexCast v434
  let c1_243 : Index := 1#32
  let c0_244 : Index := 0#32
  let c0_245 : Index := 0#32
  ![v435.toNat, 1, 0, 0]
def k0_off80 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c1_i32_246 : BitVec 32 := 1#32
  let v440 : BitVec 32 := Scalar.addi v409 c1_i32_246
  let v441 : Index := Scalar.indexCast v440
  let c2_247 : Index := 2#32
  let c0_248 : Index := 0#32
  let c0_249 : Index := 0#32
  ![v441.toNat, 2, 0, 0]
def k0_off81 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v449 : Index := Scalar.indexCast v408
  let c0_250 : Index := 0#32
  let c0_251 : Index := 0#32
  let c0_252 : Index := 0#32
  ![v449.toNat, 0, 0, 0]
def k0_off82 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v453 : Index := Scalar.indexCast v408
  let c1_253 : Index := 1#32
  let c0_254 : Index := 0#32
  let c0_255 : Index := 0#32
  ![v453.toNat, 1, 0, 0]
def k0_off83 (k0_t6 : Fin k0_t6_loop.trips) (k0_t7 : Fin k0_t7_loop.trips) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v457 : Index := Scalar.indexCast v408
  let c2_256 : Index := 2#32
  let c0_257 : Index := 0#32
  let c0_258 : Index := 0#32
  ![v457.toNat, 2, 0, 0]
def k0_off84 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let v506 : Index := Scalar.indexCast v409
  let c0_268 : Index := 0#32
  let c0_269 : Index := 0#32
  let c0_270 : Index := 0#32
  ![v506.toNat, 0, 0, 0]
def k0_off85 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let v510 : Index := Scalar.indexCast v409
  let c1_271 : Index := 1#32
  let c0_272 : Index := 0#32
  let c0_273 : Index := 0#32
  ![v510.toNat, 1, 0, 0]
def k0_off86 (k0_t6 : Fin k0_t6_loop.trips) (k0_t7 : Fin k0_t7_loop.trips) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let v514 : Index := Scalar.indexCast v409
  let c2_274 : Index := 2#32
  let c0_275 : Index := 0#32
  let c0_276 : Index := 0#32
  ![v514.toNat, 2, 0, 0]
def k0_off87 (k0_t6 : Fin k0_t6_loop.trips) (k0_t7 : Fin k0_t7_loop.trips) : Fin 3 → Nat :=
  let c0_287 : Index := 0#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_286 : BitVec 32 := 8#32
  let v561 : BitVec 32 := Scalar.muli v408 c8_i32_286
  let v562 : Index := Scalar.indexCast v561
  let c0_288 : Index := 0#32
  ![0, v562.toNat, 0]
def k0_off88 (k0_t6 : Fin k0_t6_loop.trips) (k0_t7 : Fin k0_t7_loop.trips) : Fin 3 → Nat :=
  let c1_290 : Index := 1#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_289 : BitVec 32 := 8#32
  let v567 : BitVec 32 := Scalar.muli v408 c8_i32_289
  let v568 : Index := Scalar.indexCast v567
  let c0_291 : Index := 0#32
  ![1, v568.toNat, 0]
def k0_off89 (k0_t6 : Fin k0_t6_loop.trips) (k0_t7 : Fin k0_t7_loop.trips) : Fin 3 → Nat :=
  let c2_293 : Index := 2#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_292 : BitVec 32 := 8#32
  let v573 : BitVec 32 := Scalar.muli v408 c8_i32_292
  let v574 : Index := Scalar.indexCast v573
  let c0_294 : Index := 0#32
  ![2, v574.toNat, 0]
@[reducible] def k0_t8_loop : Scf.Loop 32 :=
  let c0_i32_295 : BitVec 32 := 0#32
  let c4_i32_296 : BitVec 32 := 4#32
  let v578 : BitVec 32 := Scalar.addi c0_i32_295 c4_i32_296
  let c1_i32_297 : BitVec 32 := 1#32
  ⟨c0_i32_295, v578, c1_i32_297⟩
def k0_off90 (k0_t6 : Fin k0_t6_loop.trips) (k0_t7 : Fin k0_t7_loop.trips) (k0_t8 : Fin k0_t8_loop.trips) (c0_i32_305 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let v596 : Index := Scalar.indexCast v589
  let c0_311 : Index := 0#32
  let c0_312 : Index := 0#32
  let c0_313 : Index := 0#32
  ![v596.toNat, 0, 0, 0]
def k0_off91 (k0_t6 : Fin k0_t6_loop.trips) (k0_t7 : Fin k0_t7_loop.trips) (k0_t8 : Fin k0_t8_loop.trips) (c0_i32_305 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let c192_i32_314 : BitVec 32 := 192#32
  let v600 : BitVec 32 := Scalar.subi v589 c192_i32_314
  let v601 : Index := Scalar.indexCast v600
  let c0_315 : Index := 0#32
  let c0_316 : Index := 0#32
  let c0_317 : Index := 0#32
  ![v601.toNat, 0, 0, 0]
def k0_off92 (k0_t6 : Fin k0_t6_loop.trips) (k0_t7 : Fin k0_t7_loop.trips) (k0_t8 : Fin k0_t8_loop.trips) (c0_i32_305 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let v617 : Index := Scalar.indexCast v589
  let c0_318 : Index := 0#32
  let c0_319 : Index := 0#32
  let c0_320 : Index := 0#32
  let c0_321 : Index := 0#32
  ![v617.toNat, 0, 0, 0, 0]
def k0_off93 (k0_t6 : Fin k0_t6_loop.trips) (k0_t7 : Fin k0_t7_loop.trips) (k0_t8 : Fin k0_t8_loop.trips) (c0_i32_305 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let v620 : Index := Scalar.indexCast v589
  let c0_322 : Index := 0#32
  let c1_323 : Index := 1#32
  let c0_324 : Index := 0#32
  let c0_325 : Index := 0#32
  ![v620.toNat, 0, 1, 0, 0]
def k0_off94 (k0_t6 : Fin k0_t6_loop.trips) (k0_t7 : Fin k0_t7_loop.trips) (k0_t8 : Fin k0_t8_loop.trips) (c0_i32_305 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let v623 : Index := Scalar.indexCast v589
  let c0_326 : Index := 0#32
  let c2_327 : Index := 2#32
  let c0_328 : Index := 0#32
  let c0_329 : Index := 0#32
  ![v623.toNat, 0, 2, 0, 0]
def k0_off95 (k0_t6 : Fin k0_t6_loop.trips) (k0_t7 : Fin k0_t7_loop.trips) (k0_t8 : Fin k0_t8_loop.trips) (c0_i32_305 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_303 : BitVec 32 := 8#32
  let v586 : BitVec 32 := Scalar.muli v408 c8_i32_303
  let c2_i32_304 : BitVec 32 := 2#32
  let c0_i32_295 : BitVec 32 := 0#32
  let c1_i32_297 : BitVec 32 := 1#32
  let arg56 : BitVec 32 := Scf.iv c0_i32_295 c1_i32_297 k0_t8
  let v587 : BitVec 32 := Scalar.muli c2_i32_304 arg56
  let v588 : BitVec 32 := Scalar.addi v586 v587
  let v589 : BitVec 32 := Scalar.addi v588 c0_i32_305
  let v626 : Index := Scalar.indexCast v589
  let c0_330 : Index := 0#32
  let c3 : Index := 3#32
  let c0_331 : Index := 0#32
  let c0_332 : Index := 0#32
  ![v626.toNat, 0, 3, 0, 0]
def k0_off96 (k0_t6 : Fin k0_t6_loop.trips) (k0_t7 : Fin k0_t7_loop.trips) (k0_t8 : Fin k0_t8_loop.trips) (c0_i32_310 : BitVec 32) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_306 : BitVec 32 := 8#32
  let v590 : BitVec 32 := Scalar.muli v409 c8_i32_306
  let c8_i32_307 : BitVec 32 := 8#32
  let v591 : BitVec 32 := Scalar.addi v590 c8_i32_307
  let c1_i32_308 : BitVec 32 := 1#32
  let v592 : BitVec 32 := Scalar.subi v591 c1_i32_308
  let c2_i32_309 : BitVec 32 := 2#32
  let c0_i32_295 : BitVec 32 := 0#32
  let c1_i32_297 : BitVec 32 := 1#32
  let arg56 : BitVec 32 := Scf.iv c0_i32_295 c1_i32_297 k0_t8
  let v593 : BitVec 32 := Scalar.muli c2_i32_309 arg56
  let v594 : BitVec 32 := Scalar.subi v592 v593
  let v595 : BitVec 32 := Scalar.subi v594 c0_i32_310
  let v679 : Index := Scalar.indexCast v595
  let c0_337 : Index := 0#32
  let c0_338 : Index := 0#32
  let c0_339 : Index := 0#32
  ![v679.toNat, 0, 0, 0]
def k0_off97 (k0_t6 : Fin k0_t6_loop.trips) (k0_t7 : Fin k0_t7_loop.trips) (k0_t8 : Fin k0_t8_loop.trips) (c0_i32_310 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_306 : BitVec 32 := 8#32
  let v590 : BitVec 32 := Scalar.muli v409 c8_i32_306
  let c8_i32_307 : BitVec 32 := 8#32
  let v591 : BitVec 32 := Scalar.addi v590 c8_i32_307
  let c1_i32_308 : BitVec 32 := 1#32
  let v592 : BitVec 32 := Scalar.subi v591 c1_i32_308
  let c2_i32_309 : BitVec 32 := 2#32
  let c0_i32_295 : BitVec 32 := 0#32
  let c1_i32_297 : BitVec 32 := 1#32
  let arg56 : BitVec 32 := Scf.iv c0_i32_295 c1_i32_297 k0_t8
  let v593 : BitVec 32 := Scalar.muli c2_i32_309 arg56
  let v594 : BitVec 32 := Scalar.subi v592 v593
  let v595 : BitVec 32 := Scalar.subi v594 c0_i32_310
  let v707 : Index := Scalar.indexCast v595
  let c0_340 : Index := 0#32
  let c0_341 : Index := 0#32
  let c0_342 : Index := 0#32
  let c0_343 : Index := 0#32
  ![v707.toNat, 0, 0, 0, 0]
def k0_off98 (k0_t6 : Fin k0_t6_loop.trips) (k0_t7 : Fin k0_t7_loop.trips) (k0_t8 : Fin k0_t8_loop.trips) (c0_i32_310 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_306 : BitVec 32 := 8#32
  let v590 : BitVec 32 := Scalar.muli v409 c8_i32_306
  let c8_i32_307 : BitVec 32 := 8#32
  let v591 : BitVec 32 := Scalar.addi v590 c8_i32_307
  let c1_i32_308 : BitVec 32 := 1#32
  let v592 : BitVec 32 := Scalar.subi v591 c1_i32_308
  let c2_i32_309 : BitVec 32 := 2#32
  let c0_i32_295 : BitVec 32 := 0#32
  let c1_i32_297 : BitVec 32 := 1#32
  let arg56 : BitVec 32 := Scf.iv c0_i32_295 c1_i32_297 k0_t8
  let v593 : BitVec 32 := Scalar.muli c2_i32_309 arg56
  let v594 : BitVec 32 := Scalar.subi v592 v593
  let v595 : BitVec 32 := Scalar.subi v594 c0_i32_310
  let v710 : Index := Scalar.indexCast v595
  let c0_344 : Index := 0#32
  let c1_345 : Index := 1#32
  let c0_346 : Index := 0#32
  let c0_347 : Index := 0#32
  ![v710.toNat, 0, 1, 0, 0]
def k0_off99 (k0_t6 : Fin k0_t6_loop.trips) (k0_t7 : Fin k0_t7_loop.trips) (k0_t8 : Fin k0_t8_loop.trips) (c0_i32_310 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_306 : BitVec 32 := 8#32
  let v590 : BitVec 32 := Scalar.muli v409 c8_i32_306
  let c8_i32_307 : BitVec 32 := 8#32
  let v591 : BitVec 32 := Scalar.addi v590 c8_i32_307
  let c1_i32_308 : BitVec 32 := 1#32
  let v592 : BitVec 32 := Scalar.subi v591 c1_i32_308
  let c2_i32_309 : BitVec 32 := 2#32
  let c0_i32_295 : BitVec 32 := 0#32
  let c1_i32_297 : BitVec 32 := 1#32
  let arg56 : BitVec 32 := Scf.iv c0_i32_295 c1_i32_297 k0_t8
  let v593 : BitVec 32 := Scalar.muli c2_i32_309 arg56
  let v594 : BitVec 32 := Scalar.subi v592 v593
  let v595 : BitVec 32 := Scalar.subi v594 c0_i32_310
  let v713 : Index := Scalar.indexCast v595
  let c0_348 : Index := 0#32
  let c2_349 : Index := 2#32
  let c0_350 : Index := 0#32
  let c0_351 : Index := 0#32
  ![v713.toNat, 0, 2, 0, 0]
def k0_off100 (k0_t6 : Fin k0_t6_loop.trips) (k0_t7 : Fin k0_t7_loop.trips) (k0_t8 : Fin k0_t8_loop.trips) (c0_i32_310 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_306 : BitVec 32 := 8#32
  let v590 : BitVec 32 := Scalar.muli v409 c8_i32_306
  let c8_i32_307 : BitVec 32 := 8#32
  let v591 : BitVec 32 := Scalar.addi v590 c8_i32_307
  let c1_i32_308 : BitVec 32 := 1#32
  let v592 : BitVec 32 := Scalar.subi v591 c1_i32_308
  let c2_i32_309 : BitVec 32 := 2#32
  let c0_i32_295 : BitVec 32 := 0#32
  let c1_i32_297 : BitVec 32 := 1#32
  let arg56 : BitVec 32 := Scf.iv c0_i32_295 c1_i32_297 k0_t8
  let v593 : BitVec 32 := Scalar.muli c2_i32_309 arg56
  let v594 : BitVec 32 := Scalar.subi v592 v593
  let v595 : BitVec 32 := Scalar.subi v594 c0_i32_310
  let v716 : Index := Scalar.indexCast v595
  let c0_352 : Index := 0#32
  let c3_353 : Index := 3#32
  let c0_354 : Index := 0#32
  let c0_355 : Index := 0#32
  ![v716.toNat, 0, 3, 0, 0]
def k0_off101 (k0_t7 : Fin k0_t7_loop.trips) (k0_t8 : Fin k0_t8_loop.trips) (c0_i32_412 : BitVec 32) : Fin 5 → Nat :=
  let c0_413 : Index := 0#32
  let c0_414 : Index := 0#32
  let c0_i32_214 : BitVec 32 := 0#32
  let c1_i32_216 : BitVec 32 := 1#32
  let arg37 : BitVec 32 := Scf.iv c0_i32_214 c1_i32_216 k0_t7
  let c4_i32_299 : BitVec 32 := 4#32
  let v580 : BitVec 32 := Scalar.muli arg37 c4_i32_299
  let c0_i32_295 : BitVec 32 := 0#32
  let c1_i32_297 : BitVec 32 := 1#32
  let arg56 : BitVec 32 := Scf.iv c0_i32_295 c1_i32_297 k0_t8
  let v581 : BitVec 32 := Scalar.addi v580 arg56
  let v977 : BitVec 32 := Scalar.addi c0_i32_412 v581
  let v978 : Index := Scalar.indexCast v977
  let c0_415 : Index := 0#32
  ![0, 0, v978.toNat, 0, 0]
def k0_off102 (k0_t7 : Fin k0_t7_loop.trips) (k0_t8 : Fin k0_t8_loop.trips) (c0_i32_428 : BitVec 32) : Fin 5 → Nat :=
  let c1_429 : Index := 1#32
  let c0_430 : Index := 0#32
  let c1_i32_300 : BitVec 32 := 1#32
  let c0_i32_214 : BitVec 32 := 0#32
  let c1_i32_216 : BitVec 32 := 1#32
  let arg37 : BitVec 32 := Scf.iv c0_i32_214 c1_i32_216 k0_t7
  let v582 : BitVec 32 := Scalar.subi c1_i32_300 arg37
  let c4_i32_301 : BitVec 32 := 4#32
  let v583 : BitVec 32 := Scalar.muli v582 c4_i32_301
  let c3_i32_302 : BitVec 32 := 3#32
  let v584 : BitVec 32 := Scalar.addi v583 c3_i32_302
  let c0_i32_295 : BitVec 32 := 0#32
  let c1_i32_297 : BitVec 32 := 1#32
  let arg56 : BitVec 32 := Scf.iv c0_i32_295 c1_i32_297 k0_t8
  let v585 : BitVec 32 := Scalar.subi v584 arg56
  let v1095 : BitVec 32 := Scalar.addi c0_i32_428 v585
  let v1096 : Index := Scalar.indexCast v1095
  let c0_431 : Index := 0#32
  ![1, 0, v1096.toNat, 0, 0]
def k0_off103 (k0_t6 : Fin k0_t6_loop.trips) (k0_t7 : Fin k0_t7_loop.trips) (k0_t8 : Fin k0_t8_loop.trips) (c0_i32_450 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let v1134 : Index := Scalar.indexCast v1127
  let c1_456 : Index := 1#32
  let c0_457 : Index := 0#32
  let c0_458 : Index := 0#32
  ![v1134.toNat, 1, 0, 0]
def k0_off104 (k0_t6 : Fin k0_t6_loop.trips) (k0_t7 : Fin k0_t7_loop.trips) (k0_t8 : Fin k0_t8_loop.trips) (c0_i32_450 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let c192_i32_459 : BitVec 32 := 192#32
  let v1138 : BitVec 32 := Scalar.subi v1127 c192_i32_459
  let v1139 : Index := Scalar.indexCast v1138
  let c1_460 : Index := 1#32
  let c0_461 : Index := 0#32
  let c0_462 : Index := 0#32
  ![v1139.toNat, 1, 0, 0]
def k0_off105 (k0_t6 : Fin k0_t6_loop.trips) (k0_t7 : Fin k0_t7_loop.trips) (k0_t8 : Fin k0_t8_loop.trips) (c0_i32_450 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let v1155 : Index := Scalar.indexCast v1127
  let c1_463 : Index := 1#32
  let c0_464 : Index := 0#32
  let c0_465 : Index := 0#32
  let c0_466 : Index := 0#32
  ![v1155.toNat, 1, 0, 0, 0]
def k0_off106 (k0_t6 : Fin k0_t6_loop.trips) (k0_t7 : Fin k0_t7_loop.trips) (k0_t8 : Fin k0_t8_loop.trips) (c0_i32_450 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let v1158 : Index := Scalar.indexCast v1127
  let c1_467 : Index := 1#32
  let c1_468 : Index := 1#32
  let c0_469 : Index := 0#32
  let c0_470 : Index := 0#32
  ![v1158.toNat, 1, 1, 0, 0]
def k0_off107 (k0_t6 : Fin k0_t6_loop.trips) (k0_t7 : Fin k0_t7_loop.trips) (k0_t8 : Fin k0_t8_loop.trips) (c0_i32_450 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let v1161 : Index := Scalar.indexCast v1127
  let c1_471 : Index := 1#32
  let c2_472 : Index := 2#32
  let c0_473 : Index := 0#32
  let c0_474 : Index := 0#32
  ![v1161.toNat, 1, 2, 0, 0]
def k0_off108 (k0_t6 : Fin k0_t6_loop.trips) (k0_t7 : Fin k0_t7_loop.trips) (k0_t8 : Fin k0_t8_loop.trips) (c0_i32_450 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_448 : BitVec 32 := 8#32
  let v1124 : BitVec 32 := Scalar.muli v408 c8_i32_448
  let c2_i32_449 : BitVec 32 := 2#32
  let c0_i32_295 : BitVec 32 := 0#32
  let c1_i32_297 : BitVec 32 := 1#32
  let arg56 : BitVec 32 := Scf.iv c0_i32_295 c1_i32_297 k0_t8
  let v1125 : BitVec 32 := Scalar.muli c2_i32_449 arg56
  let v1126 : BitVec 32 := Scalar.addi v1124 v1125
  let v1127 : BitVec 32 := Scalar.addi v1126 c0_i32_450
  let v1164 : Index := Scalar.indexCast v1127
  let c1_475 : Index := 1#32
  let c3_476 : Index := 3#32
  let c0_477 : Index := 0#32
  let c0_478 : Index := 0#32
  ![v1164.toNat, 1, 3, 0, 0]
def k0_off109 (k0_t6 : Fin k0_t6_loop.trips) (k0_t7 : Fin k0_t7_loop.trips) (k0_t8 : Fin k0_t8_loop.trips) (c0_i32_455 : BitVec 32) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_451 : BitVec 32 := 8#32
  let v1128 : BitVec 32 := Scalar.muli v409 c8_i32_451
  let c8_i32_452 : BitVec 32 := 8#32
  let v1129 : BitVec 32 := Scalar.addi v1128 c8_i32_452
  let c1_i32_453 : BitVec 32 := 1#32
  let v1130 : BitVec 32 := Scalar.subi v1129 c1_i32_453
  let c2_i32_454 : BitVec 32 := 2#32
  let c0_i32_295 : BitVec 32 := 0#32
  let c1_i32_297 : BitVec 32 := 1#32
  let arg56 : BitVec 32 := Scf.iv c0_i32_295 c1_i32_297 k0_t8
  let v1131 : BitVec 32 := Scalar.muli c2_i32_454 arg56
  let v1132 : BitVec 32 := Scalar.subi v1130 v1131
  let v1133 : BitVec 32 := Scalar.subi v1132 c0_i32_455
  let v1217 : Index := Scalar.indexCast v1133
  let c1_483 : Index := 1#32
  let c0_484 : Index := 0#32
  let c0_485 : Index := 0#32
  ![v1217.toNat, 1, 0, 0]
def k0_off110 (k0_t6 : Fin k0_t6_loop.trips) (k0_t7 : Fin k0_t7_loop.trips) (k0_t8 : Fin k0_t8_loop.trips) (c0_i32_455 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_451 : BitVec 32 := 8#32
  let v1128 : BitVec 32 := Scalar.muli v409 c8_i32_451
  let c8_i32_452 : BitVec 32 := 8#32
  let v1129 : BitVec 32 := Scalar.addi v1128 c8_i32_452
  let c1_i32_453 : BitVec 32 := 1#32
  let v1130 : BitVec 32 := Scalar.subi v1129 c1_i32_453
  let c2_i32_454 : BitVec 32 := 2#32
  let c0_i32_295 : BitVec 32 := 0#32
  let c1_i32_297 : BitVec 32 := 1#32
  let arg56 : BitVec 32 := Scf.iv c0_i32_295 c1_i32_297 k0_t8
  let v1131 : BitVec 32 := Scalar.muli c2_i32_454 arg56
  let v1132 : BitVec 32 := Scalar.subi v1130 v1131
  let v1133 : BitVec 32 := Scalar.subi v1132 c0_i32_455
  let v1245 : Index := Scalar.indexCast v1133
  let c1_486 : Index := 1#32
  let c0_487 : Index := 0#32
  let c0_488 : Index := 0#32
  let c0_489 : Index := 0#32
  ![v1245.toNat, 1, 0, 0, 0]
def k0_off111 (k0_t6 : Fin k0_t6_loop.trips) (k0_t7 : Fin k0_t7_loop.trips) (k0_t8 : Fin k0_t8_loop.trips) (c0_i32_455 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_451 : BitVec 32 := 8#32
  let v1128 : BitVec 32 := Scalar.muli v409 c8_i32_451
  let c8_i32_452 : BitVec 32 := 8#32
  let v1129 : BitVec 32 := Scalar.addi v1128 c8_i32_452
  let c1_i32_453 : BitVec 32 := 1#32
  let v1130 : BitVec 32 := Scalar.subi v1129 c1_i32_453
  let c2_i32_454 : BitVec 32 := 2#32
  let c0_i32_295 : BitVec 32 := 0#32
  let c1_i32_297 : BitVec 32 := 1#32
  let arg56 : BitVec 32 := Scf.iv c0_i32_295 c1_i32_297 k0_t8
  let v1131 : BitVec 32 := Scalar.muli c2_i32_454 arg56
  let v1132 : BitVec 32 := Scalar.subi v1130 v1131
  let v1133 : BitVec 32 := Scalar.subi v1132 c0_i32_455
  let v1248 : Index := Scalar.indexCast v1133
  let c1_490 : Index := 1#32
  let c1_491 : Index := 1#32
  let c0_492 : Index := 0#32
  let c0_493 : Index := 0#32
  ![v1248.toNat, 1, 1, 0, 0]
def k0_off112 (k0_t6 : Fin k0_t6_loop.trips) (k0_t7 : Fin k0_t7_loop.trips) (k0_t8 : Fin k0_t8_loop.trips) (c0_i32_455 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_451 : BitVec 32 := 8#32
  let v1128 : BitVec 32 := Scalar.muli v409 c8_i32_451
  let c8_i32_452 : BitVec 32 := 8#32
  let v1129 : BitVec 32 := Scalar.addi v1128 c8_i32_452
  let c1_i32_453 : BitVec 32 := 1#32
  let v1130 : BitVec 32 := Scalar.subi v1129 c1_i32_453
  let c2_i32_454 : BitVec 32 := 2#32
  let c0_i32_295 : BitVec 32 := 0#32
  let c1_i32_297 : BitVec 32 := 1#32
  let arg56 : BitVec 32 := Scf.iv c0_i32_295 c1_i32_297 k0_t8
  let v1131 : BitVec 32 := Scalar.muli c2_i32_454 arg56
  let v1132 : BitVec 32 := Scalar.subi v1130 v1131
  let v1133 : BitVec 32 := Scalar.subi v1132 c0_i32_455
  let v1251 : Index := Scalar.indexCast v1133
  let c1_494 : Index := 1#32
  let c2_495 : Index := 2#32
  let c0_496 : Index := 0#32
  let c0_497 : Index := 0#32
  ![v1251.toNat, 1, 2, 0, 0]
def k0_off113 (k0_t6 : Fin k0_t6_loop.trips) (k0_t7 : Fin k0_t7_loop.trips) (k0_t8 : Fin k0_t8_loop.trips) (c0_i32_455 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_451 : BitVec 32 := 8#32
  let v1128 : BitVec 32 := Scalar.muli v409 c8_i32_451
  let c8_i32_452 : BitVec 32 := 8#32
  let v1129 : BitVec 32 := Scalar.addi v1128 c8_i32_452
  let c1_i32_453 : BitVec 32 := 1#32
  let v1130 : BitVec 32 := Scalar.subi v1129 c1_i32_453
  let c2_i32_454 : BitVec 32 := 2#32
  let c0_i32_295 : BitVec 32 := 0#32
  let c1_i32_297 : BitVec 32 := 1#32
  let arg56 : BitVec 32 := Scf.iv c0_i32_295 c1_i32_297 k0_t8
  let v1131 : BitVec 32 := Scalar.muli c2_i32_454 arg56
  let v1132 : BitVec 32 := Scalar.subi v1130 v1131
  let v1133 : BitVec 32 := Scalar.subi v1132 c0_i32_455
  let v1254 : Index := Scalar.indexCast v1133
  let c1_498 : Index := 1#32
  let c3_499 : Index := 3#32
  let c0_500 : Index := 0#32
  let c0_501 : Index := 0#32
  ![v1254.toNat, 1, 3, 0, 0]
def k0_off114 (k0_t7 : Fin k0_t7_loop.trips) (k0_t8 : Fin k0_t8_loop.trips) (c0_i32_558 : BitVec 32) : Fin 5 → Nat :=
  let c0_559 : Index := 0#32
  let c1_560 : Index := 1#32
  let c0_i32_214 : BitVec 32 := 0#32
  let c1_i32_216 : BitVec 32 := 1#32
  let arg37 : BitVec 32 := Scf.iv c0_i32_214 c1_i32_216 k0_t7
  let c4_i32_299 : BitVec 32 := 4#32
  let v580 : BitVec 32 := Scalar.muli arg37 c4_i32_299
  let c0_i32_295 : BitVec 32 := 0#32
  let c1_i32_297 : BitVec 32 := 1#32
  let arg56 : BitVec 32 := Scf.iv c0_i32_295 c1_i32_297 k0_t8
  let v581 : BitVec 32 := Scalar.addi v580 arg56
  let v1515 : BitVec 32 := Scalar.addi c0_i32_558 v581
  let v1516 : Index := Scalar.indexCast v1515
  let c0_561 : Index := 0#32
  ![0, 1, v1516.toNat, 0, 0]
def k0_off115 (k0_t7 : Fin k0_t7_loop.trips) (k0_t8 : Fin k0_t8_loop.trips) (c0_i32_578 : BitVec 32) : Fin 5 → Nat :=
  let c1_579 : Index := 1#32
  let c1_580 : Index := 1#32
  let c1_i32_300 : BitVec 32 := 1#32
  let c0_i32_214 : BitVec 32 := 0#32
  let c1_i32_216 : BitVec 32 := 1#32
  let arg37 : BitVec 32 := Scf.iv c0_i32_214 c1_i32_216 k0_t7
  let v582 : BitVec 32 := Scalar.subi c1_i32_300 arg37
  let c4_i32_301 : BitVec 32 := 4#32
  let v583 : BitVec 32 := Scalar.muli v582 c4_i32_301
  let c3_i32_302 : BitVec 32 := 3#32
  let v584 : BitVec 32 := Scalar.addi v583 c3_i32_302
  let c0_i32_295 : BitVec 32 := 0#32
  let c1_i32_297 : BitVec 32 := 1#32
  let arg56 : BitVec 32 := Scf.iv c0_i32_295 c1_i32_297 k0_t8
  let v585 : BitVec 32 := Scalar.subi v584 arg56
  let v1633 : BitVec 32 := Scalar.addi c0_i32_578 v585
  let v1634 : Index := Scalar.indexCast v1633
  let c0_581 : Index := 0#32
  ![1, 1, v1634.toNat, 0, 0]
def k0_off116 (k0_t6 : Fin k0_t6_loop.trips) (k0_t7 : Fin k0_t7_loop.trips) (k0_t8 : Fin k0_t8_loop.trips) (c0_i32_600 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let v1672 : Index := Scalar.indexCast v1665
  let c2_606 : Index := 2#32
  let c0_607 : Index := 0#32
  let c0_608 : Index := 0#32
  ![v1672.toNat, 2, 0, 0]
def k0_off117 (k0_t6 : Fin k0_t6_loop.trips) (k0_t7 : Fin k0_t7_loop.trips) (k0_t8 : Fin k0_t8_loop.trips) (c0_i32_600 : BitVec 32) : Fin 4 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let c192_i32_609 : BitVec 32 := 192#32
  let v1676 : BitVec 32 := Scalar.subi v1665 c192_i32_609
  let v1677 : Index := Scalar.indexCast v1676
  let c2_610 : Index := 2#32
  let c0_611 : Index := 0#32
  let c0_612 : Index := 0#32
  ![v1677.toNat, 2, 0, 0]
def k0_off118 (k0_t6 : Fin k0_t6_loop.trips) (k0_t7 : Fin k0_t7_loop.trips) (k0_t8 : Fin k0_t8_loop.trips) (c0_i32_600 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let v1693 : Index := Scalar.indexCast v1665
  let c2_613 : Index := 2#32
  let c0_614 : Index := 0#32
  let c0_615 : Index := 0#32
  let c0_616 : Index := 0#32
  ![v1693.toNat, 2, 0, 0, 0]
def k0_off119 (k0_t6 : Fin k0_t6_loop.trips) (k0_t7 : Fin k0_t7_loop.trips) (k0_t8 : Fin k0_t8_loop.trips) (c0_i32_600 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let v1696 : Index := Scalar.indexCast v1665
  let c2_617 : Index := 2#32
  let c1_618 : Index := 1#32
  let c0_619 : Index := 0#32
  let c0_620 : Index := 0#32
  ![v1696.toNat, 2, 1, 0, 0]
def k0_off120 (k0_t6 : Fin k0_t6_loop.trips) (k0_t7 : Fin k0_t7_loop.trips) (k0_t8 : Fin k0_t8_loop.trips) (c0_i32_600 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let v1699 : Index := Scalar.indexCast v1665
  let c2_621 : Index := 2#32
  let c2_622 : Index := 2#32
  let c0_623 : Index := 0#32
  let c0_624 : Index := 0#32
  ![v1699.toNat, 2, 2, 0, 0]
def k0_off121 (k0_t6 : Fin k0_t6_loop.trips) (k0_t7 : Fin k0_t7_loop.trips) (k0_t8 : Fin k0_t8_loop.trips) (c0_i32_600 : BitVec 32) : Fin 5 → Nat :=
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let c8_i32_598 : BitVec 32 := 8#32
  let v1662 : BitVec 32 := Scalar.muli v408 c8_i32_598
  let c2_i32_599 : BitVec 32 := 2#32
  let c0_i32_295 : BitVec 32 := 0#32
  let c1_i32_297 : BitVec 32 := 1#32
  let arg56 : BitVec 32 := Scf.iv c0_i32_295 c1_i32_297 k0_t8
  let v1663 : BitVec 32 := Scalar.muli c2_i32_599 arg56
  let v1664 : BitVec 32 := Scalar.addi v1662 v1663
  let v1665 : BitVec 32 := Scalar.addi v1664 c0_i32_600
  let v1702 : Index := Scalar.indexCast v1665
  let c2_625 : Index := 2#32
  let c3_626 : Index := 3#32
  let c0_627 : Index := 0#32
  let c0_628 : Index := 0#32
  ![v1702.toNat, 2, 3, 0, 0]
def k0_off122 (k0_t6 : Fin k0_t6_loop.trips) (k0_t7 : Fin k0_t7_loop.trips) (k0_t8 : Fin k0_t8_loop.trips) (c0_i32_605 : BitVec 32) : Fin 4 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_601 : BitVec 32 := 8#32
  let v1666 : BitVec 32 := Scalar.muli v409 c8_i32_601
  let c8_i32_602 : BitVec 32 := 8#32
  let v1667 : BitVec 32 := Scalar.addi v1666 c8_i32_602
  let c1_i32_603 : BitVec 32 := 1#32
  let v1668 : BitVec 32 := Scalar.subi v1667 c1_i32_603
  let c2_i32_604 : BitVec 32 := 2#32
  let c0_i32_295 : BitVec 32 := 0#32
  let c1_i32_297 : BitVec 32 := 1#32
  let arg56 : BitVec 32 := Scf.iv c0_i32_295 c1_i32_297 k0_t8
  let v1669 : BitVec 32 := Scalar.muli c2_i32_604 arg56
  let v1670 : BitVec 32 := Scalar.subi v1668 v1669
  let v1671 : BitVec 32 := Scalar.subi v1670 c0_i32_605
  let v1755 : Index := Scalar.indexCast v1671
  let c2_633 : Index := 2#32
  let c0_634 : Index := 0#32
  let c0_635 : Index := 0#32
  ![v1755.toNat, 2, 0, 0]
def k0_off123 (k0_t6 : Fin k0_t6_loop.trips) (k0_t7 : Fin k0_t7_loop.trips) (k0_t8 : Fin k0_t8_loop.trips) (c0_i32_605 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_601 : BitVec 32 := 8#32
  let v1666 : BitVec 32 := Scalar.muli v409 c8_i32_601
  let c8_i32_602 : BitVec 32 := 8#32
  let v1667 : BitVec 32 := Scalar.addi v1666 c8_i32_602
  let c1_i32_603 : BitVec 32 := 1#32
  let v1668 : BitVec 32 := Scalar.subi v1667 c1_i32_603
  let c2_i32_604 : BitVec 32 := 2#32
  let c0_i32_295 : BitVec 32 := 0#32
  let c1_i32_297 : BitVec 32 := 1#32
  let arg56 : BitVec 32 := Scf.iv c0_i32_295 c1_i32_297 k0_t8
  let v1669 : BitVec 32 := Scalar.muli c2_i32_604 arg56
  let v1670 : BitVec 32 := Scalar.subi v1668 v1669
  let v1671 : BitVec 32 := Scalar.subi v1670 c0_i32_605
  let v1783 : Index := Scalar.indexCast v1671
  let c2_636 : Index := 2#32
  let c0_637 : Index := 0#32
  let c0_638 : Index := 0#32
  let c0_639 : Index := 0#32
  ![v1783.toNat, 2, 0, 0, 0]
def k0_off124 (k0_t6 : Fin k0_t6_loop.trips) (k0_t7 : Fin k0_t7_loop.trips) (k0_t8 : Fin k0_t8_loop.trips) (c0_i32_605 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_601 : BitVec 32 := 8#32
  let v1666 : BitVec 32 := Scalar.muli v409 c8_i32_601
  let c8_i32_602 : BitVec 32 := 8#32
  let v1667 : BitVec 32 := Scalar.addi v1666 c8_i32_602
  let c1_i32_603 : BitVec 32 := 1#32
  let v1668 : BitVec 32 := Scalar.subi v1667 c1_i32_603
  let c2_i32_604 : BitVec 32 := 2#32
  let c0_i32_295 : BitVec 32 := 0#32
  let c1_i32_297 : BitVec 32 := 1#32
  let arg56 : BitVec 32 := Scf.iv c0_i32_295 c1_i32_297 k0_t8
  let v1669 : BitVec 32 := Scalar.muli c2_i32_604 arg56
  let v1670 : BitVec 32 := Scalar.subi v1668 v1669
  let v1671 : BitVec 32 := Scalar.subi v1670 c0_i32_605
  let v1786 : Index := Scalar.indexCast v1671
  let c2_640 : Index := 2#32
  let c1_641 : Index := 1#32
  let c0_642 : Index := 0#32
  let c0_643 : Index := 0#32
  ![v1786.toNat, 2, 1, 0, 0]
def k0_off125 (k0_t6 : Fin k0_t6_loop.trips) (k0_t7 : Fin k0_t7_loop.trips) (k0_t8 : Fin k0_t8_loop.trips) (c0_i32_605 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_601 : BitVec 32 := 8#32
  let v1666 : BitVec 32 := Scalar.muli v409 c8_i32_601
  let c8_i32_602 : BitVec 32 := 8#32
  let v1667 : BitVec 32 := Scalar.addi v1666 c8_i32_602
  let c1_i32_603 : BitVec 32 := 1#32
  let v1668 : BitVec 32 := Scalar.subi v1667 c1_i32_603
  let c2_i32_604 : BitVec 32 := 2#32
  let c0_i32_295 : BitVec 32 := 0#32
  let c1_i32_297 : BitVec 32 := 1#32
  let arg56 : BitVec 32 := Scf.iv c0_i32_295 c1_i32_297 k0_t8
  let v1669 : BitVec 32 := Scalar.muli c2_i32_604 arg56
  let v1670 : BitVec 32 := Scalar.subi v1668 v1669
  let v1671 : BitVec 32 := Scalar.subi v1670 c0_i32_605
  let v1789 : Index := Scalar.indexCast v1671
  let c2_644 : Index := 2#32
  let c2_645 : Index := 2#32
  let c0_646 : Index := 0#32
  let c0_647 : Index := 0#32
  ![v1789.toNat, 2, 2, 0, 0]
def k0_off126 (k0_t6 : Fin k0_t6_loop.trips) (k0_t7 : Fin k0_t7_loop.trips) (k0_t8 : Fin k0_t8_loop.trips) (c0_i32_605 : BitVec 32) : Fin 5 → Nat :=
  let c47_i32 : BitVec 32 := 47#32
  let c24_i32_225 : BitVec 32 := 24#32
  let c2_i32_224 : BitVec 32 := 2#32
  let c0_i32_141 : BitVec 32 := 0#32
  let c1_i32_142 : BitVec 32 := 1#32
  let arg18 : BitVec 32 := Scf.iv c0_i32_141 c1_i32_142 k0_t6
  let v406 : BitVec 32 := Scalar.muli c2_i32_224 arg18
  let v407 : BitVec 32 := Scalar.addi c24_i32_225 v406
  let c0_i32_214 : BitVec 32 := 0#32
  let c1_i32_216 : BitVec 32 := 1#32
  let arg37 : BitVec 32 := Scf.iv c0_i32_214 c1_i32_216 k0_t7
  let v408 : BitVec 32 := Scalar.addi v407 arg37
  let v409 : BitVec 32 := Scalar.subi c47_i32 v408
  let c8_i32_601 : BitVec 32 := 8#32
  let v1666 : BitVec 32 := Scalar.muli v409 c8_i32_601
  let c8_i32_602 : BitVec 32 := 8#32
  let v1667 : BitVec 32 := Scalar.addi v1666 c8_i32_602
  let c1_i32_603 : BitVec 32 := 1#32
  let v1668 : BitVec 32 := Scalar.subi v1667 c1_i32_603
  let c2_i32_604 : BitVec 32 := 2#32
  let c0_i32_295 : BitVec 32 := 0#32
  let c1_i32_297 : BitVec 32 := 1#32
  let arg56 : BitVec 32 := Scf.iv c0_i32_295 c1_i32_297 k0_t8
  let v1669 : BitVec 32 := Scalar.muli c2_i32_604 arg56
  let v1670 : BitVec 32 := Scalar.subi v1668 v1669
  let v1671 : BitVec 32 := Scalar.subi v1670 c0_i32_605
  let v1792 : Index := Scalar.indexCast v1671
  let c2_648 : Index := 2#32
  let c3_649 : Index := 3#32
  let c0_650 : Index := 0#32
  let c0_651 : Index := 0#32
  ![v1792.toNat, 2, 3, 0, 0]
def k0_off127 (k0_t7 : Fin k0_t7_loop.trips) (k0_t8 : Fin k0_t8_loop.trips) (c0_i32_708 : BitVec 32) : Fin 5 → Nat :=
  let c0_709 : Index := 0#32
  let c2_710 : Index := 2#32
  let c0_i32_214 : BitVec 32 := 0#32
  let c1_i32_216 : BitVec 32 := 1#32
  let arg37 : BitVec 32 := Scf.iv c0_i32_214 c1_i32_216 k0_t7
  let c4_i32_299 : BitVec 32 := 4#32
  let v580 : BitVec 32 := Scalar.muli arg37 c4_i32_299
  let c0_i32_295 : BitVec 32 := 0#32
  let c1_i32_297 : BitVec 32 := 1#32
  let arg56 : BitVec 32 := Scf.iv c0_i32_295 c1_i32_297 k0_t8
  let v581 : BitVec 32 := Scalar.addi v580 arg56
  let v2053 : BitVec 32 := Scalar.addi c0_i32_708 v581
  let v2054 : Index := Scalar.indexCast v2053
  let c0_711 : Index := 0#32
  ![0, 2, v2054.toNat, 0, 0]
def k0_off128 (k0_t7 : Fin k0_t7_loop.trips) (k0_t8 : Fin k0_t8_loop.trips) (c0_i32_728 : BitVec 32) : Fin 5 → Nat :=
  let c1_729 : Index := 1#32
  let c2_730 : Index := 2#32
  let c1_i32_300 : BitVec 32 := 1#32
  let c0_i32_214 : BitVec 32 := 0#32
  let c1_i32_216 : BitVec 32 := 1#32
  let arg37 : BitVec 32 := Scf.iv c0_i32_214 c1_i32_216 k0_t7
  let v582 : BitVec 32 := Scalar.subi c1_i32_300 arg37
  let c4_i32_301 : BitVec 32 := 4#32
  let v583 : BitVec 32 := Scalar.muli v582 c4_i32_301
  let c3_i32_302 : BitVec 32 := 3#32
  let v584 : BitVec 32 := Scalar.addi v583 c3_i32_302
  let c0_i32_295 : BitVec 32 := 0#32
  let c1_i32_297 : BitVec 32 := 1#32
  let arg56 : BitVec 32 := Scf.iv c0_i32_295 c1_i32_297 k0_t8
  let v585 : BitVec 32 := Scalar.subi v584 arg56
  let v2171 : BitVec 32 := Scalar.addi c0_i32_728 v585
  let v2172 : Index := Scalar.indexCast v2171
  let c0_731 : Index := 0#32
  ![1, 2, v2172.toNat, 0, 0]
@[reducible] def k0_t9_loop : Scf.Loop 32 :=
  let c0_i32_221 : BitVec 32 := 0#32
  let c40_i32 : BitVec 32 := 40#32
  let v405 : BitVec 32 := Scalar.addi c0_i32_221 c40_i32
  let c1_i32_222 : BitVec 32 := 1#32
  ⟨c0_i32_221, v405, c1_i32_222⟩
def k0_mult4 (k0_t9 : Fin k0_t9_loop.trips) : BitVec 32 :=
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_230 : BitVec 32 := 4#32
  let v412 : BitVec 1 := Scalar.cmpi .eq v406 c4_i32_230
  let c2_i32_232 : BitVec 32 := 2#32
  let c7_i32_225 : BitVec 32 := 7#32
  let v407 : BitVec 32 := Scalar.andi arg37 c7_i32_225
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  v421
def k0_mult5 (k0_t6 : Fin k0_t6_loop.trips) : BitVec 32 :=
  let c192_i32 : BitVec 32 := 192#32
  let c16_i32 : BitVec 32 := 16#32
  let c0_i32_141 : BitVec 32 := 0#32
  let c1_i32_142 : BitVec 32 := 1#32
  let arg18 : BitVec 32 := Scf.iv c0_i32_141 c1_i32_142 k0_t6
  let v400 : BitVec 32 := Scalar.muli c16_i32 arg18
  let v401 : BitVec 32 := Scalar.addi c192_i32 v400
  v401
def k0_off129 (k0_t9 : Fin k0_t9_loop.trips) : Fin 5 → Nat :=
  let c0_236 : Index := 0#32
  let c0_237 : Index := 0#32
  let c0_i32_221 : BitVec 32 := 0#32
  let c1_i32_222 : BitVec 32 := 1#32
  let arg37 : BitVec 32 := Scf.iv c0_i32_221 c1_i32_222 k0_t9
  let c9_i32 : BitVec 32 := 9#32
  let v424 : BitVec 32 := Scalar.muli arg37 c9_i32
  let v425 : Index := Scalar.indexCast v424
  let c0_238 : Index := 0#32
  ![0, 0, v425.toNat, 0, 0]
def k0_off130 (k0_t6 : Fin k0_t6_loop.trips) (k0_t9 : Fin k0_t9_loop.trips) : Fin 4 → Nat :=
  let c0_239 : Index := 0#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v429 : Index := Scalar.indexCast v411
  let c192_i32 : BitVec 32 := 192#32
  let c16_i32 : BitVec 32 := 16#32
  let c0_i32_141 : BitVec 32 := 0#32
  let c1_i32_142 : BitVec 32 := 1#32
  let arg18 : BitVec 32 := Scf.iv c0_i32_141 c1_i32_142 k0_t6
  let v400 : BitVec 32 := Scalar.muli c16_i32 arg18
  let v401 : BitVec 32 := Scalar.addi c192_i32 v400
  let v423 : BitVec 32 := v401
  let v430 : Index := Scalar.indexCast v423
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v431 : Index := Scalar.indexCast v422
  ![0, v429.toNat, v430.toNat, v431.toNat]
def k0_off131 (k0_t9 : Fin k0_t9_loop.trips) : Fin 5 → Nat :=
  let c0_241 : Index := 0#32
  let c1_242 : Index := 1#32
  let c0_i32_221 : BitVec 32 := 0#32
  let c1_i32_222 : BitVec 32 := 1#32
  let arg37 : BitVec 32 := Scf.iv c0_i32_221 c1_i32_222 k0_t9
  let c9_i32_240 : BitVec 32 := 9#32
  let v435 : BitVec 32 := Scalar.muli arg37 c9_i32_240
  let v436 : Index := Scalar.indexCast v435
  let c0_243 : Index := 0#32
  ![0, 1, v436.toNat, 0, 0]
def k0_off132 (k0_t6 : Fin k0_t6_loop.trips) (k0_t9 : Fin k0_t9_loop.trips) : Fin 4 → Nat :=
  let c1_244 : Index := 1#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v440 : Index := Scalar.indexCast v411
  let c192_i32 : BitVec 32 := 192#32
  let c16_i32 : BitVec 32 := 16#32
  let c0_i32_141 : BitVec 32 := 0#32
  let c1_i32_142 : BitVec 32 := 1#32
  let arg18 : BitVec 32 := Scf.iv c0_i32_141 c1_i32_142 k0_t6
  let v400 : BitVec 32 := Scalar.muli c16_i32 arg18
  let v401 : BitVec 32 := Scalar.addi c192_i32 v400
  let v423 : BitVec 32 := v401
  let v441 : Index := Scalar.indexCast v423
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v442 : Index := Scalar.indexCast v422
  ![1, v440.toNat, v441.toNat, v442.toNat]
def k0_off133 (k0_t9 : Fin k0_t9_loop.trips) : Fin 5 → Nat :=
  let c0_246 : Index := 0#32
  let c2_247 : Index := 2#32
  let c0_i32_221 : BitVec 32 := 0#32
  let c1_i32_222 : BitVec 32 := 1#32
  let arg37 : BitVec 32 := Scf.iv c0_i32_221 c1_i32_222 k0_t9
  let c9_i32_245 : BitVec 32 := 9#32
  let v446 : BitVec 32 := Scalar.muli arg37 c9_i32_245
  let v447 : Index := Scalar.indexCast v446
  let c0_248 : Index := 0#32
  ![0, 2, v447.toNat, 0, 0]
def k0_off134 (k0_t6 : Fin k0_t6_loop.trips) (k0_t9 : Fin k0_t9_loop.trips) : Fin 4 → Nat :=
  let c2_249 : Index := 2#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v451 : Index := Scalar.indexCast v411
  let c192_i32 : BitVec 32 := 192#32
  let c16_i32 : BitVec 32 := 16#32
  let c0_i32_141 : BitVec 32 := 0#32
  let c1_i32_142 : BitVec 32 := 1#32
  let arg18 : BitVec 32 := Scf.iv c0_i32_141 c1_i32_142 k0_t6
  let v400 : BitVec 32 := Scalar.muli c16_i32 arg18
  let v401 : BitVec 32 := Scalar.addi c192_i32 v400
  let v423 : BitVec 32 := v401
  let v452 : Index := Scalar.indexCast v423
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v453 : Index := Scalar.indexCast v422
  ![2, v451.toNat, v452.toNat, v453.toNat]
def k0_mult6 (k0_t6 : Fin k0_t6_loop.trips) : BitVec 32 :=
  let c192_i32_220 : BitVec 32 := 192#32
  let c16_i32_219 : BitVec 32 := 16#32
  let c0_i32_141 : BitVec 32 := 0#32
  let c1_i32_142 : BitVec 32 := 1#32
  let arg18 : BitVec 32 := Scf.iv c0_i32_141 c1_i32_142 k0_t6
  let c1_i32_218 : BitVec 32 := 1#32
  let v402 : BitVec 32 := Scalar.addi arg18 c1_i32_218
  let v403 : BitVec 32 := Scalar.muli c16_i32_219 v402
  let v404 : BitVec 32 := Scalar.subi c192_i32_220 v403
  v404
def k0_off135 (k0_t9 : Fin k0_t9_loop.trips) : Fin 5 → Nat :=
  let c1_251 : Index := 1#32
  let c0_252 : Index := 0#32
  let c0_i32_221 : BitVec 32 := 0#32
  let c1_i32_222 : BitVec 32 := 1#32
  let arg37 : BitVec 32 := Scf.iv c0_i32_221 c1_i32_222 k0_t9
  let c9_i32_250 : BitVec 32 := 9#32
  let v458 : BitVec 32 := Scalar.muli arg37 c9_i32_250
  let v459 : Index := Scalar.indexCast v458
  let c0_253 : Index := 0#32
  ![1, 0, v459.toNat, 0, 0]
def k0_off136 (k0_t6 : Fin k0_t6_loop.trips) (k0_t9 : Fin k0_t9_loop.trips) : Fin 4 → Nat :=
  let c0_254 : Index := 0#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v463 : Index := Scalar.indexCast v411
  let c192_i32_220 : BitVec 32 := 192#32
  let c16_i32_219 : BitVec 32 := 16#32
  let c0_i32_141 : BitVec 32 := 0#32
  let c1_i32_142 : BitVec 32 := 1#32
  let arg18 : BitVec 32 := Scf.iv c0_i32_141 c1_i32_142 k0_t6
  let c1_i32_218 : BitVec 32 := 1#32
  let v402 : BitVec 32 := Scalar.addi arg18 c1_i32_218
  let v403 : BitVec 32 := Scalar.muli c16_i32_219 v402
  let v404 : BitVec 32 := Scalar.subi c192_i32_220 v403
  let v457 : BitVec 32 := v404
  let v464 : Index := Scalar.indexCast v457
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v465 : Index := Scalar.indexCast v422
  ![0, v463.toNat, v464.toNat, v465.toNat]
def k0_off137 (k0_t9 : Fin k0_t9_loop.trips) : Fin 5 → Nat :=
  let c1_256 : Index := 1#32
  let c1_257 : Index := 1#32
  let c0_i32_221 : BitVec 32 := 0#32
  let c1_i32_222 : BitVec 32 := 1#32
  let arg37 : BitVec 32 := Scf.iv c0_i32_221 c1_i32_222 k0_t9
  let c9_i32_255 : BitVec 32 := 9#32
  let v469 : BitVec 32 := Scalar.muli arg37 c9_i32_255
  let v470 : Index := Scalar.indexCast v469
  let c0_258 : Index := 0#32
  ![1, 1, v470.toNat, 0, 0]
def k0_off138 (k0_t6 : Fin k0_t6_loop.trips) (k0_t9 : Fin k0_t9_loop.trips) : Fin 4 → Nat :=
  let c1_259 : Index := 1#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v474 : Index := Scalar.indexCast v411
  let c192_i32_220 : BitVec 32 := 192#32
  let c16_i32_219 : BitVec 32 := 16#32
  let c0_i32_141 : BitVec 32 := 0#32
  let c1_i32_142 : BitVec 32 := 1#32
  let arg18 : BitVec 32 := Scf.iv c0_i32_141 c1_i32_142 k0_t6
  let c1_i32_218 : BitVec 32 := 1#32
  let v402 : BitVec 32 := Scalar.addi arg18 c1_i32_218
  let v403 : BitVec 32 := Scalar.muli c16_i32_219 v402
  let v404 : BitVec 32 := Scalar.subi c192_i32_220 v403
  let v457 : BitVec 32 := v404
  let v475 : Index := Scalar.indexCast v457
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v476 : Index := Scalar.indexCast v422
  ![1, v474.toNat, v475.toNat, v476.toNat]
def k0_off139 (k0_t9 : Fin k0_t9_loop.trips) : Fin 5 → Nat :=
  let c1_261 : Index := 1#32
  let c2_262 : Index := 2#32
  let c0_i32_221 : BitVec 32 := 0#32
  let c1_i32_222 : BitVec 32 := 1#32
  let arg37 : BitVec 32 := Scf.iv c0_i32_221 c1_i32_222 k0_t9
  let c9_i32_260 : BitVec 32 := 9#32
  let v480 : BitVec 32 := Scalar.muli arg37 c9_i32_260
  let v481 : Index := Scalar.indexCast v480
  let c0_263 : Index := 0#32
  ![1, 2, v481.toNat, 0, 0]
def k0_off140 (k0_t6 : Fin k0_t6_loop.trips) (k0_t9 : Fin k0_t9_loop.trips) : Fin 4 → Nat :=
  let c2_264 : Index := 2#32
  let c0_i32_221 : BitVec 32 := 0#32
  let c1_i32_222 : BitVec 32 := 1#32
  let arg37 : BitVec 32 := Scf.iv c0_i32_221 c1_i32_222 k0_t9
  let c3_i32_224 : BitVec 32 := 3#32
  let v406 : BitVec 32 := Scalar.shrsi arg37 c3_i32_224
  let c4_i32_226 : BitVec 32 := 4#32
  let v408 : BitVec 1 := Scalar.cmpi .eq v406 c4_i32_226
  let c0_i32_229 : BitVec 32 := 0#32
  let c1_i32_228 : BitVec 32 := 1#32
  let c7_i32_225 : BitVec 32 := 7#32
  let v407 : BitVec 32 := Scalar.andi arg37 c7_i32_225
  let c3_i32_227 : BitVec 32 := 3#32
  let v409 : BitVec 32 := Scalar.andi v407 c3_i32_227
  let v410 : BitVec 32 := Scalar.addi c1_i32_228 v409
  let v411 : BitVec 32 := Scalar.select v408 c0_i32_229 v410
  let v485 : Index := Scalar.indexCast v411
  let c192_i32_220 : BitVec 32 := 192#32
  let c16_i32_219 : BitVec 32 := 16#32
  let c0_i32_141 : BitVec 32 := 0#32
  let c1_i32_142 : BitVec 32 := 1#32
  let arg18 : BitVec 32 := Scf.iv c0_i32_141 c1_i32_142 k0_t6
  let c1_i32_218 : BitVec 32 := 1#32
  let v402 : BitVec 32 := Scalar.addi arg18 c1_i32_218
  let v403 : BitVec 32 := Scalar.muli c16_i32_219 v402
  let v404 : BitVec 32 := Scalar.subi c192_i32_220 v403
  let v457 : BitVec 32 := v404
  let v486 : Index := Scalar.indexCast v457
  let c4_i32_230 : BitVec 32 := 4#32
  let v412 : BitVec 1 := Scalar.cmpi .eq v406 c4_i32_230
  let c2_i32_232 : BitVec 32 := 2#32
  let c3_i32_231 : BitVec 32 := 3#32
  let v413 : BitVec 32 := Scalar.andi v407 c3_i32_231
  let v414 : BitVec 32 := Scalar.muli c2_i32_232 v413
  let c2_i32_233 : BitVec 32 := 2#32
  let v415 : BitVec 32 := Scalar.shrsi v407 c2_i32_233
  let v416 : BitVec 32 := Scalar.addi v414 v415
  let c2_i32_234 : BitVec 32 := 2#32
  let v417 : BitVec 32 := Scalar.muli c2_i32_234 v406
  let c2_i32_235 : BitVec 32 := 2#32
  let v418 : BitVec 32 := Scalar.shrsi v407 c2_i32_235
  let v419 : BitVec 32 := Scalar.addi v417 v418
  let v420 : BitVec 32 := Scalar.select v412 v416 v419
  let c128_i32 : BitVec 32 := 128#32
  let v421 : BitVec 32 := Scalar.muli v420 c128_i32
  let v422 : BitVec 32 := v421
  let v487 : Index := Scalar.indexCast v422
  ![2, v485.toNat, v486.toNat, v487.toNat]
@[reducible] def k0_t10_loop : Scf.Loop 32 :=
  let c0_i32_160 : BitVec 32 := 0#32
  let c385_i32 : BitVec 32 := 385#32
  let v324 : BitVec 32 := Scalar.addi c0_i32_160 c385_i32
  let c1_i32_161 : BitVec 32 := 1#32
  ⟨c0_i32_160, v324, c1_i32_161⟩
def k0_off141 (k0_t10 : Fin k0_t10_loop.trips) : Fin 4 → Nat :=
  let c0_i32_160 : BitVec 32 := 0#32
  let c1_i32_161 : BitVec 32 := 1#32
  let arg18 : BitVec 32 := Scf.iv c0_i32_160 c1_i32_161 k0_t10
  let v398 : Index := Scalar.indexCast arg18
  let c0_214 : Index := 0#32
  let c0_215 : Index := 0#32
  let c0_216 : Index := 0#32
  ![v398.toNat, 0, 0, 0]
def k0_off142 (k0_t10 : Fin k0_t10_loop.trips) : Fin 3 → Nat :=
  let c0_218 : Index := 0#32
  let c0_i32_160 : BitVec 32 := 0#32
  let c1_i32_161 : BitVec 32 := 1#32
  let arg18 : BitVec 32 := Scf.iv c0_i32_160 c1_i32_161 k0_t10
  let v403 : Index := Scalar.indexCast arg18
  let c0_219 : Index := 0#32
  ![0, v403.toNat, 0]
def k0_off143 (k0_t10 : Fin k0_t10_loop.trips) : Fin 4 → Nat :=
  let c0_i32_160 : BitVec 32 := 0#32
  let c1_i32_161 : BitVec 32 := 1#32
  let arg18 : BitVec 32 := Scf.iv c0_i32_160 c1_i32_161 k0_t10
  let v407 : Index := Scalar.indexCast arg18
  let c1_220 : Index := 1#32
  let c0_221 : Index := 0#32
  let c0_222 : Index := 0#32
  ![v407.toNat, 1, 0, 0]
def k0_off144 (k0_t10 : Fin k0_t10_loop.trips) : Fin 3 → Nat :=
  let c1_224 : Index := 1#32
  let c0_i32_160 : BitVec 32 := 0#32
  let c1_i32_161 : BitVec 32 := 1#32
  let arg18 : BitVec 32 := Scf.iv c0_i32_160 c1_i32_161 k0_t10
  let v412 : Index := Scalar.indexCast arg18
  let c0_225 : Index := 0#32
  ![1, v412.toNat, 0]
def k0_off145 (k0_t10 : Fin k0_t10_loop.trips) : Fin 4 → Nat :=
  let c0_i32_160 : BitVec 32 := 0#32
  let c1_i32_161 : BitVec 32 := 1#32
  let arg18 : BitVec 32 := Scf.iv c0_i32_160 c1_i32_161 k0_t10
  let v416 : Index := Scalar.indexCast arg18
  let c2_226 : Index := 2#32
  let c0_227 : Index := 0#32
  let c0_228 : Index := 0#32
  ![v416.toNat, 2, 0, 0]
def k0_off146 (k0_t10 : Fin k0_t10_loop.trips) : Fin 3 → Nat :=
  let c2_230 : Index := 2#32
  let c0_i32_160 : BitVec 32 := 0#32
  let c1_i32_161 : BitVec 32 := 1#32
  let arg18 : BitVec 32 := Scf.iv c0_i32_160 c1_i32_161 k0_t10
  let v421 : Index := Scalar.indexCast arg18
  let c0_231 : Index := 0#32
  ![2, v421.toNat, 0]
abbrev stage0_0 : Fin 1 → Memref sig .tc .vmem S3x384x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x5x384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S384x3x2048 : Shape := ⟨3, ![384, 3, 2048]⟩
abbrev S384x3 : Shape := ⟨2, ![384, 3]⟩
abbrev S2048x4096 : Shape := ⟨2, ![2048, 4096]⟩
abbrev S4096 : Shape := ⟨1, ![4096]⟩
abbrev S1152x2048 : Shape := ⟨2, ![1152, 2048]⟩
abbrev S1152x4096 : Shape := ⟨2, ![1152, 4096]⟩
abbrev S384x3x4096 : Shape := ⟨3, ![384, 3, 4096]⟩
abbrev S384x3x1 : Shape := ⟨3, ![384, 3, 1]⟩
abbrev S1x1x4096 : Shape := ⟨3, ![1, 1, 4096]⟩
abbrev S_ : Shape := ⟨0, ![]⟩
abbrev S384x3x1024x4 : Shape := ⟨4, ![384, 3, 1024, 4]⟩
abbrev S384x3x256x4x4 : Shape := ⟨5, ![384, 3, 256, 4, 4]⟩
abbrev S384x3x4x4x256 : Shape := ⟨5, ![384, 3, 4, 4, 256]⟩
abbrev S3x4x256 : Shape := ⟨3, ![3, 4, 256]⟩
abbrev S1x3x4x4x256 : Shape := ⟨5, ![1, 3, 4, 4, 256]⟩
abbrev S3x4x4x256 : Shape := ⟨4, ![3, 4, 4, 256]⟩
abbrev S3x256x4 : Shape := ⟨3, ![3, 256, 4]⟩
abbrev S3x1x4x256 : Shape := ⟨4, ![3, 1, 4, 256]⟩
abbrev S3x4x1x256 : Shape := ⟨4, ![3, 4, 1, 256]⟩
abbrev S3 : Shape := ⟨1, ![3]⟩
abbrev S3x1x1 : Shape := ⟨3, ![3, 1, 1]⟩
abbrev S1x3 : Shape := ⟨2, ![1, 3]⟩
abbrev S3x384 : Shape := ⟨2, ![3, 384]⟩

abbrev nBuf : Space → Nat
  | .hbm => 84
  | .vmem => 3
  | .smem => 0
  | _ => 0

abbrev bufTy : (tb : Table) → Fin (tcTables nBuf tb) → BufTy
  | .hbm, ⟨0, _⟩ => ⟨S384x3x2048, .fp8e4m3⟩
  | .hbm, ⟨1, _⟩ => ⟨S384x3, .f32⟩
  | .hbm, ⟨2, _⟩ => ⟨S2048x4096, .fp8e4m3⟩
  | .hbm, ⟨3, _⟩ => ⟨S4096, .f32⟩
  | .hbm, ⟨4, _⟩ => ⟨S4096, .f32⟩
  | .hbm, ⟨5, _⟩ => ⟨S1152x2048, .fp8e4m3⟩
  | .hbm, ⟨6, _⟩ => ⟨S1152x4096, .f32⟩
  | .hbm, ⟨7, _⟩ => ⟨S384x3x4096, .f32⟩
  | .hbm, ⟨8, _⟩ => ⟨S384x3x1, .f32⟩
  | .hbm, ⟨9, _⟩ => ⟨S384x3x4096, .f32⟩
  | .hbm, ⟨10, _⟩ => ⟨S384x3x4096, .f32⟩
  | .hbm, ⟨11, _⟩ => ⟨S1x1x4096, .f32⟩
  | .hbm, ⟨12, _⟩ => ⟨S384x3x4096, .f32⟩
  | .hbm, ⟨13, _⟩ => ⟨S384x3x4096, .f32⟩
  | .hbm, ⟨14, _⟩ => ⟨S1x1x4096, .f32⟩
  | .hbm, ⟨15, _⟩ => ⟨S384x3x4096, .f32⟩
  | .hbm, ⟨16, _⟩ => ⟨S384x3x4096, .f32⟩
  | .hbm, ⟨17, _⟩ => ⟨S384x3x4096, .f32⟩
  | .hbm, ⟨18, _⟩ => ⟨S_, .f32⟩
  | .hbm, ⟨19, _⟩ => ⟨S384x3x4096, .f32⟩
  | .hbm, ⟨20, _⟩ => ⟨S384x3x4096, .f32⟩
  | .hbm, ⟨21, _⟩ => ⟨S384x3x4096, .bf16⟩
  | .hbm, ⟨22, _⟩ => ⟨S384x3x4096, .f32⟩
  | .hbm, ⟨23, _⟩ => ⟨S384x3x1024x4, .f32⟩
  | .hbm, ⟨24, _⟩ => ⟨S384x3x256x4x4, .f32⟩
  | .hbm, ⟨25, _⟩ => ⟨S384x3x4x4x256, .f32⟩
  | .hbm, ⟨26, _⟩ => ⟨S_, .f32⟩
  | .hbm, ⟨27, _⟩ => ⟨S3x4x256, .f32⟩
  | .hbm, ⟨28, _⟩ => ⟨S_, .f32⟩
  | .hbm, ⟨29, _⟩ => ⟨S384x3, .f32⟩
  | .hbm, ⟨30, _⟩ => ⟨S_, .i32⟩
  | .hbm, ⟨31, _⟩ => ⟨S384x3x4x4x256, .f32⟩
  | .hbm, ⟨32, _⟩ => ⟨S_, .i32⟩
  | .hbm, ⟨33, _⟩ => ⟨S3x4x256, .f32⟩
  | .hbm, ⟨34, _⟩ => ⟨S384x3, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x3x4x4x256, .f32⟩
  | .hbm, ⟨42, _⟩ => ⟨S3x4x4x256, .f32⟩
  | .hbm, ⟨43, _⟩ => ⟨S3x256x4, .f32⟩
  | .hbm, ⟨44, _⟩ => ⟨S3x4x256, .f32⟩
  | .hbm, ⟨45, _⟩ => ⟨S3x1x4x256, .f32⟩
  | .hbm, ⟨46, _⟩ => ⟨S3x4x4x256, .f32⟩
  | .hbm, ⟨47, _⟩ => ⟨S3x4x4x256, .f32⟩
  | .hbm, ⟨48, _⟩ => ⟨S_, .f32⟩
  | .hbm, ⟨49, _⟩ => ⟨S3x4x256, .f32⟩
  | .hbm, ⟨50, _⟩ => ⟨S3x4x256, .f32⟩
  | .hbm, ⟨51, _⟩ => ⟨S_, .f32⟩
  | .hbm, ⟨52, _⟩ => ⟨S3x4x256, .f32⟩
  | .hbm, ⟨53, _⟩ => ⟨S3x4x256, .f32⟩
  | .hbm, ⟨54, _⟩ => ⟨S3x4x1x256, .f32⟩
  | .hbm, ⟨55, _⟩ => ⟨S3x4x4x256, .f32⟩
  | .hbm, ⟨56, _⟩ => ⟨S3x4x4x256, .f32⟩
  | .hbm, ⟨57, _⟩ => ⟨S3x4x4x256, .f32⟩
  | .hbm, ⟨58, _⟩ => ⟨S_, .f32⟩
  | .hbm, ⟨59, _⟩ => ⟨S3x4x256, .f32⟩
  | .hbm, ⟨60, _⟩ => ⟨S3x4x256, .f32⟩
  | .hbm, ⟨61, _⟩ => ⟨S3x4x256, .f32⟩
  | .hbm, ⟨62, _⟩ => ⟨S3x4x256, .f32⟩
  | .hbm, ⟨63, _⟩ => ⟨S3x4x256, .f32⟩
  | .hbm, ⟨64, _⟩ => ⟨S3x4x256, .f32⟩
  | .hbm, ⟨65, _⟩ => ⟨S_, .f32⟩
  | .hbm, ⟨66, _⟩ => ⟨S3, .f32⟩
  | .hbm, ⟨67, _⟩ => ⟨S3x1x1, .f32⟩
  | .hbm, ⟨68, _⟩ => ⟨S3x4x256, .f32⟩
  | .hbm, ⟨69, _⟩ => ⟨S3x4x256, .f32⟩
  | .hbm, ⟨70, _⟩ => ⟨S3x4x256, .f32⟩
  | .hbm, ⟨71, _⟩ => ⟨S_, .f32⟩
  | .hbm, ⟨72, _⟩ => ⟨S3, .f32⟩
  | .hbm, ⟨73, _⟩ => ⟨S3, .f32⟩
  | .hbm, ⟨74, _⟩ => ⟨S3, .f32⟩
  | .hbm, ⟨75, _⟩ => ⟨S3x1x1, .f32⟩
  | .hbm, ⟨76, _⟩ => ⟨S3x4x256, .f32⟩
  | .hbm, ⟨77, _⟩ => ⟨S3x4x256, .f32⟩
  | .hbm, ⟨78, _⟩ => ⟨S1x3, .f32⟩
  | .hbm, ⟨79, _⟩ => ⟨S_, .i32⟩
  | .hbm, ⟨80, _⟩ => ⟨S384x3, .f32⟩
  | .hbm, ⟨81, _⟩ => ⟨S_, .i32⟩
  | .hbm, ⟨82, _⟩ => ⟨S_, .i32⟩
  | .hbm, ⟨83, _⟩ => ⟨S3x384, .f32⟩
  | .local _ .vmem, ⟨0, _⟩ => ⟨S1152x2048, .fp8e4m3⟩
  | .local _ .vmem, ⟨1, _⟩ => ⟨S2048x4096, .fp8e4m3⟩
  | .local _ .vmem, ⟨2, _⟩ => ⟨S1152x4096, .f32⟩
  | _, _ => ⟨S384x3x2048, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_c : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_while0c_c_5 : Ref sig .tc := ⟨.hbm, 35, rfl⟩
abbrev main_while0c_v24 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_c_2 : Ref sig .tc := ⟨.hbm, 40, rfl⟩
abbrev main_while0b_call0_v0 : Ref sig .tc := ⟨.hbm, 41, rfl⟩
abbrev main_while0b_v24 : Ref sig .tc := ⟨.hbm, 42, rfl⟩
abbrev main_while0b_v25 : Ref sig .tc := ⟨.hbm, 43, rfl⟩
abbrev main_while0b_v26 : Ref sig .tc := ⟨.hbm, 44, rfl⟩
abbrev main_while0b_v27 : Ref sig .tc := ⟨.hbm, 45, rfl⟩
abbrev main_while0b_v28 : Ref sig .tc := ⟨.hbm, 46, rfl⟩
abbrev main_while0b_v29 : Ref sig .tc := ⟨.hbm, 47, rfl⟩
abbrev main_while0b_cst_5 : Ref sig .tc := ⟨.hbm, 48, rfl⟩
abbrev main_while0b_v30 : Ref sig .tc := ⟨.hbm, 49, rfl⟩
abbrev main_while0b_v31 : Ref sig .tc := ⟨.hbm, 50, rfl⟩
abbrev main_while0b_cst_6 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_v35 : Ref sig .tc := ⟨.hbm, 55, rfl⟩
abbrev main_while0b_v36 : Ref sig .tc := ⟨.hbm, 56, rfl⟩
abbrev main_while0b_v37 : Ref sig .tc := ⟨.hbm, 57, rfl⟩
abbrev main_while0b_cst_7 : Ref sig .tc := ⟨.hbm, 58, rfl⟩
abbrev main_while0b_v38 : Ref sig .tc := ⟨.hbm, 59, rfl⟩
abbrev main_while0b_v39 : Ref sig .tc := ⟨.hbm, 60, rfl⟩
abbrev main_while0b_v40 : Ref sig .tc := ⟨.hbm, 61, rfl⟩
abbrev main_while0b_v41 : Ref sig .tc := ⟨.hbm, 62, rfl⟩
abbrev main_while0b_v42 : Ref sig .tc := ⟨.hbm, 63, rfl⟩
abbrev main_while0b_v43 : Ref sig .tc := ⟨.hbm, 64, rfl⟩
abbrev main_while0b_cst_8 : Ref sig .tc := ⟨.hbm, 65, rfl⟩
abbrev main_while0b_v44 : Ref sig .tc := ⟨.hbm, 66, rfl⟩
abbrev main_while0b_v45 : Ref sig .tc := ⟨.hbm, 67, rfl⟩
abbrev main_while0b_v46 : Ref sig .tc := ⟨.hbm, 68, rfl⟩
abbrev main_while0b_v47 : Ref sig .tc := ⟨.hbm, 69, rfl⟩
abbrev main_while0b_v48 : Ref sig .tc := ⟨.hbm, 70, rfl⟩
abbrev main_while0b_cst_9 : Ref sig .tc := ⟨.hbm, 71, rfl⟩
abbrev main_while0b_v49 : Ref sig .tc := ⟨.hbm, 72, rfl⟩
abbrev main_while0b_v50 : Ref sig .tc := ⟨.hbm, 73, rfl⟩
abbrev main_while0b_v51 : Ref sig .tc := ⟨.hbm, 74, rfl⟩
abbrev main_while0b_v52 : Ref sig .tc := ⟨.hbm, 75, rfl⟩
abbrev main_while0b_v53 : Ref sig .tc := ⟨.hbm, 76, rfl⟩
abbrev main_while0b_v54 : Ref sig .tc := ⟨.hbm, 77, rfl⟩
abbrev main_while0b_call1_v0 : Ref sig .tc := ⟨.hbm, 78, rfl⟩
abbrev main_while0b_call1_c : Ref sig .tc := ⟨.hbm, 79, rfl⟩
abbrev main_while0b_v55 : Ref sig .tc := ⟨.hbm, 80, rfl⟩
abbrev main_while0b_c_10 : Ref sig .tc := ⟨.hbm, 81, rfl⟩
abbrev main_while0b_v56 : Ref sig .tc := ⟨.hbm, 82, rfl⟩
abbrev main_v23 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev main_while0_count : Scf.Loop 32 := ⟨0#32, 384#32, 1#32⟩

abbrev grid0 : Pipeline.Grid := .none

abbrev stage0_0 : Fin 1 → Memref sig .tc .vmem S1152x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelT2.lean ====
/-
  `Kernel`: invariants of the kernel's counted loops, part of the frame proof. Every buffer a loop writes is held at SOME
  contents, every buffer it only reads at the contents it has at entry: nothing is said of values here.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

set_option warn.classDefReducibility false in
/-- Loop `k0_t2`: reads arg0, arg2, arg3, arg4, arg7; writes arg8. -/
@[sl_loop] noncomputable def loopInv_k0_t2 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x128 .i32) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x128 .i32) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec F S128x128 .f32) (k0_t1 : Fin k0_t1_loop.trips) (v399 : BitVec 32) (v403 : BitVec 32) (X0 : BufTy.Contents (Elt F) arg0.view.ty) (X2 : BufTy.Contents (Elt F) arg2.view.ty) (X3 : BufTy.Contents (Elt F) arg3.view.ty) (X4 : BufTy.Contents (Elt F) arg4.view.ty) (X7 : BufTy.Contents (Elt F) arg7.view.ty) :
    Cert.Kernel.Gen.LoopInvTy_k0_t2 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k0_t1 v399 v403 where
  inv := fun k acc => iprop((arg0.view.loc (c : Thread nD τ) ↦[arg0.view.set]{fullShare} X0) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (∃ f, (arg8.view.loc (c : Thread nD τ) ↦[arg8.view.set]{fullShare} f)))
  step := fun k acc => by
    unfold k0_t2_body
    iintro ⟨H0, H2, H3, H4, H7, ⟨%f8, H8⟩⟩
    sl_exec
    sl_step
    isplitl [H0]; · iexact H0
    isplitl [H2]; · iexact H2
    isplitl [H3]; · iexact H3
    isplitl [H4]; · iexact H4
    isplitl [H7]; · iexact H7
    iexists _; iexact H8

end Cert.Proof.Kernel

end
-- ==== Proof.KernelT3.lean ====
/-
  `Kernel`: invariants of the kernel's counted loops, part of the frame proof. Every buffer a loop writes is held at SOME
  contents, every buffer it only reads at the contents it has at entry: nothing is said of values here.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

theorem k0_off28_eq : ∀ (k0_t1 : Fin k0_t1_loop.trips) (k0_t3 : Fin k0_t3_loop.trips), k0_off28 k0_t1 k0_t3 = ![32 * k0_t1.val + k0_t3.val / 16 % 2 * (352 - 64 * k0_t1.val) + 16 * (k0_t3.val / 8 % 2) + k0_t3.val % 8, k0_t3.val / 32, 0, 0, 0] := by decide +kernel
instance (k0_t1 : Fin k0_t1_loop.trips) (k0_t3 : Fin k0_t3_loop.trips) : ClosedOff (k0_off28 k0_t1 k0_t3) := ⟨_, k0_off28_eq k0_t1 k0_t3⟩
theorem k0_off29_eq : ∀ (k0_t1 : Fin k0_t1_loop.trips) (k0_t3 : Fin k0_t3_loop.trips), k0_off29 k0_t1 k0_t3 = ![32 * k0_t1.val + k0_t3.val / 16 % 2 * (352 - 64 * k0_t1.val) + 16 * (k0_t3.val / 8 % 2) + k0_t3.val % 8 + 8, k0_t3.val / 32, 0, 0, 0] := by decide +kernel
instance (k0_t1 : Fin k0_t1_loop.trips) (k0_t3 : Fin k0_t3_loop.trips) : ClosedOff (k0_off29 k0_t1 k0_t3) := ⟨_, k0_off29_eq k0_t1 k0_t3⟩
theorem k0_off30_eq : ∀ (k0_t1 : Fin k0_t1_loop.trips) (k0_t3 : Fin k0_t3_loop.trips), k0_off30 k0_t1 k0_t3 = ![32 * k0_t1.val + k0_t3.val / 16 % 2 * (352 - 64 * k0_t1.val) + 16 * (k0_t3.val / 8 % 2) + k0_t3.val % 8, k0_t3.val / 32, 1, 0, 0] := by decide +kernel
instance (k0_t1 : Fin k0_t1_loop.trips) (k0_t3 : Fin k0_t3_loop.trips) : ClosedOff (k0_off30 k0_t1 k0_t3) := ⟨_, k0_off30_eq k0_t1 k0_t3⟩
theorem k0_off31_eq : ∀ (k0_t1 : Fin k0_t1_loop.trips) (k0_t3 : Fin k0_t3_loop.trips), k0_off31 k0_t1 k0_t3 = ![32 * k0_t1.val + k0_t3.val / 16 % 2 * (352 - 64 * k0_t1.val) + 16 * (k0_t3.val / 8 % 2) + k0_t3.val % 8 + 8, k0_t3.val / 32, 1, 0, 0] := by decide +kernel
instance (k0_t1 : Fin k0_t1_loop.trips) (k0_t3 : Fin k0_t3_loop.trips) : ClosedOff (k0_off31 k0_t1 k0_t3) := ⟨_, k0_off31_eq k0_t1 k0_t3⟩
theorem k0_off32_eq : ∀ (k0_t1 : Fin k0_t1_loop.trips) (k0_t3 : Fin k0_t3_loop.trips), k0_off32 k0_t1 k0_t3 = ![32 * k0_t1.val + k0_t3.val / 16 % 2 * (352 - 64 * k0_t1.val) + 16 * (k0_t3.val / 8 % 2) + k0_t3.val % 8, k0_t3.val / 32, 2, 0, 0] := by decide +kernel
instance (k0_t1 : Fin k0_t1_loop.trips) (k0_t3 : Fin k0_t3_loop.trips) : ClosedOff (k0_off32 k0_t1 k0_t3) := ⟨_, k0_off32_eq k0_t1 k0_t3⟩
theorem k0_off33_eq : ∀ (k0_t1 : Fin k0_t1_loop.trips) (k0_t3 : Fin k0_t3_loop.trips), k0_off33 k0_t1 k0_t3 = ![32 * k0_t1.val + k0_t3.val / 16 % 2 * (352 - 64 * k0_t1.val) + 16 * (k0_t3.val / 8 % 2) + k0_t3.val % 8 + 8, k0_t3.val / 32, 2, 0, 0] := by decide +kernel
instance (k0_t1 : Fin k0_t1_loop.trips) (k0_t3 : Fin k0_t3_loop.trips) : ClosedOff (k0_off33 k0_t1 k0_t3) := ⟨_, k0_off33_eq k0_t1 k0_t3⟩
theorem k0_off34_eq : ∀ (k0_t1 : Fin k0_t1_loop.trips) (k0_t3 : Fin k0_t3_loop.trips), k0_off34 k0_t1 k0_t3 = ![32 * k0_t1.val + k0_t3.val / 16 % 2 * (352 - 64 * k0_t1.val) + 16 * (k0_t3.val / 8 % 2) + k0_t3.val % 8, k0_t3.val / 32, 3, 0, 0] := by decide +kernel
instance (k0_t1 : Fin k0_t1_loop.trips) (k0_t3 : Fin k0_t3_loop.trips) : ClosedOff (k0_off34 k0_t1 k0_t3) := ⟨_, k0_off34_eq k0_t1 k0_t3⟩
theorem k0_off35_eq : ∀ (k0_t1 : Fin k0_t1_loop.trips) (k0_t3 : Fin k0_t3_loop.trips), k0_off35 k0_t1 k0_t3 = ![32 * k0_t1.val + k0_t3.val / 16 % 2 * (352 - 64 * k0_t1.val) + 16 * (k0_t3.val / 8 % 2) + k0_t3.val % 8 + 8, k0_t3.val / 32, 3, 0, 0] := by decide +kernel
instance (k0_t1 : Fin k0_t1_loop.trips) (k0_t3 : Fin k0_t3_loop.trips) : ClosedOff (k0_off35 k0_t1 k0_t3) := ⟨_, k0_off35_eq k0_t1 k0_t3⟩
set_option warn.classDefReducibility false in
/-- Loop `k0_t3`: reads arg8; writes arg9. -/
@[sl_loop] noncomputable def loopInv_k0_t3 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x128 .i32) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x128 .i32) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec F S128x128 .f32) (k0_t1 : Fin k0_t1_loop.trips) (v399 : BitVec 32) (v403 : BitVec 32) (X8 : BufTy.Contents (Elt F) arg8.view.ty) :
    Cert.Kernel.Gen.LoopInvTy_k0_t3 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k0_t1 v399 v403 where
  inv := fun k acc => iprop((arg8.view.loc (c : Thread nD τ) ↦[arg8.view.set]{fullShare} X8) ∗ (∃ f, (arg9.view.loc (c : Thread nD τ) ↦[arg9.view.set]{fullShare} f)))
  step := fun k acc => by
    unfold k0_t3_body
    iintro ⟨H8, ⟨%f9, H9⟩⟩
    sl_exec
    sl_step
    isplitl [H8]; · iexact H8
    iexists _; iexact H9

end Cert.Proof.Kernel

end
-- ==== Proof.KernelT1.lean ====
/-
  `Kernel`: invariants of the kernel's counted loops, part of the frame proof. Every buffer a loop writes is held at SOME
  contents, every buffer it only reads at the contents it has at entry: nothing is said of values here.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.KernelT2
public import proofs.«01_k».proof.Proof.KernelT3
public import Idealize.ShloMosaic.Lib.Pipeline.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

set_option warn.classDefReducibility false in
/-- Loop `k0_t1`: reads arg0, arg2, arg3, arg4, arg7; writes arg8, arg9. -/
@[sl_loop] noncomputable def loopInv_k0_t1 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x128 .i32) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x128 .i32) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec F S128x128 .f32) (X0 : BufTy.Contents (Elt F) arg0.view.ty) (X2 : BufTy.Contents (Elt F) arg2.view.ty) (X3 : BufTy.Contents (Elt F) arg3.view.ty) (X4 : BufTy.Contents (Elt F) arg4.view.ty) (X7 : BufTy.Contents (Elt F) arg7.view.ty) :
    Cert.Kernel.Gen.LoopInvTy_k0_t1 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 where
  inv := fun k acc => iprop((arg0.view.loc (c : Thread nD τ) ↦[arg0.view.set]{fullShare} X0) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)))
  step := fun k acc => by
    unfold k0_t1_body
    iintro ⟨H0, H2, H3, H4, H7, ⟨%f8, H8⟩, ⟨%f9, H9⟩⟩
    sl_exec
    sl_step
    isplitl [H0]; · iexact H0
    isplitl [H2]; · iexact H2
    isplitl [H3]; · iexact H3
    isplitl [H4]; · iexact H4
    isplitl [H7]; · iexact H7
    isplitl [H8]; · iexists _; iexact H8
    iexists _; iexact H9

end Cert.Proof.Kernel

end
-- ==== Proof.KernelT4.lean ====
/-
  `Kernel`: invariants of the kernel's counted loops, part of the frame proof. Every buffer a loop writes is held at SOME
  contents, every buffer it only reads at the contents it has at entry: nothing is said of values here.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

set_option warn.classDefReducibility false in
/-- Loop `k0_t4`: reads arg9; writes arg10, arg11, arg12, arg13, arg14, arg15. -/
@[sl_loop] noncomputable def loopInv_k0_t4 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x128 .i32) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x128 .i32) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec F S128x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X9 : BufTy.Contents (Elt F) arg9.view.ty) :
    Cert.Kernel.Gen.LoopInvTy_k0_t4 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 init where
  inv := fun k acc => iprop((arg9.view.loc (c : Thread nD τ) ↦[arg9.view.set]{fullShare} X9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))
  step := fun k acc => by
    unfold k0_t4_body
    iintro ⟨H9, ⟨%f10, H10⟩, ⟨%f11, H11⟩, ⟨%f12, H12⟩, ⟨%f13, H13⟩, ⟨%f14, H14⟩, ⟨%f15, H15⟩⟩
    sl_exec
    sl_step
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.Proof.Kernel

end
-- ==== Proof.KernelT8.lean ====
/-
  `Kernel`: invariants of the kernel's counted loops, part of the frame proof. Every buffer a loop writes is held at SOME
  contents, every buffer it only reads at the contents it has at entry: nothing is said of values here.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

set_option warn.classDefReducibility false in
/-- Loop `k0_t8`: reads arg9, arg11, arg12; writes arg10, arg17. -/
@[sl_loop] noncomputable def loopInv_k0_t8 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x128 .i32) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x128 .i32) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec F S8x128 .f32) (v256_1 : FVec F S8x128 .f32) (v256_2 : FVec F S8x128 .f32) (v256_3 : FVec F S8x128 .f32) (v256_4 : FVec F S8x128 .f32) (v256_5 : FVec F S8x128 .f32) (v256_6 : FVec F S8x128 .f32) (v256_7 : FVec F S8x128 .f32) (v256_8 : FVec F S8x128 .f32) (v256_9 : FVec F S8x128 .f32) (v256_10 : FVec F S8x128 .f32) (v256_11 : FVec F S8x128 .f32) (v267 : FVec F S8x128 .f32) (v278 : FVec F S8x128 .f32) (v289 : FVec F S8x128 .f32) (k0_t6 : Fin k0_t6_loop.trips) (k0_t7 : Fin k0_t7_loop.trips) (arg37 : BitVec 32) (v408 : BitVec 32) (v409 : BitVec 32) (v415 : FVec F S8x128 .f32) (v421 : FVec F S8x128 .f32) (v427 : FVec F S8x128 .f32) (v433 : FVec F S8x128 .f32) (v439 : FVec F S8x128 .f32) (v445 : FVec F S8x128 .f32) (init : FVec F S8x128 .f32 × FVec F S8x128 .f32 × FVec F S8x128 .f32 × FVec F S8x128 .f32 × FVec F S8x128 .f32 × FVec F S8x128 .f32) (X9 : BufTy.Contents (Elt F) arg9.view.ty) (X11 : BufTy.Contents (Elt F) arg11.view.ty) (X12 : BufTy.Contents (Elt F) arg12.view.ty) :
    Cert.Kernel.Gen.LoopInvTy_k0_t8 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 k0_t6 k0_t7 arg37 v408 v409 v415 v421 v427 v433 v439 v445 init where
  inv := fun k acc => iprop((arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ f, (arg10.view.loc (c : Thread nD τ) ↦[arg10.view.set]{fullShare} f)) ∗ (∃ f, (arg17.view.loc (c : Thread nD τ) ↦[arg17.view.set]{fullShare} f)))
  step := fun k acc => by
    unfold k0_t8_body
    iintro ⟨H9, H11, H12, ⟨%f10, H10⟩, ⟨%f17, H17⟩⟩
    sl_exec
    sl_step
    isplitl [H9]; · iexact H9
    isplitl [H11]; · iexact H11
    isplitl [H12]; · iexact H12
    isplitl [H10]; · iexists _; iexact H10
    iexists _; iexact H17

end Cert.Proof.Kernel

end
-- ==== Proof.KernelT7.lean ====
/-
  `Kernel`: invariants of the kernel's counted loops, part of the frame proof. Every buffer a loop writes is held at SOME
  contents, every buffer it only reads at the contents it has at entry: nothing is said of values here.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.KernelT8
public import Idealize.ShloMosaic.Lib.Pipeline.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

set_option warn.classDefReducibility false in
/-- Loop `k0_t7`: reads arg9, arg11, arg12; writes arg10, arg13, arg14, arg15, arg17. -/
@[sl_loop] noncomputable def loopInv_k0_t7 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x128 .i32) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x128 .i32) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec F S8x128 .f32) (v256_1 : FVec F S8x128 .f32) (v256_2 : FVec F S8x128 .f32) (v256_3 : FVec F S8x128 .f32) (v256_4 : FVec F S8x128 .f32) (v256_5 : FVec F S8x128 .f32) (v256_6 : FVec F S8x128 .f32) (v256_7 : FVec F S8x128 .f32) (v256_8 : FVec F S8x128 .f32) (v256_9 : FVec F S8x128 .f32) (v256_10 : FVec F S8x128 .f32) (v256_11 : FVec F S8x128 .f32) (v267 : FVec F S8x128 .f32) (v278 : FVec F S8x128 .f32) (v289 : FVec F S8x128 .f32) (k0_t6 : Fin k0_t6_loop.trips) (arg18 : BitVec 32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X9 : BufTy.Contents (Elt F) arg9.view.ty) (X11 : BufTy.Contents (Elt F) arg11.view.ty) (X12 : BufTy.Contents (Elt F) arg12.view.ty) :
    Cert.Kernel.Gen.LoopInvTy_k0_t7 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 k0_t6 arg18 init where
  inv := fun k acc => iprop((arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ f, (arg10.view.loc (c : Thread nD τ) ↦[arg10.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg17.view.loc (c : Thread nD τ) ↦[arg17.view.set]{fullShare} f)))
  step := fun k acc => by
    unfold k0_t7_body
    iintro ⟨H9, H11, H12, ⟨%f10, H10⟩, ⟨%f13, H13⟩, ⟨%f14, H14⟩, ⟨%f15, H15⟩, ⟨%f17, H17⟩⟩
    sl_exec
    sl_step
    isplitl [H9]; · iexact H9
    isplitl [H11]; · iexact H11
    isplitl [H12]; · iexact H12
    isplitl [H10]; · iexists _; iexact H10
    isplitl [H13]; · iexists _; iexact H13
    isplitl [H14]; · iexists _; iexact H14
    isplitl [H15]; · iexists _; iexact H15
    iexists _; iexact H17

end Cert.Proof.Kernel

end
-- ==== Proof.KernelT9.lean ====
/-
  `Kernel`: invariants of the kernel's counted loops, part of the frame proof. Every buffer a loop writes is held at SOME
  contents, every buffer it only reads at the contents it has at entry: nothing is said of values here.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

theorem k0_off130_eq : ∀ (k0_t6 : Fin k0_t6_loop.trips) (k0_t9 : Fin k0_t9_loop.trips), k0_off130 k0_t6 k0_t9 = ![0, if k0_t9.val / 8 = 4 then 0 else 1 + k0_t9.val % 4, 192 + 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off130 k0_t6 k0_t9) := ⟨_, k0_off130_eq k0_t6 k0_t9⟩
theorem k0_off132_eq : ∀ (k0_t6 : Fin k0_t6_loop.trips) (k0_t9 : Fin k0_t9_loop.trips), k0_off132 k0_t6 k0_t9 = ![1, if k0_t9.val / 8 = 4 then 0 else 1 + k0_t9.val % 4, 192 + 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off132 k0_t6 k0_t9) := ⟨_, k0_off132_eq k0_t6 k0_t9⟩
theorem k0_off134_eq : ∀ (k0_t6 : Fin k0_t6_loop.trips) (k0_t9 : Fin k0_t9_loop.trips), k0_off134 k0_t6 k0_t9 = ![2, if k0_t9.val / 8 = 4 then 0 else 1 + k0_t9.val % 4, 192 + 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off134 k0_t6 k0_t9) := ⟨_, k0_off134_eq k0_t6 k0_t9⟩
theorem k0_off136_eq : ∀ (k0_t6 : Fin k0_t6_loop.trips) (k0_t9 : Fin k0_t9_loop.trips), k0_off136 k0_t6 k0_t9 = ![0, if k0_t9.val / 8 = 4 then 0 else 1 + k0_t9.val % 4, 176 - 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off136 k0_t6 k0_t9) := ⟨_, k0_off136_eq k0_t6 k0_t9⟩
theorem k0_off138_eq : ∀ (k0_t6 : Fin k0_t6_loop.trips) (k0_t9 : Fin k0_t9_loop.trips), k0_off138 k0_t6 k0_t9 = ![1, if k0_t9.val / 8 = 4 then 0 else 1 + k0_t9.val % 4, 176 - 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off138 k0_t6 k0_t9) := ⟨_, k0_off138_eq k0_t6 k0_t9⟩
theorem k0_off140_eq : ∀ (k0_t6 : Fin k0_t6_loop.trips) (k0_t9 : Fin k0_t9_loop.trips), k0_off140 k0_t6 k0_t9 = ![2, if k0_t9.val / 8 = 4 then 0 else 1 + k0_t9.val % 4, 176 - 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off140 k0_t6 k0_t9) := ⟨_, k0_off140_eq k0_t6 k0_t9⟩
set_option warn.classDefReducibility false in
/-- Loop `k0_t9`: reads arg17; writes arg6. -/
@[sl_loop] noncomputable def loopInv_k0_t9 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x128 .i32) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x128 .i32) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec F S8x128 .f32) (v256_1 : FVec F S8x128 .f32) (v256_2 : FVec F S8x128 .f32) (v256_3 : FVec F S8x128 .f32) (v256_4 : FVec F S8x128 .f32) (v256_5 : FVec F S8x128 .f32) (v256_6 : FVec F S8x128 .f32) (v256_7 : FVec F S8x128 .f32) (v256_8 : FVec F S8x128 .f32) (v256_9 : FVec F S8x128 .f32) (v256_10 : FVec F S8x128 .f32) (v256_11 : FVec F S8x128 .f32) (v267 : FVec F S8x128 .f32) (v278 : FVec F S8x128 .f32) (v289 : FVec F S8x128 .f32) (k0_t6 : Fin k0_t6_loop.trips) (v401 : BitVec 32) (v404 : BitVec 32) (X17 : BufTy.Contents (Elt F) arg17.view.ty) :
    Cert.Kernel.Gen.LoopInvTy_k0_t9 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 k0_t6 v401 v404 where
  inv := fun k acc => iprop((arg17.view.loc (c : Thread nD τ) ↦[arg17.view.set]{fullShare} X17) ∗ (∃ f, (arg6.view.loc (c : Thread nD τ) ↦[arg6.view.set]{fullShare} f)))
  step := fun k acc => by
    unfold k0_t9_body
    iintro ⟨H17, ⟨%f6, H6⟩⟩
    sl_exec
    sl_step
    isplitl [H17]; · iexact H17
    iexists _; iexact H6

end Cert.Proof.Kernel

end
-- ==== Proof.KernelT6.lean ====
/-
  `Kernel`: invariants of the kernel's counted loops, part of the frame proof. Every buffer a loop writes is held at SOME
  contents, every buffer it only reads at the contents it has at entry: nothing is said of values here.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.KernelT7
public import proofs.«01_k».proof.Proof.KernelT9
public import Idealize.ShloMosaic.Lib.Pipeline.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

set_option warn.classDefReducibility false in
/-- Loop `k0_t6`: reads arg9, arg11, arg12; writes arg6, arg10, arg13, arg14, arg15, arg17. -/
@[sl_loop] noncomputable def loopInv_k0_t6 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x128 .i32) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x128 .i32) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec F S8x128 .f32) (v256_1 : FVec F S8x128 .f32) (v256_2 : FVec F S8x128 .f32) (v256_3 : FVec F S8x128 .f32) (v256_4 : FVec F S8x128 .f32) (v256_5 : FVec F S8x128 .f32) (v256_6 : FVec F S8x128 .f32) (v256_7 : FVec F S8x128 .f32) (v256_8 : FVec F S8x128 .f32) (v256_9 : FVec F S8x128 .f32) (v256_10 : FVec F S8x128 .f32) (v256_11 : FVec F S8x128 .f32) (v267 : FVec F S8x128 .f32) (v278 : FVec F S8x128 .f32) (v289 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X9 : BufTy.Contents (Elt F) arg9.view.ty) (X11 : BufTy.Contents (Elt F) arg11.view.ty) (X12 : BufTy.Contents (Elt F) arg12.view.ty) :
    Cert.Kernel.Gen.LoopInvTy_k0_t6 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 init where
  inv := fun k acc => iprop((arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ f, (arg6.view.loc (c : Thread nD τ) ↦[arg6.view.set]{fullShare} f)) ∗ (∃ f, (arg10.view.loc (c : Thread nD τ) ↦[arg10.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg17.view.loc (c : Thread nD τ) ↦[arg17.view.set]{fullShare} f)))
  step := fun k acc => by
    unfold k0_t6_body
    iintro ⟨H9, H11, H12, ⟨%f6, H6⟩, ⟨%f10, H10⟩, ⟨%f13, H13⟩, ⟨%f14, H14⟩, ⟨%f15, H15⟩, ⟨%f17, H17⟩⟩
    sl_exec
    sl_step
    isplitl [H9]; · iexact H9
    isplitl [H11]; · iexact H11
    isplitl [H12]; · iexact H12
    isplitl [H6]; · iexists _; iexact H6
    isplitl [H10]; · iexists _; iexact H10
    isplitl [H13]; · iexists _; iexact H13
    isplitl [H14]; · iexists _; iexact H14
    isplitl [H15]; · iexists _; iexact H15
    iexists _; iexact H17

end Cert.Proof.Kernel

end
-- ==== Proof.KernelFrame.lean ====
/-
  `Kernel`: invariants of the kernel's counted loops, part of the frame proof. Every buffer a loop writes is held at SOME
  contents, every buffer it only reads at the contents it has at entry: nothing is said of values here.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.KernelT1
public import proofs.«01_k».proof.Proof.KernelT4
public import proofs.«01_k».proof.Proof.KernelT6
public import Idealize.ShloMosaic.Lib.Pipeline.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable [∀ e, Nonempty (Elt F e)] (m : (ℓ : Loc nD τ sig) → Buf (Elt F) ℓ) (ρ : Dev nD → PrngReg)

/-- The kernel's triple for any continuation: from the inputs' memrefs at any contents and the rest at anything it runs to its
    return, hands the inputs back as they were and the rest at some contents. -/
theorem kernelRun (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x128 .i32) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x128 .i32) (harg17 : arg17.IsWhole) (X0 : S3x384x2048.Idx → Elt F .fp8e4m3) (X1 : S3x384.Idx → Elt F .f32) (X2 : S2048x4096.Idx → Elt F .fp8e4m3) (X3 : S32x128.Idx → Elt F .f32) (X4 : S32x128.Idx → Elt F .f32) (K : PUnit → sProp 𝕄) :
    iprop(owns (c : Thread nD τ) arg0 fullShare X0
        ∗ owns (c : Thread nD τ) arg1 fullShare X1
        ∗ owns (c : Thread nD τ) arg2 fullShare X2
        ∗ owns (c : Thread nD τ) arg3 fullShare X3
        ∗ owns (c : Thread nD τ) arg4 fullShare X4
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (iprop(owns (c : Thread nD τ) arg0 fullShare X0
        ∗ owns (c : Thread nD τ) arg1 fullShare X1
        ∗ owns (c : Thread nD τ) arg2 fullShare X2
        ∗ owns (c : Thread nD τ) arg3 fullShare X3
        ∗ owns (c : Thread nD τ) arg4 fullShare X4
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)) -∗ K ⟨⟩))
      ⊢ wp frame (wpE (defs₀ (F := F)) Variants.none c none) Set.univ (cc0_crf arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_crf_eq_skeleton]; unfold cc0_crf_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec_parts
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

/-! ## The proof data and the body obligation -/

/-- The two output windows are FORGOTTEN: nothing here reads what the kernel leaves in them. -/
def forgets0 : Fin 7 → Bool := ![false, false, false, false, false, true, true]

/-- The proof data on core `c`: every array as the region finds it; the inputs' blocks left in place, the outputs unnamed; the
    scratch and the generator register at some contents; full shares; nothing owed. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem before_0 (c : Dev nD) (t : Fin cfg0.N) (d) : (dats m 0 c).before 0 t d = iblk m c 0 t :=
  before0_0_of m (dats m 0 c) (A_eq m c 0) (fun _ => rfl) t d
theorem after_0 (c : Dev nD) (t : Fin cfg0.N) : (dats m 0 c).after 0 t = iblk m c 0 t := rfl
theorem before_1 (c : Dev nD) (t : Fin cfg0.N) (d) : (dats m 0 c).before 1 t d = iblk m c 1 t :=
  before0_1_of m (dats m 0 c) (A_eq m c 1) (fun _ => rfl) t d
theorem after_1 (c : Dev nD) (t : Fin cfg0.N) : (dats m 0 c).after 1 t = iblk m c 1 t := rfl
theorem before_2 (c : Dev nD) (t : Fin cfg0.N) (d) : (dats m 0 c).before 2 t d = iblk m c 2 t :=
  before0_2_of m (dats m 0 c) (A_eq m c 2) (fun _ => rfl) t d
theorem after_2 (c : Dev nD) (t : Fin cfg0.N) : (dats m 0 c).after 2 t = iblk m c 2 t := rfl
theorem before_3 (c : Dev nD) (t : Fin cfg0.N) (d) : (dats m 0 c).before 3 t d = iblk m c 3 t :=
  before0_3_of m (dats m 0 c) (A_eq m c 3) (fun _ => rfl) t d
theorem after_3 (c : Dev nD) (t : Fin cfg0.N) : (dats m 0 c).after 3 t = iblk m c 3 t := rfl
theorem before_4 (c : Dev nD) (t : Fin cfg0.N) (d) : (dats m 0 c).before 4 t d = iblk m c 4 t :=
  before0_4_of m (dats m 0 c) (A_eq m c 4) (fun _ => rfl) t d
theorem after_4 (c : Dev nD) (t : Fin cfg0.N) : (dats m 0 c).after 4 t = iblk m c 4 t := rfl

theorem Phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare d)
    ∗ (∃ d, owns (c : Thread nD τ) (win0_6.stage (cfg0.slots t 6)) fullShare d))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ d, owns (c : Thread nD τ) (win0_5.stage (cfg0.slots t 5)) fullShare d)
    ∗ (∃ d, owns (c : Thread nD τ) (win0_6.stage (cfg0.slots t 6)) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨⟨S0, S1, S2, S3, S4, S5, S6, S7, S8, S9, S10⟩, Hg⟩, Ho, ⟨%d0, H0⟩, ⟨%d1, H1⟩, ⟨%d2, H2⟩, ⟨%d3, H3⟩, ⟨%d4, H4⟩, H5, H6⟩
  iapply (kernelRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) :
    Pipeline.BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters every weakly fair execution of @main terminates; every array no window stages ends as the
    region found it, every input array too, and every semaphore counter ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the run terminates, every argument array ends unchanged and every semaphore counter at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((congrFun (((dats m 0 c).toRForget forgets0).ArrAt_in 2 rfl _) _).mp ((h.1 c).1 2)).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Proof.Kernel

end
-- ==== Proof.KernelIdealT2.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- Loop `k0_t2`: reads arg0, arg2, arg3, arg4, arg7; writes arg8. -/
@[sl_loop] noncomputable def loopInv_k0_t2 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec F S128x128 .f32) (k0_t1 : Fin k0_t1_loop.trips) (v399 : BitVec 32) (v403 : BitVec 32) (X0 : BufTy.Contents (Elt F) arg0.view.ty) (X2 : BufTy.Contents (Elt F) arg2.view.ty) (X3 : BufTy.Contents (Elt F) arg3.view.ty) (X4 : BufTy.Contents (Elt F) arg4.view.ty) (X7 : BufTy.Contents (Elt F) arg7.view.ty) :
    Cert.KernelIdeal.Gen.LoopInvTy_k0_t2 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k0_t1 v399 v403 where
  inv := fun k acc => iprop((arg0.view.loc (c : Thread nD τ) ↦[arg0.view.set]{fullShare} X0) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (∃ f, (arg8.view.loc (c : Thread nD τ) ↦[arg8.view.set]{fullShare} f)))
  step := fun k acc => by
    unfold k0_t2_body
    iintro ⟨H0, H2, H3, H4, H7, ⟨%f8, H8⟩⟩
    sl_exec
    sl_step
    isplitl [H0]; · iexact H0
    isplitl [H2]; · iexact H2
    isplitl [H3]; · iexact H3
    isplitl [H4]; · iexact H4
    isplitl [H7]; · iexact H7
    iexists _; iexact H8

end Cert.Proof.KernelIdeal

end
-- ==== Proof.KernelIdealT3.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem k0_off28_eq : ∀ (k0_t1 : Fin k0_t1_loop.trips) (k0_t3 : Fin k0_t3_loop.trips), k0_off28 k0_t1 k0_t3 = ![32 * k0_t1.val + k0_t3.val / 16 % 2 * (352 - 64 * k0_t1.val) + 16 * (k0_t3.val / 8 % 2) + k0_t3.val % 8, k0_t3.val / 32, 0, 0, 0] := by decide +kernel
instance (k0_t1 : Fin k0_t1_loop.trips) (k0_t3 : Fin k0_t3_loop.trips) : ClosedOff (k0_off28 k0_t1 k0_t3) := ⟨_, k0_off28_eq k0_t1 k0_t3⟩
theorem k0_off29_eq : ∀ (k0_t1 : Fin k0_t1_loop.trips) (k0_t3 : Fin k0_t3_loop.trips), k0_off29 k0_t1 k0_t3 = ![32 * k0_t1.val + k0_t3.val / 16 % 2 * (352 - 64 * k0_t1.val) + 16 * (k0_t3.val / 8 % 2) + k0_t3.val % 8 + 8, k0_t3.val / 32, 0, 0, 0] := by decide +kernel
instance (k0_t1 : Fin k0_t1_loop.trips) (k0_t3 : Fin k0_t3_loop.trips) : ClosedOff (k0_off29 k0_t1 k0_t3) := ⟨_, k0_off29_eq k0_t1 k0_t3⟩
theorem k0_off30_eq : ∀ (k0_t1 : Fin k0_t1_loop.trips) (k0_t3 : Fin k0_t3_loop.trips), k0_off30 k0_t1 k0_t3 = ![32 * k0_t1.val + k0_t3.val / 16 % 2 * (352 - 64 * k0_t1.val) + 16 * (k0_t3.val / 8 % 2) + k0_t3.val % 8, k0_t3.val / 32, 1, 0, 0] := by decide +kernel
instance (k0_t1 : Fin k0_t1_loop.trips) (k0_t3 : Fin k0_t3_loop.trips) : ClosedOff (k0_off30 k0_t1 k0_t3) := ⟨_, k0_off30_eq k0_t1 k0_t3⟩
theorem k0_off31_eq : ∀ (k0_t1 : Fin k0_t1_loop.trips) (k0_t3 : Fin k0_t3_loop.trips), k0_off31 k0_t1 k0_t3 = ![32 * k0_t1.val + k0_t3.val / 16 % 2 * (352 - 64 * k0_t1.val) + 16 * (k0_t3.val / 8 % 2) + k0_t3.val % 8 + 8, k0_t3.val / 32, 1, 0, 0] := by decide +kernel
instance (k0_t1 : Fin k0_t1_loop.trips) (k0_t3 : Fin k0_t3_loop.trips) : ClosedOff (k0_off31 k0_t1 k0_t3) := ⟨_, k0_off31_eq k0_t1 k0_t3⟩
theorem k0_off32_eq : ∀ (k0_t1 : Fin k0_t1_loop.trips) (k0_t3 : Fin k0_t3_loop.trips), k0_off32 k0_t1 k0_t3 = ![32 * k0_t1.val + k0_t3.val / 16 % 2 * (352 - 64 * k0_t1.val) + 16 * (k0_t3.val / 8 % 2) + k0_t3.val % 8, k0_t3.val / 32, 2, 0, 0] := by decide +kernel
instance (k0_t1 : Fin k0_t1_loop.trips) (k0_t3 : Fin k0_t3_loop.trips) : ClosedOff (k0_off32 k0_t1 k0_t3) := ⟨_, k0_off32_eq k0_t1 k0_t3⟩
theorem k0_off33_eq : ∀ (k0_t1 : Fin k0_t1_loop.trips) (k0_t3 : Fin k0_t3_loop.trips), k0_off33 k0_t1 k0_t3 = ![32 * k0_t1.val + k0_t3.val / 16 % 2 * (352 - 64 * k0_t1.val) + 16 * (k0_t3.val / 8 % 2) + k0_t3.val % 8 + 8, k0_t3.val / 32, 2, 0, 0] := by decide +kernel
instance (k0_t1 : Fin k0_t1_loop.trips) (k0_t3 : Fin k0_t3_loop.trips) : ClosedOff (k0_off33 k0_t1 k0_t3) := ⟨_, k0_off33_eq k0_t1 k0_t3⟩
theorem k0_off34_eq : ∀ (k0_t1 : Fin k0_t1_loop.trips) (k0_t3 : Fin k0_t3_loop.trips), k0_off34 k0_t1 k0_t3 = ![32 * k0_t1.val + k0_t3.val / 16 % 2 * (352 - 64 * k0_t1.val) + 16 * (k0_t3.val / 8 % 2) + k0_t3.val % 8, k0_t3.val / 32, 3, 0, 0] := by decide +kernel
instance (k0_t1 : Fin k0_t1_loop.trips) (k0_t3 : Fin k0_t3_loop.trips) : ClosedOff (k0_off34 k0_t1 k0_t3) := ⟨_, k0_off34_eq k0_t1 k0_t3⟩
theorem k0_off35_eq : ∀ (k0_t1 : Fin k0_t1_loop.trips) (k0_t3 : Fin k0_t3_loop.trips), k0_off35 k0_t1 k0_t3 = ![32 * k0_t1.val + k0_t3.val / 16 % 2 * (352 - 64 * k0_t1.val) + 16 * (k0_t3.val / 8 % 2) + k0_t3.val % 8 + 8, k0_t3.val / 32, 3, 0, 0] := by decide +kernel
instance (k0_t1 : Fin k0_t1_loop.trips) (k0_t3 : Fin k0_t3_loop.trips) : ClosedOff (k0_off35 k0_t1 k0_t3) := ⟨_, k0_off35_eq k0_t1 k0_t3⟩
set_option warn.classDefReducibility false in
/-- Loop `k0_t3`: reads arg8; writes arg9. -/
@[sl_loop] noncomputable def loopInv_k0_t3 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec F S128x128 .f32) (k0_t1 : Fin k0_t1_loop.trips) (v399 : BitVec 32) (v403 : BitVec 32) (X8 : BufTy.Contents (Elt F) arg8.view.ty) :
    Cert.KernelIdeal.Gen.LoopInvTy_k0_t3 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k0_t1 v399 v403 where
  inv := fun k acc => iprop((arg8.view.loc (c : Thread nD τ) ↦[arg8.view.set]{fullShare} X8) ∗ (∃ f, (arg9.view.loc (c : Thread nD τ) ↦[arg9.view.set]{fullShare} f)))
  step := fun k acc => by
    unfold k0_t3_body
    iintro ⟨H8, ⟨%f9, H9⟩⟩
    sl_exec
    sl_step
    isplitl [H8]; · iexact H8
    iexists _; iexact H9

end Cert.Proof.KernelIdeal

end
-- ==== Proof.KernelIdealT1.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealT2
public import proofs.«01_k».proof.Proof.KernelIdealT3
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- Loop `k0_t1`: reads arg0, arg2, arg3, arg4, arg7; writes arg8, arg9. -/
@[sl_loop] noncomputable def loopInv_k0_t1 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec F S128x128 .f32) (X0 : BufTy.Contents (Elt F) arg0.view.ty) (X2 : BufTy.Contents (Elt F) arg2.view.ty) (X3 : BufTy.Contents (Elt F) arg3.view.ty) (X4 : BufTy.Contents (Elt F) arg4.view.ty) (X7 : BufTy.Contents (Elt F) arg7.view.ty) :
    Cert.KernelIdeal.Gen.LoopInvTy_k0_t1 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 where
  inv := fun k acc => iprop((arg0.view.loc (c : Thread nD τ) ↦[arg0.view.set]{fullShare} X0) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)))
  step := fun k acc => by
    unfold k0_t1_body
    iintro ⟨H0, H2, H3, H4, H7, ⟨%f8, H8⟩, ⟨%f9, H9⟩⟩
    sl_exec
    sl_step
    isplitl [H0]; · iexact H0
    isplitl [H2]; · iexact H2
    isplitl [H3]; · iexact H3
    isplitl [H4]; · iexact H4
    isplitl [H7]; · iexact H7
    isplitl [H8]; · iexists _; iexact H8
    iexists _; iexact H9

end Cert.Proof.KernelIdeal

end
-- ==== Proof.KernelIdealT5.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- Loop `k0_t5`: reads arg9; writes arg10, arg11, arg12. -/
@[sl_loop] noncomputable def loopInv_k0_t5 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec F S128x128 .f32) (k0_t4 : Fin k0_t4_loop.trips) (arg18 : BitVec 32) (v398 : BitVec 32) (init : FVec F S8x128 .f32 × FVec F S8x128 .f32 × FVec F S8x128 .f32 × FVec F S8x128 .f32 × FVec F S8x128 .f32 × FVec F S8x128 .f32) (X9 : BufTy.Contents (Elt F) arg9.view.ty) :
    Cert.KernelIdeal.Gen.LoopInvTy_k0_t5 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k0_t4 arg18 v398 init where
  inv := fun k acc => iprop((arg9.view.loc (c : Thread nD τ) ↦[arg9.view.set]{fullShare} X9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))
  step := fun k acc => by
    unfold k0_t5_body
    iintro ⟨H9, ⟨%f10, H10⟩, ⟨%f11, H11⟩, ⟨%f12, H12⟩⟩
    sl_exec
    sl_step
    isplitl [H9]; · iexact H9
    isplitl [H10]; · iexists _; iexact H10
    isplitl [H11]; · iexists _; iexact H11
    iexists _; iexact H12

end Cert.Proof.KernelIdeal

end
-- ==== Proof.KernelIdealT4.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealT5
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- Loop `k0_t4`: reads arg9; writes arg10, arg11, arg12, arg13, arg14, arg15. -/
@[sl_loop] noncomputable def loopInv_k0_t4 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec F S128x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X9 : BufTy.Contents (Elt F) arg9.view.ty) :
    Cert.KernelIdeal.Gen.LoopInvTy_k0_t4 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 init where
  inv := fun k acc => iprop((arg9.view.loc (c : Thread nD τ) ↦[arg9.view.set]{fullShare} X9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))
  step := fun k acc => by
    unfold k0_t4_body
    iintro ⟨H9, ⟨%f10, H10⟩, ⟨%f11, H11⟩, ⟨%f12, H12⟩, ⟨%f13, H13⟩, ⟨%f14, H14⟩, ⟨%f15, H15⟩⟩
    sl_exec
    sl_step
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.Proof.KernelIdeal

end
-- ==== Proof.KernelIdealT8.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- Loop `k0_t8`: reads arg9, arg11, arg12; writes arg10, arg17. -/
@[sl_loop] noncomputable def loopInv_k0_t8 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec F S8x128 .f32) (v256_1 : FVec F S8x128 .f32) (v256_2 : FVec F S8x128 .f32) (v256_3 : FVec F S8x128 .f32) (v256_4 : FVec F S8x128 .f32) (v256_5 : FVec F S8x128 .f32) (v256_6 : FVec F S8x128 .f32) (v256_7 : FVec F S8x128 .f32) (v256_8 : FVec F S8x128 .f32) (v256_9 : FVec F S8x128 .f32) (v256_10 : FVec F S8x128 .f32) (v256_11 : FVec F S8x128 .f32) (v267 : FVec F S8x128 .f32) (v278 : FVec F S8x128 .f32) (v289 : FVec F S8x128 .f32) (k0_t6 : Fin k0_t6_loop.trips) (k0_t7 : Fin k0_t7_loop.trips) (arg37 : BitVec 32) (v408 : BitVec 32) (v409 : BitVec 32) (v415 : FVec F S8x128 .f32) (v421 : FVec F S8x128 .f32) (v427 : FVec F S8x128 .f32) (v433 : FVec F S8x128 .f32) (v439 : FVec F S8x128 .f32) (v445 : FVec F S8x128 .f32) (init : FVec F S8x128 .f32 × FVec F S8x128 .f32 × FVec F S8x128 .f32 × FVec F S8x128 .f32 × FVec F S8x128 .f32 × FVec F S8x128 .f32) (X9 : BufTy.Contents (Elt F) arg9.view.ty) (X11 : BufTy.Contents (Elt F) arg11.view.ty) (X12 : BufTy.Contents (Elt F) arg12.view.ty) :
    Cert.KernelIdeal.Gen.LoopInvTy_k0_t8 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 k0_t6 k0_t7 arg37 v408 v409 v415 v421 v427 v433 v439 v445 init where
  inv := fun k acc => iprop((arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ f, (arg10.view.loc (c : Thread nD τ) ↦[arg10.view.set]{fullShare} f)) ∗ (∃ f, (arg17.view.loc (c : Thread nD τ) ↦[arg17.view.set]{fullShare} f)))
  step := fun k acc => by
    unfold k0_t8_body
    iintro ⟨H9, H11, H12, ⟨%f10, H10⟩, ⟨%f17, H17⟩⟩
    sl_exec
    sl_step
    isplitl [H9]; · iexact H9
    isplitl [H11]; · iexact H11
    isplitl [H12]; · iexact H12
    isplitl [H10]; · iexists _; iexact H10
    iexists _; iexact H17

end Cert.Proof.KernelIdeal

end
-- ==== Proof.KernelIdealT7.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealT8
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- Loop `k0_t7`: reads arg9, arg11, arg12; writes arg10, arg13, arg14, arg15, arg17. -/
@[sl_loop] noncomputable def loopInv_k0_t7 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec F S8x128 .f32) (v256_1 : FVec F S8x128 .f32) (v256_2 : FVec F S8x128 .f32) (v256_3 : FVec F S8x128 .f32) (v256_4 : FVec F S8x128 .f32) (v256_5 : FVec F S8x128 .f32) (v256_6 : FVec F S8x128 .f32) (v256_7 : FVec F S8x128 .f32) (v256_8 : FVec F S8x128 .f32) (v256_9 : FVec F S8x128 .f32) (v256_10 : FVec F S8x128 .f32) (v256_11 : FVec F S8x128 .f32) (v267 : FVec F S8x128 .f32) (v278 : FVec F S8x128 .f32) (v289 : FVec F S8x128 .f32) (k0_t6 : Fin k0_t6_loop.trips) (arg18 : BitVec 32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X9 : BufTy.Contents (Elt F) arg9.view.ty) (X11 : BufTy.Contents (Elt F) arg11.view.ty) (X12 : BufTy.Contents (Elt F) arg12.view.ty) :
    Cert.KernelIdeal.Gen.LoopInvTy_k0_t7 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 k0_t6 arg18 init where
  inv := fun k acc => iprop((arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ f, (arg10.view.loc (c : Thread nD τ) ↦[arg10.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg17.view.loc (c : Thread nD τ) ↦[arg17.view.set]{fullShare} f)))
  step := fun k acc => by
    unfold k0_t7_body
    iintro ⟨H9, H11, H12, ⟨%f10, H10⟩, ⟨%f13, H13⟩, ⟨%f14, H14⟩, ⟨%f15, H15⟩, ⟨%f17, H17⟩⟩
    sl_exec
    sl_step
    isplitl [H9]; · iexact H9
    isplitl [H11]; · iexact H11
    isplitl [H12]; · iexact H12
    isplitl [H10]; · iexists _; iexact H10
    isplitl [H13]; · iexists _; iexact H13
    isplitl [H14]; · iexists _; iexact H14
    isplitl [H15]; · iexists _; iexact H15
    iexists _; iexact H17

end Cert.Proof.KernelIdeal

end
-- ==== Proof.KernelIdealT9.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem k0_off130_eq : ∀ (k0_t6 : Fin k0_t6_loop.trips) (k0_t9 : Fin k0_t9_loop.trips), k0_off130 k0_t6 k0_t9 = ![0, if k0_t9.val / 8 = 4 then 0 else 1 + k0_t9.val % 4, 192 + 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off130 k0_t6 k0_t9) := ⟨_, k0_off130_eq k0_t6 k0_t9⟩
theorem k0_off132_eq : ∀ (k0_t6 : Fin k0_t6_loop.trips) (k0_t9 : Fin k0_t9_loop.trips), k0_off132 k0_t6 k0_t9 = ![1, if k0_t9.val / 8 = 4 then 0 else 1 + k0_t9.val % 4, 192 + 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off132 k0_t6 k0_t9) := ⟨_, k0_off132_eq k0_t6 k0_t9⟩
theorem k0_off134_eq : ∀ (k0_t6 : Fin k0_t6_loop.trips) (k0_t9 : Fin k0_t9_loop.trips), k0_off134 k0_t6 k0_t9 = ![2, if k0_t9.val / 8 = 4 then 0 else 1 + k0_t9.val % 4, 192 + 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off134 k0_t6 k0_t9) := ⟨_, k0_off134_eq k0_t6 k0_t9⟩
theorem k0_off136_eq : ∀ (k0_t6 : Fin k0_t6_loop.trips) (k0_t9 : Fin k0_t9_loop.trips), k0_off136 k0_t6 k0_t9 = ![0, if k0_t9.val / 8 = 4 then 0 else 1 + k0_t9.val % 4, 176 - 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off136 k0_t6 k0_t9) := ⟨_, k0_off136_eq k0_t6 k0_t9⟩
theorem k0_off138_eq : ∀ (k0_t6 : Fin k0_t6_loop.trips) (k0_t9 : Fin k0_t9_loop.trips), k0_off138 k0_t6 k0_t9 = ![1, if k0_t9.val / 8 = 4 then 0 else 1 + k0_t9.val % 4, 176 - 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off138 k0_t6 k0_t9) := ⟨_, k0_off138_eq k0_t6 k0_t9⟩
theorem k0_off140_eq : ∀ (k0_t6 : Fin k0_t6_loop.trips) (k0_t9 : Fin k0_t9_loop.trips), k0_off140 k0_t6 k0_t9 = ![2, if k0_t9.val / 8 = 4 then 0 else 1 + k0_t9.val % 4, 176 - 16 * k0_t6.val, 128 * (if k0_t9.val / 8 = 4 then 2 * (k0_t9.val % 4) + k0_t9.val % 8 / 4 else 2 * (k0_t9.val / 8) + k0_t9.val % 8 / 4)] := by decide +kernel
instance (k0_t6 : Fin k0_t6_loop.trips) (k0_t9 : Fin k0_t9_loop.trips) : ClosedOff (k0_off140 k0_t6 k0_t9) := ⟨_, k0_off140_eq k0_t6 k0_t9⟩
set_option warn.classDefReducibility false in
/-- Loop `k0_t9`: reads arg17; writes arg6. -/
@[sl_loop] noncomputable def loopInv_k0_t9 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec F S8x128 .f32) (v256_1 : FVec F S8x128 .f32) (v256_2 : FVec F S8x128 .f32) (v256_3 : FVec F S8x128 .f32) (v256_4 : FVec F S8x128 .f32) (v256_5 : FVec F S8x128 .f32) (v256_6 : FVec F S8x128 .f32) (v256_7 : FVec F S8x128 .f32) (v256_8 : FVec F S8x128 .f32) (v256_9 : FVec F S8x128 .f32) (v256_10 : FVec F S8x128 .f32) (v256_11 : FVec F S8x128 .f32) (v267 : FVec F S8x128 .f32) (v278 : FVec F S8x128 .f32) (v289 : FVec F S8x128 .f32) (k0_t6 : Fin k0_t6_loop.trips) (v401 : BitVec 32) (v404 : BitVec 32) (X17 : BufTy.Contents (Elt F) arg17.view.ty) :
    Cert.KernelIdeal.Gen.LoopInvTy_k0_t9 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 k0_t6 v401 v404 where
  inv := fun k acc => iprop((arg17.view.loc (c : Thread nD τ) ↦[arg17.view.set]{fullShare} X17) ∗ (∃ f, (arg6.view.loc (c : Thread nD τ) ↦[arg6.view.set]{fullShare} f)))
  step := fun k acc => by
    unfold k0_t9_body
    iintro ⟨H17, ⟨%f6, H6⟩⟩
    sl_exec
    sl_step
    isplitl [H17]; · iexact H17
    iexists _; iexact H6

end Cert.Proof.KernelIdeal

end
-- ==== Proof.KernelIdealT6.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealT7
public import proofs.«01_k».proof.Proof.KernelIdealT9
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- Loop `k0_t6`: reads arg9, arg11, arg12; writes arg6, arg10, arg13, arg14, arg15, arg17. -/
@[sl_loop] noncomputable def loopInv_k0_t6 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec F S8x128 .f32) (v256_1 : FVec F S8x128 .f32) (v256_2 : FVec F S8x128 .f32) (v256_3 : FVec F S8x128 .f32) (v256_4 : FVec F S8x128 .f32) (v256_5 : FVec F S8x128 .f32) (v256_6 : FVec F S8x128 .f32) (v256_7 : FVec F S8x128 .f32) (v256_8 : FVec F S8x128 .f32) (v256_9 : FVec F S8x128 .f32) (v256_10 : FVec F S8x128 .f32) (v256_11 : FVec F S8x128 .f32) (v267 : FVec F S8x128 .f32) (v278 : FVec F S8x128 .f32) (v289 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X9 : BufTy.Contents (Elt F) arg9.view.ty) (X11 : BufTy.Contents (Elt F) arg11.view.ty) (X12 : BufTy.Contents (Elt F) arg12.view.ty) :
    Cert.KernelIdeal.Gen.LoopInvTy_k0_t6 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 init where
  inv := fun k acc => iprop((arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ f, (arg6.view.loc (c : Thread nD τ) ↦[arg6.view.set]{fullShare} f)) ∗ (∃ f, (arg10.view.loc (c : Thread nD τ) ↦[arg10.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg17.view.loc (c : Thread nD τ) ↦[arg17.view.set]{fullShare} f)))
  step := fun k acc => by
    unfold k0_t6_body
    iintro ⟨H9, H11, H12, ⟨%f6, H6⟩, ⟨%f10, H10⟩, ⟨%f13, H13⟩, ⟨%f14, H14⟩, ⟨%f15, H15⟩, ⟨%f17, H17⟩⟩
    sl_exec
    sl_step
    isplitl [H9]; · iexact H9
    isplitl [H11]; · iexact H11
    isplitl [H12]; · iexact H12
    isplitl [H6]; · iexists _; iexact H6
    isplitl [H10]; · iexists _; iexact H10
    isplitl [H13]; · iexists _; iexact H13
    isplitl [H14]; · iexists _; iexact H14
    isplitl [H15]; · iexists _; iexact H15
    iexists _; iexact H17

end Cert.Proof.KernelIdeal

end
-- ==== Proof.KernelIdealT10.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- Loop `k0_t10`: reads arg10; writes arg16. -/
@[sl_loop] noncomputable def loopInv_k0_t10 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec F S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec F S8x128 .f32) (v256_1 : FVec F S8x128 .f32) (v256_2 : FVec F S8x128 .f32) (v256_3 : FVec F S8x128 .f32) (v256_4 : FVec F S8x128 .f32) (v256_5 : FVec F S8x128 .f32) (v256_6 : FVec F S8x128 .f32) (v256_7 : FVec F S8x128 .f32) (v256_8 : FVec F S8x128 .f32) (v256_9 : FVec F S8x128 .f32) (v256_10 : FVec F S8x128 .f32) (v256_11 : FVec F S8x128 .f32) (v267 : FVec F S8x128 .f32) (v278 : FVec F S8x128 .f32) (v289 : FVec F S8x128 .f32) (X10 : BufTy.Contents (Elt F) arg10.view.ty) :
    Cert.KernelIdeal.Gen.LoopInvTy_k0_t10 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 where
  inv := fun k acc => iprop((arg10.view.loc (c : Thread nD τ) ↦[arg10.view.set]{fullShare} X10) ∗ (∃ f, (arg16.view.loc (c : Thread nD τ) ↦[arg16.view.set]{fullShare} f)))
  step := fun k acc => by
    unfold k0_t10_body
    iintro ⟨H10, ⟨%f16, H16⟩⟩
    sl_exec
    sl_step
    isplitl [H10]; · iexact H10
    iexists _; iexact H16

end Cert.Proof.KernelIdeal

end
-- ==== Proof.KernelIdealFrame.lean ====
/-
  `KernelIdeal`: invariants of the kernel's counted loops, part of the frame proof. Every buffer a loop writes is held at SOME
  contents, every buffer it only reads at the contents it has at entry: nothing is said of values here.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealT1
public import proofs.«01_k».proof.Proof.KernelIdealT4
public import proofs.«01_k».proof.Proof.KernelIdealT6
public import proofs.«01_k».proof.Proof.KernelIdealT10
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)] (m : (ℓ : Loc nD τ sig) → Buf (Elt F) ℓ) (ρ : Dev nD → PrngReg)

/-- The kernel's triple for any continuation: from the inputs' memrefs at any contents and the rest at anything it runs to its
    return, hands the inputs back as they were and the rest at some contents. -/
theorem kernelRun (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (X0 : S3x384x2048.Idx → Elt F .fp8e4m3) (X1 : S3x384.Idx → Elt F .f32) (X2 : S2048x4096.Idx → Elt F .fp8e4m3) (X3 : S32x128.Idx → Elt F .f32) (X4 : S32x128.Idx → Elt F .f32) (K : PUnit → sProp 𝕄) :
    iprop(owns (c : Thread nD τ) arg0 fullShare X0
        ∗ owns (c : Thread nD τ) arg1 fullShare X1
        ∗ owns (c : Thread nD τ) arg2 fullShare X2
        ∗ owns (c : Thread nD τ) arg3 fullShare X3
        ∗ owns (c : Thread nD τ) arg4 fullShare X4
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (iprop(owns (c : Thread nD τ) arg0 fullShare X0
        ∗ owns (c : Thread nD τ) arg1 fullShare X1
        ∗ owns (c : Thread nD τ) arg2 fullShare X2
        ∗ owns (c : Thread nD τ) arg3 fullShare X3
        ∗ owns (c : Thread nD τ) arg4 fullShare X4
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)) -∗ K ⟨⟩))
      ⊢ wp frame (wpE (defs₀ (F := F)) Variants.none c none) Set.univ (cc0_crf arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_crf_eq_skeleton]; unfold cc0_crf_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec_parts
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

/-! ## The proof data and the body obligation -/

/-- The two output windows are FORGOTTEN: nothing here reads what the kernel leaves in them. -/
def forgets0 : Fin 7 → Bool := ![false, false, false, false, false, true, true]

/-- The proof data on core `c`: every array as the region finds it; the inputs' blocks left in place, the outputs unnamed; the
    scratch and the generator register at some contents; full shares; nothing owed. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem before_0 (c : Dev nD) (t : Fin cfg0.N) (d) : (dats m 0 c).before 0 t d = iblk m c 0 t :=
  before0_0_of m (dats m 0 c) (A_eq m c 0) (fun _ => rfl) t d
theorem after_0 (c : Dev nD) (t : Fin cfg0.N) : (dats m 0 c).after 0 t = iblk m c 0 t := rfl
theorem before_1 (c : Dev nD) (t : Fin cfg0.N) (d) : (dats m 0 c).before 1 t d = iblk m c 1 t :=
  before0_1_of m (dats m 0 c) (A_eq m c 1) (fun _ => rfl) t d
theorem after_1 (c : Dev nD) (t : Fin cfg0.N) : (dats m 0 c).after 1 t = iblk m c 1 t := rfl
theorem before_2 (c : Dev nD) (t : Fin cfg0.N) (d) : (dats m 0 c).before 2 t d = iblk m c 2 t :=
  before0_2_of m (dats m 0 c) (A_eq m c 2) (fun _ => rfl) t d
theorem after_2 (c : Dev nD) (t : Fin cfg0.N) : (dats m 0 c).after 2 t = iblk m c 2 t := rfl
theorem before_3 (c : Dev nD) (t : Fin cfg0.N) (d) : (dats m 0 c).before 3 t d = iblk m c 3 t :=
  before0_3_of m (dats m 0 c) (A_eq m c 3) (fun _ => rfl) t d
theorem after_3 (c : Dev nD) (t : Fin cfg0.N) : (dats m 0 c).after 3 t = iblk m c 3 t := rfl
theorem before_4 (c : Dev nD) (t : Fin cfg0.N) (d) : (dats m 0 c).before 4 t d = iblk m c 4 t :=
  before0_4_of m (dats m 0 c) (A_eq m c 4) (fun _ => rfl) t d
theorem after_4 (c : Dev nD) (t : Fin cfg0.N) : (dats m 0 c).after 4 t = iblk m c 4 t := rfl

theorem Phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare d)
    ∗ (∃ d, owns (c : Thread nD τ) (win0_6.stage (cfg0.slots t 6)) fullShare d))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ d, owns (c : Thread nD τ) (win0_5.stage (cfg0.slots t 5)) fullShare d)
    ∗ (∃ d, owns (c : Thread nD τ) (win0_6.stage (cfg0.slots t 6)) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨⟨S0, S1, S2, S3, S4, S5, S6, S7, S8, S9, S10⟩, Hg⟩, Ho, ⟨%d0, H0⟩, ⟨%d1, H1⟩, ⟨%d2, H2⟩, ⟨%d3, H3⟩, ⟨%d4, H4⟩, H5, H6⟩
  iapply (kernelRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) :
    Pipeline.BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters every weakly fair execution of @main terminates; every array no window stages ends as the
    region found it, every input array too, and every semaphore counter ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the run terminates, every argument array ends unchanged and every semaphore counter at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((congrFun (((dats m 0 c).toRForget forgets0).ArrAt_in 2 rfl _) _).mp ((h.1 c).1 2)).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Proof.KernelIdeal

end
-- ==== Proof.ValSpec.lean ====
/-
  The forward recursion over real numbers, in the layout of the kernel's vectors, free of any program.
-/
module

public import Idealize.ShloMosaic.Lib.Pointwise
public import Idealize.ShloMosaic.Init
public import Mathlib.Analysis.SpecialFunctions.Exp

@[expose] public section

noncomputable section

namespace Cert.Proof.Spec

open Idealize.ShloMosaic

/-- A block of 8 × 128 real numbers. -/
abbrev Blk : Type := Fin 8 → Fin 128 → ℝ

/-- The vector `v` holds the real block `a`. -/
def IsV (v : FVec Ideal (⟨2, ![8, 128]⟩ : Shape) .f32) (a : Blk) : Prop := ∀ r l, v (ix2 r l) = ((a r l : ℝ) : EReal)

/-- Where the shifted lane of position `(r, l)` lies. -/
def srcLane (r : Fin 8) (l : Fin 128) : Fin 128 := ⟨64 * (r.val % 2) + 32 * (r.val / 4) + l.val / 4, by omega⟩
/-- The plane of factors that position `(r, l)` takes. -/
def plane (r : Fin 8) (l : Fin 128) : Fin 4 := ⟨2 * (r.val / 2 % 2) + l.val / 2 % 2, by omega⟩
/-- The row of the factor of the `j`-th predecessor of `(r, l)`. -/
def facRow (l : Fin 128) (j : Fin 4) : Fin 8 := ⟨4 * (l.val % 2) + j.val, by omega⟩
/-- The row of the `j`-th predecessor of `(r, l)`. -/
def preRow (r : Fin 8) (j : Fin 4) : Fin 8 := ⟨4 * (r.val / 2 % 2) + j.val, by omega⟩

/-- One step of the forward recursion under the factors `w`. -/
def up (w : Fin 4 → Blk) (a : Blk) : Blk := fun r l =>
  Real.exp 2 * a r l + ∑ j : Fin 4, w (plane r l) (facRow l j) (srcLane r l) * a (preRow r j) (srcLane r l)

/-- The forward recursion from the block of ones. -/
def al (W : ℕ → Fin 4 → Blk) : ℕ → Blk
  | 0 => fun _ _ => 1
  | t + 1 => up (W t) (al W t)

theorem up_smul (w : Fin 4 → Blk) (c : ℝ) (a : Blk) : up w (fun r l => c * a r l) = fun r l => c * up w a r l := by
  funext r l
  simp only [up, mul_add, Finset.mul_sum]
  congr 1
  · ring
  · exact Finset.sum_congr rfl fun j _ => by ring

theorem up_pos {w : Fin 4 → Blk} {a : Blk} (hw : ∀ o r l, 0 < w o r l) (ha : ∀ r l, 0 < a r l) (r : Fin 8) (l : Fin 128) :
    0 < up w a r l := by
  unfold up
  have h1 : 0 < Real.exp 2 * a r l := mul_pos (Real.exp_pos _) (ha r l)
  have h2 : 0 ≤ ∑ j : Fin 4, w (plane r l) (facRow l j) (srcLane r l) * a (preRow r j) (srcLane r l) :=
    Finset.sum_nonneg fun j _ => (mul_pos (hw _ _ _) (ha _ _)).le
  linarith

theorem al_pos {W : ℕ → Fin 4 → Blk} (hW : ∀ t o r l, 0 < W t o r l) (t : ℕ) (r : Fin 8) (l : Fin 128) : 0 < al W t r l := by
  induction t generalizing r l with
  | zero => exact one_pos
  | succ t ih => exact up_pos (hW t) ih r l

/-- The total of a block. -/
def tot (a : Blk) : ℝ := ∑ r : Fin 8, ∑ l : Fin 128, a r l

theorem tot_pos {a : Blk} (ha : ∀ r l, 0 < a r l) : 0 < tot a :=
  Finset.sum_pos (fun r _ => Finset.sum_pos (fun l _ => ha r l) ⟨0, Finset.mem_univ _⟩) ⟨0, Finset.mem_univ _⟩

theorem tot_smul (c : ℝ) (a : Blk) : tot (fun r l => c * a r l) = c * tot a := by
  simp only [tot, Finset.mul_sum]

/-- The factor that brings a total `x` back near `2 ^ (-48)`, by the literals `m` and `c` of the program: `2 ^ (m - ⌊log x · c⌋)`. -/
def resc (m c : ℝ) (x : ℝ) : ℝ := Real.rpow 2 (m - (⌊Real.log x * c⌋ : ℤ))

theorem resc_pos (m c x : ℝ) : 0 < resc m c x := Real.rpow_pos_of_pos two_pos _

/-- Before block `k`: the scale the block inherits, and the factor it applies on entry. -/
def KR (m c : ℝ) (W : ℕ → Fin 4 → Blk) : ℕ → ℝ × ℝ
  | 0 => (1, 1)
  | k + 1 => ((KR m c W k).1 * (KR m c W k).2, resc m c ((KR m c W k).1 * (KR m c W k).2 * tot (al W (8 * k))))

/-- The scale of block `k`. -/
def kap (m c : ℝ) (W : ℕ → Fin 4 → Blk) (k : ℕ) : ℝ := (KR m c W k).1 * (KR m c W k).2

theorem KR_pos (m c : ℝ) (W : ℕ → Fin 4 → Blk) (k : ℕ) : 0 < (KR m c W k).1 ∧ 0 < (KR m c W k).2 := by
  induction k with
  | zero => exact ⟨one_pos, one_pos⟩
  | succ k ih => exact ⟨mul_pos ih.1 ih.2, resc_pos _ _ _⟩

theorem kap_pos (m c : ℝ) (W : ℕ → Fin 4 → Blk) (k : ℕ) : 0 < kap m c W k := mul_pos (KR_pos m c W k).1 (KR_pos m c W k).2

end Cert.Proof.Spec

end
-- ==== Proof.ValStep.lean ====
/-
  One step of the forward recursion, as the kernel's vector operations compute it.
-/
module

public import proofs.«01_k».proof.Proof.ValSpec
public import proofs.«01_k».proof.Proof.Gen.KernelIdeal

@[expose] public section

noncomputable section

namespace Cert.Proof.KernelIdeal.Val

open Idealize.ShloMosaic Cert.KernelIdeal Cert.Proof.Spec

/-- The index vectors of the forward step, read at a position. -/
structure FIx (v5 : FVec Ideal S8x128 .f32) (v17 v21 : IVec S8x128 1) (v27 v29 v31 v33 v46 v52 v67 : IVec S8x128 32) : Prop where
  stay : IsV v5 fun _ _ => Real.exp 2
  row0 : ∀ (r : Fin 8) (l : Fin 128), v17 (ix2 r l) = if r.val % 2 = 0 then 1#1 else 0#1
  row1 : ∀ (r : Fin 8) (l : Fin 128), v21 (ix2 r l) = if r.val / 2 % 2 = 0 then 1#1 else 0#1
  xor1 : ∀ (r : Fin 8) (l : Fin 128), (v27 (ix2 r l)).toNat % 8 = r.val + 1 - 2 * (r.val % 2)
  xor2 : ∀ (r : Fin 8) (l : Fin 128), (v29 (ix2 r l)).toNat % 8 = r.val + 2 - 4 * (r.val / 2 % 2)
  rep0 : ∀ (r : Fin 8) (l : Fin 128), (v31 (ix2 r l)).toNat % 8 = r.val % 4
  rep1 : ∀ (r : Fin 8) (l : Fin 128), (v33 (ix2 r l)).toNat % 8 = 4 + r.val % 4
  fin : ∀ (r : Fin 8) (l : Fin 128), (v46 (ix2 r l)).toNat % 8
    = 4 * ((r.val % 4 ^^^ l.val / 32) % 2) + 2 * (r.val / 4) + (r.val % 4 ^^^ l.val / 32) / 2
  flane : ∀ (r : Fin 8) (l : Fin 128), (v52 (ix2 r l)).toNat % 128 = (r.val % 4 ^^^ l.val % 4) * 32 + l.val / 4
  fout : ∀ (r : Fin 8) (l : Fin 128), (v67 (ix2 r l)).toNat % 8 = 4 * (r.val % 4 / 2) + (l.val % 4 ^^^ (2 * (r.val % 2) + r.val / 4))

/-- A gather along the rows, its index vector passed through a cast to a column and back. -/
theorem gather0 {α : Type} (x : S8x128.Idx → α) (idx : IVec S8x128 32) (h h') (r : Fin 8) (l : Fin 128) (r' : Fin 8)
    (e : (idx (ix2 r l)).toNat % 8 = r'.val) :
    dynamicGather (s := S8x128) 0 x (shapeCast S8x128 (shapeCast S8x128x1 idx h) h') (ix2 r l) = x (ix2 r' l) := by
  rw [shapeCast_shapeCast]
  rw [dynamicGather_apply]
  congr 1
  funext b
  match b with
  | ⟨0, _⟩ => exact Fin.ext e
  | ⟨1, _⟩ => rfl

/-- The same along the lanes. -/
theorem gather1 {α : Type} (x : S8x128.Idx → α) (idx : IVec S8x128 32) (h h') (r : Fin 8) (l l' : Fin 128)
    (e : (idx (ix2 r l)).toNat % 128 = l'.val) :
    dynamicGather (s := S8x128) 1 x (shapeCast S8x128 (shapeCast S8x128x1 idx h) h') (ix2 r l) = x (ix2 r l') := by
  rw [shapeCast_shapeCast]
  rw [dynamicGather_apply]
  congr 1
  funext b
  match b with
  | ⟨0, _⟩ => rfl
  | ⟨1, _⟩ => exact Fin.ext e

/-- The row gather and the lane gather with the cast of the index vector, as the program writes them. -/
abbrev rows (x : FVec Ideal S8x128 .f32) (idx : IVec S8x128 32) : FVec Ideal S8x128 .f32 :=
  dynamicGather (s := S8x128) 0 x (shapeCast S8x128 (shapeCast S8x128x1 idx Cert.KernelIdeal.Gen.shapeCasts_S8x128_S8x128x1) Cert.KernelIdeal.Gen.shapeCasts_S8x128x1_S8x128)
abbrev lanes (x : FVec Ideal S8x128 .f32) (idx : IVec S8x128 32) : FVec Ideal S8x128 .f32 :=
  dynamicGather (s := S8x128) 1 x (shapeCast S8x128 (shapeCast S8x128x1 idx Cert.KernelIdeal.Gen.shapeCasts_S8x128_S8x128x1) Cert.KernelIdeal.Gen.shapeCasts_S8x128x1_S8x128)

/-- The sum over the four predecessors, before it is brought to its place. -/
def phi (v17 v21 : IVec S8x128 1) (v27 v29 v31 v33 : IVec S8x128 32) (a e0 e1 e2 e3 : FVec Ideal S8x128 .f32) : FVec Ideal S8x128 .f32 :=
  addf
    (select v17
      (addf (select v21 (mulf e0 (rows a v31)) (mulf e2 (rows a v33))) (rows (select v21 (mulf e2 (rows a v33)) (mulf e0 (rows a v31))) v29))
      (addf (select v21 (mulf e1 (rows a v31)) (mulf e3 (rows a v33))) (rows (select v21 (mulf e3 (rows a v33)) (mulf e1 (rows a v31))) v29)))
    (rows (select v17
      (addf (select v21 (mulf e1 (rows a v31)) (mulf e3 (rows a v33))) (rows (select v21 (mulf e3 (rows a v33)) (mulf e1 (rows a v31))) v29))
      (addf (select v21 (mulf e0 (rows a v31)) (mulf e2 (rows a v33))) (rows (select v21 (mulf e2 (rows a v33)) (mulf e0 (rows a v31))) v29)))
      v27)

/-- The step. -/
def fstep (v5 : FVec Ideal S8x128 .f32) (v17 v21 : IVec S8x128 1) (v27 v29 v31 v33 v46 v52 v67 : IVec S8x128 32)
    (a e0 e1 e2 e3 : FVec Ideal S8x128 .f32) : FVec Ideal S8x128 .f32 :=
  addf (mulf v5 a) (rows (lanes (rows (phi v17 v21 v27 v29 v31 v33 a e0 e1 e2 e3) v46) v52) v67)

variable {v5 : FVec Ideal S8x128 .f32} {v17 v21 : IVec S8x128 1} {v27 v29 v31 v33 v46 v52 v67 : IVec S8x128 32}

theorem mulf_isV {x y : FVec Ideal S8x128 .f32} {a b : ℝ} {r : Fin 8} {l : Fin 128} (hx : x (ix2 r l) = (a : EReal)) (hy : y (ix2 r l) = (b : EReal)) :
    mulf x y (ix2 r l) = ((a * b : ℝ) : EReal) := by
  rw [mulf_apply, hx, hy]; exact (EReal.coe_mul a b).symm

theorem addf_isV {x y : FVec Ideal S8x128 .f32} {a b : ℝ} {r : Fin 8} {l : Fin 128} (hx : x (ix2 r l) = (a : EReal)) (hy : y (ix2 r l) = (b : EReal)) :
    addf x y (ix2 r l) = ((a + b : ℝ) : EReal) := by
  rw [addf_apply, hx, hy]; exact (EReal.coe_add a b).symm

theorem sel_isV {c : IVec S8x128 1} {x y : FVec Ideal S8x128 .f32} {a b : ℝ} {i : S8x128.Idx} {p : Prop} [Decidable p]
    (h : c i = if p then 1#1 else 0#1) (hx : x i = (a : EReal)) (hy : y i = (b : EReal)) :
    select c x y i = ((if p then a else b : ℝ) : EReal) := by
  show Scalar.select (c i) (x i) (y i) = _
  rw [h, hx, hy]; split_ifs <;> rfl

/-- A pair of products at a row, by the second bit of the row. -/
theorem pair_at (H : FIx v5 v17 v21 v27 v29 v31 v33 v46 v52 v67) {x y : FVec Ideal S8x128 .f32} {a b : Blk} (hx : IsV x a) (hy : IsV y b)
    (r : Fin 8) (l : Fin 128) (r' : Fin 8) (hr : r.val + 2 - 4 * (r.val / 2 % 2) = r'.val) :
    addf (select v21 x y) (rows (select v21 y x) v29) (ix2 r l)
      = (((if r.val / 2 % 2 = 0 then a r l else b r l) + (if r'.val / 2 % 2 = 0 then b r' l else a r' l) : ℝ) : EReal) := by
  refine addf_isV (sel_isV (H.row1 r l) (hx r l) (hy r l)) ?_
  rw [rows, gather0 _ _ _ _ r l r' (by rw [H.xor2, hr])]
  exact sel_isV (H.row1 r' l) (hy r' l) (hx r' l)

theorem rep_at (H : FIx v5 v17 v21 v27 v29 v31 v33 v46 v52 v67) {x a : FVec Ideal S8x128 .f32} {w b : Blk} (hx : IsV x w) (ha : IsV a b) :
    IsV (mulf x (rows a v31)) (fun r l => w r l * b ⟨r.val % 4, by omega⟩ l)
    ∧ IsV (mulf x (rows a v33)) (fun r l => w r l * b ⟨4 + r.val % 4, by omega⟩ l) :=
  ⟨fun r l => mulf_isV (hx r l) (by rw [rows, gather0 _ _ _ _ r l ⟨r.val % 4, by omega⟩ (H.rep0 r l)]; exact ha _ _),
   fun r l => mulf_isV (hx r l) (by rw [rows, gather0 _ _ _ _ r l ⟨4 + r.val % 4, by omega⟩ (H.rep1 r l)]; exact ha _ _)⟩

theorem phi_isV (H : FIx v5 v17 v21 v27 v29 v31 v33 v46 v52 v67) {a e0 e1 e2 e3 : FVec Ideal S8x128 .f32} {b : Blk} {w : Fin 4 → Blk}
    (ha : IsV a b) (h0 : IsV e0 (w 0)) (h1 : IsV e1 (w 1)) (h2 : IsV e2 (w 2)) (h3 : IsV e3 (w 3)) :
    IsV (phi v17 v21 v27 v29 v31 v33 a e0 e1 e2 e3) (fun r l =>
      ∑ j : Fin 4, w ⟨2 * (r.val / 2 % 2) + r.val % 2, by omega⟩ ⟨4 * (r.val / 4) + j.val, by omega⟩ l * b ⟨4 * (r.val / 2 % 2) + j.val, by omega⟩ l) := by
  intro r l
  have P0 := pair_at H (rep_at H h0 ha).1 (rep_at H h2 ha).2
  have P1 := pair_at H (rep_at H h1 ha).1 (rep_at H h3 ha).2
  have hr : ∀ r : Fin 8, r = 0 ∨ r = 1 ∨ r = 2 ∨ r = 3 ∨ r = 4 ∨ r = 5 ∨ r = 6 ∨ r = 7 := by decide
  unfold phi
  refine (addf_isV (sel_isV (H.row0 r l) (P0 r l ⟨r.val + 2 - 4 * (r.val / 2 % 2), by omega⟩ rfl) (P1 r l ⟨r.val + 2 - 4 * (r.val / 2 % 2), by omega⟩ rfl))
    ((gather0 _ _ _ _ r l ⟨r.val + 1 - 2 * (r.val % 2), by omega⟩ (H.xor1 r l)).trans (sel_isV (H.row0 ⟨r.val + 1 - 2 * (r.val % 2), by omega⟩ l)
      (P1 ⟨r.val + 1 - 2 * (r.val % 2), by omega⟩ l ⟨(r.val + 1 - 2 * (r.val % 2)) + 2 - 4 * ((r.val + 1 - 2 * (r.val % 2)) / 2 % 2), by omega⟩ rfl)
      (P0 ⟨r.val + 1 - 2 * (r.val % 2), by omega⟩ l ⟨(r.val + 1 - 2 * (r.val % 2)) + 2 - 4 * ((r.val + 1 - 2 * (r.val % 2)) / 2 % 2), by omega⟩ rfl)))).trans ?_
  congr 1
  clear P0 P1
  dsimp only
  rw [Fin.sum_univ_four]
  rcases hr r with rfl | rfl | rfl | rfl | rfl | rfl | rfl | rfl
  · show (w 0 0 l * b 0 l + w 0 2 l * b 2 l) + (w 0 1 l * b 1 l + w 0 3 l * b 3 l) = w 0 0 l * b 0 l + w 0 1 l * b 1 l + w 0 2 l * b 2 l + w 0 3 l * b 3 l
    ring
  · show (w 1 1 l * b 1 l + w 1 3 l * b 3 l) + (w 1 0 l * b 0 l + w 1 2 l * b 2 l) = w 1 0 l * b 0 l + w 1 1 l * b 1 l + w 1 2 l * b 2 l + w 1 3 l * b 3 l
    ring
  · show (w 2 2 l * b 6 l + w 2 0 l * b 4 l) + (w 2 3 l * b 7 l + w 2 1 l * b 5 l) = w 2 0 l * b 4 l + w 2 1 l * b 5 l + w 2 2 l * b 6 l + w 2 3 l * b 7 l
    ring
  · show (w 3 3 l * b 7 l + w 3 1 l * b 5 l) + (w 3 2 l * b 6 l + w 3 0 l * b 4 l) = w 3 0 l * b 4 l + w 3 1 l * b 5 l + w 3 2 l * b 6 l + w 3 3 l * b 7 l
    ring
  · show (w 0 4 l * b 0 l + w 0 6 l * b 2 l) + (w 0 5 l * b 1 l + w 0 7 l * b 3 l) = w 0 4 l * b 0 l + w 0 5 l * b 1 l + w 0 6 l * b 2 l + w 0 7 l * b 3 l
    ring
  · show (w 1 5 l * b 1 l + w 1 7 l * b 3 l) + (w 1 4 l * b 0 l + w 1 6 l * b 2 l) = w 1 4 l * b 0 l + w 1 5 l * b 1 l + w 1 6 l * b 2 l + w 1 7 l * b 3 l
    ring
  · show (w 2 6 l * b 6 l + w 2 4 l * b 4 l) + (w 2 7 l * b 7 l + w 2 5 l * b 5 l) = w 2 4 l * b 4 l + w 2 5 l * b 5 l + w 2 6 l * b 6 l + w 2 7 l * b 7 l
    ring
  · show (w 3 7 l * b 7 l + w 3 5 l * b 5 l) + (w 3 6 l * b 6 l + w 3 4 l * b 4 l) = w 3 4 l * b 4 l + w 3 5 l * b 5 l + w 3 6 l * b 6 l + w 3 7 l * b 7 l
    ring

theorem place : ∀ (r : Fin 8) (l : Fin 128), ∃ (ro : Fin 8) (li : Fin 128) (ri : Fin 8),
    4 * (r.val % 4 / 2) + (l.val % 4 ^^^ (2 * (r.val % 2) + r.val / 4)) = ro.val
    ∧ (ro.val % 4 ^^^ l.val % 4) * 32 + l.val / 4 = li.val
    ∧ 4 * ((ro.val % 4 ^^^ li.val / 32) % 2) + 2 * (ro.val / 4) + (ro.val % 4 ^^^ li.val / 32) / 2 = ri.val
    ∧ li = srcLane r l ∧ ri.val = 4 * (l.val % 2) + 2 * (r.val / 2 % 2) + l.val / 2 % 2 := by
  have h : ∀ (r : Fin 8) (l : Fin 128),
    (4 * (r.val % 4 / 2) + (l.val % 4 ^^^ (2 * (r.val % 2) + r.val / 4)) < 8)
    ∧ ((4 * (r.val % 4 / 2) + (l.val % 4 ^^^ (2 * (r.val % 2) + r.val / 4))) % 4 ^^^ l.val % 4) * 32 + l.val / 4 = (srcLane r l).val
    ∧ 4 * (((4 * (r.val % 4 / 2) + (l.val % 4 ^^^ (2 * (r.val % 2) + r.val / 4))) % 4 ^^^ (srcLane r l).val / 32) % 2)
      + 2 * ((4 * (r.val % 4 / 2) + (l.val % 4 ^^^ (2 * (r.val % 2) + r.val / 4))) / 4)
      + ((4 * (r.val % 4 / 2) + (l.val % 4 ^^^ (2 * (r.val % 2) + r.val / 4))) % 4 ^^^ (srcLane r l).val / 32) / 2
      = 4 * (l.val % 2) + 2 * (r.val / 2 % 2) + l.val / 2 % 2 := by decide +kernel
  intro r l
  obtain ⟨a, b, c⟩ := h r l
  exact ⟨⟨_, a⟩, srcLane r l, ⟨4 * (l.val % 2) + 2 * (r.val / 2 % 2) + l.val / 2 % 2, by omega⟩, rfl, b, c, rfl, rfl⟩

theorem bits3 {n a b c : ℕ} (ha : a < 2) (hb : b < 2) (hc : c < 2) (h : n = 4 * a + 2 * b + c) : n / 2 % 2 = b ∧ n % 2 = c ∧ n / 4 = a := by
  omega

/-- THE STEP: from a scaled block to the scaled successor. -/
theorem fstep_isV (H : FIx v5 v17 v21 v27 v29 v31 v33 v46 v52 v67) {a e0 e1 e2 e3 : FVec Ideal S8x128 .f32} {b : Blk} {w : Fin 4 → Blk}
    (ha : IsV a b) (h0 : IsV e0 (w 0)) (h1 : IsV e1 (w 1)) (h2 : IsV e2 (w 2)) (h3 : IsV e3 (w 3)) :
    IsV (fstep v5 v17 v21 v27 v29 v31 v33 v46 v52 v67 a e0 e1 e2 e3) (up w b) := by
  intro r l
  obtain ⟨ro, li, ri, ho, hl, hi, hs, hr⟩ := place r l
  refine addf_isV (mulf_isV (H.stay r l) (ha r l)) ?_
  rw [rows, gather0 _ _ _ _ r l ro (by rw [H.fout]; exact ho), lanes, gather1 _ _ _ _ ro l li (by rw [H.flane]; exact hl),
    rows, gather0 _ _ _ _ ro li ri (by rw [H.fin]; exact hi), phi_isV H ha h0 h1 h2 h3]
  subst hs
  clear ho hl hi
  obtain ⟨q1, q2, q3⟩ := bits3 (Nat.mod_lt _ two_pos) (Nat.mod_lt _ two_pos) (Nat.mod_lt _ two_pos) hr
  have e1 : (⟨2 * (ri.val / 2 % 2) + ri.val % 2, by omega⟩ : Fin 4) = plane r l := Fin.ext (by show _ = 2 * (r.val / 2 % 2) + l.val / 2 % 2; simp only [q1, q2])
  have e2 : ∀ j : Fin 4, (⟨4 * (ri.val / 4) + j.val, by omega⟩ : Fin 8) = facRow l j := fun j => Fin.ext (by show _ = 4 * (l.val % 2) + j.val; simp only [q1, q3])
  have e3 : ∀ j : Fin 4, (⟨4 * (ri.val / 2 % 2) + j.val, by omega⟩ : Fin 8) = preRow r j := fun j => Fin.ext (by show _ = 4 * (r.val / 2 % 2) + j.val; simp only [q1, q3])
  exact congrArg _ (Finset.sum_congr rfl fun j _ => by rw [e1, e2, e3])

end Cert.Proof.KernelIdeal.Val

end
-- ==== Proof.ValMem.lean ====
/-
  Reading and writing the blocks of the chains in memory.
-/
module

public import proofs.«01_k».proof.Defs
public import proofs.«01_k».proof.Proof.ValStep
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import Idealize.ShloMosaic.Lib.WritesUnit

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

/-- The rows of `alpha_h` written before step `N` hold the scaled recursion. -/
def A10 (W : Fin 3 → ℕ → Fin 4 → Blk) (κ : Fin 3 → ℕ → ℝ) (N : ℕ) (x : S392x3x8x128.Idx → EReal) : Prop :=
  ∀ (t : Fin 392) (b : Fin 3) (r : Fin 8) (l : Fin 128), t.val < N → x (ix4 t b r l) = ((κ b (t.val / 8) * al (W b) t.val r l : ℝ) : EReal)

/-- The first position of group `g` of chunk `t1`. -/
def rowOf (t1 g : ℕ) : ℕ := 32 * t1 + g / 2 % 2 * (352 - 64 * t1) + 16 * (g % 2)

/-- What is done of chunk `t1` before pass `k` of its unpacking. -/
def Done (t1 k : ℕ) (t b o : ℕ) : Prop :=
  (t < 32 * t1 ∨ 384 ≤ t + 32 * t1) ∨ ∃ m, m < k ∧ b = m / 32 ∧ (t = rowOf t1 (m / 8) + m % 8 ∨ t = rowOf t1 (m / 8) + m % 8 + 8)

/-- The factors. -/
def E9 (W : Fin 3 → ℕ → Fin 4 → Blk) (x : S384x3x4x8x128.Idx → EReal) : Prop :=
  ∀ (t : Fin 384) (b : Fin 3) (o : Fin 4) (r : Fin 8) (l : Fin 128), Done (Scf.trips k0_t1_loop.lb k0_t1_loop.ub k0_t1_loop.st) 0 t.val b.val o.val →
    x (ix5 t b o r l) = ((W b t.val o r l : ℝ) : EReal)

theorem done_end (t b o : ℕ) : Done (Scf.trips k0_t1_loop.lb k0_t1_loop.ub k0_t1_loop.st) 0 t b o := by
  have h : Scf.trips k0_t1_loop.lb k0_t1_loop.ub k0_t1_loop.st = 6 := by decide
  rw [h]; exact Or.inl (by omega)

/-- The carried vectors of the first three chains at step `N`. -/
def Acc (W : Fin 3 → ℕ → Fin 4 → Blk) (κ : Fin 3 → ℝ) (N : ℕ) (a0 a1 a2 : FVec Ideal S8x128 .f32) : Prop :=
  IsV a0 (fun r l => κ 0 * al (W 0) N r l) ∧ IsV a1 (fun r l => κ 1 * al (W 1) N r l) ∧ IsV a2 (fun r l => κ 2 * al (W 2) N r l)

/-- The step of the scaled recursion. -/
theorem fstep_al {v5 : FVec Ideal S8x128 .f32} {v17 v21 : IVec S8x128 1} {v27 v29 v31 v33 v46 v52 v67 : IVec S8x128 32}
    (H : FIx v5 v17 v21 v27 v29 v31 v33 v46 v52 v67) {a e0 e1 e2 e3 : FVec Ideal S8x128 .f32} {W : ℕ → Fin 4 → Blk} {κ : ℝ} {N : ℕ}
    (ha : IsV a (fun r l => κ * al W N r l)) (h0 : IsV e0 (W N 0)) (h1 : IsV e1 (W N 1)) (h2 : IsV e2 (W N 2)) (h3 : IsV e3 (W N 3)) :
    IsV (fstep v5 v17 v21 v27 v29 v31 v33 v46 v52 v67 a e0 e1 e2 e3) (fun r l => κ * al W (N + 1) r l) := by
  have h := fstep_isV (w := W N) H ha h0 h1 h2 h3
  rw [up_smul] at h
  exact h

/-- A load of one plane of factors. -/
theorem ld9 {arg9 : Memref sig .tc .vmem S384x3x4x8x128 .f32} {W : Fin 3 → ℕ → Fin 4 → Blk} {X9 : BufTy.Contents (Elt Ideal) arg9.view.ty}
    (hE : E9 W (arg9.view.read (Elt Ideal) X9)) {off : Fin 5 → ℕ} (inb : ∀ a, off a + S1x1x1x8x128.size a ≤ S384x3x4x8x128.size a)
    (h : S1x1x1x8x128.ShapeCasts S8x128) (t : ℕ) (ht : t < 384) (b : Fin 3) (o : Fin 4) (heq : off = ![t, b.val, o.val, 0, 0]) :
    IsV (shapeCast S8x128 (View.readAt (Elt Ideal) arg9.view (Rect.unit (s := S384x3x4x8x128) off S1x1x1x8x128.size inb).toLoadRect X9) h) (W b t o) := by
  subst heq
  intro r l
  refine (shapeCast_apply _ _ _ (ix5 (0 : Fin 1) (0 : Fin 1) (0 : Fin 1) r l) ?_).trans ?_
  · rw [Shape.rowMajor_val_five, Shape.rowMajor_val_two]
    show (((0 * 1 + 0) * 1 + 0) * 8 + r.val) * 128 + l.val = r.val * 128 + l.val
    omega
  · rw [View.readAt_apply]
    refine Eq.trans ?_ (hE ⟨t, ht⟩ b o r l (done_end _ _ _))
    congr 1
    funext a
    match a with
    | ⟨0, _⟩ => exact Fin.ext (by show t + 1 * 0 = t; omega)
    | ⟨1, _⟩ => exact Fin.ext (by show b.val + 1 * 0 = b.val; omega)
    | ⟨2, _⟩ => exact Fin.ext (by show o.val + 1 * 0 = o.val; omega)
    | ⟨3, _⟩ => exact Fin.ext (by show 0 + 1 * r.val = r.val; omega)
    | ⟨4, _⟩ => exact Fin.ext (by show 0 + 1 * l.val = l.val; omega)

/-- A block cast to its place in memory, read at its position. -/
theorem cast4 {α : Type} (x : S8x128.Idx → α) (h : S8x128.ShapeCasts S1x1x8x128) (r : Fin 8) (l : Fin 128) :
    shapeCast S1x1x8x128 x h (ix4 (0 : Fin 1) (0 : Fin 1) r l) = x (ix2 r l) := by
  refine shapeCast_apply _ _ _ (ix2 r l) ?_
  rw [Shape.rowMajor_val_four, Shape.rowMajor_val_two]
  show r.val * 128 + l.val = ((0 * 1 + 0) * 8 + r.val) * 128 + l.val
  omega

/-- Storing the three blocks of step `N`. -/
theorem upd10 {arg10 : Memref sig .tc .vmem S392x3x8x128 .f32} {W : Fin 3 → ℕ → Fin 4 → Blk} {κ : Fin 3 → ℕ → ℝ} {N : ℕ} (hN : N < 392)
    (f : BufTy.Contents (Elt Ideal) arg10.view.ty) (h : A10 W κ N (arg10.view.read (Elt Ideal) f))
    {off0 off1 off2 : Fin 4 → ℕ} (i0 : ∀ a, off0 a + S1x1x8x128.size a ≤ S392x3x8x128.size a)
    (i1 : ∀ a, off1 a + S1x1x8x128.size a ≤ S392x3x8x128.size a) (i2 : ∀ a, off2 a + S1x1x8x128.size a ≤ S392x3x8x128.size a)
    (e0 : off0 = ![N, 0, 0, 0]) (e1 : off1 = ![N, 1, 0, 0]) (e2 : off2 = ![N, 2, 0, 0])
    {a0 a1 a2 : FVec Ideal S8x128 .f32} (c0 c1 c2 : S8x128.ShapeCasts S1x1x8x128) {k : ℕ} (hk : N / 8 = k)
    (ha : Acc W (fun b => κ b k) N a0 a1 a2) :
    A10 W κ (N + 1) (arg10.view.read (Elt Ideal) (arg10.view.writes (Elt Ideal) f
      [⟨Rect.unit off2 S1x1x8x128.size i2, shapeCast S1x1x8x128 a2 c2⟩, ⟨Rect.unit off1 S1x1x8x128.size i1, shapeCast S1x1x8x128 a1 c1⟩,
        ⟨Rect.unit off0 S1x1x8x128.size i0, shapeCast S1x1x8x128 a0 c0⟩])) := by
  subst e0 e1 e2 hk
  intro t b r l ht
  by_cases hlt : t.val < N
  · refine Eq.trans ?_ (h t b r l hlt)
    rw [View.read_writes_cons_unit_of_not_mem _ _ i2 _ _ _ rfl 0 (Or.inl hlt), View.read_writes_cons_unit_of_not_mem _ _ i1 _ _ _ rfl 0 (Or.inl hlt),
      View.read_writes_cons_unit_of_not_mem _ _ i0 _ _ _ rfl 0 (Or.inl hlt)]
    rfl
  · have hEq : t = ⟨N, hN⟩ := Fin.ext (by show t.val = N; omega)
    subst hEq
    have hb : b = 0 ∨ b = 1 ∨ b = 2 := by omega
    have mm : ∀ (b : Fin 3) (q : Fin 4), ((ix4 (⟨N, hN⟩ : Fin 392) b r l : S392x3x8x128.Idx) q).val
        = (![N, b.val, 0, 0] : Fin 4 → ℕ) q + ((ix4 (0 : Fin 1) (0 : Fin 1) r l : S1x1x8x128.Idx) q).val := by
      intro b q
      match q with
      | ⟨0, _⟩ => rfl
      | ⟨1, _⟩ => rfl
      | ⟨2, _⟩ => exact (Nat.zero_add _).symm
      | ⟨3, _⟩ => exact (Nat.zero_add _).symm
    rcases hb with rfl | rfl | rfl
    · rw [View.read_writes_cons_unit_of_not_mem _ _ i2 _ _ _ rfl 1 (Or.inl (show 0 < 2 by omega)),
        View.read_writes_cons_unit_of_not_mem _ _ i1 _ _ _ rfl 1 (Or.inl (show 0 < 1 by omega)),
        View.read_writes_cons_unit_of_mem _ _ i0 _ _ _ (ix4 (0 : Fin 1) (0 : Fin 1) r l) rfl (mm 0)]
      exact (cast4 _ _ r l).trans (ha.1 r l)
    · rw [View.read_writes_cons_unit_of_not_mem _ _ i2 _ _ _ rfl 1 (Or.inl (show 1 < 2 by omega)),
        View.read_writes_cons_unit_of_mem _ _ i1 _ _ _ (ix4 (0 : Fin 1) (0 : Fin 1) r l) rfl (mm 1)]
      exact (cast4 _ _ r l).trans (ha.2.1 r l)
    · rw [View.read_writes_cons_unit_of_mem _ _ i2 _ _ _ (ix4 (0 : Fin 1) (0 : Fin 1) r l) rfl (mm 2)]
      exact (cast4 _ _ r l).trans (ha.2.2 r l)

/-- Storing the blocks of two steps, one chain after the other. -/
theorem upd10b {arg10 : Memref sig .tc .vmem S392x3x8x128 .f32} {W : Fin 3 → ℕ → Fin 4 → Blk} {κ : Fin 3 → ℕ → ℝ} {N : ℕ} (hN : N + 1 < 392)
    (f : BufTy.Contents (Elt Ideal) arg10.view.ty) (h : A10 W κ N (arg10.view.read (Elt Ideal) f))
    {off0 off1 off2 off3 off4 off5 : Fin 4 → ℕ} (i0 : ∀ a, off0 a + S1x1x8x128.size a ≤ S392x3x8x128.size a)
    (i1 : ∀ a, off1 a + S1x1x8x128.size a ≤ S392x3x8x128.size a) (i2 : ∀ a, off2 a + S1x1x8x128.size a ≤ S392x3x8x128.size a)
    (i3 : ∀ a, off3 a + S1x1x8x128.size a ≤ S392x3x8x128.size a)
    (i4 : ∀ a, off4 a + S1x1x8x128.size a ≤ S392x3x8x128.size a) (i5 : ∀ a, off5 a + S1x1x8x128.size a ≤ S392x3x8x128.size a)
    (e0 : off0 = ![N, 0, 0, 0]) (e1 : off1 = ![N + 1, 0, 0, 0]) (e2 : off2 = ![N, 1, 0, 0]) (e3 : off3 = ![N + 1, 1, 0, 0])
    (e4 : off4 = ![N, 2, 0, 0]) (e5 : off5 = ![N + 1, 2, 0, 0])
    {a0 a1 a2 m0 m1 m2 : FVec Ideal S8x128 .f32} (c0 c1 c2 c3 c4 c5 : S8x128.ShapeCasts S1x1x8x128) {k : ℕ} (hk : N / 8 = k) (hk' : (N + 1) / 8 = k)
    (ha : Acc W (fun b => κ b k) N a0 a1 a2) (hm : Acc W (fun b => κ b k) (N + 1) m0 m1 m2) :
    A10 W κ (N + 2) (arg10.view.read (Elt Ideal) (arg10.view.writes (Elt Ideal) f
      [⟨Rect.unit off5 S1x1x8x128.size i5, shapeCast S1x1x8x128 m2 c5⟩, ⟨Rect.unit off4 S1x1x8x128.size i4, shapeCast S1x1x8x128 a2 c4⟩,
        ⟨Rect.unit off3 S1x1x8x128.size i3, shapeCast S1x1x8x128 m1 c3⟩, ⟨Rect.unit off2 S1x1x8x128.size i2, shapeCast S1x1x8x128 a1 c2⟩,
        ⟨Rect.unit off1 S1x1x8x128.size i1, shapeCast S1x1x8x128 m0 c1⟩, ⟨Rect.unit off0 S1x1x8x128.size i0, shapeCast S1x1x8x128 a0 c0⟩])) := by
  subst e0 e1 e2 e3 e4 e5
  have mm : ∀ (n : ℕ) (hn : n < 392) (b : Fin 3) (r : Fin 8) (l : Fin 128) (q : Fin 4), ((ix4 (⟨n, hn⟩ : Fin 392) b r l : S392x3x8x128.Idx) q).val
      = (![n, b.val, 0, 0] : Fin 4 → ℕ) q + ((ix4 (0 : Fin 1) (0 : Fin 1) r l : S1x1x8x128.Idx) q).val := by
    intro n hn b r l q
    match q with
    | ⟨0, _⟩ => rfl
    | ⟨1, _⟩ => rfl
    | ⟨2, _⟩ => exact (Nat.zero_add _).symm
    | ⟨3, _⟩ => exact (Nat.zero_add _).symm
  have o1 : ∀ n : ℕ, n < n + 1 := fun n => Nat.lt_succ_self n
  rintro ⟨t, ht⟩ b r l hlt
  have hb : b = 0 ∨ b = 1 ∨ b = 2 := by omega
  have cases3 : t < N ∨ t = N ∨ t = N + 1 := by dsimp only at hlt; omega
  rcases cases3 with h1 | rfl | rfl
  · refine Eq.trans ?_ (h ⟨t, ht⟩ b r l h1)
    have h2 : t < N + 1 := by omega
    rw [View.read_writes_cons_unit_of_not_mem _ _ i5 _ _ _ rfl 0 (Or.inl h2), View.read_writes_cons_unit_of_not_mem _ _ i4 _ _ _ rfl 0 (Or.inl h1),
      View.read_writes_cons_unit_of_not_mem _ _ i3 _ _ _ rfl 0 (Or.inl h2), View.read_writes_cons_unit_of_not_mem _ _ i2 _ _ _ rfl 0 (Or.inl h1),
      View.read_writes_cons_unit_of_not_mem _ _ i1 _ _ _ rfl 0 (Or.inl h2), View.read_writes_cons_unit_of_not_mem _ _ i0 _ _ _ rfl 0 (Or.inl h1)]
    rfl
  · subst hk
    rcases hb with rfl | rfl | rfl
    · rw [View.read_writes_cons_unit_of_not_mem _ _ i5 _ _ _ rfl 0 (Or.inl (o1 t)), View.read_writes_cons_unit_of_not_mem _ _ i4 _ _ _ rfl 1 (Or.inl (show 0 < 2 by omega)),
        View.read_writes_cons_unit_of_not_mem _ _ i3 _ _ _ rfl 0 (Or.inl (o1 t)), View.read_writes_cons_unit_of_not_mem _ _ i2 _ _ _ rfl 1 (Or.inl (show 0 < 1 by omega)),
        View.read_writes_cons_unit_of_not_mem _ _ i1 _ _ _ rfl 0 (Or.inl (o1 t)), View.read_writes_cons_unit_of_mem _ _ i0 _ _ _ (ix4 (0 : Fin 1) (0 : Fin 1) r l) rfl (mm t ht 0 r l)]
      exact (cast4 _ _ r l).trans (ha.1 r l)
    · rw [View.read_writes_cons_unit_of_not_mem _ _ i5 _ _ _ rfl 0 (Or.inl (o1 t)), View.read_writes_cons_unit_of_not_mem _ _ i4 _ _ _ rfl 1 (Or.inl (show 1 < 2 by omega)),
        View.read_writes_cons_unit_of_not_mem _ _ i3 _ _ _ rfl 0 (Or.inl (o1 t)), View.read_writes_cons_unit_of_mem _ _ i2 _ _ _ (ix4 (0 : Fin 1) (0 : Fin 1) r l) rfl (mm t ht 1 r l)]
      exact (cast4 _ _ r l).trans (ha.2.1 r l)
    · rw [View.read_writes_cons_unit_of_not_mem _ _ i5 _ _ _ rfl 0 (Or.inl (o1 t)), View.read_writes_cons_unit_of_mem _ _ i4 _ _ _ (ix4 (0 : Fin 1) (0 : Fin 1) r l) rfl (mm t ht 2 r l)]
      exact (cast4 _ _ r l).trans (ha.2.2 r l)
  · have ek : k = (N + 1) / 8 := hk'.symm
    rw [← hk']  at hm
    have o2 : N + 1 ≤ N + 1 := le_refl _
    rcases hb with rfl | rfl | rfl
    · rw [View.read_writes_cons_unit_of_not_mem _ _ i5 _ _ _ rfl 1 (Or.inl (show 0 < 2 by omega)), View.read_writes_cons_unit_of_not_mem _ _ i4 _ _ _ rfl 1 (Or.inl (show 0 < 2 by omega)),
        View.read_writes_cons_unit_of_not_mem _ _ i3 _ _ _ rfl 1 (Or.inl (show 0 < 1 by omega)), View.read_writes_cons_unit_of_not_mem _ _ i2 _ _ _ rfl 1 (Or.inl (show 0 < 1 by omega)),
        View.read_writes_cons_unit_of_mem _ _ i1 _ _ _ (ix4 (0 : Fin 1) (0 : Fin 1) r l) rfl (mm (N + 1) ht 0 r l)]
      exact (cast4 _ _ r l).trans (hm.1 r l)
    · rw [View.read_writes_cons_unit_of_not_mem _ _ i5 _ _ _ rfl 1 (Or.inl (show 1 < 2 by omega)), View.read_writes_cons_unit_of_not_mem _ _ i4 _ _ _ rfl 1 (Or.inl (show 1 < 2 by omega)),
        View.read_writes_cons_unit_of_mem _ _ i3 _ _ _ (ix4 (0 : Fin 1) (0 : Fin 1) r l) rfl (mm (N + 1) ht 1 r l)]
      exact (cast4 _ _ r l).trans (hm.2.1 r l)
    · rw [View.read_writes_cons_unit_of_mem _ _ i5 _ _ _ (ix4 (0 : Fin 1) (0 : Fin 1) r l) rfl (mm (N + 1) ht 2 r l)]
      exact (cast4 _ _ r l).trans (hm.2.2 r l)

end Cert.Proof.KernelIdeal.Val

end
-- ==== Proof.ValT5.lean ====
/-
  The steps of the first half: eight steps of a block.
-/
module

public import proofs.«01_k».proof.Defs
public import proofs.«01_k».proof.Proof.ValMem
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

/-- One step of a block of the first half. -/
theorem step5 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec Ideal S128x128 .f32) (k0_t4 : Fin k0_t4_loop.trips) (arg18 : BitVec 32) (v398 : BitVec 32) (W : Fin 3 → ℕ → Fin 4 → Blk) (κ : Fin 3 → ℕ → ℝ)
    (X9 : BufTy.Contents (Elt Ideal) arg9.view.ty) (HI : FIx v5 v17 v21 v27 v29 v31 v33 v46 v52 v67) (hE : E9 W (arg9.view.read (Elt Ideal) X9))
    (k : Fin k0_t5_loop.trips) (acc : FVec Ideal S8x128 .f32 × FVec Ideal S8x128 .f32 × FVec Ideal S8x128 .f32 × FVec Ideal S8x128 .f32 × FVec Ideal S8x128 .f32 × FVec Ideal S8x128 .f32)
    (f10 : BufTy.Contents (Elt Ideal) arg10.view.ty) (f11 : BufTy.Contents (Elt Ideal) arg11.view.ty) (f12 : BufTy.Contents (Elt Ideal) arg12.view.ty)
    (h10 : A10 W κ (8 * k0_t4.val + k.val) (arg10.view.read (Elt Ideal) f10))
    (ha : Acc W (fun b => κ b k0_t4.val) (8 * k0_t4.val + k.val) acc.1 acc.2.1 acc.2.2.1) :
    (iprop((arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp (MT nD τ sig Unit (Elt Ideal) ℕ (UR sig nD τ) ℕ))
    ⊢ wp frame (wpE defs₀ Variants.none (c : Thread nD τ) none) Set.univ (k0_t5_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k0_t4 arg18 v398 k acc)
      (fun y => iprop((arg9.view.loc (c : Thread nD τ) ↦[arg9.view.set]{fullShare} X9) ∗ (∃ f, (arg10.view.loc (c : Thread nD τ) ↦[arg10.view.set]{fullShare} f) ∗ ⌜A10 W κ (8 * k0_t4.val + (k.val + 1)) (arg10.view.read (Elt Ideal) f)⌝) ∗ (∃ f, (arg11.view.loc (c : Thread nD τ) ↦[arg11.view.set]{fullShare} f)) ∗ (∃ f, (arg12.view.loc (c : Thread nD τ) ↦[arg12.view.set]{fullShare} f))
        ∗ ⌜Acc W (fun b => κ b k0_t4.val) (8 * k0_t4.val + (k.val + 1)) y.1 y.2.1 y.2.2.1⌝)) := by
  unfold k0_t5_body
  have t4 : k0_t4.val < 24 := lt_of_lt_of_le k0_t4.isLt (by decide)
  have t5 : k.val < 8 := lt_of_lt_of_le k.isLt (by decide)
  iintro ⟨H9, H10, H11, H12⟩
  sl_exec
  sl_step
  isplitl [H9]; · iexact H9
  isplitl [H10]
  · iexists _
    isplitl [H10]; · iexact H10
    ipureintro
    exact upd10 (by omega) f10 h10 _ _ _ (k0_off45_eq k0_t4 k) (k0_off55_eq k0_t4 k) (k0_off65_eq k0_t4 k) _ _ _ (k := k0_t4.val) (by omega) ha
  isplitl [H11]; · iexists _; iexact H11
  isplitl [H12]; · iexists _; iexact H12
  ipureintro
  dsimp only
  sl_unfold_words
  unfold_payloads
  refine ⟨fstep_al HI ha.1 ?_ ?_ ?_ ?_, fstep_al HI ha.2.1 ?_ ?_ ?_ ?_, fstep_al HI ha.2.2 ?_ ?_ ?_ ?_⟩
  · exact ld9 hE _ _ (8 * k0_t4.val + k.val) (by omega) 0 0 (k0_off46_eq k0_t4 k)
  · exact ld9 hE _ _ (8 * k0_t4.val + k.val) (by omega) 0 1 (k0_off47_eq k0_t4 k)
  · exact ld9 hE _ _ (8 * k0_t4.val + k.val) (by omega) 0 2 (k0_off48_eq k0_t4 k)
  · exact ld9 hE _ _ (8 * k0_t4.val + k.val) (by omega) 0 3 (k0_off49_eq k0_t4 k)
  · exact ld9 hE _ _ (8 * k0_t4.val + k.val) (by omega) 1 0 (k0_off56_eq k0_t4 k)
  · exact ld9 hE _ _ (8 * k0_t4.val + k.val) (by omega) 1 1 (k0_off57_eq k0_t4 k)
  · exact ld9 hE _ _ (8 * k0_t4.val + k.val) (by omega) 1 2 (k0_off58_eq k0_t4 k)
  · exact ld9 hE _ _ (8 * k0_t4.val + k.val) (by omega) 1 3 (k0_off59_eq k0_t4 k)
  · exact ld9 hE _ _ (8 * k0_t4.val + k.val) (by omega) 2 0 (k0_off66_eq k0_t4 k)
  · exact ld9 hE _ _ (8 * k0_t4.val + k.val) (by omega) 2 1 (k0_off67_eq k0_t4 k)
  · exact ld9 hE _ _ (8 * k0_t4.val + k.val) (by omega) 2 2 (k0_off68_eq k0_t4 k)
  · exact ld9 hE _ _ (8 * k0_t4.val + k.val) (by omega) 2 3 (k0_off69_eq k0_t4 k)

set_option warn.classDefReducibility false in
/-- The loop over the eight steps of a block, with what it computes. -/
noncomputable def val5 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec Ideal S128x128 .f32) (k0_t4 : Fin k0_t4_loop.trips) (arg18 : BitVec 32) (v398 : BitVec 32) (init : FVec Ideal S8x128 .f32 × FVec Ideal S8x128 .f32 × FVec Ideal S8x128 .f32 × FVec Ideal S8x128 .f32 × FVec Ideal S8x128 .f32 × FVec Ideal S8x128 .f32) (W : Fin 3 → ℕ → Fin 4 → Blk) (κ : Fin 3 → ℕ → ℝ) :
    Cert.KernelIdeal.Gen.LoopInvTy_k0_t5 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k0_t4 arg18 v398 init where
  inv := fun k acc => iprop((∃ f, (arg9.view.loc (c : Thread nD τ) ↦[arg9.view.set]{fullShare} f) ∗ ⌜E9 W (arg9.view.read (Elt Ideal) f)⌝)
    ∗ (∃ f, (arg10.view.loc (c : Thread nD τ) ↦[arg10.view.set]{fullShare} f) ∗ ⌜A10 W κ (8 * k0_t4.val + k) (arg10.view.read (Elt Ideal) f)⌝) ∗ (∃ f, (arg11.view.loc (c : Thread nD τ) ↦[arg11.view.set]{fullShare} f)) ∗ (∃ f, (arg12.view.loc (c : Thread nD τ) ↦[arg12.view.set]{fullShare} f))
    ∗ ⌜FIx v5 v17 v21 v27 v29 v31 v33 v46 v52 v67⌝ ∗ ⌜Acc W (fun b => κ b k0_t4.val) (8 * k0_t4.val + k) acc.1 acc.2.1 acc.2.2.1⌝)
  step := fun k acc => by
    iintro ⟨⟨%f9, H9, %h9⟩, ⟨%f10, H10, %h10⟩, ⟨%f11, H11⟩, ⟨%f12, H12⟩, %HI, %ha⟩
    iapply (wp_wand_r Idealize.ShloMosaic.frame (wpE (defs₀ (F := Ideal)) Variants.none (c : Thread nD τ) none) Set.univ)
    isplitl [H9 H10 H11 H12]
    · iapply (step5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k0_t4 arg18 v398 W κ f9 HI h9 k acc f10 f11 f12 h10 ha)
      isplitl [H9]; · iexact H9
      isplitl [H10]; · iexact H10
      isplitl [H11]; · iexact H11
      iexact H12
    · iintro %y ⟨H9, H10, H11, H12, %hy⟩
      isplitl [H9]; · iexists _; isplitl [H9]; · iexact H9
                      ipureintro; exact h9
      isplitl [H10]; · iexact H10
      isplitl [H11]; · iexact H11
      isplitl [H12]; · iexact H12
      isplitl []; · ipureintro; exact HI
      ipureintro; exact hy

end Cert.Proof.KernelIdeal.Val

end
-- ==== Proof.ValResc.lean ====
/-
  Totals and rescaling factors.
-/
module

public import proofs.«01_k».proof.Defs
public import proofs.«01_k».proof.Proof.ValMem
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import Idealize.ShloMosaic.Lib.Pointwise

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

/-- The two literals of the rescaling. -/
def mR : ℝ := -48
def cR : ℝ := 12102203 / 8388608

theorem lit_m : Ideal.ofBits .f32 0xC2400000#32 = ((mR : ℝ) : EReal) := by
  simp only [mR]; simp [Ideal.ofBits, Ideal.ieee]; rw [← EReal.coe_mul]; norm_num
theorem lit_c : Ideal.ofBits .f32 0x3FB8AA3B#32 = ((cR : ℝ) : EReal) := by
  simp only [cR]; simp [Ideal.ofBits, Ideal.ieee]; rw [← EReal.coe_mul]; norm_num

theorem coe_sum {n : ℕ} (f : Fin n → ℝ) : ∑ i, ((f i : ℝ) : EReal) = ((∑ i, f i : ℝ) : EReal) :=
  (map_sum (⟨⟨fun x : ℝ => (x : EReal), EReal.coe_zero⟩, EReal.coe_add⟩ : ℝ →+ EReal) f Finset.univ).symm

/-- The total of a block, spread over a block, as the program writes it. -/
abbrev total (x : FVec Ideal S8x128 .f32) : FVec Ideal S8x128 .f32 :=
  broadcastTo S8x128 (shapeCast S1x1 (broadcast S1x1 (extractAt ![0, 0, 0] (shapeCast S1x1x1
    (multiReduction .add [1, 2] S1 (shapeCast S1x8x128 x Cert.KernelIdeal.Gen.shapeCasts_S8x128_S1x8x128) 0x00000000#32 Cert.KernelIdeal.Gen.reduces_S1x8x128_S1 (.inl rfl) rfl)
    Cert.KernelIdeal.Gen.shapeCasts_S1_S1x1x1) Cert.KernelIdeal.Gen.inpos_S1x1x1_p0_0_0)) Cert.KernelIdeal.Gen.shapeCasts_S1x1_S1x1) Cert.KernelIdeal.Gen.broadcasts_S1x1_S8x128

theorem total_isV {x : FVec Ideal S8x128 .f32} {a : Blk} (h : IsV x a) : IsV (total x) (fun _ _ => tot a) := by
  intro r l
  pointwise
  rw [tot, ← coe_sum]
  refine Finset.sum_congr rfl fun r _ => ?_
  rw [← coe_sum]
  exact Finset.sum_congr rfl fun l _ => h r l

/-- The rescaling factor, as the program writes it. -/
abbrev rescale (x : FVec Ideal S8x128 .f32) : FVec Ideal S8x128 .f32 :=
  exp2 (subf (broadcast S8x128 (Scalar.ofBits (F := Ideal) .f32 0xC2400000#32)) (floor (mulf (log (total x)) (broadcast S8x128 (Scalar.ofBits (F := Ideal) .f32 0x3FB8AA3B#32)))))

theorem rescale_isV {x : FVec Ideal S8x128 .f32} {a : Blk} (h : IsV x a) (hp : 0 < tot a) : IsV (rescale x) (fun _ _ => resc mR cR (tot a)) := by
  intro r l
  show Ideal.exp2 (Ideal.ofBits .f32 0xC2400000#32 - Ideal.liftRound Int.floor (Ideal.log (total x (ix2 r l)) * Ideal.ofBits .f32 0x3FB8AA3B#32)) = _
  rw [total_isV h, lit_m, lit_c, Ideal.log_coe, if_neg (not_le.mpr hp), ← EReal.coe_mul]
  show Ideal.exp2 (((mR : ℝ) : EReal) - ((((⌊Real.log (tot a) * cR⌋ : ℤ) : ℝ) : ℝ) : EReal)) = _
  rw [← EReal.coe_sub, Ideal.exp2_coe]
  rfl

end Cert.Proof.KernelIdeal.Val

end
-- ==== Proof.ValT4.lean ====
/-
  The blocks of the first half, with what they compute.
-/
module

public import proofs.«01_k».proof.Defs
public import proofs.«01_k».proof.Proof.ValT5
public import proofs.«01_k».proof.Proof.ValResc
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

/-- The scales of the blocks. -/
abbrev kaps (W : Fin 3 → ℕ → Fin 4 → Blk) : Fin 3 → ℕ → ℝ := fun b k => kap mR cR (W b) k

/-- One chain before block `k`: its vector and its rescaling factor. -/
def Ch (W : ℕ → Fin 4 → Blk) (k : ℕ) (a s : FVec Ideal S8x128 .f32) : Prop :=
  IsV a (fun r l => (KR mR cR W k).1 * al W (8 * k) r l) ∧ IsV s (fun _ _ => (KR mR cR W k).2)

/-- The three chains before block `k`. -/
def C4 (W : Fin 3 → ℕ → Fin 4 → Blk) (k : ℕ) (a0 a1 a2 s0 s1 s2 : FVec Ideal S8x128 .f32) : Prop :=
  Ch (W 0) k a0 s0 ∧ Ch (W 1) k a1 s1 ∧ Ch (W 2) k a2 s2

/-- Every factor is positive. -/
def WPos (W : Fin 3 → ℕ → Fin 4 → Blk) : Prop := ∀ b t o r l, 0 < W b t o r l

/-- The factors of all steps, positive: the data of what the loops compute. -/
class Fac where
  W : Fin 3 → ℕ → Fin 4 → Blk
  pos : WPos W

theorem Ch_enter {W : ℕ → Fin 4 → Blk} {k : ℕ} {a s : FVec Ideal S8x128 .f32} (h : Ch W k a s) :
    IsV (mulf a s) (fun r l => kap mR cR W k * al W (8 * k) r l) := fun r l =>
  (mulf_isV (h.1 r l) (h.2 r l)).trans (congrArg _ (by rw [kap]; ring))

theorem Ch_succ {W : ℕ → Fin 4 → Blk} (hW : ∀ t o r l, 0 < W t o r l) {k : ℕ} {a s y : FVec Ideal S8x128 .f32} (h : Ch W k a s)
    (hy : IsV y (fun r l => kap mR cR W k * al W (8 * k + 8) r l)) : Ch W (k + 1) y (rescale (mulf a s)) := by
  refine ⟨hy, ?_⟩
  have h1 := Ch_enter h
  have h2 : tot (fun r l => kap mR cR W k * al W (8 * k) r l) = kap mR cR W k * tot (al W (8 * k)) := tot_smul _ _
  have h3 := rescale_isV h1 (by rw [h2]; exact mul_pos (kap_pos _ _ _ _) (tot_pos fun r l => al_pos hW _ _ _))
  rw [h2] at h3
  exact h3

theorem C4_enter {W : Fin 3 → ℕ → Fin 4 → Blk} {k : ℕ} {a0 a1 a2 s0 s1 s2 : FVec Ideal S8x128 .f32} (h : C4 W k a0 a1 a2 s0 s1 s2) :
    Acc W (fun b => kaps W b k) (8 * k) (mulf a0 s0) (mulf a1 s1) (mulf a2 s2) :=
  ⟨Ch_enter h.1, Ch_enter h.2.1, Ch_enter h.2.2⟩

theorem C4_succ {W : Fin 3 → ℕ → Fin 4 → Blk} (hW : WPos W) {k : ℕ} {a0 a1 a2 s0 s1 s2 y0 y1 y2 : FVec Ideal S8x128 .f32} (h : C4 W k a0 a1 a2 s0 s1 s2)
    {n : ℕ} (hn : n = 8) (hy : Acc W (fun b => kaps W b k) (8 * k + n) y0 y1 y2) :
    C4 W (k + 1) y0 y1 y2 (rescale (mulf a0 s0)) (rescale (mulf a1 s1)) (rescale (mulf a2 s2)) := by
  subst hn
  exact ⟨Ch_succ (hW 0) h.1 hy.1, Ch_succ (hW 1) h.2.1 hy.2.1, Ch_succ (hW 2) h.2.2 hy.2.2⟩

/-- The factors kept for the row sums: one before each block entered so far, and ones elsewhere. -/
def FR (W : Fin 3 → ℕ → Fin 4 → Blk) (N : ℕ) (x : S3x392x128.Idx → EReal) : Prop :=
  ∀ (b : Fin 3) (t : Fin 392) (l : Fin 128), x (ix3 b t l) = if t.val % 8 = 0 ∧ t.val / 8 < N then (((KR mR cR (W b) (t.val / 8)).2 : ℝ) : EReal) else 1

/-- The first row of a block, cast to its place. -/
theorem row3 (x : FVec Ideal S8x128 .f32) (l : Fin 128) :
    shapeCast S1x1x128 (extractStridedSlice S1x128 ![0, 0] x Cert.KernelIdeal.Gen.slices_S8x128_o0_0_S1x128) Cert.KernelIdeal.Gen.shapeCasts_S1x128_S1x1x128
      (ix3 (0 : Fin 1) (0 : Fin 1) l) = x (ix2 (0 : Fin 8) l) := by
  pointwise

/-- Storing the three factors of block `k`. -/
theorem upd15 {arg15 : Memref sig .tc .vmem S3x392x128 .f32} {W : Fin 3 → ℕ → Fin 4 → Blk} {k : ℕ} (hk : k < 49)
    (f : BufTy.Contents (Elt Ideal) arg15.view.ty) (h : FR W k (arg15.view.read (Elt Ideal) f))
    {off0 off1 off2 : Fin 3 → ℕ} (i0 : ∀ a, off0 a + S1x1x128.size a ≤ S3x392x128.size a)
    (i1 : ∀ a, off1 a + S1x1x128.size a ≤ S3x392x128.size a) (i2 : ∀ a, off2 a + S1x1x128.size a ≤ S3x392x128.size a)
    (e0 : off0 = ![0, 8 * k, 0]) (e1 : off1 = ![1, 8 * k, 0]) (e2 : off2 = ![2, 8 * k, 0])
    {a0 a1 a2 s0 s1 s2 : FVec Ideal S8x128 .f32} (ha : C4 W k a0 a1 a2 s0 s1 s2)
    {p0 p1 p2 : FVec Ideal S1x1x128 .f32} (hp0 : ∀ l : Fin 128, p0 (ix3 (0 : Fin 1) (0 : Fin 1) l) = s0 (ix2 (0 : Fin 8) l))
    (hp1 : ∀ l : Fin 128, p1 (ix3 (0 : Fin 1) (0 : Fin 1) l) = s1 (ix2 (0 : Fin 8) l)) (hp2 : ∀ l : Fin 128, p2 (ix3 (0 : Fin 1) (0 : Fin 1) l) = s2 (ix2 (0 : Fin 8) l)) :
    FR W (k + 1) (arg15.view.read (Elt Ideal) (arg15.view.writes (Elt Ideal) f
      [⟨Rect.unit off2 S1x1x128.size i2, p2⟩, ⟨Rect.unit off1 S1x1x128.size i1, p1⟩, ⟨Rect.unit off0 S1x1x128.size i0, p0⟩])) := by
  subst e0 e1 e2
  intro b t l
  by_cases hlt : t.val = 8 * k
  · obtain ⟨t, ht⟩ := t
    dsimp only at hlt
    subst hlt
    have q1 : 8 * k % 8 = 0 := by omega
    have q2 : 8 * k / 8 = k := by omega
    simp only [q1, q2, Nat.lt_succ_self, and_self, if_true]
    have hb : b = 0 ∨ b = 1 ∨ b = 2 := by omega
    have mm : ∀ (b : Fin 3) (q : Fin 3), ((ix3 b (⟨8 * k, by omega⟩ : Fin 392) l : S3x392x128.Idx) q).val
        = (![b.val, 8 * k, 0] : Fin 3 → ℕ) q + ((ix3 (0 : Fin 1) (0 : Fin 1) l : S1x1x128.Idx) q).val := by
      intro b q
      match q with
      | ⟨0, _⟩ => rfl
      | ⟨1, _⟩ => rfl
      | ⟨2, _⟩ => exact (Nat.zero_add _).symm
    rcases hb with rfl | rfl | rfl
    · rw [View.read_writes_cons_unit_of_not_mem _ _ i2 _ _ _ rfl 0 (Or.inl (show 0 < 2 by omega)),
        View.read_writes_cons_unit_of_not_mem _ _ i1 _ _ _ rfl 0 (Or.inl (show 0 < 1 by omega)),
        View.read_writes_cons_unit_of_mem _ _ i0 _ _ _ (ix3 (0 : Fin 1) (0 : Fin 1) l) rfl (mm 0)]
      exact (hp0 l).trans (ha.1.2 0 l)
    · rw [View.read_writes_cons_unit_of_not_mem _ _ i2 _ _ _ rfl 0 (Or.inl (show 1 < 2 by omega)),
        View.read_writes_cons_unit_of_mem _ _ i1 _ _ _ (ix3 (0 : Fin 1) (0 : Fin 1) l) rfl (mm 1)]
      exact (hp1 l).trans (ha.2.1.2 0 l)
    · rw [View.read_writes_cons_unit_of_mem _ _ i2 _ _ _ (ix3 (0 : Fin 1) (0 : Fin 1) l) rfl (mm 2)]
      exact (hp2 l).trans (ha.2.2.2 0 l)
  · have ho : t.val < 8 * k ∨ 8 * k + 1 ≤ t.val := by omega
    have hi : (t.val % 8 = 0 ∧ t.val / 8 < k + 1) ↔ (t.val % 8 = 0 ∧ t.val / 8 < k) := by omega
    simp only [hi]
    refine Eq.trans ?_ (h b t l)
    rw [View.read_writes_cons_unit_of_not_mem _ _ i2 _ _ _ rfl 1 ho, View.read_writes_cons_unit_of_not_mem _ _ i1 _ _ _ rfl 1 ho,
      View.read_writes_cons_unit_of_not_mem _ _ i0 _ _ _ rfl 1 ho]
    rfl

set_option warn.classDefReducibility false in
/-- The loop over the blocks of the first half, with what it computes. -/
noncomputable def val4 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec Ideal S128x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32) (W : Fin 3 → ℕ → Fin 4 → Blk) (hW : WPos W) :
    Cert.KernelIdeal.Gen.LoopInvTy_k0_t4 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 init where
  inv := fun k acc => iprop((∃ f, (arg9.view.loc (c : Thread nD τ) ↦[arg9.view.set]{fullShare} f) ∗ ⌜E9 W (arg9.view.read (Elt Ideal) f)⌝)
    ∗ (∃ f, (arg10.view.loc (c : Thread nD τ) ↦[arg10.view.set]{fullShare} f) ∗ ⌜A10 W (kaps W) (8 * (k)) (arg10.view.read (Elt Ideal) f)⌝) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))
    ∗ (∃ f, (arg15.view.loc (c : Thread nD τ) ↦[arg15.view.set]{fullShare} f) ∗ ⌜FR W (k) (arg15.view.read (Elt Ideal) f)⌝)
    ∗ ⌜FIx v5 v17 v21 v27 v29 v31 v33 v46 v52 v67⌝ ∗ ⌜C4 W (k) acc.1 acc.2.1 acc.2.2.1 acc.2.2.2.2.2.2.1 acc.2.2.2.2.2.2.2.1 acc.2.2.2.2.2.2.2.2.1⌝)
  step := fun k acc => by
    let L5 := val5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k (Scf.iv 0#32 1#32 k) (Scalar.subi 47#32 (Scf.iv 0#32 1#32 k))
      (k0_pay196 acc.1 acc.2.2.2.2.2.2.1, k0_pay197 acc.2.1 acc.2.2.2.2.2.2.2.1, k0_pay198 acc.2.2.1 acc.2.2.2.2.2.2.2.2.1,
        k0_pay206 acc.2.2.2.1 acc.2.2.2.2.2.2.2.2.2.1, k0_pay207 acc.2.2.2.2.1 acc.2.2.2.2.2.2.2.2.2.2.1, k0_pay208 acc.2.2.2.2.2.1 acc.2.2.2.2.2.2.2.2.2.2.2) W (kaps W)
    unfold k0_t4_body
    have t4 : k.val < 24 := lt_of_lt_of_le k.isLt (by decide)
    have n5 : k0_t5_loop.trips = 8 := by decide
    iintro ⟨⟨%f9, H9, %h9⟩, ⟨%f10, H10, %h10⟩, ⟨%f11, H11⟩, ⟨%f12, H12⟩, ⟨%f13, H13⟩, ⟨%f14, H14⟩, ⟨%f15, H15, %h15⟩, %HI, %ha⟩
    have hP := C4_enter ha
    sl_exec
    sl_step
    isplitl [H9]
    · iexists _; isplitl [H9]; · iexact H9
      ipureintro; assumption
    isplitl [H10]
    · iexists _; isplitl [H10]; · iexact H10
      ipureintro
      exact (congrArg (fun n => A10 W (kaps W) (8 * k.val + n) _) n5).mp hL3
    isplitl [H11]; · iexists _; iexact H11
    isplitl [H12]; · iexists _; iexact H12
    isplitl [H13]; · iexists _; iexact H13
    isplitl [H14]; · iexists _; iexact H14
    isplitl [H15]
    · iexists _; isplitl [H15]; · iexact H15
      ipureintro
      exact upd15 (by omega) f15 h15 _ _ _ (k0_off42_eq k) (k0_off43_eq k) (k0_off44_eq k) ha (fun l => row3 _ l) (fun l => row3 _ l) (fun l => row3 _ l)
    isplitl []; · ipureintro; exact HI
    ipureintro
    exact C4_succ hW ha n5 hL7

set_option warn.classDefReducibility false in
/-- The same, at the factors at hand. -/
noncomputable def val4' [Fac] (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec Ideal S128x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32) :
    Cert.KernelIdeal.Gen.LoopInvTy_k0_t4 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 init := val4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 init Fac.W Fac.pos

end Cert.Proof.KernelIdeal.Val

end
-- ==== Proof.ValS.lean ====
/-
  The scores, and the first result as a function of the arguments, free of any program.
-/
module

public import proofs.«01_k».proof.Proof.ValSpec
public import Mathlib.Analysis.SpecialFunctions.Log.Basic

@[expose] public section

noncomputable section

namespace Cert.Proof.Spec

open Idealize.ShloMosaic

/-- The hyperbolic tangent of an extended real is a real number. -/
def th (y : EReal) : ℝ := (Ideal.tanh y).toReal

theorem tanh_th (y : EReal) : Ideal.tanh y = ((th y : ℝ) : EReal) := by
  unfold th
  induction y with
  | bot => rw [Ideal.tanh_bot]; rfl
  | top => rw [Ideal.tanh_top]; rfl
  | coe r => rw [Ideal.tanh_coe]; rfl

theorem five_is : Ideal.ofBits .f32 0x40A00000#32 = ((5 : ℝ) : EReal) := by
  simp [Ideal.ofBits, Ideal.ieee]; rw [← EReal.coe_mul]; norm_num

/-- The scaled product of a row and a column, with its bias. -/
def yE (a : Fin 384 → Fin 3 → Fin 2048 → EReal) (s : Fin 384 → Fin 3 → EReal) (w : Fin 2048 → Fin 4096 → EReal) (g h : Fin 4096 → EReal)
    (b : Fin 3) (t : Fin 384) (n : Fin 4096) : EReal :=
  (∑ k : Fin 2048, a t b k * w k n) * s t b * g n + h n

/-- The scores. -/
def Sof (y : Fin 3 → Fin 384 → Fin 4096 → EReal) (b t n : ℕ) : ℝ :=
  if hb : b < 3 ∧ t < 384 ∧ n < 4096 then 5 * th (y ⟨b, hb.1⟩ ⟨t, hb.2.1⟩ ⟨n, hb.2.2⟩) else 0

theorem Sof_at (y : Fin 3 → Fin 384 → Fin 4096 → EReal) (b : Fin 3) (t : Fin 384) (n : Fin 4096) :
    Sof y b.val t.val n.val = 5 * th (y b t n) := dif_pos ⟨b.isLt, t.isLt, n.isLt⟩

/-- The first result: at each position the logarithm of the growth of the total of the recursion. -/
def nR (W : ℕ → Fin 4 → Blk) (t : ℕ) : ℝ := Real.log (tot (al W (t + 1))) - (if t = 0 then 0 else Real.log (tot (al W t)))

/-- The factor of state and predecessor at a position of the vectors. -/
def facOf (S : ℕ → ℕ → ℕ → ℝ) (b : Fin 3) (t : ℕ) (o : Fin 4) : Blk :=
  fun r l => Real.exp (S b.val t (2048 * (o.val / 2) + 16 * l.val + 8 * (o.val % 2) + r.val))

end Cert.Proof.Spec

end
-- ==== Proof.ValLay.lean ====
/-
  The scores in the word buffer, and the gathers that bring them into the layout of the factors.
-/
module

public import proofs.«01_k».proof.Defs
public import proofs.«01_k».proof.Proof.ValS
public import proofs.«01_k».proof.Proof.ValT4
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

/-- The index vectors of the score layout, by position. -/
structure SIx (v118 : IVec S8x128 1) (v121 v131 v139 : IVec S8x128 32) (v141 : IVec S8x128 1) (v144 : IVec S8x128 32) : Prop where
  sel : ∀ (r : Fin 8) (l : Fin 128), v118 (ix2 r l) = if l.val % 16 < 8 then 1#1 else 0#1
  sin : ∀ (r : Fin 8) (l : Fin 128), (v121 (ix2 r l)).toNat % 8 = r.val ^^^ l.val % 8
  slane0 : ∀ (r : Fin 8) (l : Fin 128), (v131 (ix2 r l)).toNat % 128 = 16 * (l.val % 8) + (r.val ^^^ l.val / 8)
  slane1 : ∀ (r : Fin 8) (l : Fin 128), (v139 (ix2 r l)).toNat % 128 = 16 * (l.val % 8) + ((8 + r.val) ^^^ l.val / 8)
  osel : ∀ (r : Fin 8) (l : Fin 128), v141 (ix2 r l) = if l.val / 64 = 0 then 1#1 else 0#1
  sout : ∀ (r : Fin 8) (l : Fin 128), (v144 (ix2 r l)).toNat % 8 = r.val ^^^ l.val / 8 % 8

variable {v118 : IVec S8x128 1} {v121 v131 v139 : IVec S8x128 32} {v141 : IVec S8x128 1} {v144 : IVec S8x128 32}

/-- The two vectors of the score layout. -/
abbrev lay0 (v118 : IVec S8x128 1) (v121 v131 v139 : IVec S8x128 32) (v141 : IVec S8x128 1) (v144 : IVec S8x128 32) (x y : FVec Ideal S8x128 .f32) : FVec Ideal S8x128 .f32 :=
  rows (select v141 (lanes (rows (select v118 x y) v121) v131) (lanes (rows (select v118 y x) v121) v139)) v144
abbrev lay1 (v118 : IVec S8x128 1) (v121 v131 v139 : IVec S8x128 32) (v141 : IVec S8x128 1) (v144 : IVec S8x128 32) (x y : FVec Ideal S8x128 .f32) : FVec Ideal S8x128 .f32 :=
  rows (select v141 (lanes (rows (select v118 y x) v121) v139) (lanes (rows (select v118 x y) v121) v131)) v144

theorem sel_at {c : IVec S8x128 1} (x y : FVec Ideal S8x128 .f32) {i : S8x128.Idx} {p : Prop} [Decidable p]
    (h : c i = if p then 1#1 else 0#1) : select c x y i = if p then x i else y i := by
  show Scalar.select (c i) (x i) (y i) = _
  rw [h]; split_ifs <;> rfl

theorem xor8 : ∀ (a b : Fin 8), (a.val ^^^ b.val) < 8 := by decide +kernel
theorem xor16 : ∀ (a : Fin 8) (l : Fin 128), (a.val ^^^ l.val / 8) < 16 ∧ ((8 + a.val) ^^^ l.val / 8) < 16 := by decide +kernel

theorem natL0 : ∀ (r : Fin 8) (l : Fin 128), (16 * (l.val % 8) + (r.val ^^^ l.val / 8)) % 16 < 8 ↔ l.val / 64 = 0 := by decide +kernel
theorem natL1 : ∀ (r : Fin 8) (l : Fin 128), (16 * (l.val % 8) + ((8 + r.val) ^^^ l.val / 8)) % 16 < 8 ↔ ¬ l.val / 64 = 0 := by decide +kernel
theorem natR0 : ∀ (r : Fin 8) (l : Fin 128), (r.val ^^^ (16 * (l.val % 8) + (r.val ^^^ l.val / 8)) % 8) = l.val / 8 % 8 := by decide +kernel
theorem natR1 : ∀ (r : Fin 8) (l : Fin 128), (r.val ^^^ (16 * (l.val % 8) + ((8 + r.val) ^^^ l.val / 8)) % 8) = l.val / 8 % 8 := by decide +kernel
theorem natO00 : ∀ (r : Fin 8) (l : Fin 128), l.val / 64 = 0 → ((r.val ^^^ l.val / 8 % 8) ^^^ l.val / 8) = r.val := by decide +kernel
theorem natO01 : ∀ (r : Fin 8) (l : Fin 128), ¬ l.val / 64 = 0 → ((8 + (r.val ^^^ l.val / 8 % 8)) ^^^ l.val / 8) = r.val := by decide +kernel
theorem natO10 : ∀ (r : Fin 8) (l : Fin 128), l.val / 64 = 0 → ((8 + (r.val ^^^ l.val / 8 % 8)) ^^^ l.val / 8) = 8 + r.val := by decide +kernel
theorem natO11 : ∀ (r : Fin 8) (l : Fin 128), ¬ l.val / 64 = 0 → ((r.val ^^^ l.val / 8 % 8) ^^^ l.val / 8) = 8 + r.val := by decide +kernel

/-- The first gathered vector. -/
theorem g0_at (H : SIx v118 v121 v131 v139 v141 v144) (x y : FVec Ideal S8x128 .f32) (r : Fin 8) (l : Fin 128) :
    lanes (rows (select v118 x y) v121) v131 (ix2 r l)
      = (if l.val / 64 = 0 then x else y) (ix2 ⟨l.val / 8 % 8, by omega⟩ ⟨16 * (l.val % 8) + (r.val ^^^ l.val / 8), by have := (xor16 r l).1; omega⟩) := by
  have hx := (xor16 r l).1
  rw [lanes, gather1 _ _ _ _ r l ⟨16 * (l.val % 8) + (r.val ^^^ l.val / 8), by omega⟩ (H.slane0 r l), rows,
    gather0 _ _ _ _ _ _ ⟨l.val / 8 % 8, by omega⟩ ((H.sin _ _).trans (natR0 r l)), sel_at x y (H.sel _ _)]
  by_cases h : l.val / 64 = 0
  · rw [if_pos h, if_pos ((natL0 r l).2 h)]
  · rw [if_neg h, if_neg (fun h' => h ((natL0 r l).1 h'))]

/-- The second. -/
theorem g1_at (H : SIx v118 v121 v131 v139 v141 v144) (x y : FVec Ideal S8x128 .f32) (r : Fin 8) (l : Fin 128) :
    lanes (rows (select v118 y x) v121) v139 (ix2 r l)
      = (if l.val / 64 = 0 then x else y) (ix2 ⟨l.val / 8 % 8, by omega⟩ ⟨16 * (l.val % 8) + ((8 + r.val) ^^^ l.val / 8), by have := (xor16 r l).2; omega⟩) := by
  have hx := (xor16 r l).2
  rw [lanes, gather1 _ _ _ _ r l ⟨16 * (l.val % 8) + ((8 + r.val) ^^^ l.val / 8), by omega⟩ (H.slane1 r l), rows,
    gather0 _ _ _ _ _ _ ⟨l.val / 8 % 8, by omega⟩ ((H.sin _ _).trans (natR1 r l)), sel_at y x (H.sel _ _)]
  by_cases h : l.val / 64 = 0
  · rw [if_pos h, if_neg (fun h' => (natL1 r l).1 h' h)]
  · rw [if_neg h, if_pos ((natL1 r l).2 h)]

theorem lay0_at (H : SIx v118 v121 v131 v139 v141 v144) (x y : FVec Ideal S8x128 .f32) (r : Fin 8) (l : Fin 128) :
    lay0 v118 v121 v131 v139 v141 v144 x y (ix2 r l)
      = (if l.val / 64 = 0 then x else y) (ix2 ⟨l.val / 8 % 8, by omega⟩ ⟨16 * (l.val % 8) + r.val, by omega⟩) := by
  have hx := xor8 r ⟨l.val / 8 % 8, by omega⟩
  rw [lay0, rows, gather0 _ _ _ _ r l ⟨r.val ^^^ l.val / 8 % 8, hx⟩ (H.sout r l), sel_at _ _ (H.osel _ _), g0_at H, g1_at H]
  by_cases h : l.val / 64 = 0
  · rw [if_pos h, if_pos h]; congr 2; exact Fin.ext (congrArg (16 * (l.val % 8) + ·) (natO00 r l h))
  · rw [if_neg h, if_neg h]; congr 2; exact Fin.ext (congrArg (16 * (l.val % 8) + ·) (natO01 r l h))

theorem lay1_at (H : SIx v118 v121 v131 v139 v141 v144) (x y : FVec Ideal S8x128 .f32) (r : Fin 8) (l : Fin 128) :
    lay1 v118 v121 v131 v139 v141 v144 x y (ix2 r l)
      = (if l.val / 64 = 0 then x else y) (ix2 ⟨l.val / 8 % 8, by omega⟩ ⟨16 * (l.val % 8) + (8 + r.val), by omega⟩) := by
  have hx := xor8 r ⟨l.val / 8 % 8, by omega⟩
  rw [lay1, rows, gather0 _ _ _ _ r l ⟨r.val ^^^ l.val / 8 % 8, hx⟩ (H.sout r l), sel_at _ _ (H.osel _ _), g0_at H, g1_at H]
  by_cases h : l.val / 64 = 0
  · rw [if_pos h, if_pos h]; congr 2; exact Fin.ext (congrArg (16 * (l.val % 8) + ·) (natO10 r l h))
  · rw [if_neg h, if_neg h]; congr 2; exact Fin.ext (congrArg (16 * (l.val % 8) + ·) (natO11 r l h))

theorem facOf_pos (S : ℕ → ℕ → ℕ → ℝ) : WPos (facOf S) := fun _ _ _ _ _ => Real.exp_pos _

/-- The scores at hand. -/
class Scr where
  S : ℕ → ℕ → ℕ → ℝ

instance [Scr] : Fac := ⟨facOf Scr.S, facOf_pos _⟩

/-- The word buffer holds the scores of chunk `t1` for the columns below `128 * N`. -/
def W8 (S : ℕ → ℕ → ℕ → ℝ) (t1 N : ℕ) (x : S12x264x2x128.Idx → EReal) : Prop :=
  ∀ (g : Fin 12) (s : Fin 8) (u : Fin 32) (p : Fin 2) (l : Fin 128), u.val < N →
    x (ix4 g ⟨33 * s.val + u.val, by omega⟩ p l) = ((S (g.val / 4) (rowOf t1 g.val + 8 * p.val + s.val) (128 * u.val + l.val) : ℝ) : EReal)

theorem ld8 {arg8 : Memref sig .tc .vmem S12x264x2x128 .bf16} {S : ℕ → ℕ → ℕ → ℝ} {t1 : ℕ} {X8 : BufTy.Contents (Elt Ideal) arg8.view.ty}
    (hW : W8 S t1 32 (arg8.view.read (Elt Ideal) X8)) {off : Fin 4 → ℕ} (inb : ∀ a, off a + S1x8x2x128.size a ≤ S12x264x2x128.size a)
    (p : Fin 2) (hb hc hd) (m u : ℕ) (hm : m < 96) (hu : u + 8 ≤ 32) (heq : off = ![m / 8, 33 * (m % 8) + u, 0, 0]) (r : Fin 8) (l : Fin 128) :
    shapeCast S8x128 (shapeCast S1x8x128 (rowsOfParity p S1x8x1x128 (View.readAt (Elt Ideal) arg8.view (Rect.unit (s := S12x264x2x128) off S1x8x2x128.size inb).toLoadRect X8) hb) hc) hd (ix2 r l)
      = ((S (m / 32) (rowOf t1 (m / 8) + m % 8 + 8 * p.val) (128 * (u + r.val) + l.val) : ℝ) : EReal) := by
  subst heq
  rw [shapeCast_apply _ _ _ (ix3 (0 : Fin 1) r l) (by rw [Shape.rowMajor_val_three, Shape.rowMajor_val_two]; show (0 * 8 + r.val) * 128 + l.val = r.val * 128 + l.val; omega),
    shapeCast_apply _ _ _ (ix4 (0 : Fin 1) r (0 : Fin 1) l) (by rw [Shape.rowMajor_val_three, Shape.rowMajor_val_four]; show ((0 * 8 + r.val) * 1 + 0) * 128 + l.val = (0 * 8 + r.val) * 128 + l.val; omega)]
  refine Eq.trans ?_ ((hW ⟨m / 8, by omega⟩ ⟨m % 8, by omega⟩ ⟨u + r.val, by omega⟩ p l (by show u + r.val < 32; omega)).trans ?_)
  · rw [rowsOfParity]
    rw [View.readAt_apply]
    congr 1
    funext a
    apply Fin.ext
    match a with
    | ⟨0, _⟩ => show m / 8 + 1 * 0 = m / 8; omega
    | ⟨1, _⟩ => show 33 * (m % 8) + u + 1 * r.val = 33 * (m % 8) + (u + r.val); omega
    | ⟨2, _⟩ => show 0 + 1 * (2 * 0 + p.val) = p.val; omega
    | ⟨3, _⟩ => show 0 + 1 * l.val = l.val; omega
  · have h1 : m / 8 / 4 = m / 32 := by omega
    have h2 : rowOf t1 (m / 8) + 8 * p.val + m % 8 = rowOf t1 (m / 8) + m % 8 + 8 * p.val := by omega
    show ((S (m / 8 / 4) (rowOf t1 (m / 8) + 8 * p.val + m % 8) (128 * (u + r.val) + l.val) : ℝ) : EReal) = _
    rw [h1, h2]

theorem cast5 {α : Type} (x : S8x128.Idx → α) (h : S8x128.ShapeCasts S1x1x1x8x128) (r : Fin 8) (l : Fin 128) :
    shapeCast S1x1x1x8x128 x h (ix5 (0 : Fin 1) (0 : Fin 1) (0 : Fin 1) r l) = x (ix2 r l) := by
  refine shapeCast_apply _ _ _ (ix2 r l) ?_
  rw [Shape.rowMajor_val_five, Shape.rowMajor_val_two]
  show r.val * 128 + l.val = (((0 * 1 + 0) * 1 + 0) * 8 + r.val) * 128 + l.val
  omega

/-- The exponentials of a pair of loaded vectors, laid out. -/
theorem exp_lay0 (H : SIx v118 v121 v131 v139 v141 v144) {S : ℕ → ℕ → ℕ → ℝ} (b : Fin 3) (t : ℕ) (h : Fin 2) (o : Fin 4) (ho : o.val = 2 * h.val)
    {x y : FVec Ideal S8x128 .bf16}
    (hx : ∀ r l, x (ix2 r l) = ((S b.val t (128 * (16 * h.val + r.val) + l.val) : ℝ) : EReal))
    (hy : ∀ r l, y (ix2 r l) = ((S b.val t (128 * (16 * h.val + 8 + r.val) + l.val) : ℝ) : EReal)) (hc) (e1 e2) (r : Fin 8) (l : Fin 128) :
    shapeCast S1x1x1x8x128 (exp (lay0 v118 v121 v131 v139 v141 v144 (extf .f32 x e1) (extf .f32 y e2))) hc (ix5 (0 : Fin 1) (0 : Fin 1) (0 : Fin 1) r l)
      = ((facOf S b t o r l : ℝ) : EReal) := by
  rw [cast5, exp_apply, lay0_at H]
  have key : (if l.val / 64 = 0 then (extf .f32 x e1 : FVec Ideal S8x128 .f32) else extf .f32 y e2) (ix2 ⟨l.val / 8 % 8, by omega⟩ ⟨16 * (l.val % 8) + r.val, by omega⟩)
      = ((S b.val t (2048 * (o.val / 2) + 16 * l.val + 8 * (o.val % 2) + r.val) : ℝ) : EReal) := by
    by_cases hl : l.val / 64 = 0
    · rw [if_pos hl]; refine (hx _ _).trans ?_
      congr 2; show 128 * (16 * h.val + l.val / 8 % 8) + (16 * (l.val % 8) + r.val) = _; omega
    · rw [if_neg hl]; refine (hy _ _).trans ?_
      congr 2; show 128 * (16 * h.val + 8 + l.val / 8 % 8) + (16 * (l.val % 8) + r.val) = _; omega
  rw [key]
  exact Ideal.exp_coe _

theorem exp_lay1 (H : SIx v118 v121 v131 v139 v141 v144) {S : ℕ → ℕ → ℕ → ℝ} (b : Fin 3) (t : ℕ) (h : Fin 2) (o : Fin 4) (ho : o.val = 2 * h.val + 1)
    {x y : FVec Ideal S8x128 .bf16}
    (hx : ∀ r l, x (ix2 r l) = ((S b.val t (128 * (16 * h.val + r.val) + l.val) : ℝ) : EReal))
    (hy : ∀ r l, y (ix2 r l) = ((S b.val t (128 * (16 * h.val + 8 + r.val) + l.val) : ℝ) : EReal)) (hc) (e1 e2) (r : Fin 8) (l : Fin 128) :
    shapeCast S1x1x1x8x128 (exp (lay1 v118 v121 v131 v139 v141 v144 (extf .f32 x e1) (extf .f32 y e2))) hc (ix5 (0 : Fin 1) (0 : Fin 1) (0 : Fin 1) r l)
      = ((facOf S b t o r l : ℝ) : EReal) := by
  rw [cast5, exp_apply, lay1_at H]
  have key : (if l.val / 64 = 0 then (extf .f32 x e1 : FVec Ideal S8x128 .f32) else extf .f32 y e2) (ix2 ⟨l.val / 8 % 8, by omega⟩ ⟨16 * (l.val % 8) + (8 + r.val), by omega⟩)
      = ((S b.val t (2048 * (o.val / 2) + 16 * l.val + 8 * (o.val % 2) + r.val) : ℝ) : EReal) := by
    by_cases hl : l.val / 64 = 0
    · rw [if_pos hl]; refine (hx _ _).trans ?_
      congr 2; show 128 * (16 * h.val + l.val / 8 % 8) + (16 * (l.val % 8) + (8 + r.val)) = _; omega
    · rw [if_neg hl]; refine (hy _ _).trans ?_
      congr 2; show 128 * (16 * h.val + 8 + l.val / 8 % 8) + (16 * (l.val % 8) + (8 + r.val)) = _; omega
  rw [key]
  exact Ideal.exp_coe _

/-- The factor buffer holds the factors of the scores where `D` holds. -/
def E9D (S : ℕ → ℕ → ℕ → ℝ) (D : ℕ → ℕ → ℕ → Prop) (x : S384x3x4x8x128.Idx → EReal) : Prop :=
  ∀ (t : Fin 384) (b : Fin 3) (o : Fin 4) (r : Fin 8) (l : Fin 128), D t.val b.val o.val → x (ix5 t b o r l) = ((facOf S b t.val o r l : ℝ) : EReal)

theorem E9D_mono {S : ℕ → ℕ → ℕ → ℝ} {D D' : ℕ → ℕ → ℕ → Prop} {x : S384x3x4x8x128.Idx → EReal} (h : E9D S D x)
    (hD : ∀ t b o, t < 384 → b < 3 → o < 4 → D' t b o → D t b o) : E9D S D' x :=
  fun t b o r l hd => h t b o r l (hD _ _ _ t.isLt b.isLt o.isLt hd)

/-- One more piece of factors stored. -/
theorem E9D_cons {arg9 : Memref sig .tc .vmem S384x3x4x8x128 .f32} {S : ℕ → ℕ → ℕ → ℝ} {D : ℕ → ℕ → ℕ → Prop} {f : BufTy.Contents (Elt Ideal) arg9.view.ty}
    {L : List (View.Piece (Elt Ideal) S384x3x4x8x128 .f32)} {off : Fin 5 → ℕ} {inb : ∀ a, off a + S1x1x1x8x128.size a ≤ S384x3x4x8x128.size a}
    {y : FVec Ideal S1x1x1x8x128 .f32} (t b o : ℕ) (heq : off = ![t, b, o, 0, 0])
    (hy : ∀ (b' : Fin 3) (o' : Fin 4), b'.val = b → o'.val = o → ∀ r l, y (ix5 (0 : Fin 1) (0 : Fin 1) (0 : Fin 1) r l) = ((facOf S b' t o' r l : ℝ) : EReal))
    (h : E9D S D (arg9.view.read (Elt Ideal) (arg9.view.writes (Elt Ideal) f L))) :
    E9D S (fun t' b' o' => (t' = t ∧ b' = b ∧ o' = o) ∨ D t' b' o')
      (arg9.view.read (Elt Ideal) (arg9.view.writes (Elt Ideal) f (⟨Rect.unit off S1x1x1x8x128.size inb, y⟩ :: L))) := by
  subst heq
  intro t' b' o' r l hd
  by_cases ht : t'.val = t ∧ b'.val = b ∧ o'.val = o
  · rw [View.read_writes_cons_unit_of_mem _ _ inb _ _ _ (ix5 (0 : Fin 1) (0 : Fin 1) (0 : Fin 1) r l) rfl ?_]
    · rw [ht.1]; exact hy b' o' ht.2.1 ht.2.2 r l
    · intro q
      match q with
      | ⟨0, _⟩ => show t'.val = t + 0; omega
      | ⟨1, _⟩ => show b'.val = b + 0; omega
      | ⟨2, _⟩ => show o'.val = o + 0; omega
      | ⟨3, _⟩ => show r.val = 0 + r.val; omega
      | ⟨4, _⟩ => show l.val = 0 + l.val; omega
  · have hd' : D t'.val b'.val o'.val := hd.resolve_left ht
    refine Eq.trans ?_ (h t' b' o' r l hd')
    by_cases h0 : t'.val = t
    · by_cases h1 : b'.val = b
      · have h2 : o'.val ≠ o := fun h2 => ht ⟨h0, h1, h2⟩
        exact View.read_writes_cons_unit_of_not_mem _ _ inb _ _ _ rfl 2 (by show o'.val < o ∨ o + 1 ≤ o'.val; omega)
      · exact View.read_writes_cons_unit_of_not_mem _ _ inb _ _ _ rfl 1 (by show b'.val < b ∨ b + 1 ≤ b'.val; omega)
    · exact View.read_writes_cons_unit_of_not_mem _ _ inb _ _ _ rfl 0 (by show t'.val < t ∨ t + 1 ≤ t'.val; omega)

theorem Done_chunk {t1 : ℕ} (h : t1 < 6) {t b o : ℕ} (ht : t < 384) (hb : b < 3) (hd : Done (t1 + 1) 0 t b o) : Done t1 96 t b o := by
  have hd : t < 32 * (t1 + 1) ∨ 384 ≤ t + 32 * (t1 + 1) := hd.resolve_right (by rintro ⟨m, hm, _⟩; omega)
  by_cases h0 : t < 32 * t1 ∨ 384 ≤ t + 32 * t1
  · exact Or.inl h0
  · right
    by_cases hlo : t < 192
    · refine ⟨32 * b + 8 * (t / 16 % 2) + t % 8, by omega, by omega, ?_⟩
      unfold rowOf
      have e1 : (32 * b + 8 * (t / 16 % 2) + t % 8) / 8 = 4 * b + t / 16 % 2 := by omega
      have e2 : (4 * b + t / 16 % 2) / 2 % 2 = 0 := by omega
      rw [e1, e2]; omega
    · refine ⟨32 * b + 16 + 8 * (t / 16 % 2) + t % 8, by omega, by omega, ?_⟩
      unfold rowOf
      have e1 : (32 * b + 16 + 8 * (t / 16 % 2) + t % 8) / 8 = 4 * b + 2 + t / 16 % 2 := by omega
      have e2 : (4 * b + 2 + t / 16 % 2) / 2 % 2 = 1 := by omega
      rw [e1, e2]; omega

end Cert.Proof.KernelIdeal.Val

end
-- ==== Proof.ValScore.lean ====
/-
  The scores: the product, its scaling, the hyperbolic tangent, and the pairs of half words.
-/
module

public import proofs.«01_k».proof.Defs
public import proofs.«01_k».proof.Proof.ValLay
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

/-- The row product. -/
def dotE (x0 : S3x384x2048.Idx → EReal) (x2 : S2048x4096.Idx → EReal) (b : Fin 3) (t : Fin 384) (n : Fin 4096) : EReal :=
  ∑ k : Fin 2048, x0 (ix3 b t k) * x2 (ix2 k n)

/-- The rows of the left operand: six pieces of 32. -/
theorem acc_at {arg0 : Memref sig .tc .vmem S3x384x2048 .fp8e4m3} {arg2 : Memref sig .tc .vmem S2048x4096 .fp8e4m3}
    (X0 : BufTy.Contents (Elt Ideal) arg0.view.ty) (X2 : BufTy.Contents (Elt Ideal) arg2.view.ty)
    {o1 o2 o3 o4 o5 o6 : Fin 3 → ℕ} {o7 : Fin 2 → ℕ} (i1 i2 i3 i4 i5 i6) (i7) (t1 t2 : ℕ) (h1 : t1 < 6) (h2 : t2 < 8)
    (e1 : o1 = ![0, 32 * t1, 0]) (e2 : o2 = ![0, 352 - 32 * t1, 0]) (e3 : o3 = ![1, 32 * t1, 0]) (e4 : o4 = ![1, 352 - 32 * t1, 0])
    (e5 : o5 = ![2, 32 * t1, 0]) (e6 : o6 = ![2, 352 - 32 * t1, 0]) (e7 : o7 = ![0, 512 * t2])
    (g : Fin 12) (q : Fin 16) (n : Fin 512) :
    k0_pay1 (View.readAt (Elt Ideal) arg0.view (Rect.unit (s := S3x384x2048) o1 S1x32x2048.size i1).toLoadRect X0)
      (View.readAt (Elt Ideal) arg0.view (Rect.unit (s := S3x384x2048) o2 S1x32x2048.size i2).toLoadRect X0)
      (View.readAt (Elt Ideal) arg0.view (Rect.unit (s := S3x384x2048) o3 S1x32x2048.size i3).toLoadRect X0)
      (View.readAt (Elt Ideal) arg0.view (Rect.unit (s := S3x384x2048) o4 S1x32x2048.size i4).toLoadRect X0)
      (View.readAt (Elt Ideal) arg0.view (Rect.unit (s := S3x384x2048) o5 S1x32x2048.size i5).toLoadRect X0)
      (View.readAt (Elt Ideal) arg0.view (Rect.unit (s := S3x384x2048) o6 S1x32x2048.size i6).toLoadRect X0)
      (View.readAt (Elt Ideal) arg2.view (Rect.unit (s := S2048x4096) o7 S2048x512.size i7).toLoadRect X2)
      (ix2 (⟨16 * g.val + q.val, by omega⟩ : Fin 192) n)
      = dotE (arg0.view.read (Elt Ideal) X0) (arg2.view.read (Elt Ideal) X2) ⟨g.val / 4, by omega⟩
        ⟨rowOf t1 g.val + q.val, by unfold rowOf; rcases Nat.mod_two_eq_zero_or_one (g.val / 2) with h | h <;> rw [h] <;> omega⟩ ⟨512 * t2 + n.val, by omega⟩ := by
  subst e1 e2 e3 e4 e5 e6 e7
  unfold k0_pay1 dotE
  dsimp only
  pointwise
  have hrow : ∀ d : ℕ, g.val / 2 % 2 = d → rowOf t1 g.val = 32 * t1 + d * (352 - 64 * t1) + 16 * (g.val % 2) := by
    intro d hd; unfold rowOf; rw [hd]
  have rd : ∀ (b d : ℕ) (hb : g.val / 4 = b) (hd : g.val / 2 % 2 = d) (k : Fin 2048) (off : Fin 3 → ℕ) (i : ∀ a, off a + S1x32x2048.size a ≤ S3x384x2048.size a)
      (he : off = ![b, 32 * t1 + d * (352 - 64 * t1), 0]) (m : Fin 32) (hm : m.val = 16 * (g.val % 2) + q.val) (hr),
      View.readAt (Elt Ideal) arg0.view (Rect.unit (s := S3x384x2048) off S1x32x2048.size i).toLoadRect X0 (ix3 (0 : Fin 1) m k)
        = arg0.view.read (Elt Ideal) X0 (ix3 (⟨g.val / 4, by omega⟩ : Fin 3) (⟨rowOf t1 g.val + q.val, hr⟩ : Fin 384) k) := by
    intro b d hb hd k off i he m hm hr
    subst he
    rw [View.readAt_apply]
    congr 1
    funext a
    apply Fin.ext
    match a with
    | ⟨0, _⟩ => show b + 1 * 0 = g.val / 4; omega
    | ⟨1, _⟩ => show 32 * t1 + d * (352 - 64 * t1) + 1 * m.val = rowOf t1 g.val + q.val; rw [hrow d hd]; omega
    | ⟨2, _⟩ => show 0 + 1 * k.val = k.val; omega
  have s0 : 32 * t1 + 0 * (352 - 64 * t1) = 32 * t1 := by omega
  have s1 : 32 * t1 + 1 * (352 - 64 * t1) = 352 - 32 * t1 := by omega
  refine Finset.sum_congr rfl fun k _ => ?_
  congr 1
  · split_ifs
    all_goals first
      | exact rd 0 0 (by omega) (by omega) k _ i1 (by rw [s0]) _ (by dsimp only; omega) _
      | exact rd 0 1 (by omega) (by omega) k _ i2 (by rw [s1]) _ (by dsimp only; omega) _
      | exact rd 1 0 (by omega) (by omega) k _ i3 (by rw [s0]) _ (by dsimp only; omega) _
      | exact rd 1 1 (by omega) (by omega) k _ i4 (by rw [s1]) _ (by dsimp only; omega) _
      | exact rd 2 0 (by omega) (by omega) k _ i5 (by rw [s0]) _ (by dsimp only; omega) _
      | exact rd 2 1 (by omega) (by omega) k _ i6 (by rw [s1]) _ (by dsimp only; omega) _
  · rw [View.readAt_apply]
    congr 1
    funext a
    apply Fin.ext
    match a with
    | ⟨0, _⟩ => show 0 + 1 * k.val = k.val; omega
    | ⟨1, _⟩ => show 512 * t2 + 1 * n.val = 512 * t2 + n.val; omega

/-- A score from its scaled product. -/
def sE (y : EReal) : EReal := FloatOps.mulf (F := Ideal) (φ := .f32) (Scalar.ofBits .f32 0x40A00000#32) (FloatOps.tanh (F := Ideal) (φ := .f32) y)

/-- The scores `S` are those of the contents. -/
def Sco (S : ℕ → ℕ → ℕ → ℝ) (x0 : S3x384x2048.Idx → EReal) (x2 : S2048x4096.Idx → EReal) (x3 x4 : S32x128.Idx → EReal) (x7 : S3x384x128.Idx → EReal) : Prop :=
  ∀ (b : Fin 3) (t : Fin 384) (u : Fin 32) (l : Fin 128),
    sE (dotE x0 x2 b t ⟨128 * u.val + l.val, by omega⟩ * x7 (ix3 b t l) * x3 (ix2 u l) + x4 (ix2 u l)) = ((S b.val t.val (128 * u.val + l.val) : ℝ) : EReal)

/-- A tile of scores, as the program writes it. -/
abbrev tile (off : Fin 2 → ℕ) (h : S192x512.Slices off S8x128) (acc : FVec Ideal S192x512 .f32) (xs : FVec Ideal S1x8x128 .f32) (ws bs : FVec Ideal S1x128 .f32) : FVec Ideal S8x128 .f32 :=
  mulf (broadcast S8x128 (Scalar.ofBits .f32 0x40A00000#32)) (tanh (addf (mulf (mulf (extractStridedSlice S8x128 off acc h) (shapeCast S8x128 xs shapeCasts_S1x8x128_S8x128))
    (broadcastTo S8x128 ws broadcasts_S1x128_S8x128)) (broadcastTo S8x128 bs broadcasts_S1x128_S8x128)))

theorem tile_at {S : ℕ → ℕ → ℕ → ℝ} {x0 : S3x384x2048.Idx → EReal} {x2 : S2048x4096.Idx → EReal} {x3 x4 : S32x128.Idx → EReal} {x7 : S3x384x128.Idx → EReal}
    (hS : Sco S x0 x2 x3 x4 x7) {t1 t2 : ℕ} (h1 : t1 < 6) (h2 : t2 < 8) (g : Fin 12) (j : Fin 4) (p : Fin 2) {off : Fin 2 → ℕ} (h : S192x512.Slices off S8x128)
    (he : off = ![16 * g.val + 8 * p.val, 128 * j.val]) {acc : FVec Ideal S192x512 .f32} {xs : FVec Ideal S1x8x128 .f32} {ws bs : FVec Ideal S1x128 .f32}
    (hr : ∀ q : Fin 16, rowOf t1 g.val + q.val < 384)
    (hacc : ∀ (q : Fin 16) (n : Fin 512), acc (ix2 (⟨16 * g.val + q.val, by omega⟩ : Fin 192) n) = dotE x0 x2 ⟨g.val / 4, by omega⟩ ⟨rowOf t1 g.val + q.val, hr q⟩ ⟨512 * t2 + n.val, by omega⟩)
    (hxs : ∀ (r : Fin 8) (l : Fin 128), xs (ix3 (0 : Fin 1) r l) = x7 (ix3 (⟨g.val / 4, by omega⟩ : Fin 3) ⟨rowOf t1 g.val + 8 * p.val + r.val, by have := hr ⟨8 * p.val + r.val, by omega⟩; dsimp only at this; omega⟩ l))
    (hws : ∀ l : Fin 128, ws (ix2 (0 : Fin 1) l) = x3 (ix2 (⟨4 * t2 + j.val, by omega⟩ : Fin 32) l))
    (hbs : ∀ l : Fin 128, bs (ix2 (0 : Fin 1) l) = x4 (ix2 (⟨4 * t2 + j.val, by omega⟩ : Fin 32) l)) (r : Fin 8) (l : Fin 128) :
    tile off h acc xs ws bs (ix2 r l) = ((S (g.val / 4) (rowOf t1 g.val + 8 * p.val + r.val) (128 * (4 * t2 + j.val) + l.val) : ℝ) : EReal) := by
  subst he
  have hq := hr ⟨8 * p.val + r.val, by omega⟩
  refine Eq.trans ?_ (hS ⟨g.val / 4, by omega⟩ ⟨rowOf t1 g.val + 8 * p.val + r.val, by dsimp only at hq; omega⟩ ⟨4 * t2 + j.val, by omega⟩ l)
  rw [← hws l, ← hbs l, ← hxs r l]
  have ha := hacc ⟨8 * p.val + r.val, by omega⟩ ⟨128 * j.val + l.val, by omega⟩
  have hd : dotE x0 x2 (⟨g.val / 4, by omega⟩ : Fin 3) ⟨rowOf t1 g.val + 8 * p.val + r.val, by dsimp only at hq; omega⟩ ⟨128 * (4 * t2 + j.val) + l.val, by omega⟩
      = dotE x0 x2 (⟨g.val / 4, by omega⟩ : Fin 3) ⟨rowOf t1 g.val + (8 * p.val + r.val), hq⟩ ⟨512 * t2 + (128 * j.val + l.val), by omega⟩ := by
    congr 1
    · exact Fin.ext (by dsimp only; omega)
    · exact Fin.ext (by dsimp only; omega)
  unfold sE
  rw [hd, ← ha]
  unfold tile
  pointwise
  have e : (⟨16 * g.val + 8 * p.val + r.val, by omega⟩ : Fin 192) = ⟨16 * g.val + (8 * p.val + r.val), by omega⟩ := Fin.ext (Nat.add_assoc _ _ _)
  rw [e]

/-- The pairs of two tiles. -/
theorem pack_at {lo hi : FVec Ideal S8x128 .f32} (e1 e2 h1 h2 h3 h4 hb) (s : Fin 8) (p : Fin 2) (l : Fin 128) :
    interleaveRows S1x8x2x128 (shapeCast S1x8x1x128 (shapeCast S1x8x128 (truncf .bf16 lo e1) h1) h2) (shapeCast S1x8x1x128 (shapeCast S1x8x128 (truncf .bf16 hi e2) h3) h4) hb (ix4 (0 : Fin 1) s p l)
      = if p = 0 then lo (ix2 s l) else hi (ix2 s l) := by
  match p with
  | 0 => pointwise
  | 1 => pointwise

/-- The word buffer holds the scores of chunk `t1` where `D` holds. -/
def W8D (S : ℕ → ℕ → ℕ → ℝ) (t1 : ℕ) (D : ℕ → ℕ → Prop) (x : S12x264x2x128.Idx → EReal) : Prop :=
  ∀ (g : Fin 12) (s : Fin 8) (u : Fin 32) (p : Fin 2) (l : Fin 128), D g.val u.val →
    x (ix4 g ⟨33 * s.val + u.val, by omega⟩ p l) = ((S (g.val / 4) (rowOf t1 g.val + 8 * p.val + s.val) (128 * u.val + l.val) : ℝ) : EReal)

theorem W8D_mono {S : ℕ → ℕ → ℕ → ℝ} {t1 : ℕ} {D D' : ℕ → ℕ → Prop} {x : S12x264x2x128.Idx → EReal} (h : W8D S t1 D x)
    (hD : ∀ g u, g < 12 → u < 32 → D' g u → D g u) : W8D S t1 D' x :=
  fun g s u p l hd => h g s u p l (hD _ _ g.isLt u.isLt hd)

/-- One more strided piece of words stored. -/
theorem W8D_cons {arg8 : Memref sig .tc .vmem S12x264x2x128 .bf16} {S : ℕ → ℕ → ℕ → ℝ} {t1 : ℕ} {D : ℕ → ℕ → Prop} {f : BufTy.Contents (Elt Ideal) arg8.view.ty}
    {L : List (View.Piece (Elt Ideal) S12x264x2x128 .bf16)} {off : Fin 4 → ℕ} {inb : _} {hs : _}
    {y : FVec Ideal S1x8x2x128 .bf16} (g u : ℕ) (hu : u < 32) (heq : off = ![g, u, 0, 0])
    (hy : ∀ s p l, y (ix4 (0 : Fin 1) s p l) = ((S (g / 4) (rowOf t1 g + 8 * p.val + s.val) (128 * u + l.val) : ℝ) : EReal))
    (h : W8D S t1 D (arg8.view.read (Elt Ideal) (arg8.view.writes (Elt Ideal) f L))) :
    W8D S t1 (fun g' u' => (g' = g ∧ u' = u) ∨ D g' u')
      (arg8.view.read (Elt Ideal) (arg8.view.writes (Elt Ideal) f
        (⟨⟨(⟨off, S1x8x2x128.size, ![1, 33, 1, 1], inb⟩ : LoadRect S12x264x2x128), hs⟩, y⟩ :: L))) := by
  subst heq
  intro g' s u' p l hd
  by_cases ht : g'.val = g ∧ u'.val = u
  · have hx : (⟨(⟨![g, u, 0, 0], S1x8x2x128.size, ![1, 33, 1, 1], inb⟩ : LoadRect S12x264x2x128), hs⟩ : Rect S12x264x2x128).emb (ix4 (0 : Fin 1) s p l)
        = (ix4 g' ⟨33 * s.val + u'.val, by omega⟩ p l : S12x264x2x128.Idx) := by
      funext a
      apply Fin.ext
      match a with
      | ⟨0, _⟩ => show g + 1 * 0 = g'.val; omega
      | ⟨1, _⟩ => show u + 33 * s.val = 33 * s.val + u'.val; omega
      | ⟨2, _⟩ => show 0 + 1 * p.val = p.val; omega
      | ⟨3, _⟩ => show 0 + 1 * l.val = l.val; omega
    rw [← hx]
    refine (View.read_writes_cons_emb _ _ _ _ _ _).trans ?_
    rw [ht.1, ht.2]
    exact hy s p l
  · refine Eq.trans ?_ (h g' s u' p l (hd.resolve_left ht))
    refine View.read_slice_write_of_not_mem _ _ _ _ ?_
    intro hm
    obtain ⟨x, _, hx⟩ := Finset.mem_map.mp hm
    have c0 : g + 1 * (x 0).val = g'.val := congrArg Fin.val (congrFun hx 0)
    have c1 : u + 33 * (x 1).val = 33 * s.val + u'.val := congrArg Fin.val (congrFun hx 1)
    have b0 : (x 0).val < 1 := (x 0).isLt
    have b1 : (x 1).val < 8 := (x 1).isLt
    exact ht ⟨by omega, by omega⟩

end Cert.Proof.KernelIdeal.Val

end
-- ==== Proof.ValOut.lean ====
/-
  The values of the index vectors, of the row scales and of the outputs, as the program computes them.
-/
module

public import proofs.«01_k».proof.Defs
public import proofs.«01_k».proof.Proof.ValT4
public import proofs.«01_k».proof.Proof.ValScore
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

theorem one_lit : Ideal.ofBits .f32 0x3F800000#32 = ((1 : ℝ) : EReal) := by
  simp [Ideal.ofBits, Ideal.ieee]; rw [← EReal.coe_mul]; norm_num
theorem zero_lit : Ideal.ofBits .f32 0x00000000#32 = ((0 : ℝ) : EReal) := by
  simp [Ideal.ofBits, Ideal.ieee]
theorem two_lit : Ideal.ofBits .f32 0x40000000#32 = ((2 : ℝ) : EReal) := by
  simp [Ideal.ofBits, Ideal.ieee]; rw [← EReal.coe_mul]; norm_num
theorem five_lit : Ideal.ofBits .f32 0x40A00000#32 = ((5 : ℝ) : EReal) := by
  simp [Ideal.ofBits, Ideal.ieee]; rw [← EReal.coe_mul]; norm_num
theorem lane_lit : Ideal.ofBits .f32 0x3C000000#32 = ((1 / 128 : ℝ) : EReal) := by
  simp [Ideal.ofBits, Ideal.ieee]; rw [← EReal.coe_mul]; norm_num

/-- The index vectors of the step are those the program prints. -/
theorem printed_FIx : FIx (k0_pay629 (F := Ideal)) k0_pay634 k0_pay635 k0_pay637 k0_pay638 k0_pay639 k0_pay640 (k0_pay644 k0_pay641 k0_pay642 k0_pay643) (k0_pay645 (iota .tc S8x128 32 [1] iota_S8x128_d1_w32) k0_pay628 k0_pay633) (k0_pay646 (iota .tc S8x128 32 [0] iota_S8x128_d0_w32) k0_pay628) where
  stay := fun r l => by
    show Ideal.exp (Ideal.ofBits .f32 0x40000000#32) = _
    rw [two_lit, Ideal.exp_coe]
  row0 := by decide +kernel
  row1 := by decide +kernel
  xor1 := by decide +kernel
  xor2 := by decide +kernel
  rep0 := by decide +kernel
  rep1 := by decide +kernel
  fin := by decide +kernel
  flane := by decide +kernel
  fout := by decide +kernel

/-- The index vectors of the score layout are those the program prints. -/
theorem printed_SIx : SIx (k0_pay656 (iota .tc S8x128 32 [1] iota_S8x128_d1_w32)) (k0_pay657 (iota .tc S8x128 32 [0] iota_S8x128_d0_w32) (iota .tc S8x128 32 [1] iota_S8x128_d1_w32)) (k0_pay660 (iota .tc S8x128 32 [0] iota_S8x128_d0_w32) (k0_pay658 (iota .tc S8x128 32 [1] iota_S8x128_d1_w32)) (k0_pay659 (iota .tc S8x128 32 [1] iota_S8x128_d1_w32)) 4#32) (k0_pay661 (iota .tc S8x128 32 [0] iota_S8x128_d0_w32) (iota .tc S8x128 32 [1] iota_S8x128_d1_w32) (k0_pay658 (iota .tc S8x128 32 [1] iota_S8x128_d1_w32))) (k0_pay662 (k0_pay658 (iota .tc S8x128 32 [1] iota_S8x128_d1_w32))) (k0_pay663 (iota .tc S8x128 32 [0] iota_S8x128_d0_w32) (k0_pay658 (iota .tc S8x128 32 [1] iota_S8x128_d1_w32))) where
  sel := by decide +kernel
  sin := by decide +kernel
  slane0 := by decide +kernel
  slane1 := by decide +kernel
  osel := by decide +kernel
  sout := by decide +kernel

theorem ones_C4 (W : Fin 3 → ℕ → Fin 4 → Blk) :
    C4 W 0 (k0_pay686 (F := Ideal)) (k0_pay686 (F := Ideal)) (k0_pay686 (F := Ideal)) (k0_pay686 (F := Ideal)) (k0_pay686 (F := Ideal)) (k0_pay686 (F := Ideal)) := by
  have h : ∀ b, Ch (W b) 0 (k0_pay686 (F := Ideal)) (k0_pay686 (F := Ideal)) := fun b =>
    ⟨fun r l => one_lit.trans (congrArg _ (one_mul (1 : ℝ)).symm), fun r l => one_lit⟩
  exact ⟨h 0, h 1, h 2⟩

theorem ones_FR (W : Fin 3 → ℕ → Fin 4 → Blk) : FR W 0 (k0_pay687 (F := Ideal)) := fun b t l => by
  rw [if_neg (by omega)]
  unfold k0_pay687
  rw [shapeCast_self]
  exact one_lit

theorem at_first : ∀ t : Fin 384, IntOp.cmpi .eq (BitVec.ofNat 32 t.val) 0#32 = if t.val = 0 then 1#1 else 0#1 := by decide +kernel

/-- Row `b` of the first result, from the row sums at a position, at the next one, and the factors at the next one. -/
theorem out_val (v326 v331 v336 : Vec Ideal S1x384x128 .f32) (t : Fin 384) (p0 p1 : Fin 128 → ℝ) (f : ℝ)
    (h0 : t.val ≠ 0 → ∀ l, v326 (ix3 (0 : Fin 1) t l) = ((p0 l : ℝ) : EReal)) (h1 : ∀ l, v331 (ix3 (0 : Fin 1) t l) = ((p1 l : ℝ) : EReal))
    (h2 : ∀ l, v336 (ix3 (0 : Fin 1) t l) = ((f : ℝ) : EReal)) (q0 : t.val ≠ 0 → 0 < ∑ l, p0 l) (q1 : 0 < ∑ l, p1 l) (q2 : 0 < f) :
    k0_pay713 (k0_pay708 (F := Ideal)) (iota .tc S1x384 32 [1] iota_S1x384_d1_w32) (k0_pay712 v326) v331 v336 (ix2 (0 : Fin 1) t)
      = ((Real.log (∑ l, p1 l) - Real.log f - (if t.val = 0 then 0 else Real.log (∑ l, p0 l)) : ℝ) : EReal) := by
  unfold k0_pay713 k0_pay712 k0_pay708
  pointwise
  have e1 : ∑ x, v331 (ix3 (0 : Fin 1) t x) = ((∑ l, p1 l : ℝ) : EReal) := (Finset.sum_congr rfl fun l _ => h1 l).trans (coe_sum p1)
  have e2 : ∑ x, v336 (ix3 (0 : Fin 1) t x) = ((128 * f : ℝ) : EReal) := by
    refine (Finset.sum_congr rfl fun l _ => h2 l).trans ((coe_sum fun _ : Fin 128 => f).trans ?_)
    rw [Finset.sum_const, Finset.card_univ, Fintype.card_fin, nsmul_eq_mul]
    norm_num
  have e3 : (128 * f * (1 / 128) : ℝ) = f := by ring
  rw [e1, e2, lane_lit, ← EReal.coe_mul, e3, Ideal.log_coe, if_neg (not_le.mpr q1), Ideal.log_coe, if_neg (not_le.mpr q2), at_first]
  by_cases ht : t.val = 0
  · rw [if_pos ht, if_pos ht]
    show ((_ : ℝ) : EReal) - _ - 0 = _
    rw [sub_zero, sub_zero, EReal.coe_sub]
  · have e0 : ∑ x, v326 (ix3 (0 : Fin 1) t x) = ((∑ l, p0 l : ℝ) : EReal) := (Finset.sum_congr rfl fun l _ => h0 ht l).trans (coe_sum p0)
    rw [if_neg ht, if_neg ht]
    show ((_ : ℝ) : EReal) - _ - Ideal.log (∑ x, v326 (ix3 (0 : Fin 1) t x)) = _
    rw [e0, Ideal.log_coe, if_neg (not_le.mpr (q0 ht)), EReal.coe_sub, EReal.coe_sub]

end Cert.Proof.KernelIdeal.Val

end
-- ==== Proof.ValT8.lean ====
/-
  The pairs of steps of a block of the second half, with what they compute.
-/
module

public import proofs.«01_k».proof.Defs
public import proofs.«01_k».proof.Proof.ValMem
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

set_option warn.classDefReducibility false in
/-- The loop over the pairs of steps of a block, with what it computes. -/
noncomputable def val8 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec Ideal S8x128 .f32) (v256_1 : FVec Ideal S8x128 .f32) (v256_2 : FVec Ideal S8x128 .f32) (v256_3 : FVec Ideal S8x128 .f32) (v256_4 : FVec Ideal S8x128 .f32) (v256_5 : FVec Ideal S8x128 .f32) (v256_6 : FVec Ideal S8x128 .f32) (v256_7 : FVec Ideal S8x128 .f32) (v256_8 : FVec Ideal S8x128 .f32) (v256_9 : FVec Ideal S8x128 .f32) (v256_10 : FVec Ideal S8x128 .f32) (v256_11 : FVec Ideal S8x128 .f32) (v267 : FVec Ideal S8x128 .f32) (v278 : FVec Ideal S8x128 .f32) (v289 : FVec Ideal S8x128 .f32) (k0_t6 : Fin k0_t6_loop.trips) (k0_t7 : Fin k0_t7_loop.trips) (arg37 : BitVec 32) (v408 : BitVec 32) (v409 : BitVec 32) (v415 : FVec Ideal S8x128 .f32) (v421 : FVec Ideal S8x128 .f32) (v427 : FVec Ideal S8x128 .f32) (v433 : FVec Ideal S8x128 .f32) (v439 : FVec Ideal S8x128 .f32) (v445 : FVec Ideal S8x128 .f32) (init : FVec Ideal S8x128 .f32 × FVec Ideal S8x128 .f32 × FVec Ideal S8x128 .f32 × FVec Ideal S8x128 .f32 × FVec Ideal S8x128 .f32 × FVec Ideal S8x128 .f32) (W : Fin 3 → ℕ → Fin 4 → Blk) (κ : Fin 3 → ℕ → ℝ) :
    Cert.KernelIdeal.Gen.LoopInvTy_k0_t8 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 k0_t6 k0_t7 arg37 v408 v409 v415 v421 v427 v433 v439 v445 init where
  inv := fun k acc => iprop((∃ f, (arg9.view.loc (c : Thread nD τ) ↦[arg9.view.set]{fullShare} f) ∗ ⌜E9 W (arg9.view.read (Elt Ideal) f)⌝)
    ∗ (∃ f, (arg10.view.loc (c : Thread nD τ) ↦[arg10.view.set]{fullShare} f) ∗ ⌜A10 W κ (8 * (24 + 2 * k0_t6.val + k0_t7.val) + 2 * (k)) (arg10.view.read (Elt Ideal) f)⌝) ∗ (∃ f, (arg11.view.loc (c : Thread nD τ) ↦[arg11.view.set]{fullShare} f)) ∗ (∃ f, (arg12.view.loc (c : Thread nD τ) ↦[arg12.view.set]{fullShare} f)) ∗ (∃ f, (arg17.view.loc (c : Thread nD τ) ↦[arg17.view.set]{fullShare} f))
    ∗ ⌜FIx v5 v17 v21 v27 v29 v31 v33 v46 v52 v67⌝ ∗ ⌜Acc W (fun b => κ b (24 + 2 * k0_t6.val + k0_t7.val)) (8 * (24 + 2 * k0_t6.val + k0_t7.val) + 2 * (k)) acc.1 acc.2.1 acc.2.2.1⌝)
  step := fun k acc => by
    unfold k0_t8_body
    have t6 : k0_t6.val < 12 := lt_of_lt_of_le k0_t6.isLt (by decide)
    have t7 : k0_t7.val < 2 := lt_of_lt_of_le k0_t7.isLt (by decide)
    have t8 : k.val < 4 := lt_of_lt_of_le k.isLt (by decide)
    have en0 : 16 * k0_t6.val + 8 * k0_t7.val + 2 * k.val + (0 : Fin 2).val + 192 = (8 * (24 + 2 * k0_t6.val + k0_t7.val) + 2 * (k.val)) := by show 16 * k0_t6.val + 8 * k0_t7.val + 2 * k.val + 0 + 192 = _; omega
    have en1 : 16 * k0_t6.val + 8 * k0_t7.val + 2 * k.val + (1 : Fin 2).val + 192 = (8 * (24 + 2 * k0_t6.val + k0_t7.val) + 2 * (k.val)) + 1 := by show 16 * k0_t6.val + 8 * k0_t7.val + 2 * k.val + 1 + 192 = _; omega
    iintro ⟨⟨%f9, H9, %h9⟩, ⟨%f10, H10, %h10⟩, ⟨%f11, H11⟩, ⟨%f12, H12⟩, ⟨%f17, H17⟩, %HI, %ha⟩
    sl_exec
    sl_step
    isplitl [H9]
    · iexists _; isplitl [H9]; · iexact H9
      ipureintro; exact h9
    isplitl [H10]
    · iexists _; isplitl [H10]; · iexact H10
      ipureintro
      refine upd10b (N := (8 * (24 + 2 * k0_t6.val + k0_t7.val) + 2 * (k.val))) (by omega) f10 h10 _ _ _ _ _ _ ((k0_off90_eq k0_t6 k0_t7 k 0).trans (congrArg (fun n : ℕ => ![n, 0, 0, 0]) en0)) ((k0_off90_eq k0_t6 k0_t7 k 1).trans (congrArg (fun n : ℕ => ![n, 0, 0, 0]) en1)) ((k0_off103_eq k0_t6 k0_t7 k 0).trans (congrArg (fun n : ℕ => ![n, 1, 0, 0]) en0)) ((k0_off103_eq k0_t6 k0_t7 k 1).trans (congrArg (fun n : ℕ => ![n, 1, 0, 0]) en1)) ((k0_off116_eq k0_t6 k0_t7 k 0).trans (congrArg (fun n : ℕ => ![n, 2, 0, 0]) en0)) ((k0_off116_eq k0_t6 k0_t7 k 1).trans (congrArg (fun n : ℕ => ![n, 2, 0, 0]) en1)) _ _ _ _ _ _
        (k := 24 + 2 * k0_t6.val + k0_t7.val) (by omega) (by omega) ha ?_
      dsimp only
      sl_unfold_words
      unfold_payloads
      refine ⟨fstep_al HI ha.1 ?_ ?_ ?_ ?_, fstep_al HI ha.2.1 ?_ ?_ ?_ ?_, fstep_al HI ha.2.2 ?_ ?_ ?_ ?_⟩
      · exact ld9 h9 _ _ ((8 * (24 + 2 * k0_t6.val + k0_t7.val) + 2 * (k.val))) (by omega) 0 0 ((k0_off92_eq k0_t6 k0_t7 k 0).trans (congrArg (fun n : ℕ => ![n, 0, 0, 0, 0]) en0))
      · exact ld9 h9 _ _ ((8 * (24 + 2 * k0_t6.val + k0_t7.val) + 2 * (k.val))) (by omega) 0 1 ((k0_off93_eq k0_t6 k0_t7 k 0).trans (congrArg (fun n : ℕ => ![n, 0, 1, 0, 0]) en0))
      · exact ld9 h9 _ _ ((8 * (24 + 2 * k0_t6.val + k0_t7.val) + 2 * (k.val))) (by omega) 0 2 ((k0_off94_eq k0_t6 k0_t7 k 0).trans (congrArg (fun n : ℕ => ![n, 0, 2, 0, 0]) en0))
      · exact ld9 h9 _ _ ((8 * (24 + 2 * k0_t6.val + k0_t7.val) + 2 * (k.val))) (by omega) 0 3 ((k0_off95_eq k0_t6 k0_t7 k 0).trans (congrArg (fun n : ℕ => ![n, 0, 3, 0, 0]) en0))
      · exact ld9 h9 _ _ ((8 * (24 + 2 * k0_t6.val + k0_t7.val) + 2 * (k.val))) (by omega) 1 0 ((k0_off105_eq k0_t6 k0_t7 k 0).trans (congrArg (fun n : ℕ => ![n, 1, 0, 0, 0]) en0))
      · exact ld9 h9 _ _ ((8 * (24 + 2 * k0_t6.val + k0_t7.val) + 2 * (k.val))) (by omega) 1 1 ((k0_off106_eq k0_t6 k0_t7 k 0).trans (congrArg (fun n : ℕ => ![n, 1, 1, 0, 0]) en0))
      · exact ld9 h9 _ _ ((8 * (24 + 2 * k0_t6.val + k0_t7.val) + 2 * (k.val))) (by omega) 1 2 ((k0_off107_eq k0_t6 k0_t7 k 0).trans (congrArg (fun n : ℕ => ![n, 1, 2, 0, 0]) en0))
      · exact ld9 h9 _ _ ((8 * (24 + 2 * k0_t6.val + k0_t7.val) + 2 * (k.val))) (by omega) 1 3 ((k0_off108_eq k0_t6 k0_t7 k 0).trans (congrArg (fun n : ℕ => ![n, 1, 3, 0, 0]) en0))
      · exact ld9 h9 _ _ ((8 * (24 + 2 * k0_t6.val + k0_t7.val) + 2 * (k.val))) (by omega) 2 0 ((k0_off118_eq k0_t6 k0_t7 k 0).trans (congrArg (fun n : ℕ => ![n, 2, 0, 0, 0]) en0))
      · exact ld9 h9 _ _ ((8 * (24 + 2 * k0_t6.val + k0_t7.val) + 2 * (k.val))) (by omega) 2 1 ((k0_off119_eq k0_t6 k0_t7 k 0).trans (congrArg (fun n : ℕ => ![n, 2, 1, 0, 0]) en0))
      · exact ld9 h9 _ _ ((8 * (24 + 2 * k0_t6.val + k0_t7.val) + 2 * (k.val))) (by omega) 2 2 ((k0_off120_eq k0_t6 k0_t7 k 0).trans (congrArg (fun n : ℕ => ![n, 2, 2, 0, 0]) en0))
      · exact ld9 h9 _ _ ((8 * (24 + 2 * k0_t6.val + k0_t7.val) + 2 * (k.val))) (by omega) 2 3 ((k0_off121_eq k0_t6 k0_t7 k 0).trans (congrArg (fun n : ℕ => ![n, 2, 3, 0, 0]) en0))
    isplitl [H11]; · iexists _; iexact H11
    isplitl [H12]; · iexists _; iexact H12
    isplitl [H17]; · iexists _; iexact H17
    isplitl []; · ipureintro; exact HI
    ipureintro
    dsimp only
    sl_unfold_words
    unfold_payloads
    refine ⟨fstep_al HI (fstep_al HI ha.1 ?_ ?_ ?_ ?_) ?_ ?_ ?_ ?_, fstep_al HI (fstep_al HI ha.2.1 ?_ ?_ ?_ ?_) ?_ ?_ ?_ ?_, fstep_al HI (fstep_al HI ha.2.2 ?_ ?_ ?_ ?_) ?_ ?_ ?_ ?_⟩
    · exact ld9 h9 _ _ ((8 * (24 + 2 * k0_t6.val + k0_t7.val) + 2 * (k.val))) (by omega) 0 0 ((k0_off92_eq k0_t6 k0_t7 k 0).trans (congrArg (fun n : ℕ => ![n, 0, 0, 0, 0]) en0))
    · exact ld9 h9 _ _ ((8 * (24 + 2 * k0_t6.val + k0_t7.val) + 2 * (k.val))) (by omega) 0 1 ((k0_off93_eq k0_t6 k0_t7 k 0).trans (congrArg (fun n : ℕ => ![n, 0, 1, 0, 0]) en0))
    · exact ld9 h9 _ _ ((8 * (24 + 2 * k0_t6.val + k0_t7.val) + 2 * (k.val))) (by omega) 0 2 ((k0_off94_eq k0_t6 k0_t7 k 0).trans (congrArg (fun n : ℕ => ![n, 0, 2, 0, 0]) en0))
    · exact ld9 h9 _ _ ((8 * (24 + 2 * k0_t6.val + k0_t7.val) + 2 * (k.val))) (by omega) 0 3 ((k0_off95_eq k0_t6 k0_t7 k 0).trans (congrArg (fun n : ℕ => ![n, 0, 3, 0, 0]) en0))
    · exact ld9 h9 _ _ ((8 * (24 + 2 * k0_t6.val + k0_t7.val) + 2 * (k.val)) + 1) (by omega) 0 0 ((k0_off92_eq k0_t6 k0_t7 k 1).trans (congrArg (fun n : ℕ => ![n, 0, 0, 0, 0]) en1))
    · exact ld9 h9 _ _ ((8 * (24 + 2 * k0_t6.val + k0_t7.val) + 2 * (k.val)) + 1) (by omega) 0 1 ((k0_off93_eq k0_t6 k0_t7 k 1).trans (congrArg (fun n : ℕ => ![n, 0, 1, 0, 0]) en1))
    · exact ld9 h9 _ _ ((8 * (24 + 2 * k0_t6.val + k0_t7.val) + 2 * (k.val)) + 1) (by omega) 0 2 ((k0_off94_eq k0_t6 k0_t7 k 1).trans (congrArg (fun n : ℕ => ![n, 0, 2, 0, 0]) en1))
    · exact ld9 h9 _ _ ((8 * (24 + 2 * k0_t6.val + k0_t7.val) + 2 * (k.val)) + 1) (by omega) 0 3 ((k0_off95_eq k0_t6 k0_t7 k 1).trans (congrArg (fun n : ℕ => ![n, 0, 3, 0, 0]) en1))
    · exact ld9 h9 _ _ ((8 * (24 + 2 * k0_t6.val + k0_t7.val) + 2 * (k.val))) (by omega) 1 0 ((k0_off105_eq k0_t6 k0_t7 k 0).trans (congrArg (fun n : ℕ => ![n, 1, 0, 0, 0]) en0))
    · exact ld9 h9 _ _ ((8 * (24 + 2 * k0_t6.val + k0_t7.val) + 2 * (k.val))) (by omega) 1 1 ((k0_off106_eq k0_t6 k0_t7 k 0).trans (congrArg (fun n : ℕ => ![n, 1, 1, 0, 0]) en0))
    · exact ld9 h9 _ _ ((8 * (24 + 2 * k0_t6.val + k0_t7.val) + 2 * (k.val))) (by omega) 1 2 ((k0_off107_eq k0_t6 k0_t7 k 0).trans (congrArg (fun n : ℕ => ![n, 1, 2, 0, 0]) en0))
    · exact ld9 h9 _ _ ((8 * (24 + 2 * k0_t6.val + k0_t7.val) + 2 * (k.val))) (by omega) 1 3 ((k0_off108_eq k0_t6 k0_t7 k 0).trans (congrArg (fun n : ℕ => ![n, 1, 3, 0, 0]) en0))
    · exact ld9 h9 _ _ ((8 * (24 + 2 * k0_t6.val + k0_t7.val) + 2 * (k.val)) + 1) (by omega) 1 0 ((k0_off105_eq k0_t6 k0_t7 k 1).trans (congrArg (fun n : ℕ => ![n, 1, 0, 0, 0]) en1))
    · exact ld9 h9 _ _ ((8 * (24 + 2 * k0_t6.val + k0_t7.val) + 2 * (k.val)) + 1) (by omega) 1 1 ((k0_off106_eq k0_t6 k0_t7 k 1).trans (congrArg (fun n : ℕ => ![n, 1, 1, 0, 0]) en1))
    · exact ld9 h9 _ _ ((8 * (24 + 2 * k0_t6.val + k0_t7.val) + 2 * (k.val)) + 1) (by omega) 1 2 ((k0_off107_eq k0_t6 k0_t7 k 1).trans (congrArg (fun n : ℕ => ![n, 1, 2, 0, 0]) en1))
    · exact ld9 h9 _ _ ((8 * (24 + 2 * k0_t6.val + k0_t7.val) + 2 * (k.val)) + 1) (by omega) 1 3 ((k0_off108_eq k0_t6 k0_t7 k 1).trans (congrArg (fun n : ℕ => ![n, 1, 3, 0, 0]) en1))
    · exact ld9 h9 _ _ ((8 * (24 + 2 * k0_t6.val + k0_t7.val) + 2 * (k.val))) (by omega) 2 0 ((k0_off118_eq k0_t6 k0_t7 k 0).trans (congrArg (fun n : ℕ => ![n, 2, 0, 0, 0]) en0))
    · exact ld9 h9 _ _ ((8 * (24 + 2 * k0_t6.val + k0_t7.val) + 2 * (k.val))) (by omega) 2 1 ((k0_off119_eq k0_t6 k0_t7 k 0).trans (congrArg (fun n : ℕ => ![n, 2, 1, 0, 0]) en0))
    · exact ld9 h9 _ _ ((8 * (24 + 2 * k0_t6.val + k0_t7.val) + 2 * (k.val))) (by omega) 2 2 ((k0_off120_eq k0_t6 k0_t7 k 0).trans (congrArg (fun n : ℕ => ![n, 2, 2, 0, 0]) en0))
    · exact ld9 h9 _ _ ((8 * (24 + 2 * k0_t6.val + k0_t7.val) + 2 * (k.val))) (by omega) 2 3 ((k0_off121_eq k0_t6 k0_t7 k 0).trans (congrArg (fun n : ℕ => ![n, 2, 3, 0, 0]) en0))
    · exact ld9 h9 _ _ ((8 * (24 + 2 * k0_t6.val + k0_t7.val) + 2 * (k.val)) + 1) (by omega) 2 0 ((k0_off118_eq k0_t6 k0_t7 k 1).trans (congrArg (fun n : ℕ => ![n, 2, 0, 0, 0]) en1))
    · exact ld9 h9 _ _ ((8 * (24 + 2 * k0_t6.val + k0_t7.val) + 2 * (k.val)) + 1) (by omega) 2 1 ((k0_off119_eq k0_t6 k0_t7 k 1).trans (congrArg (fun n : ℕ => ![n, 2, 1, 0, 0]) en1))
    · exact ld9 h9 _ _ ((8 * (24 + 2 * k0_t6.val + k0_t7.val) + 2 * (k.val)) + 1) (by omega) 2 2 ((k0_off120_eq k0_t6 k0_t7 k 1).trans (congrArg (fun n : ℕ => ![n, 2, 2, 0, 0]) en1))
    · exact ld9 h9 _ _ ((8 * (24 + 2 * k0_t6.val + k0_t7.val) + 2 * (k.val)) + 1) (by omega) 2 3 ((k0_off121_eq k0_t6 k0_t7 k 1).trans (congrArg (fun n : ℕ => ![n, 2, 3, 0, 0]) en1))

end Cert.Proof.KernelIdeal.Val

end
-- ==== Proof.ValT7.lean ====
/-
  The blocks of the second half, with what they compute.
-/
module

public import proofs.«01_k».proof.Defs
public import proofs.«01_k».proof.Proof.ValT4
public import proofs.«01_k».proof.Proof.ValT8
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

set_option warn.classDefReducibility false in
/-- The loop over the pairs of steps, at the factors at hand. -/
@[sl_loop] noncomputable def val8' [Fac] (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec Ideal S8x128 .f32) (v256_1 : FVec Ideal S8x128 .f32) (v256_2 : FVec Ideal S8x128 .f32) (v256_3 : FVec Ideal S8x128 .f32) (v256_4 : FVec Ideal S8x128 .f32) (v256_5 : FVec Ideal S8x128 .f32) (v256_6 : FVec Ideal S8x128 .f32) (v256_7 : FVec Ideal S8x128 .f32) (v256_8 : FVec Ideal S8x128 .f32) (v256_9 : FVec Ideal S8x128 .f32) (v256_10 : FVec Ideal S8x128 .f32) (v256_11 : FVec Ideal S8x128 .f32) (v267 : FVec Ideal S8x128 .f32) (v278 : FVec Ideal S8x128 .f32) (v289 : FVec Ideal S8x128 .f32) (k0_t6 : Fin k0_t6_loop.trips) (k0_t7 : Fin k0_t7_loop.trips) (arg37 : BitVec 32) (v408 : BitVec 32) (v409 : BitVec 32) (v415 : FVec Ideal S8x128 .f32) (v421 : FVec Ideal S8x128 .f32) (v427 : FVec Ideal S8x128 .f32) (v433 : FVec Ideal S8x128 .f32) (v439 : FVec Ideal S8x128 .f32) (v445 : FVec Ideal S8x128 .f32) (init : FVec Ideal S8x128 .f32 × FVec Ideal S8x128 .f32 × FVec Ideal S8x128 .f32 × FVec Ideal S8x128 .f32 × FVec Ideal S8x128 .f32 × FVec Ideal S8x128 .f32) :
    Cert.KernelIdeal.Gen.LoopInvTy_k0_t8 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 k0_t6 k0_t7 arg37 v408 v409 v415 v421 v427 v433 v439 v445 init := val8 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 k0_t6 k0_t7 arg37 v408 v409 v415 v421 v427 v433 v439 v445 init Fac.W (kaps Fac.W)

set_option warn.classDefReducibility false in
/-- The loop over the two blocks of a turn of the second half, with what it computes. -/
@[sl_loop] noncomputable def val7 [Fac] (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec Ideal S8x128 .f32) (v256_1 : FVec Ideal S8x128 .f32) (v256_2 : FVec Ideal S8x128 .f32) (v256_3 : FVec Ideal S8x128 .f32) (v256_4 : FVec Ideal S8x128 .f32) (v256_5 : FVec Ideal S8x128 .f32) (v256_6 : FVec Ideal S8x128 .f32) (v256_7 : FVec Ideal S8x128 .f32) (v256_8 : FVec Ideal S8x128 .f32) (v256_9 : FVec Ideal S8x128 .f32) (v256_10 : FVec Ideal S8x128 .f32) (v256_11 : FVec Ideal S8x128 .f32) (v267 : FVec Ideal S8x128 .f32) (v278 : FVec Ideal S8x128 .f32) (v289 : FVec Ideal S8x128 .f32) (k0_t6 : Fin k0_t6_loop.trips) (arg18 : BitVec 32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32) :
    Cert.KernelIdeal.Gen.LoopInvTy_k0_t7 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 k0_t6 arg18 init where
  inv := fun k acc => iprop((∃ f, (arg9.view.loc (c : Thread nD τ) ↦[arg9.view.set]{fullShare} f) ∗ ⌜E9 Fac.W (arg9.view.read (Elt Ideal) f)⌝)
    ∗ (∃ f, (arg10.view.loc (c : Thread nD τ) ↦[arg10.view.set]{fullShare} f) ∗ ⌜A10 Fac.W (kaps Fac.W) (8 * (24 + 2 * k0_t6.val + k)) (arg10.view.read (Elt Ideal) f)⌝) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg17.view.loc (c : Thread nD τ) ↦[arg17.view.set]{fullShare} f))
    ∗ (∃ f, (arg15.view.loc (c : Thread nD τ) ↦[arg15.view.set]{fullShare} f) ∗ ⌜FR Fac.W (24 + 2 * k0_t6.val + k) (arg15.view.read (Elt Ideal) f)⌝)
    ∗ ⌜FIx v5 v17 v21 v27 v29 v31 v33 v46 v52 v67⌝ ∗ ⌜C4 Fac.W (24 + 2 * k0_t6.val + k) acc.1 acc.2.1 acc.2.2.1 acc.2.2.2.2.2.2.1 acc.2.2.2.2.2.2.2.1 acc.2.2.2.2.2.2.2.2.1⌝)
  step := fun k acc => by
    unfold k0_t7_body
    have t6 : k0_t6.val < 12 := lt_of_lt_of_le k0_t6.isLt (by decide)
    have t7 : k.val < 2 := lt_of_lt_of_le k.isLt (by decide)
    have n8 : k0_t8_loop.trips = 4 := by decide
    have en : 16 * k0_t6.val + 8 * k.val + 192 = 8 * (24 + 2 * k0_t6.val + k.val) := by omega
    iintro ⟨⟨%f9, H9, %h9⟩, ⟨%f10, H10, %h10⟩, ⟨%f11, H11⟩, ⟨%f12, H12⟩, ⟨%f13, H13⟩, ⟨%f14, H14⟩, ⟨%f17, H17⟩, ⟨%f15, H15, %h15⟩, %HI, %ha⟩
    have hP := C4_enter ha
    sl_exec
    sl_step
    isplitl [H9]
    · iexists _; isplitl [H9]; · iexact H9
      ipureintro; assumption
    isplitl [H10]
    · iexists _; isplitl [H10]; · iexact H10
      ipureintro
      have h := (congrArg (fun n => A10 Fac.W (kaps Fac.W) (8 * (24 + 2 * k0_t6.val + k.val) + 2 * n) _) n8).mp hL3
      exact h
    isplitl [H11]; · iexists _; iexact H11
    isplitl [H12]; · iexists _; iexact H12
    isplitl [H13]; · iexists _; iexact H13
    isplitl [H14]; · iexists _; iexact H14
    isplitl [H17]; · iexists _; iexact H17
    isplitl [H15]
    · iexists _; isplitl [H15]; · iexact H15
      ipureintro
      exact upd15 (by omega) f15 h15 _ _ _ ((k0_off87_eq k0_t6 k).trans (congrArg (fun n : ℕ => ![0, n, 0]) en)) ((k0_off88_eq k0_t6 k).trans (congrArg (fun n : ℕ => ![1, n, 0]) en)) ((k0_off89_eq k0_t6 k).trans (congrArg (fun n : ℕ => ![2, n, 0]) en)) ha (fun l => row3 _ l) (fun l => row3 _ l) (fun l => row3 _ l)
    isplitl []; · ipureintro; exact HI
    ipureintro
    exact C4_succ Fac.pos ha (congrArg (2 * ·) n8) hL8

end Cert.Proof.KernelIdeal.Val

end
-- ==== Proof.ValT6.lean ====
/-
  The second half, with what it computes.
-/
module

public import proofs.«01_k».proof.Defs
public import proofs.«01_k».proof.Proof.ValT7
public import proofs.«01_k».proof.Proof.KernelIdealT9
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

set_option warn.classDefReducibility false in
/-- The loop over the turns of the second half, with what it computes. -/
noncomputable def val6 [Fac] (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec Ideal S8x128 .f32) (v256_1 : FVec Ideal S8x128 .f32) (v256_2 : FVec Ideal S8x128 .f32) (v256_3 : FVec Ideal S8x128 .f32) (v256_4 : FVec Ideal S8x128 .f32) (v256_5 : FVec Ideal S8x128 .f32) (v256_6 : FVec Ideal S8x128 .f32) (v256_7 : FVec Ideal S8x128 .f32) (v256_8 : FVec Ideal S8x128 .f32) (v256_9 : FVec Ideal S8x128 .f32) (v256_10 : FVec Ideal S8x128 .f32) (v256_11 : FVec Ideal S8x128 .f32) (v267 : FVec Ideal S8x128 .f32) (v278 : FVec Ideal S8x128 .f32) (v289 : FVec Ideal S8x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32) :
    Cert.KernelIdeal.Gen.LoopInvTy_k0_t6 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 init where
  inv := fun k acc => iprop((∃ f, (arg9.view.loc (c : Thread nD τ) ↦[arg9.view.set]{fullShare} f) ∗ ⌜E9 Fac.W (arg9.view.read (Elt Ideal) f)⌝)
    ∗ (∃ f, (arg10.view.loc (c : Thread nD τ) ↦[arg10.view.set]{fullShare} f) ∗ ⌜A10 Fac.W (kaps Fac.W) (8 * (24 + 2 * (k))) (arg10.view.read (Elt Ideal) f)⌝) ∗ (∃ f, (arg11.view.loc (c : Thread nD τ) ↦[arg11.view.set]{fullShare} f)) ∗ (∃ f, (arg12.view.loc (c : Thread nD τ) ↦[arg12.view.set]{fullShare} f)) ∗ (∃ f, (arg6.view.loc (c : Thread nD τ) ↦[arg6.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg17.view.loc (c : Thread nD τ) ↦[arg17.view.set]{fullShare} f))
    ∗ (∃ f, (arg15.view.loc (c : Thread nD τ) ↦[arg15.view.set]{fullShare} f) ∗ ⌜FR Fac.W (24 + 2 * (k)) (arg15.view.read (Elt Ideal) f)⌝)
    ∗ ⌜FIx v5 v17 v21 v27 v29 v31 v33 v46 v52 v67⌝ ∗ ⌜C4 Fac.W (24 + 2 * (k)) acc.1 acc.2.1 acc.2.2.1 acc.2.2.2.2.2.2.1 acc.2.2.2.2.2.2.2.1 acc.2.2.2.2.2.2.2.2.1⌝)
  step := fun k acc => by
    unfold k0_t6_body
    have n7 : k0_t7_loop.trips = 2 := by decide
    iintro ⟨⟨%f9, H9, %h9⟩, ⟨%f10, H10, %h10⟩, ⟨%f11, H11⟩, ⟨%f12, H12⟩, ⟨%f6, H6⟩, ⟨%f13, H13⟩, ⟨%f14, H14⟩, ⟨%f17, H17⟩, ⟨%f15, H15, %h15⟩, %HI, %ha⟩
    sl_exec
    sl_step
    isplitl [H9]
    · iexists _; isplitl [H9]; · iexact H9
      ipureintro; assumption
    isplitl [H10]
    · iexists _; isplitl [H10]; · iexact H10
      ipureintro
      exact (congrArg (fun n => A10 Fac.W (kaps Fac.W) (8 * (24 + 2 * k.val + n)) _) n7).mp ‹_›
    isplitl [H11]; · iexists _; iexact H11
    isplitl [H12]; · iexists _; iexact H12
    isplitl [H6]; · iexists _; iexact H6
    isplitl [H13]; · iexists _; iexact H13
    isplitl [H14]; · iexists _; iexact H14
    isplitl [H17]; · iexists _; iexact H17
    isplitl [H15]
    · iexists _; isplitl [H15]; · iexact H15
      ipureintro
      exact (congrArg (fun n => FR Fac.W (24 + 2 * k.val + n) _) n7).mp ‹_›
    isplitl []; · ipureintro; exact HI
    ipureintro
    exact (congrArg (fun n => C4 Fac.W (24 + 2 * k.val + n) _ _ _ _ _ _) n7).mp ‹_›

end Cert.Proof.KernelIdeal.Val

end
-- ==== Proof.ValT10.lean ====
/-
  The row sums, with what they are.
-/
module

public import proofs.«01_k».proof.Defs
public import proofs.«01_k».proof.Proof.ValT6
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

theorem k0_off141_at : ∀ (k : Fin k0_t10_loop.trips), k0_off141 k = ![k.val, 0, 0, 0] := by decide +kernel
theorem k0_off142_at : ∀ (k : Fin k0_t10_loop.trips), k0_off142 k = ![0, k.val, 0] := by decide +kernel
theorem k0_off143_at : ∀ (k : Fin k0_t10_loop.trips), k0_off143 k = ![k.val, 1, 0, 0] := by decide +kernel
theorem k0_off144_at : ∀ (k : Fin k0_t10_loop.trips), k0_off144 k = ![1, k.val, 0] := by decide +kernel
theorem k0_off145_at : ∀ (k : Fin k0_t10_loop.trips), k0_off145 k = ![k.val, 2, 0, 0] := by decide +kernel
theorem k0_off146_at : ∀ (k : Fin k0_t10_loop.trips), k0_off146 k = ![2, k.val, 0] := by decide +kernel

/-- The rows of `sums` in `D` hold the sums over the sublanes of the rows of `alpha_h`. -/
def S16 (D : ℕ → ℕ → Prop) (x10 : S392x3x8x128.Idx → EReal) (x : S3x392x128.Idx → EReal) : Prop :=
  ∀ (b : Fin 3) (t : Fin 392) (l : Fin 128), D b.val t.val → x (ix3 b t l) = ∑ r : Fin 8, x10 (ix4 t b r l)

theorem S16_cons {arg16 : Memref sig .tc .vmem S3x392x128 .f32} {D : ℕ → ℕ → Prop} {x10 : S392x3x8x128.Idx → EReal} {f : BufTy.Contents (Elt Ideal) arg16.view.ty}
    {L : List (View.Piece (Elt Ideal) S3x392x128 .f32)} {off : Fin 3 → ℕ} {inb : ∀ a, off a + S1x1x128.size a ≤ S3x392x128.size a}
    {y : FVec Ideal S1x1x128 .f32} (b t : ℕ) (heq : off = ![b, t, 0])
    (hy : ∀ (b' : Fin 3) (t' : Fin 392), b'.val = b → t'.val = t → ∀ l, y (ix3 (0 : Fin 1) (0 : Fin 1) l) = ∑ r : Fin 8, x10 (ix4 t' b' r l))
    (h : S16 D x10 (arg16.view.read (Elt Ideal) (arg16.view.writes (Elt Ideal) f L))) :
    S16 (fun b' t' => (b' = b ∧ t' = t) ∨ D b' t') x10
      (arg16.view.read (Elt Ideal) (arg16.view.writes (Elt Ideal) f (⟨Rect.unit off S1x1x128.size inb, y⟩ :: L))) := by
  subst heq
  intro b' t' l hd
  by_cases ht : b'.val = b ∧ t'.val = t
  · rw [View.read_writes_cons_unit_of_mem _ _ inb _ _ _ (ix3 (0 : Fin 1) (0 : Fin 1) l) rfl ?_]
    · exact hy b' t' ht.1 ht.2 l
    · intro q
      match q with
      | ⟨0, _⟩ => show b'.val = b + 0; omega
      | ⟨1, _⟩ => show t'.val = t + 0; omega
      | ⟨2, _⟩ => show l.val = 0 + l.val; omega
  · have hd' : D b'.val t'.val := hd.resolve_left ht
    refine Eq.trans ?_ (h b' t' l hd')
    by_cases h0 : b'.val = b
    · have h1 : t'.val ≠ t := fun h1 => ht ⟨h0, h1⟩
      exact View.read_writes_cons_unit_of_not_mem _ _ inb _ _ _ rfl 1 (by show t'.val < t ∨ t + 1 ≤ t'.val; omega)
    · exact View.read_writes_cons_unit_of_not_mem _ _ inb _ _ _ rfl 0 (by show b'.val < b ∨ b + 1 ≤ b'.val; omega)

theorem row_sum (v : Vec Ideal S1x1x8x128 .f32) (l : Fin 128) : k0_pay709 (F := Ideal) v (ix3 (0 : Fin 1) (0 : Fin 1) l) = ∑ r : Fin 8, v (ix4 (0 : Fin 1) (0 : Fin 1) r l) := by
  unfold k0_pay709
  pointwise

theorem ld10 {arg10 : Memref sig .tc .vmem S392x3x8x128 .f32} {X10 : BufTy.Contents (Elt Ideal) arg10.view.ty} {off : Fin 4 → ℕ} (inb : ∀ a, off a + S1x1x8x128.size a ≤ S392x3x8x128.size a)
    {t b : ℕ} (heq : off = ![t, b, 0, 0]) (b' : Fin 3) (t' : Fin 392) (hb : b'.val = b) (ht : t'.val = t) (r : Fin 8) (l : Fin 128) :
    View.readAt (Elt Ideal) arg10.view (Rect.unit (s := S392x3x8x128) off S1x1x8x128.size inb).toLoadRect X10 (ix4 (0 : Fin 1) (0 : Fin 1) r l)
      = arg10.view.read (Elt Ideal) X10 (ix4 t' b' r l) := by
  subst heq hb ht
  rw [View.readAt_apply]
  congr 1
  funext a
  match a with
  | ⟨0, _⟩ => exact Fin.ext (by show t'.val + 1 * 0 = t'.val; omega)
  | ⟨1, _⟩ => exact Fin.ext (by show b'.val + 1 * 0 = b'.val; omega)
  | ⟨2, _⟩ => exact Fin.ext (by show 0 + 1 * r.val = r.val; omega)
  | ⟨3, _⟩ => exact Fin.ext (by show 0 + 1 * l.val = l.val; omega)

set_option warn.classDefReducibility false in
/-- The loop over the positions, with the sums it leaves. -/
@[sl_loop] noncomputable def val10 (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v146 : IVec S8x128 1) (v149 : IVec S8x128 32) (v159 : IVec S8x128 32) (v169 : IVec S8x128 32) (v171 : IVec S8x128 1) (v176 : IVec S8x128 32) (v256_0 : FVec Ideal S8x128 .f32) (v256_1 : FVec Ideal S8x128 .f32) (v256_2 : FVec Ideal S8x128 .f32) (v256_3 : FVec Ideal S8x128 .f32) (v256_4 : FVec Ideal S8x128 .f32) (v256_5 : FVec Ideal S8x128 .f32) (v256_6 : FVec Ideal S8x128 .f32) (v256_7 : FVec Ideal S8x128 .f32) (v256_8 : FVec Ideal S8x128 .f32) (v256_9 : FVec Ideal S8x128 .f32) (v256_10 : FVec Ideal S8x128 .f32) (v256_11 : FVec Ideal S8x128 .f32) (v267 : FVec Ideal S8x128 .f32) (v278 : FVec Ideal S8x128 .f32) (v289 : FVec Ideal S8x128 .f32) (X10 : BufTy.Contents (Elt Ideal) arg10.view.ty) :
    Cert.KernelIdeal.Gen.LoopInvTy_k0_t10 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v146 v149 v159 v169 v171 v176 v256_0 v256_1 v256_2 v256_3 v256_4 v256_5 v256_6 v256_7 v256_8 v256_9 v256_10 v256_11 v267 v278 v289 where
  inv := fun k acc => iprop((arg10.view.loc (c : Thread nD τ) ↦[arg10.view.set]{fullShare} X10) ∗ (∃ f, (arg16.view.loc (c : Thread nD τ) ↦[arg16.view.set]{fullShare} f) ∗ ⌜0 < k → S16 (fun _ t => t < k) (arg10.view.read (Elt Ideal) X10) (arg16.view.read (Elt Ideal) f)⌝))
  step := fun k acc => by
    unfold k0_t10_body
    have t10 : k.val < 385 := lt_of_lt_of_le k.isLt (by decide)
    iintro ⟨H10, ⟨%f16, H16, %h⟩⟩
    have h16 : S16 (fun _ t => t < k.val) (arg10.view.read (Elt Ideal) X10) (arg16.view.read (Elt Ideal) f16) := fun b t l ht => h (by omega) b t l ht
    sl_exec
    sl_step
    isplitl [H10]; · iexact H10
    iexists _; isplitl [H16]; · iexact H16
    ipureintro
    have key : ∀ (b : Fin 3) (t : Fin 392), t.val < k.val + 1 → (b.val = 2 ∧ t.val = k.val) ∨ (b.val = 1 ∧ t.val = k.val) ∨ (b.val = 0 ∧ t.val = k.val) ∨ t.val < k.val := by omega
    intro _ b t l hd
    refine S16_cons (D := fun b t => (b = 1 ∧ t = k.val) ∨ (b = 0 ∧ t = k.val) ∨ t < k.val) 2 k.val (k0_off146_at k) (fun b' t' hb ht l => (row_sum _ l).trans (Finset.sum_congr rfl fun r _ => ld10 _ (k0_off145_at k) b' t' hb ht r l)) ?_ b t l (key b t hd)
    refine S16_cons (D := fun b t => (b = 0 ∧ t = k.val) ∨ t < k.val) 1 k.val (k0_off144_at k) (fun b' t' hb ht l => (row_sum _ l).trans (Finset.sum_congr rfl fun r _ => ld10 _ (k0_off143_at k) b' t' hb ht r l)) ?_
    refine S16_cons (D := fun _ t => t < k.val) 0 k.val (k0_off142_at k) (fun b' t' hb ht l => (row_sum _ l).trans (Finset.sum_congr rfl fun r _ => ld10 _ (k0_off141_at k) b' t' hb ht r l)) ?_
    exact h16

end Cert.Proof.KernelIdeal.Val

end
-- ==== Proof.ValFin.lean ====
/-
  The first result, read off the row sums and the row scales.
-/
module

public import proofs.«01_k».proof.Defs
public import proofs.«01_k».proof.Proof.ValOut
public import proofs.«01_k».proof.Proof.ValT10
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

/-- The first result, as an array. -/
def nV (W : Fin 3 → ℕ → Fin 4 → Blk) : S3x384.Idx → EReal := fun i => ((nR (W (i 0)) (i 1).val : ℝ) : EReal)

/-- The scale of row `t`. -/
def hc (W : ℕ → Fin 4 → Blk) (t : ℕ) : ℝ := kap mR cR W (if t < 384 then t / 8 else 47)

/-- The factor on entry to row `t`. -/
def fr (W : ℕ → Fin 4 → Blk) (t : ℕ) : ℝ := if t % 8 = 0 ∧ t / 8 < 48 then (KR mR cR W (t / 8)).2 else 1

theorem hc_pos (W : ℕ → Fin 4 → Blk) (t : ℕ) : 0 < hc W t := mul_pos (KR_pos _ _ _ _).1 (KR_pos _ _ _ _).2

theorem fr_pos (W : ℕ → Fin 4 → Blk) (t : ℕ) : 0 < fr W t := by
  unfold fr
  split
  · exact (KR_pos _ _ _ _).2
  · exact one_pos

theorem hc_succ (W : ℕ → Fin 4 → Blk) {t : ℕ} (ht : t < 384) : hc W (t + 1) = hc W t * fr W (t + 1) := by
  unfold hc fr
  by_cases h : (t + 1) % 8 = 0 ∧ (t + 1) / 8 < 48
  · have e : (t + 1) / 8 = t / 8 + 1 := by omega
    rw [if_pos h, if_pos (show t + 1 < 384 by omega), if_pos ht, e]
    rfl
  · rw [if_neg h, mul_one, if_pos ht]
    by_cases h1 : t + 1 < 384
    · rw [if_pos h1, show (t + 1) / 8 = t / 8 by omega]
    · rw [if_neg h1, show t / 8 = 47 by omega]

theorem log_hc_succ (W : ℕ → Fin 4 → Blk) {t : ℕ} (ht : t < 384) : Real.log (hc W (t + 1)) = Real.log (hc W t) + Real.log (fr W (t + 1)) := by
  rw [hc_succ W ht, Real.log_mul (hc_pos W t).ne' (fr_pos W _).ne']

theorem log_hc_zero (W : ℕ → Fin 4 → Blk) : Real.log (hc W 0) = 0 := by
  have : hc W 0 = 1 := by
    unfold hc
    rw [if_pos (by norm_num)]
    exact one_mul (1 : ℝ)
  rw [this, Real.log_one]

/-- The rows of `alpha_h`, the last one included. -/
def H10 (W : Fin 3 → ℕ → Fin 4 → Blk) (x : S392x3x8x128.Idx → EReal) : Prop :=
  ∀ (t : Fin 392) (b : Fin 3) (r : Fin 8) (l : Fin 128), t.val < 385 → x (ix4 t b r l) = ((hc (W b) t.val * al (W b) t.val r l : ℝ) : EReal)

theorem last_row {arg10 : Memref sig .tc .vmem S392x3x8x128 .f32} {W : Fin 3 → ℕ → Fin 4 → Blk} {f : BufTy.Contents (Elt Ideal) arg10.view.ty} {n : ℕ} (hn : n = 48)
    (h : A10 W (kaps W) (8 * n) (arg10.view.read (Elt Ideal) f)) {a0 a1 a2 s0 s1 s2 : FVec Ideal S8x128 .f32} (hC : C4 W n a0 a1 a2 s0 s1 s2) :
    H10 W (arg10.view.read (Elt Ideal) (arg10.view.writes (Elt Ideal) f
      [⟨Rect.unit (s := S392x3x8x128) ![385, 0, 0, 0] S7x3x8x128.size inb_S392x3x8x128_S7x3x8x128_385_0_0_0, k0_pay707 (F := Ideal)⟩,
        ⟨Rect.unit (s := S392x3x8x128) ![384, 2, 0, 0] S1x1x8x128.size inb_S392x3x8x128_S1x1x8x128_384_2_0_0, k0_pay706 (F := Ideal) a2⟩,
        ⟨Rect.unit (s := S392x3x8x128) ![384, 1, 0, 0] S1x1x8x128.size inb_S392x3x8x128_S1x1x8x128_384_1_0_0, k0_pay705 (F := Ideal) a1⟩,
        ⟨Rect.unit (s := S392x3x8x128) ![384, 0, 0, 0] S1x1x8x128.size inb_S392x3x8x128_S1x1x8x128_384_0_0_0, k0_pay704 (F := Ideal) a0⟩]))  := by
  subst hn
  intro t b r l ht
  rw [View.read_writes_cons_unit_of_not_mem _ _ inb_S392x3x8x128_S7x3x8x128_385_0_0_0 _ _ _ rfl 0 (by show t.val < 385 ∨ 385 + 7 ≤ t.val; omega)]
  by_cases h4 : t.val = 384
  · have e : hc (W b) t.val * al (W b) t.val r l = (KR mR cR (W b) 48).1 * al (W b) (8 * 48) r l := by
      rw [h4]
      unfold hc
      rw [if_neg (by norm_num)]
      rfl
    rw [e]
    obtain ⟨b, hb⟩ := b
    have mem : ∀ (bb : Fin 3), b = bb.val → ∀ q : Fin 4, ((ix4 t (⟨b, hb⟩ : Fin 3) r l : S392x3x8x128.Idx) q).val = (![384, bb.val, 0, 0] : Fin 4 → ℕ) q + ((ix4 (0 : Fin 1) (0 : Fin 1) r l : S1x1x8x128.Idx) q).val := by
      intro bb hbb q
      match q with
      | ⟨0, _⟩ => show t.val = 384 + 0; omega
      | ⟨1, _⟩ => show b = bb.val + 0; omega
      | ⟨2, _⟩ => show r.val = 0 + r.val; omega
      | ⟨3, _⟩ => show l.val = 0 + l.val; omega
    have cast : ∀ (v : FVec Ideal S8x128 .f32) (hh), shapeCast S1x1x8x128 v hh (ix4 (0 : Fin 1) (0 : Fin 1) r l) = v (ix2 r l) := by
      intro v hh
      pointwise
    match b, hb with
    | 2, hb =>
      rw [View.read_writes_cons_unit_of_mem _ _ inb_S392x3x8x128_S1x1x8x128_384_2_0_0 _ _ _ (ix4 (0 : Fin 1) (0 : Fin 1) r l) rfl (mem 2 rfl)]
      exact (cast _ _).trans (hC.2.2.1 r l)
    | 1, hb =>
      rw [View.read_writes_cons_unit_of_not_mem _ _ inb_S392x3x8x128_S1x1x8x128_384_2_0_0 _ _ _ rfl 1 (by show 1 < 2 ∨ 2 + 1 ≤ 1; omega),
        View.read_writes_cons_unit_of_mem _ _ inb_S392x3x8x128_S1x1x8x128_384_1_0_0 _ _ _ (ix4 (0 : Fin 1) (0 : Fin 1) r l) rfl (mem 1 rfl)]
      exact (cast _ _).trans (hC.2.1.1 r l)
    | 0, hb =>
      rw [View.read_writes_cons_unit_of_not_mem _ _ inb_S392x3x8x128_S1x1x8x128_384_2_0_0 _ _ _ rfl 1 (by show 0 < 2 ∨ 2 + 1 ≤ 0; omega),
        View.read_writes_cons_unit_of_not_mem _ _ inb_S392x3x8x128_S1x1x8x128_384_1_0_0 _ _ _ rfl 1 (by show 0 < 1 ∨ 1 + 1 ≤ 0; omega),
        View.read_writes_cons_unit_of_mem _ _ inb_S392x3x8x128_S1x1x8x128_384_0_0_0 _ _ _ (ix4 (0 : Fin 1) (0 : Fin 1) r l) rfl (mem 0 rfl)]
      exact (cast _ _).trans (hC.1.1 r l)
  · rw [View.read_writes_cons_unit_of_not_mem _ _ inb_S392x3x8x128_S1x1x8x128_384_2_0_0 _ _ _ rfl 0 (by show t.val < 384 ∨ 384 + 1 ≤ t.val; omega),
      View.read_writes_cons_unit_of_not_mem _ _ inb_S392x3x8x128_S1x1x8x128_384_1_0_0 _ _ _ rfl 0 (by show t.val < 384 ∨ 384 + 1 ≤ t.val; omega),
      View.read_writes_cons_unit_of_not_mem _ _ inb_S392x3x8x128_S1x1x8x128_384_0_0_0 _ _ _ rfl 0 (by show t.val < 384 ∨ 384 + 1 ≤ t.val; omega)]
    refine (h t b r l (by omega)).trans ?_
    unfold hc
    rw [if_pos (show t.val < 384 by omega)]

theorem rd16 {arg16 : Memref sig .tc .vmem S3x392x128 .f32} {f : BufTy.Contents (Elt Ideal) arg16.view.ty} {off : Fin 3 → ℕ} (inb : ∀ a, off a + S1x384x128.size a ≤ S3x392x128.size a)
    (b : Fin 3) (d : ℕ) (hd : d < 8) (heq : off = ![b.val, d, 0]) (t : Fin 384) (l : Fin 128) :
    View.readAt (Elt Ideal) arg16.view (Rect.unit (s := S3x392x128) off S1x384x128.size inb).toLoadRect f (ix3 (0 : Fin 1) t l)
      = arg16.view.read (Elt Ideal) f (ix3 b (⟨t.val + d, by omega⟩ : Fin 392) l) := by
  subst heq
  rw [View.readAt_apply]
  congr 1
  funext a
  match a with
  | ⟨0, _⟩ => exact Fin.ext (by show b.val + 1 * 0 = b.val; omega)
  | ⟨1, _⟩ => exact Fin.ext (by show d + 1 * t.val = t.val + d; omega)
  | ⟨2, _⟩ => exact Fin.ext (by show 0 + 1 * l.val = l.val; omega)

theorem sum_row {W : Fin 3 → ℕ → Fin 4 → Blk} {n : ℕ} (hn : n = 385) {x10 : S392x3x8x128.Idx → EReal} {x16 : S3x392x128.Idx → EReal} (h10 : H10 W x10) (h16 : 0 < n → S16 (fun _ t => t < n) x10 x16)
    (b : Fin 3) (t : Fin 392) (ht : t.val < 385) (l : Fin 128) : x16 (ix3 b t l) = ((hc (W b) t.val * ∑ r : Fin 8, al (W b) t.val r l : ℝ) : EReal) := by
  subst hn
  rw [h16 (by norm_num) b t l ht, Finset.mul_sum, ← coe_sum]
  exact Finset.sum_congr rfl fun r _ => h10 t b r l ht

theorem tot_lanes (a : Blk) (c : ℝ) : ∑ l : Fin 128, c * ∑ r : Fin 8, a r l = c * tot a := by
  rw [← Finset.mul_sum, tot, Finset.sum_comm]

/-- One row of the first result. -/
theorem n_row {W : Fin 3 → ℕ → Fin 4 → Blk} (hW : WPos W) {n m : ℕ} (hn : n = 385) (hm : m = 48) {x10 : S392x3x8x128.Idx → EReal} {arg15 arg16 : Memref sig .tc .vmem S3x392x128 .f32}
    {f15 : BufTy.Contents (Elt Ideal) arg15.view.ty} {f16 : BufTy.Contents (Elt Ideal) arg16.view.ty} (h10 : H10 W x10)
    (h16 : 0 < n → S16 (fun _ t => t < n) x10 (arg16.view.read (Elt Ideal) f16)) (h15 : FR W m (arg15.view.read (Elt Ideal) f15))
    (b : Fin 3) {o0 o1 : Fin 3 → ℕ} (i0 : ∀ a, o0 a + S1x384x128.size a ≤ S3x392x128.size a) (i1 : ∀ a, o1 a + S1x384x128.size a ≤ S3x392x128.size a)
    (e0 : o0 = ![b.val, 0, 0]) (e1 : o1 = ![b.val, 1, 0]) (t : Fin 384) :
    k0_pay713 (k0_pay708 (F := Ideal)) (iota .tc S1x384 32 [1] iota_S1x384_d1_w32)
      (k0_pay712 (View.readAt (Elt Ideal) arg16.view (Rect.unit (s := S3x392x128) o0 S1x384x128.size i0).toLoadRect f16))
      (View.readAt (Elt Ideal) arg16.view (Rect.unit (s := S3x392x128) o1 S1x384x128.size i1).toLoadRect f16)
      (View.readAt (Elt Ideal) arg15.view (Rect.unit (s := S3x392x128) o1 S1x384x128.size i1).toLoadRect f15) (ix2 (0 : Fin 1) t)
      = nV W (ix2 b t) := by
  have tp : ∀ t, 0 < tot (al (W b) t) := fun t => tot_pos (al_pos (hW b) t)
  subst hm
  refine (out_val _ _ _ t (fun l => hc (W b) t.val * ∑ r : Fin 8, al (W b) t.val r l) (fun l => hc (W b) (t.val + 1) * ∑ r : Fin 8, al (W b) (t.val + 1) r l) (fr (W b) (t.val + 1))
    (fun _ l => (rd16 i0 b 0 (by norm_num) e0 t l).trans (sum_row hn h10 h16 b _ (by show t.val + 0 < 385; omega) l))
    (fun l => (rd16 i1 b 1 (by norm_num) e1 t l).trans (sum_row hn h10 h16 b _ (by show t.val + 1 < 385; omega) l))
    (fun l => (rd16 i1 b 1 (by norm_num) e1 t l).trans ((h15 b _ l).trans ?_)) (fun _ => ?_) ?_ (fr_pos _ _)).trans ?_
  · unfold fr
    split
    · rfl
    · rfl
  · rw [tot_lanes]; exact mul_pos (hc_pos _ _) (tp _)
  · rw [tot_lanes]; exact mul_pos (hc_pos _ _) (tp _)
  · show _ = ((nR (W b) t.val : ℝ) : EReal)
    congr 1
    rw [tot_lanes, tot_lanes, Real.log_mul (hc_pos _ _).ne' (tp _).ne', Real.log_mul (hc_pos _ _).ne' (tp _).ne', log_hc_succ _ t.isLt, nR]
    by_cases h : t.val = 0
    · rw [if_pos h, if_pos h, h, log_hc_zero]; ring
    · rw [if_neg h, if_neg h]; ring

/-- The first result, from its three rows. -/
theorem out_read {arg5 : Memref sig .tc .vmem S3x384 .f32} {f5 : BufTy.Contents (Elt Ideal) arg5.view.ty} {y0 y1 y2 : FVec Ideal S1x384 .f32} {N : S3x384.Idx → EReal}
    (h0 : ∀ t, y0 (ix2 (0 : Fin 1) t) = N (ix2 0 t)) (h1 : ∀ t, y1 (ix2 (0 : Fin 1) t) = N (ix2 1 t)) (h2 : ∀ t, y2 (ix2 (0 : Fin 1) t) = N (ix2 2 t)) :
    arg5.view.read (Elt Ideal) (arg5.view.writes (Elt Ideal) f5
      [⟨Rect.unit (s := S3x384) ![2, 0] S1x384.size inb_S3x384_S1x384_2_0, y2⟩, ⟨Rect.unit (s := S3x384) ![1, 0] S1x384.size inb_S3x384_S1x384_1_0, y1⟩,
        ⟨Rect.unit (s := S3x384) ![0, 0] S1x384.size inb_S3x384_S1x384_0_0, y0⟩]) = N := by
  have key : ∀ (b : Fin 3) (t : Fin 384), arg5.view.read (Elt Ideal) (arg5.view.writes (Elt Ideal) f5
      [⟨Rect.unit (s := S3x384) ![2, 0] S1x384.size inb_S3x384_S1x384_2_0, y2⟩, ⟨Rect.unit (s := S3x384) ![1, 0] S1x384.size inb_S3x384_S1x384_1_0, y1⟩,
        ⟨Rect.unit (s := S3x384) ![0, 0] S1x384.size inb_S3x384_S1x384_0_0, y0⟩]) (ix2 b t) = N (ix2 b t) := by
    intro b t
    have mem : ∀ (bb : Fin 3), b = bb → ∀ q : Fin 2, ((ix2 b t : S3x384.Idx) q).val = (![bb.val, 0] : Fin 2 → ℕ) q + ((ix2 (0 : Fin 1) t : S1x384.Idx) q).val := by
      intro bb hbb q
      subst hbb
      match q with
      | ⟨0, _⟩ => show b.val = b.val + 0; omega
      | ⟨1, _⟩ => show t.val = 0 + t.val; omega
    match b, mem with
    | 2, mem =>
      rw [View.read_writes_cons_unit_of_mem _ _ inb_S3x384_S1x384_2_0 _ _ _ (ix2 (0 : Fin 1) t) rfl (mem 2 rfl)]
      exact h2 t
    | 1, mem =>
      rw [View.read_writes_cons_unit_of_not_mem _ _ inb_S3x384_S1x384_2_0 _ _ _ rfl 0 (by show 1 < 2 ∨ 2 + 1 ≤ 1; omega),
        View.read_writes_cons_unit_of_mem _ _ inb_S3x384_S1x384_1_0 _ _ _ (ix2 (0 : Fin 1) t) rfl (mem 1 rfl)]
      exact h1 t
    | 0, mem =>
      rw [View.read_writes_cons_unit_of_not_mem _ _ inb_S3x384_S1x384_2_0 _ _ _ rfl 0 (by show 0 < 2 ∨ 2 + 1 ≤ 0; omega),
        View.read_writes_cons_unit_of_not_mem _ _ inb_S3x384_S1x384_1_0 _ _ _ rfl 0 (by show 0 < 1 ∨ 1 + 1 ≤ 0; omega),
        View.read_writes_cons_unit_of_mem _ _ inb_S3x384_S1x384_0_0 _ _ _ (ix2 (0 : Fin 1) t) rfl (mem 0 rfl)]
      exact h0 t
  funext i
  have e : i = ix2 (i 0) (i 1) := by
    funext a
    match a with
    | ⟨0, _⟩ => rfl
    | ⟨1, _⟩ => rfl
  rw [e]
  exact key _ _

end Cert.Proof.KernelIdeal.Val

end
-- ==== Proof.ValT2.lean ====
/-
  The scores of a chunk, column block by column block.
-/
module

public import proofs.«01_k».proof.Defs
public import proofs.«01_k».proof.Proof.ValScore
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

theorem offx0 : ∀ (t1 : Fin k0_t1_loop.trips), k0_off9 t1 0#32 0#32 = ![0, rowOf t1.val 0 + 0, 0] := by decide +kernel
theorem offx1 : ∀ (t1 : Fin k0_t1_loop.trips), k0_off9 t1 0#32 8#32 = ![0, rowOf t1.val 0 + 8, 0] := by decide +kernel
theorem offx2 : ∀ (t1 : Fin k0_t1_loop.trips), k0_off9 t1 16#32 0#32 = ![0, rowOf t1.val 1 + 0, 0] := by decide +kernel
theorem offx3 : ∀ (t1 : Fin k0_t1_loop.trips), k0_off9 t1 16#32 8#32 = ![0, rowOf t1.val 1 + 8, 0] := by decide +kernel
theorem offx4 : ∀ (t1 : Fin k0_t1_loop.trips), k0_off12 t1 0#32 0#32 = ![0, rowOf t1.val 2 + 0, 0] := by decide +kernel
theorem offx5 : ∀ (t1 : Fin k0_t1_loop.trips), k0_off12 t1 0#32 8#32 = ![0, rowOf t1.val 2 + 8, 0] := by decide +kernel
theorem offx6 : ∀ (t1 : Fin k0_t1_loop.trips), k0_off12 t1 16#32 0#32 = ![0, rowOf t1.val 3 + 0, 0] := by decide +kernel
theorem offx7 : ∀ (t1 : Fin k0_t1_loop.trips), k0_off12 t1 16#32 8#32 = ![0, rowOf t1.val 3 + 8, 0] := by decide +kernel
theorem offx8 : ∀ (t1 : Fin k0_t1_loop.trips), k0_off15 t1 0#32 0#32 = ![1, rowOf t1.val 4 + 0, 0] := by decide +kernel
theorem offx9 : ∀ (t1 : Fin k0_t1_loop.trips), k0_off15 t1 0#32 8#32 = ![1, rowOf t1.val 4 + 8, 0] := by decide +kernel
theorem offx10 : ∀ (t1 : Fin k0_t1_loop.trips), k0_off15 t1 16#32 0#32 = ![1, rowOf t1.val 5 + 0, 0] := by decide +kernel
theorem offx11 : ∀ (t1 : Fin k0_t1_loop.trips), k0_off15 t1 16#32 8#32 = ![1, rowOf t1.val 5 + 8, 0] := by decide +kernel
theorem offx12 : ∀ (t1 : Fin k0_t1_loop.trips), k0_off18 t1 0#32 0#32 = ![1, rowOf t1.val 6 + 0, 0] := by decide +kernel
theorem offx13 : ∀ (t1 : Fin k0_t1_loop.trips), k0_off18 t1 0#32 8#32 = ![1, rowOf t1.val 6 + 8, 0] := by decide +kernel
theorem offx14 : ∀ (t1 : Fin k0_t1_loop.trips), k0_off18 t1 16#32 0#32 = ![1, rowOf t1.val 7 + 0, 0] := by decide +kernel
theorem offx15 : ∀ (t1 : Fin k0_t1_loop.trips), k0_off18 t1 16#32 8#32 = ![1, rowOf t1.val 7 + 8, 0] := by decide +kernel
theorem offx16 : ∀ (t1 : Fin k0_t1_loop.trips), k0_off21 t1 0#32 0#32 = ![2, rowOf t1.val 8 + 0, 0] := by decide +kernel
theorem offx17 : ∀ (t1 : Fin k0_t1_loop.trips), k0_off21 t1 0#32 8#32 = ![2, rowOf t1.val 8 + 8, 0] := by decide +kernel
theorem offx18 : ∀ (t1 : Fin k0_t1_loop.trips), k0_off21 t1 16#32 0#32 = ![2, rowOf t1.val 9 + 0, 0] := by decide +kernel
theorem offx19 : ∀ (t1 : Fin k0_t1_loop.trips), k0_off21 t1 16#32 8#32 = ![2, rowOf t1.val 9 + 8, 0] := by decide +kernel
theorem offx20 : ∀ (t1 : Fin k0_t1_loop.trips), k0_off24 t1 0#32 0#32 = ![2, rowOf t1.val 10 + 0, 0] := by decide +kernel
theorem offx21 : ∀ (t1 : Fin k0_t1_loop.trips), k0_off24 t1 0#32 8#32 = ![2, rowOf t1.val 10 + 8, 0] := by decide +kernel
theorem offx22 : ∀ (t1 : Fin k0_t1_loop.trips), k0_off24 t1 16#32 0#32 = ![2, rowOf t1.val 11 + 0, 0] := by decide +kernel
theorem offx23 : ∀ (t1 : Fin k0_t1_loop.trips), k0_off24 t1 16#32 8#32 = ![2, rowOf t1.val 11 + 8, 0] := by decide +kernel
theorem offw0 : ∀ (t2 : Fin k0_t2_loop.trips) (j : Fin 4), k0_off10 t2 (BitVec.ofNat 32 j.val) = ![0, 4 * t2.val + j.val, 0, 0] := by decide +kernel
theorem offw1 : ∀ (t2 : Fin k0_t2_loop.trips) (j : Fin 4), k0_off11 t2 (BitVec.ofNat 32 j.val) = ![1, 4 * t2.val + j.val, 0, 0] := by decide +kernel
theorem offw2 : ∀ (t2 : Fin k0_t2_loop.trips) (j : Fin 4), k0_off13 t2 (BitVec.ofNat 32 j.val) = ![2, 4 * t2.val + j.val, 0, 0] := by decide +kernel
theorem offw3 : ∀ (t2 : Fin k0_t2_loop.trips) (j : Fin 4), k0_off14 t2 (BitVec.ofNat 32 j.val) = ![3, 4 * t2.val + j.val, 0, 0] := by decide +kernel
theorem offw4 : ∀ (t2 : Fin k0_t2_loop.trips) (j : Fin 4), k0_off16 t2 (BitVec.ofNat 32 j.val) = ![4, 4 * t2.val + j.val, 0, 0] := by decide +kernel
theorem offw5 : ∀ (t2 : Fin k0_t2_loop.trips) (j : Fin 4), k0_off17 t2 (BitVec.ofNat 32 j.val) = ![5, 4 * t2.val + j.val, 0, 0] := by decide +kernel
theorem offw6 : ∀ (t2 : Fin k0_t2_loop.trips) (j : Fin 4), k0_off19 t2 (BitVec.ofNat 32 j.val) = ![6, 4 * t2.val + j.val, 0, 0] := by decide +kernel
theorem offw7 : ∀ (t2 : Fin k0_t2_loop.trips) (j : Fin 4), k0_off20 t2 (BitVec.ofNat 32 j.val) = ![7, 4 * t2.val + j.val, 0, 0] := by decide +kernel
theorem offw8 : ∀ (t2 : Fin k0_t2_loop.trips) (j : Fin 4), k0_off22 t2 (BitVec.ofNat 32 j.val) = ![8, 4 * t2.val + j.val, 0, 0] := by decide +kernel
theorem offw9 : ∀ (t2 : Fin k0_t2_loop.trips) (j : Fin 4), k0_off23 t2 (BitVec.ofNat 32 j.val) = ![9, 4 * t2.val + j.val, 0, 0] := by decide +kernel
theorem offw10 : ∀ (t2 : Fin k0_t2_loop.trips) (j : Fin 4), k0_off25 t2 (BitVec.ofNat 32 j.val) = ![10, 4 * t2.val + j.val, 0, 0] := by decide +kernel
theorem offw11 : ∀ (t2 : Fin k0_t2_loop.trips) (j : Fin 4), k0_off26 t2 (BitVec.ofNat 32 j.val) = ![11, 4 * t2.val + j.val, 0, 0] := by decide +kernel
theorem offs : ∀ (t2 : Fin k0_t2_loop.trips) (j : Fin 4), k0_off8 t2 (BitVec.ofNat 32 j.val) = ![4 * t2.val + j.val, 0] := by decide +kernel
theorem offa1 : ∀ (t1 : Fin k0_t1_loop.trips), k0_off1 t1 = ![0, 32 * t1.val, 0] := by decide +kernel
theorem offa2 : ∀ (t1 : Fin k0_t1_loop.trips), k0_off2 t1 = ![0, 352 - 32 * t1.val, 0] := by decide +kernel
theorem offa3 : ∀ (t1 : Fin k0_t1_loop.trips), k0_off3 t1 = ![1, 32 * t1.val, 0] := by decide +kernel
theorem offa4 : ∀ (t1 : Fin k0_t1_loop.trips), k0_off4 t1 = ![1, 352 - 32 * t1.val, 0] := by decide +kernel
theorem offa5 : ∀ (t1 : Fin k0_t1_loop.trips), k0_off5 t1 = ![2, 32 * t1.val, 0] := by decide +kernel
theorem offa6 : ∀ (t1 : Fin k0_t1_loop.trips), k0_off6 t1 = ![2, 352 - 32 * t1.val, 0] := by decide +kernel
theorem offa7 : ∀ (t2 : Fin k0_t2_loop.trips), k0_off7 t2 = ![0, 512 * t2.val] := by decide +kernel

/-- What the forty-eight stores of pass `k` add. -/
theorem cols_done {k g u : ℕ} (hg : g < 12) (h : u < 4 * (k + 1)) :
    (g = 11 ∧ u = 4 * k + 3) ∨ (g = 10 ∧ u = 4 * k + 3) ∨ (g = 9 ∧ u = 4 * k + 3) ∨ (g = 8 ∧ u = 4 * k + 3) ∨ (g = 7 ∧ u = 4 * k + 3) ∨ (g = 6 ∧ u = 4 * k + 3) ∨ (g = 5 ∧ u = 4 * k + 3) ∨ (g = 4 ∧ u = 4 * k + 3) ∨ (g = 3 ∧ u = 4 * k + 3) ∨ (g = 2 ∧ u = 4 * k + 3) ∨ (g = 1 ∧ u = 4 * k + 3) ∨ (g = 0 ∧ u = 4 * k + 3) ∨ (g = 11 ∧ u = 4 * k + 2) ∨ (g = 10 ∧ u = 4 * k + 2) ∨ (g = 9 ∧ u = 4 * k + 2) ∨ (g = 8 ∧ u = 4 * k + 2) ∨ (g = 7 ∧ u = 4 * k + 2) ∨ (g = 6 ∧ u = 4 * k + 2) ∨ (g = 5 ∧ u = 4 * k + 2) ∨ (g = 4 ∧ u = 4 * k + 2) ∨ (g = 3 ∧ u = 4 * k + 2) ∨ (g = 2 ∧ u = 4 * k + 2) ∨ (g = 1 ∧ u = 4 * k + 2) ∨ (g = 0 ∧ u = 4 * k + 2) ∨ (g = 11 ∧ u = 4 * k + 1) ∨ (g = 10 ∧ u = 4 * k + 1) ∨ (g = 9 ∧ u = 4 * k + 1) ∨ (g = 8 ∧ u = 4 * k + 1) ∨ (g = 7 ∧ u = 4 * k + 1) ∨ (g = 6 ∧ u = 4 * k + 1) ∨ (g = 5 ∧ u = 4 * k + 1) ∨ (g = 4 ∧ u = 4 * k + 1) ∨ (g = 3 ∧ u = 4 * k + 1) ∨ (g = 2 ∧ u = 4 * k + 1) ∨ (g = 1 ∧ u = 4 * k + 1) ∨ (g = 0 ∧ u = 4 * k + 1) ∨ (g = 11 ∧ u = 4 * k + 0) ∨ (g = 10 ∧ u = 4 * k + 0) ∨ (g = 9 ∧ u = 4 * k + 0) ∨ (g = 8 ∧ u = 4 * k + 0) ∨ (g = 7 ∧ u = 4 * k + 0) ∨ (g = 6 ∧ u = 4 * k + 0) ∨ (g = 5 ∧ u = 4 * k + 0) ∨ (g = 4 ∧ u = 4 * k + 0) ∨ (g = 3 ∧ u = 4 * k + 0) ∨ (g = 2 ∧ u = 4 * k + 0) ∨ (g = 1 ∧ u = 4 * k + 0) ∨ (g = 0 ∧ u = 4 * k + 0) ∨ u < 4 * k := by
  by_cases hu : u < 4 * k
  · iterate 48 right
    exact hu
  · have hj : u = 4 * k + 0 ∨ u = 4 * k + 1 ∨ u = 4 * k + 2 ∨ u = 4 * k + 3 := by omega
    rcases hj with hj | hj | hj | hj <;> subst hj <;> interval_cases g <;> simp only [and_self, true_or, or_true]

theorem ld7 {arg7 : Memref sig .tc .vmem S3x384x128 .f32} (X7 : BufTy.Contents (Elt Ideal) arg7.view.ty) {off : Fin 3 → ℕ} (inb : ∀ a, off a + S1x8x128.size a ≤ S3x384x128.size a)
    (b : Fin 3) (n : ℕ) (heq : off = ![b.val, n, 0]) (r : Fin 8) (l : Fin 128) (m : Fin 384) (hm : m.val = n + r.val) :
    View.readAt (Elt Ideal) arg7.view (Rect.unit (s := S3x384x128) off S1x8x128.size inb).toLoadRect X7 (ix3 (0 : Fin 1) r l)
      = arg7.view.read (Elt Ideal) X7 (ix3 b m l) := by
  subst heq
  rw [View.readAt_apply]
  congr 1
  funext a
  apply Fin.ext
  match a with
  | ⟨0, _⟩ => show b.val + 1 * 0 = b.val; omega
  | ⟨1, _⟩ => show n + 1 * r.val = m.val; omega
  | ⟨2, _⟩ => show 0 + 1 * l.val = l.val; omega

theorem ld3 {arg3 : Memref sig .tc .vmem S32x128 .f32} (X3 : BufTy.Contents (Elt Ideal) arg3.view.ty) {off : Fin 2 → ℕ} (inb : ∀ a, off a + S1x128.size a ≤ S32x128.size a)
    (h : S1x128.ShapeCasts S1x128) (u : Fin 32) (heq : off = ![u.val, 0]) (l : Fin 128) :
    shapeCast S1x128 (View.readAt (Elt Ideal) arg3.view (Rect.unit (s := S32x128) off S1x128.size inb).toLoadRect X3) h (ix2 (0 : Fin 1) l)
      = arg3.view.read (Elt Ideal) X3 (ix2 u l) := by
  subst heq
  rw [shapeCast_apply _ _ _ (ix2 (0 : Fin 1) l) rfl, View.readAt_apply]
  congr 1
  funext a
  apply Fin.ext
  match a with
  | ⟨0, _⟩ => show u.val + 1 * 0 = u.val; omega
  | ⟨1, _⟩ => show 0 + 1 * l.val = l.val; omega

theorem pack_val {S : ℕ → ℕ → ℕ → ℝ} {t1 g u : ℕ} {lo hi : FVec Ideal S8x128 .f32} {e1 e2 h1 h2 h3 h4 hb}
    (hlo : ∀ (s : Fin 8) (l : Fin 128), lo (ix2 s l) = ((S (g / 4) (rowOf t1 g + 8 * (0 : Fin 2).val + s.val) (128 * u + l.val) : ℝ) : EReal))
    (hhi : ∀ (s : Fin 8) (l : Fin 128), hi (ix2 s l) = ((S (g / 4) (rowOf t1 g + 8 * (1 : Fin 2).val + s.val) (128 * u + l.val) : ℝ) : EReal)) (s : Fin 8) (p : Fin 2) (l : Fin 128) :
    interleaveRows S1x8x2x128 (shapeCast S1x8x1x128 (shapeCast S1x8x128 (truncf .bf16 lo e1) h1) h2) (shapeCast S1x8x1x128 (shapeCast S1x8x128 (truncf .bf16 hi e2) h3) h4) hb (ix4 (0 : Fin 1) s p l)
      = ((S (g / 4) (rowOf t1 g + 8 * p.val + s.val) (128 * u + l.val) : ℝ) : EReal) := by
  rw [pack_at]
  match p with
  | 0 => exact hlo s l
  | 1 => exact hhi s l

theorem row_lt {t1 : ℕ} (h : t1 < 6) (g : Fin 12) (q : Fin 16) : rowOf t1 g.val + q.val < 384 := by
  unfold rowOf; rcases Nat.mod_two_eq_zero_or_one (g.val / 2) with h' | h' <;> rw [h'] <;> omega

set_option warn.classDefReducibility false in
/-- The loop over the column blocks of a chunk, with what it computes. -/
@[sl_loop] noncomputable def val2 [Scr] (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec Ideal S128x128 .f32) (k0_t1 : Fin k0_t1_loop.trips) (v399 : BitVec 32) (v403 : BitVec 32) (X0 : BufTy.Contents (Elt Ideal) arg0.view.ty) (X2 : BufTy.Contents (Elt Ideal) arg2.view.ty) (X3 : BufTy.Contents (Elt Ideal) arg3.view.ty) (X4 : BufTy.Contents (Elt Ideal) arg4.view.ty) (X7 : BufTy.Contents (Elt Ideal) arg7.view.ty) :
    Cert.KernelIdeal.Gen.LoopInvTy_k0_t2 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k0_t1 v399 v403 where
  inv := fun k acc => iprop((arg0.view.loc (c : Thread nD τ) ↦[arg0.view.set]{fullShare} X0) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (∃ f, (arg8.view.loc (c : Thread nD τ) ↦[arg8.view.set]{fullShare} f) ∗ ⌜W8D Scr.S k0_t1.val (fun _ u => u < 4 * (k)) (arg8.view.read (Elt Ideal) f)⌝) ∗ ⌜Sco Scr.S (arg0.view.read (Elt Ideal) X0) (arg2.view.read (Elt Ideal) X2) (arg3.view.read (Elt Ideal) X3) (arg4.view.read (Elt Ideal) X4) (arg7.view.read (Elt Ideal) X7)⌝)
  step := fun k acc => by
    unfold k0_t2_body
    have t1 : k0_t1.val < 6 := lt_of_lt_of_le k0_t1.isLt (by decide)
    have t2 : k.val < 8 := lt_of_lt_of_le k.isLt (by decide)
    iintro ⟨H0, H2, H3, H4, H7, ⟨%f8, H8, %h8⟩, %hS⟩
    sl_exec
    sl_step
    isplitl [H0]; · iexact H0
    isplitl [H2]; · iexact H2
    isplitl [H3]; · iexact H3
    isplitl [H4]; · iexact H4
    isplitl [H7]; · iexact H7
    isplitl [H8]
    · iexists _; isplitl [H8]; · iexact H8
      ipureintro
      have hacc := acc_at X0 X2 (k0_off1_inb k0_t1) (k0_off2_inb k0_t1) (k0_off3_inb k0_t1) (k0_off4_inb k0_t1) (k0_off5_inb k0_t1) (k0_off6_inb k0_t1) (k0_off7_inb k) k0_t1.val k.val t1 t2 (offa1 k0_t1) (offa2 k0_t1) (offa3 k0_t1) (offa4 k0_t1) (offa5 k0_t1) (offa6 k0_t1) (offa7 k)
      refine W8D_mono (D := fun g u => (g = 11 ∧ u = 4 * k.val + 3) ∨ (g = 10 ∧ u = 4 * k.val + 3) ∨ (g = 9 ∧ u = 4 * k.val + 3) ∨ (g = 8 ∧ u = 4 * k.val + 3) ∨ (g = 7 ∧ u = 4 * k.val + 3) ∨ (g = 6 ∧ u = 4 * k.val + 3) ∨ (g = 5 ∧ u = 4 * k.val + 3) ∨ (g = 4 ∧ u = 4 * k.val + 3) ∨ (g = 3 ∧ u = 4 * k.val + 3) ∨ (g = 2 ∧ u = 4 * k.val + 3) ∨ (g = 1 ∧ u = 4 * k.val + 3) ∨ (g = 0 ∧ u = 4 * k.val + 3) ∨ (g = 11 ∧ u = 4 * k.val + 2) ∨ (g = 10 ∧ u = 4 * k.val + 2) ∨ (g = 9 ∧ u = 4 * k.val + 2) ∨ (g = 8 ∧ u = 4 * k.val + 2) ∨ (g = 7 ∧ u = 4 * k.val + 2) ∨ (g = 6 ∧ u = 4 * k.val + 2) ∨ (g = 5 ∧ u = 4 * k.val + 2) ∨ (g = 4 ∧ u = 4 * k.val + 2) ∨ (g = 3 ∧ u = 4 * k.val + 2) ∨ (g = 2 ∧ u = 4 * k.val + 2) ∨ (g = 1 ∧ u = 4 * k.val + 2) ∨ (g = 0 ∧ u = 4 * k.val + 2) ∨ (g = 11 ∧ u = 4 * k.val + 1) ∨ (g = 10 ∧ u = 4 * k.val + 1) ∨ (g = 9 ∧ u = 4 * k.val + 1) ∨ (g = 8 ∧ u = 4 * k.val + 1) ∨ (g = 7 ∧ u = 4 * k.val + 1) ∨ (g = 6 ∧ u = 4 * k.val + 1) ∨ (g = 5 ∧ u = 4 * k.val + 1) ∨ (g = 4 ∧ u = 4 * k.val + 1) ∨ (g = 3 ∧ u = 4 * k.val + 1) ∨ (g = 2 ∧ u = 4 * k.val + 1) ∨ (g = 1 ∧ u = 4 * k.val + 1) ∨ (g = 0 ∧ u = 4 * k.val + 1) ∨ (g = 11 ∧ u = 4 * k.val + 0) ∨ (g = 10 ∧ u = 4 * k.val + 0) ∨ (g = 9 ∧ u = 4 * k.val + 0) ∨ (g = 8 ∧ u = 4 * k.val + 0) ∨ (g = 7 ∧ u = 4 * k.val + 0) ∨ (g = 6 ∧ u = 4 * k.val + 0) ∨ (g = 5 ∧ u = 4 * k.val + 0) ∨ (g = 4 ∧ u = 4 * k.val + 0) ∨ (g = 3 ∧ u = 4 * k.val + 0) ∨ (g = 2 ∧ u = 4 * k.val + 0) ∨ (g = 1 ∧ u = 4 * k.val + 0) ∨ (g = 0 ∧ u = 4 * k.val + 0) ∨ u < 4 * k.val)
        ?_ (fun g u hg _ hd => cols_done hg hd)
      refine W8D_cons 11 (4 * k.val + 3) (by omega) (offw11 k 3) ?_ ?_
      · intro s p l
        dsimp only
        sl_unfold_words
        unfold_payloads
        refine pack_val ?_ ?_ s p l
        · exact fun s l => tile_at hS t1 t2 11 3 0 _ rfl (row_lt t1 _) (hacc 11)
            (fun r l => ld7 X7 _ 2 (rowOf k0_t1.val 11 + 0) (offx22 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 11 3 1 _ rfl (row_lt t1 _) (hacc 11)
            (fun r l => ld7 X7 _ 2 (rowOf k0_t1.val 11 + 8) (offx23 k0_t1) r l _ rfl)
            (fun l => ld3 X3 _ _ ⟨4 * k.val + 3, by omega⟩ (offs k 3) l) (fun l => ld3 X4 _ _ ⟨4 * k.val + 3, by omega⟩ (offs k 3) l) s l
      refine W8D_cons 10 (4 * k.val + 3) (by omega) (offw10 k 3) ?_ ?_
      · intro s p l
        dsimp only
        sl_unfold_words
        unfold_payloads
        refine pack_val ?_ ?_ s p l
        · exact fun s l => tile_at hS t1 t2 10 3 0 _ rfl (row_lt t1 _) (hacc 10)
            (fun r l => ld7 X7 _ 2 (rowOf k0_t1.val 10 + 0) (offx20 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 10 3 1 _ rfl (row_lt t1 _) (hacc 10)
            (fun r l => ld7 X7 _ 2 (rowOf k0_t1.val 10 + 8) (offx21 k0_t1) r l _ rfl)
            (fun l => ld3 X3 _ _ ⟨4 * k.val + 3, by omega⟩ (offs k 3) l) (fun l => ld3 X4 _ _ ⟨4 * k.val + 3, by omega⟩ (offs k 3) l) s l
      refine W8D_cons 9 (4 * k.val + 3) (by omega) (offw9 k 3) ?_ ?_
      · intro s p l
        dsimp only
        sl_unfold_words
        unfold_payloads
        refine pack_val ?_ ?_ s p l
        · exact fun s l => tile_at hS t1 t2 9 3 0 _ rfl (row_lt t1 _) (hacc 9)
            (fun r l => ld7 X7 _ 2 (rowOf k0_t1.val 9 + 0) (offx18 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 9 3 1 _ rfl (row_lt t1 _) (hacc 9)
            (fun r l => ld7 X7 _ 2 (rowOf k0_t1.val 9 + 8) (offx19 k0_t1) r l _ rfl)
            (fun l => ld3 X3 _ _ ⟨4 * k.val + 3, by omega⟩ (offs k 3) l) (fun l => ld3 X4 _ _ ⟨4 * k.val + 3, by omega⟩ (offs k 3) l) s l
      refine W8D_cons 8 (4 * k.val + 3) (by omega) (offw8 k 3) ?_ ?_
      · intro s p l
        dsimp only
        sl_unfold_words
        unfold_payloads
        refine pack_val ?_ ?_ s p l
        · exact fun s l => tile_at hS t1 t2 8 3 0 _ rfl (row_lt t1 _) (hacc 8)
            (fun r l => ld7 X7 _ 2 (rowOf k0_t1.val 8 + 0) (offx16 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 8 3 1 _ rfl (row_lt t1 _) (hacc 8)
            (fun r l => ld7 X7 _ 2 (rowOf k0_t1.val 8 + 8) (offx17 k0_t1) r l _ rfl)
            (fun l => ld3 X3 _ _ ⟨4 * k.val + 3, by omega⟩ (offs k 3) l) (fun l => ld3 X4 _ _ ⟨4 * k.val + 3, by omega⟩ (offs k 3) l) s l
      refine W8D_cons 7 (4 * k.val + 3) (by omega) (offw7 k 3) ?_ ?_
      · intro s p l
        dsimp only
        sl_unfold_words
        unfold_payloads
        refine pack_val ?_ ?_ s p l
        · exact fun s l => tile_at hS t1 t2 7 3 0 _ rfl (row_lt t1 _) (hacc 7)
            (fun r l => ld7 X7 _ 1 (rowOf k0_t1.val 7 + 0) (offx14 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 7 3 1 _ rfl (row_lt t1 _) (hacc 7)
            (fun r l => ld7 X7 _ 1 (rowOf k0_t1.val 7 + 8) (offx15 k0_t1) r l _ rfl)
            (fun l => ld3 X3 _ _ ⟨4 * k.val + 3, by omega⟩ (offs k 3) l) (fun l => ld3 X4 _ _ ⟨4 * k.val + 3, by omega⟩ (offs k 3) l) s l
      refine W8D_cons 6 (4 * k.val + 3) (by omega) (offw6 k 3) ?_ ?_
      · intro s p l
        dsimp only
        sl_unfold_words
        unfold_payloads
        refine pack_val ?_ ?_ s p l
        · exact fun s l => tile_at hS t1 t2 6 3 0 _ rfl (row_lt t1 _) (hacc 6)
            (fun r l => ld7 X7 _ 1 (rowOf k0_t1.val 6 + 0) (offx12 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 6 3 1 _ rfl (row_lt t1 _) (hacc 6)
            (fun r l => ld7 X7 _ 1 (rowOf k0_t1.val 6 + 8) (offx13 k0_t1) r l _ rfl)
            (fun l => ld3 X3 _ _ ⟨4 * k.val + 3, by omega⟩ (offs k 3) l) (fun l => ld3 X4 _ _ ⟨4 * k.val + 3, by omega⟩ (offs k 3) l) s l
      refine W8D_cons 5 (4 * k.val + 3) (by omega) (offw5 k 3) ?_ ?_
      · intro s p l
        dsimp only
        sl_unfold_words
        unfold_payloads
        refine pack_val ?_ ?_ s p l
        · exact fun s l => tile_at hS t1 t2 5 3 0 _ rfl (row_lt t1 _) (hacc 5)
            (fun r l => ld7 X7 _ 1 (rowOf k0_t1.val 5 + 0) (offx10 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 5 3 1 _ rfl (row_lt t1 _) (hacc 5)
            (fun r l => ld7 X7 _ 1 (rowOf k0_t1.val 5 + 8) (offx11 k0_t1) r l _ rfl)
            (fun l => ld3 X3 _ _ ⟨4 * k.val + 3, by omega⟩ (offs k 3) l) (fun l => ld3 X4 _ _ ⟨4 * k.val + 3, by omega⟩ (offs k 3) l) s l
      refine W8D_cons 4 (4 * k.val + 3) (by omega) (offw4 k 3) ?_ ?_
      · intro s p l
        dsimp only
        sl_unfold_words
        unfold_payloads
        refine pack_val ?_ ?_ s p l
        · exact fun s l => tile_at hS t1 t2 4 3 0 _ rfl (row_lt t1 _) (hacc 4)
            (fun r l => ld7 X7 _ 1 (rowOf k0_t1.val 4 + 0) (offx8 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 4 3 1 _ rfl (row_lt t1 _) (hacc 4)
            (fun r l => ld7 X7 _ 1 (rowOf k0_t1.val 4 + 8) (offx9 k0_t1) r l _ rfl)
            (fun l => ld3 X3 _ _ ⟨4 * k.val + 3, by omega⟩ (offs k 3) l) (fun l => ld3 X4 _ _ ⟨4 * k.val + 3, by omega⟩ (offs k 3) l) s l
      refine W8D_cons 3 (4 * k.val + 3) (by omega) (offw3 k 3) ?_ ?_
      · intro s p l
        dsimp only
        sl_unfold_words
        unfold_payloads
        refine pack_val ?_ ?_ s p l
        · exact fun s l => tile_at hS t1 t2 3 3 0 _ rfl (row_lt t1 _) (hacc 3)
            (fun r l => ld7 X7 _ 0 (rowOf k0_t1.val 3 + 0) (offx6 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 3 3 1 _ rfl (row_lt t1 _) (hacc 3)
            (fun r l => ld7 X7 _ 0 (rowOf k0_t1.val 3 + 8) (offx7 k0_t1) r l _ rfl)
            (fun l => ld3 X3 _ _ ⟨4 * k.val + 3, by omega⟩ (offs k 3) l) (fun l => ld3 X4 _ _ ⟨4 * k.val + 3, by omega⟩ (offs k 3) l) s l
      refine W8D_cons 2 (4 * k.val + 3) (by omega) (offw2 k 3) ?_ ?_
      · intro s p l
        dsimp only
        sl_unfold_words
        unfold_payloads
        refine pack_val ?_ ?_ s p l
        · exact fun s l => tile_at hS t1 t2 2 3 0 _ rfl (row_lt t1 _) (hacc 2)
            (fun r l => ld7 X7 _ 0 (rowOf k0_t1.val 2 + 0) (offx4 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 2 3 1 _ rfl (row_lt t1 _) (hacc 2)
            (fun r l => ld7 X7 _ 0 (rowOf k0_t1.val 2 + 8) (offx5 k0_t1) r l _ rfl)
            (fun l => ld3 X3 _ _ ⟨4 * k.val + 3, by omega⟩ (offs k 3) l) (fun l => ld3 X4 _ _ ⟨4 * k.val + 3, by omega⟩ (offs k 3) l) s l
      refine W8D_cons 1 (4 * k.val + 3) (by omega) (offw1 k 3) ?_ ?_
      · intro s p l
        dsimp only
        sl_unfold_words
        unfold_payloads
        refine pack_val ?_ ?_ s p l
        · exact fun s l => tile_at hS t1 t2 1 3 0 _ rfl (row_lt t1 _) (hacc 1)
            (fun r l => ld7 X7 _ 0 (rowOf k0_t1.val 1 + 0) (offx2 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 1 3 1 _ rfl (row_lt t1 _) (hacc 1)
            (fun r l => ld7 X7 _ 0 (rowOf k0_t1.val 1 + 8) (offx3 k0_t1) r l _ rfl)
            (fun l => ld3 X3 _ _ ⟨4 * k.val + 3, by omega⟩ (offs k 3) l) (fun l => ld3 X4 _ _ ⟨4 * k.val + 3, by omega⟩ (offs k 3) l) s l
      refine W8D_cons 0 (4 * k.val + 3) (by omega) (offw0 k 3) ?_ ?_
      · intro s p l
        dsimp only
        sl_unfold_words
        unfold_payloads
        refine pack_val ?_ ?_ s p l
        · exact fun s l => tile_at hS t1 t2 0 3 0 _ rfl (row_lt t1 _) (hacc 0)
            (fun r l => ld7 X7 _ 0 (rowOf k0_t1.val 0 + 0) (offx0 k0_t1) r l _ rfl)
            (fun l => ld3 X3 _ _ ⟨4 * k.val + 3, by omega⟩ (offs k 3) l) (fun l => ld3 X4 _ _ ⟨4 * k.val + 3, by omega⟩ (offs k 3) l) s l
        · exact fun s l => tile_at hS t1 t2 0 3 1 _ rfl (row_lt t1 _) (hacc 0)
            (fun r l => ld7 X7 _ 0 (rowOf k0_t1.val 0 + 8) (offx1 k0_t1) r l _ rfl)
            (fun l => ld3 X3 _ _ ⟨4 * k.val + 3, by omega⟩ (offs k 3) l) (fun l => ld3 X4 _ _ ⟨4 * k.val + 3, by omega⟩ (offs k 3) l) s l
      refine W8D_cons 11 (4 * k.val + 2) (by omega) (offw11 k 2) ?_ ?_
      · intro s p l
        dsimp only
        sl_unfold_words
        unfold_payloads
        refine pack_val ?_ ?_ s p l
        · exact fun s l => tile_at hS t1 t2 11 2 0 _ rfl (row_lt t1 _) (hacc 11)
            (fun r l => ld7 X7 _ 2 (rowOf k0_t1.val 11 + 0) (offx22 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 11 2 1 _ rfl (row_lt t1 _) (hacc 11)
            (fun r l => ld7 X7 _ 2 (rowOf k0_t1.val 11 + 8) (offx23 k0_t1) r l _ rfl)
            (fun l => ld3 X3 _ _ ⟨4 * k.val + 2, by omega⟩ (offs k 2) l) (fun l => ld3 X4 _ _ ⟨4 * k.val + 2, by omega⟩ (offs k 2) l) s l
      refine W8D_cons 10 (4 * k.val + 2) (by omega) (offw10 k 2) ?_ ?_
      · intro s p l
        dsimp only
        sl_unfold_words
        unfold_payloads
        refine pack_val ?_ ?_ s p l
        · exact fun s l => tile_at hS t1 t2 10 2 0 _ rfl (row_lt t1 _) (hacc 10)
            (fun r l => ld7 X7 _ 2 (rowOf k0_t1.val 10 + 0) (offx20 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 10 2 1 _ rfl (row_lt t1 _) (hacc 10)
            (fun r l => ld7 X7 _ 2 (rowOf k0_t1.val 10 + 8) (offx21 k0_t1) r l _ rfl)
            (fun l => ld3 X3 _ _ ⟨4 * k.val + 2, by omega⟩ (offs k 2) l) (fun l => ld3 X4 _ _ ⟨4 * k.val + 2, by omega⟩ (offs k 2) l) s l
      refine W8D_cons 9 (4 * k.val + 2) (by omega) (offw9 k 2) ?_ ?_
      · intro s p l
        dsimp only
        sl_unfold_words
        unfold_payloads
        refine pack_val ?_ ?_ s p l
        · exact fun s l => tile_at hS t1 t2 9 2 0 _ rfl (row_lt t1 _) (hacc 9)
            (fun r l => ld7 X7 _ 2 (rowOf k0_t1.val 9 + 0) (offx18 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 9 2 1 _ rfl (row_lt t1 _) (hacc 9)
            (fun r l => ld7 X7 _ 2 (rowOf k0_t1.val 9 + 8) (offx19 k0_t1) r l _ rfl)
            (fun l => ld3 X3 _ _ ⟨4 * k.val + 2, by omega⟩ (offs k 2) l) (fun l => ld3 X4 _ _ ⟨4 * k.val + 2, by omega⟩ (offs k 2) l) s l
      refine W8D_cons 8 (4 * k.val + 2) (by omega) (offw8 k 2) ?_ ?_
      · intro s p l
        dsimp only
        sl_unfold_words
        unfold_payloads
        refine pack_val ?_ ?_ s p l
        · exact fun s l => tile_at hS t1 t2 8 2 0 _ rfl (row_lt t1 _) (hacc 8)
            (fun r l => ld7 X7 _ 2 (rowOf k0_t1.val 8 + 0) (offx16 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 8 2 1 _ rfl (row_lt t1 _) (hacc 8)
            (fun r l => ld7 X7 _ 2 (rowOf k0_t1.val 8 + 8) (offx17 k0_t1) r l _ rfl)
            (fun l => ld3 X3 _ _ ⟨4 * k.val + 2, by omega⟩ (offs k 2) l) (fun l => ld3 X4 _ _ ⟨4 * k.val + 2, by omega⟩ (offs k 2) l) s l
      refine W8D_cons 7 (4 * k.val + 2) (by omega) (offw7 k 2) ?_ ?_
      · intro s p l
        dsimp only
        sl_unfold_words
        unfold_payloads
        refine pack_val ?_ ?_ s p l
        · exact fun s l => tile_at hS t1 t2 7 2 0 _ rfl (row_lt t1 _) (hacc 7)
            (fun r l => ld7 X7 _ 1 (rowOf k0_t1.val 7 + 0) (offx14 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 7 2 1 _ rfl (row_lt t1 _) (hacc 7)
            (fun r l => ld7 X7 _ 1 (rowOf k0_t1.val 7 + 8) (offx15 k0_t1) r l _ rfl)
            (fun l => ld3 X3 _ _ ⟨4 * k.val + 2, by omega⟩ (offs k 2) l) (fun l => ld3 X4 _ _ ⟨4 * k.val + 2, by omega⟩ (offs k 2) l) s l
      refine W8D_cons 6 (4 * k.val + 2) (by omega) (offw6 k 2) ?_ ?_
      · intro s p l
        dsimp only
        sl_unfold_words
        unfold_payloads
        refine pack_val ?_ ?_ s p l
        · exact fun s l => tile_at hS t1 t2 6 2 0 _ rfl (row_lt t1 _) (hacc 6)
            (fun r l => ld7 X7 _ 1 (rowOf k0_t1.val 6 + 0) (offx12 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 6 2 1 _ rfl (row_lt t1 _) (hacc 6)
            (fun r l => ld7 X7 _ 1 (rowOf k0_t1.val 6 + 8) (offx13 k0_t1) r l _ rfl)
            (fun l => ld3 X3 _ _ ⟨4 * k.val + 2, by omega⟩ (offs k 2) l) (fun l => ld3 X4 _ _ ⟨4 * k.val + 2, by omega⟩ (offs k 2) l) s l
      refine W8D_cons 5 (4 * k.val + 2) (by omega) (offw5 k 2) ?_ ?_
      · intro s p l
        dsimp only
        sl_unfold_words
        unfold_payloads
        refine pack_val ?_ ?_ s p l
        · exact fun s l => tile_at hS t1 t2 5 2 0 _ rfl (row_lt t1 _) (hacc 5)
            (fun r l => ld7 X7 _ 1 (rowOf k0_t1.val 5 + 0) (offx10 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 5 2 1 _ rfl (row_lt t1 _) (hacc 5)
            (fun r l => ld7 X7 _ 1 (rowOf k0_t1.val 5 + 8) (offx11 k0_t1) r l _ rfl)
            (fun l => ld3 X3 _ _ ⟨4 * k.val + 2, by omega⟩ (offs k 2) l) (fun l => ld3 X4 _ _ ⟨4 * k.val + 2, by omega⟩ (offs k 2) l) s l
      refine W8D_cons 4 (4 * k.val + 2) (by omega) (offw4 k 2) ?_ ?_
      · intro s p l
        dsimp only
        sl_unfold_words
        unfold_payloads
        refine pack_val ?_ ?_ s p l
        · exact fun s l => tile_at hS t1 t2 4 2 0 _ rfl (row_lt t1 _) (hacc 4)
            (fun r l => ld7 X7 _ 1 (rowOf k0_t1.val 4 + 0) (offx8 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 4 2 1 _ rfl (row_lt t1 _) (hacc 4)
            (fun r l => ld7 X7 _ 1 (rowOf k0_t1.val 4 + 8) (offx9 k0_t1) r l _ rfl)
            (fun l => ld3 X3 _ _ ⟨4 * k.val + 2, by omega⟩ (offs k 2) l) (fun l => ld3 X4 _ _ ⟨4 * k.val + 2, by omega⟩ (offs k 2) l) s l
      refine W8D_cons 3 (4 * k.val + 2) (by omega) (offw3 k 2) ?_ ?_
      · intro s p l
        dsimp only
        sl_unfold_words
        unfold_payloads
        refine pack_val ?_ ?_ s p l
        · exact fun s l => tile_at hS t1 t2 3 2 0 _ rfl (row_lt t1 _) (hacc 3)
            (fun r l => ld7 X7 _ 0 (rowOf k0_t1.val 3 + 0) (offx6 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 3 2 1 _ rfl (row_lt t1 _) (hacc 3)
            (fun r l => ld7 X7 _ 0 (rowOf k0_t1.val 3 + 8) (offx7 k0_t1) r l _ rfl)
            (fun l => ld3 X3 _ _ ⟨4 * k.val + 2, by omega⟩ (offs k 2) l) (fun l => ld3 X4 _ _ ⟨4 * k.val + 2, by omega⟩ (offs k 2) l) s l
      refine W8D_cons 2 (4 * k.val + 2) (by omega) (offw2 k 2) ?_ ?_
      · intro s p l
        dsimp only
        sl_unfold_words
        unfold_payloads
        refine pack_val ?_ ?_ s p l
        · exact fun s l => tile_at hS t1 t2 2 2 0 _ rfl (row_lt t1 _) (hacc 2)
            (fun r l => ld7 X7 _ 0 (rowOf k0_t1.val 2 + 0) (offx4 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 2 2 1 _ rfl (row_lt t1 _) (hacc 2)
            (fun r l => ld7 X7 _ 0 (rowOf k0_t1.val 2 + 8) (offx5 k0_t1) r l _ rfl)
            (fun l => ld3 X3 _ _ ⟨4 * k.val + 2, by omega⟩ (offs k 2) l) (fun l => ld3 X4 _ _ ⟨4 * k.val + 2, by omega⟩ (offs k 2) l) s l
      refine W8D_cons 1 (4 * k.val + 2) (by omega) (offw1 k 2) ?_ ?_
      · intro s p l
        dsimp only
        sl_unfold_words
        unfold_payloads
        refine pack_val ?_ ?_ s p l
        · exact fun s l => tile_at hS t1 t2 1 2 0 _ rfl (row_lt t1 _) (hacc 1)
            (fun r l => ld7 X7 _ 0 (rowOf k0_t1.val 1 + 0) (offx2 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 1 2 1 _ rfl (row_lt t1 _) (hacc 1)
            (fun r l => ld7 X7 _ 0 (rowOf k0_t1.val 1 + 8) (offx3 k0_t1) r l _ rfl)
            (fun l => ld3 X3 _ _ ⟨4 * k.val + 2, by omega⟩ (offs k 2) l) (fun l => ld3 X4 _ _ ⟨4 * k.val + 2, by omega⟩ (offs k 2) l) s l
      refine W8D_cons 0 (4 * k.val + 2) (by omega) (offw0 k 2) ?_ ?_
      · intro s p l
        dsimp only
        sl_unfold_words
        unfold_payloads
        refine pack_val ?_ ?_ s p l
        · exact fun s l => tile_at hS t1 t2 0 2 0 _ rfl (row_lt t1 _) (hacc 0)
            (fun r l => ld7 X7 _ 0 (rowOf k0_t1.val 0 + 0) (offx0 k0_t1) r l _ rfl)
            (fun l => ld3 X3 _ _ ⟨4 * k.val + 2, by omega⟩ (offs k 2) l) (fun l => ld3 X4 _ _ ⟨4 * k.val + 2, by omega⟩ (offs k 2) l) s l
        · exact fun s l => tile_at hS t1 t2 0 2 1 _ rfl (row_lt t1 _) (hacc 0)
            (fun r l => ld7 X7 _ 0 (rowOf k0_t1.val 0 + 8) (offx1 k0_t1) r l _ rfl)
            (fun l => ld3 X3 _ _ ⟨4 * k.val + 2, by omega⟩ (offs k 2) l) (fun l => ld3 X4 _ _ ⟨4 * k.val + 2, by omega⟩ (offs k 2) l) s l
      refine W8D_cons 11 (4 * k.val + 1) (by omega) (offw11 k 1) ?_ ?_
      · intro s p l
        dsimp only
        sl_unfold_words
        unfold_payloads
        refine pack_val ?_ ?_ s p l
        · exact fun s l => tile_at hS t1 t2 11 1 0 _ rfl (row_lt t1 _) (hacc 11)
            (fun r l => ld7 X7 _ 2 (rowOf k0_t1.val 11 + 0) (offx22 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 11 1 1 _ rfl (row_lt t1 _) (hacc 11)
            (fun r l => ld7 X7 _ 2 (rowOf k0_t1.val 11 + 8) (offx23 k0_t1) r l _ rfl)
            (fun l => ld3 X3 _ _ ⟨4 * k.val + 1, by omega⟩ (offs k 1) l) (fun l => ld3 X4 _ _ ⟨4 * k.val + 1, by omega⟩ (offs k 1) l) s l
      refine W8D_cons 10 (4 * k.val + 1) (by omega) (offw10 k 1) ?_ ?_
      · intro s p l
        dsimp only
        sl_unfold_words
        unfold_payloads
        refine pack_val ?_ ?_ s p l
        · exact fun s l => tile_at hS t1 t2 10 1 0 _ rfl (row_lt t1 _) (hacc 10)
            (fun r l => ld7 X7 _ 2 (rowOf k0_t1.val 10 + 0) (offx20 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 10 1 1 _ rfl (row_lt t1 _) (hacc 10)
            (fun r l => ld7 X7 _ 2 (rowOf k0_t1.val 10 + 8) (offx21 k0_t1) r l _ rfl)
            (fun l => ld3 X3 _ _ ⟨4 * k.val + 1, by omega⟩ (offs k 1) l) (fun l => ld3 X4 _ _ ⟨4 * k.val + 1, by omega⟩ (offs k 1) l) s l
      refine W8D_cons 9 (4 * k.val + 1) (by omega) (offw9 k 1) ?_ ?_
      · intro s p l
        dsimp only
        sl_unfold_words
        unfold_payloads
        refine pack_val ?_ ?_ s p l
        · exact fun s l => tile_at hS t1 t2 9 1 0 _ rfl (row_lt t1 _) (hacc 9)
            (fun r l => ld7 X7 _ 2 (rowOf k0_t1.val 9 + 0) (offx18 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 9 1 1 _ rfl (row_lt t1 _) (hacc 9)
            (fun r l => ld7 X7 _ 2 (rowOf k0_t1.val 9 + 8) (offx19 k0_t1) r l _ rfl)
            (fun l => ld3 X3 _ _ ⟨4 * k.val + 1, by omega⟩ (offs k 1) l) (fun l => ld3 X4 _ _ ⟨4 * k.val + 1, by omega⟩ (offs k 1) l) s l
      refine W8D_cons 8 (4 * k.val + 1) (by omega) (offw8 k 1) ?_ ?_
      · intro s p l
        dsimp only
        sl_unfold_words
        unfold_payloads
        refine pack_val ?_ ?_ s p l
        · exact fun s l => tile_at hS t1 t2 8 1 0 _ rfl (row_lt t1 _) (hacc 8)
            (fun r l => ld7 X7 _ 2 (rowOf k0_t1.val 8 + 0) (offx16 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 8 1 1 _ rfl (row_lt t1 _) (hacc 8)
            (fun r l => ld7 X7 _ 2 (rowOf k0_t1.val 8 + 8) (offx17 k0_t1) r l _ rfl)
            (fun l => ld3 X3 _ _ ⟨4 * k.val + 1, by omega⟩ (offs k 1) l) (fun l => ld3 X4 _ _ ⟨4 * k.val + 1, by omega⟩ (offs k 1) l) s l
      refine W8D_cons 7 (4 * k.val + 1) (by omega) (offw7 k 1) ?_ ?_
      · intro s p l
        dsimp only
        sl_unfold_words
        unfold_payloads
        refine pack_val ?_ ?_ s p l
        · exact fun s l => tile_at hS t1 t2 7 1 0 _ rfl (row_lt t1 _) (hacc 7)
            (fun r l => ld7 X7 _ 1 (rowOf k0_t1.val 7 + 0) (offx14 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 7 1 1 _ rfl (row_lt t1 _) (hacc 7)
            (fun r l => ld7 X7 _ 1 (rowOf k0_t1.val 7 + 8) (offx15 k0_t1) r l _ rfl)
            (fun l => ld3 X3 _ _ ⟨4 * k.val + 1, by omega⟩ (offs k 1) l) (fun l => ld3 X4 _ _ ⟨4 * k.val + 1, by omega⟩ (offs k 1) l) s l
      refine W8D_cons 6 (4 * k.val + 1) (by omega) (offw6 k 1) ?_ ?_
      · intro s p l
        dsimp only
        sl_unfold_words
        unfold_payloads
        refine pack_val ?_ ?_ s p l
        · exact fun s l => tile_at hS t1 t2 6 1 0 _ rfl (row_lt t1 _) (hacc 6)
            (fun r l => ld7 X7 _ 1 (rowOf k0_t1.val 6 + 0) (offx12 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 6 1 1 _ rfl (row_lt t1 _) (hacc 6)
            (fun r l => ld7 X7 _ 1 (rowOf k0_t1.val 6 + 8) (offx13 k0_t1) r l _ rfl)
            (fun l => ld3 X3 _ _ ⟨4 * k.val + 1, by omega⟩ (offs k 1) l) (fun l => ld3 X4 _ _ ⟨4 * k.val + 1, by omega⟩ (offs k 1) l) s l
      refine W8D_cons 5 (4 * k.val + 1) (by omega) (offw5 k 1) ?_ ?_
      · intro s p l
        dsimp only
        sl_unfold_words
        unfold_payloads
        refine pack_val ?_ ?_ s p l
        · exact fun s l => tile_at hS t1 t2 5 1 0 _ rfl (row_lt t1 _) (hacc 5)
            (fun r l => ld7 X7 _ 1 (rowOf k0_t1.val 5 + 0) (offx10 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 5 1 1 _ rfl (row_lt t1 _) (hacc 5)
            (fun r l => ld7 X7 _ 1 (rowOf k0_t1.val 5 + 8) (offx11 k0_t1) r l _ rfl)
            (fun l => ld3 X3 _ _ ⟨4 * k.val + 1, by omega⟩ (offs k 1) l) (fun l => ld3 X4 _ _ ⟨4 * k.val + 1, by omega⟩ (offs k 1) l) s l
      refine W8D_cons 4 (4 * k.val + 1) (by omega) (offw4 k 1) ?_ ?_
      · intro s p l
        dsimp only
        sl_unfold_words
        unfold_payloads
        refine pack_val ?_ ?_ s p l
        · exact fun s l => tile_at hS t1 t2 4 1 0 _ rfl (row_lt t1 _) (hacc 4)
            (fun r l => ld7 X7 _ 1 (rowOf k0_t1.val 4 + 0) (offx8 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 4 1 1 _ rfl (row_lt t1 _) (hacc 4)
            (fun r l => ld7 X7 _ 1 (rowOf k0_t1.val 4 + 8) (offx9 k0_t1) r l _ rfl)
            (fun l => ld3 X3 _ _ ⟨4 * k.val + 1, by omega⟩ (offs k 1) l) (fun l => ld3 X4 _ _ ⟨4 * k.val + 1, by omega⟩ (offs k 1) l) s l
      refine W8D_cons 3 (4 * k.val + 1) (by omega) (offw3 k 1) ?_ ?_
      · intro s p l
        dsimp only
        sl_unfold_words
        unfold_payloads
        refine pack_val ?_ ?_ s p l
        · exact fun s l => tile_at hS t1 t2 3 1 0 _ rfl (row_lt t1 _) (hacc 3)
            (fun r l => ld7 X7 _ 0 (rowOf k0_t1.val 3 + 0) (offx6 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 3 1 1 _ rfl (row_lt t1 _) (hacc 3)
            (fun r l => ld7 X7 _ 0 (rowOf k0_t1.val 3 + 8) (offx7 k0_t1) r l _ rfl)
            (fun l => ld3 X3 _ _ ⟨4 * k.val + 1, by omega⟩ (offs k 1) l) (fun l => ld3 X4 _ _ ⟨4 * k.val + 1, by omega⟩ (offs k 1) l) s l
      refine W8D_cons 2 (4 * k.val + 1) (by omega) (offw2 k 1) ?_ ?_
      · intro s p l
        dsimp only
        sl_unfold_words
        unfold_payloads
        refine pack_val ?_ ?_ s p l
        · exact fun s l => tile_at hS t1 t2 2 1 0 _ rfl (row_lt t1 _) (hacc 2)
            (fun r l => ld7 X7 _ 0 (rowOf k0_t1.val 2 + 0) (offx4 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 2 1 1 _ rfl (row_lt t1 _) (hacc 2)
            (fun r l => ld7 X7 _ 0 (rowOf k0_t1.val 2 + 8) (offx5 k0_t1) r l _ rfl)
            (fun l => ld3 X3 _ _ ⟨4 * k.val + 1, by omega⟩ (offs k 1) l) (fun l => ld3 X4 _ _ ⟨4 * k.val + 1, by omega⟩ (offs k 1) l) s l
      refine W8D_cons 1 (4 * k.val + 1) (by omega) (offw1 k 1) ?_ ?_
      · intro s p l
        dsimp only
        sl_unfold_words
        unfold_payloads
        refine pack_val ?_ ?_ s p l
        · exact fun s l => tile_at hS t1 t2 1 1 0 _ rfl (row_lt t1 _) (hacc 1)
            (fun r l => ld7 X7 _ 0 (rowOf k0_t1.val 1 + 0) (offx2 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 1 1 1 _ rfl (row_lt t1 _) (hacc 1)
            (fun r l => ld7 X7 _ 0 (rowOf k0_t1.val 1 + 8) (offx3 k0_t1) r l _ rfl)
            (fun l => ld3 X3 _ _ ⟨4 * k.val + 1, by omega⟩ (offs k 1) l) (fun l => ld3 X4 _ _ ⟨4 * k.val + 1, by omega⟩ (offs k 1) l) s l
      refine W8D_cons 0 (4 * k.val + 1) (by omega) (offw0 k 1) ?_ ?_
      · intro s p l
        dsimp only
        sl_unfold_words
        unfold_payloads
        refine pack_val ?_ ?_ s p l
        · exact fun s l => tile_at hS t1 t2 0 1 0 _ rfl (row_lt t1 _) (hacc 0)
            (fun r l => ld7 X7 _ 0 (rowOf k0_t1.val 0 + 0) (offx0 k0_t1) r l _ rfl)
            (fun l => ld3 X3 _ _ ⟨4 * k.val + 1, by omega⟩ (offs k 1) l) (fun l => ld3 X4 _ _ ⟨4 * k.val + 1, by omega⟩ (offs k 1) l) s l
        · exact fun s l => tile_at hS t1 t2 0 1 1 _ rfl (row_lt t1 _) (hacc 0)
            (fun r l => ld7 X7 _ 0 (rowOf k0_t1.val 0 + 8) (offx1 k0_t1) r l _ rfl)
            (fun l => ld3 X3 _ _ ⟨4 * k.val + 1, by omega⟩ (offs k 1) l) (fun l => ld3 X4 _ _ ⟨4 * k.val + 1, by omega⟩ (offs k 1) l) s l
      refine W8D_cons 11 (4 * k.val + 0) (by omega) (offw11 k 0) ?_ ?_
      · intro s p l
        dsimp only
        sl_unfold_words
        unfold_payloads
        refine pack_val ?_ ?_ s p l
        · exact fun s l => tile_at hS t1 t2 11 0 0 _ rfl (row_lt t1 _) (hacc 11)
            (fun r l => ld7 X7 _ 2 (rowOf k0_t1.val 11 + 0) (offx22 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 11 0 1 _ rfl (row_lt t1 _) (hacc 11)
            (fun r l => ld7 X7 _ 2 (rowOf k0_t1.val 11 + 8) (offx23 k0_t1) r l _ rfl)
            (fun l => ld3 X3 _ _ ⟨4 * k.val + 0, by omega⟩ (offs k 0) l) (fun l => ld3 X4 _ _ ⟨4 * k.val + 0, by omega⟩ (offs k 0) l) s l
      refine W8D_cons 10 (4 * k.val + 0) (by omega) (offw10 k 0) ?_ ?_
      · intro s p l
        dsimp only
        sl_unfold_words
        unfold_payloads
        refine pack_val ?_ ?_ s p l
        · exact fun s l => tile_at hS t1 t2 10 0 0 _ rfl (row_lt t1 _) (hacc 10)
            (fun r l => ld7 X7 _ 2 (rowOf k0_t1.val 10 + 0) (offx20 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 10 0 1 _ rfl (row_lt t1 _) (hacc 10)
            (fun r l => ld7 X7 _ 2 (rowOf k0_t1.val 10 + 8) (offx21 k0_t1) r l _ rfl)
            (fun l => ld3 X3 _ _ ⟨4 * k.val + 0, by omega⟩ (offs k 0) l) (fun l => ld3 X4 _ _ ⟨4 * k.val + 0, by omega⟩ (offs k 0) l) s l
      refine W8D_cons 9 (4 * k.val + 0) (by omega) (offw9 k 0) ?_ ?_
      · intro s p l
        dsimp only
        sl_unfold_words
        unfold_payloads
        refine pack_val ?_ ?_ s p l
        · exact fun s l => tile_at hS t1 t2 9 0 0 _ rfl (row_lt t1 _) (hacc 9)
            (fun r l => ld7 X7 _ 2 (rowOf k0_t1.val 9 + 0) (offx18 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 9 0 1 _ rfl (row_lt t1 _) (hacc 9)
            (fun r l => ld7 X7 _ 2 (rowOf k0_t1.val 9 + 8) (offx19 k0_t1) r l _ rfl)
            (fun l => ld3 X3 _ _ ⟨4 * k.val + 0, by omega⟩ (offs k 0) l) (fun l => ld3 X4 _ _ ⟨4 * k.val + 0, by omega⟩ (offs k 0) l) s l
      refine W8D_cons 8 (4 * k.val + 0) (by omega) (offw8 k 0) ?_ ?_
      · intro s p l
        dsimp only
        sl_unfold_words
        unfold_payloads
        refine pack_val ?_ ?_ s p l
        · exact fun s l => tile_at hS t1 t2 8 0 0 _ rfl (row_lt t1 _) (hacc 8)
            (fun r l => ld7 X7 _ 2 (rowOf k0_t1.val 8 + 0) (offx16 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 8 0 1 _ rfl (row_lt t1 _) (hacc 8)
            (fun r l => ld7 X7 _ 2 (rowOf k0_t1.val 8 + 8) (offx17 k0_t1) r l _ rfl)
            (fun l => ld3 X3 _ _ ⟨4 * k.val + 0, by omega⟩ (offs k 0) l) (fun l => ld3 X4 _ _ ⟨4 * k.val + 0, by omega⟩ (offs k 0) l) s l
      refine W8D_cons 7 (4 * k.val + 0) (by omega) (offw7 k 0) ?_ ?_
      · intro s p l
        dsimp only
        sl_unfold_words
        unfold_payloads
        refine pack_val ?_ ?_ s p l
        · exact fun s l => tile_at hS t1 t2 7 0 0 _ rfl (row_lt t1 _) (hacc 7)
            (fun r l => ld7 X7 _ 1 (rowOf k0_t1.val 7 + 0) (offx14 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 7 0 1 _ rfl (row_lt t1 _) (hacc 7)
            (fun r l => ld7 X7 _ 1 (rowOf k0_t1.val 7 + 8) (offx15 k0_t1) r l _ rfl)
            (fun l => ld3 X3 _ _ ⟨4 * k.val + 0, by omega⟩ (offs k 0) l) (fun l => ld3 X4 _ _ ⟨4 * k.val + 0, by omega⟩ (offs k 0) l) s l
      refine W8D_cons 6 (4 * k.val + 0) (by omega) (offw6 k 0) ?_ ?_
      · intro s p l
        dsimp only
        sl_unfold_words
        unfold_payloads
        refine pack_val ?_ ?_ s p l
        · exact fun s l => tile_at hS t1 t2 6 0 0 _ rfl (row_lt t1 _) (hacc 6)
            (fun r l => ld7 X7 _ 1 (rowOf k0_t1.val 6 + 0) (offx12 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 6 0 1 _ rfl (row_lt t1 _) (hacc 6)
            (fun r l => ld7 X7 _ 1 (rowOf k0_t1.val 6 + 8) (offx13 k0_t1) r l _ rfl)
            (fun l => ld3 X3 _ _ ⟨4 * k.val + 0, by omega⟩ (offs k 0) l) (fun l => ld3 X4 _ _ ⟨4 * k.val + 0, by omega⟩ (offs k 0) l) s l
      refine W8D_cons 5 (4 * k.val + 0) (by omega) (offw5 k 0) ?_ ?_
      · intro s p l
        dsimp only
        sl_unfold_words
        unfold_payloads
        refine pack_val ?_ ?_ s p l
        · exact fun s l => tile_at hS t1 t2 5 0 0 _ rfl (row_lt t1 _) (hacc 5)
            (fun r l => ld7 X7 _ 1 (rowOf k0_t1.val 5 + 0) (offx10 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 5 0 1 _ rfl (row_lt t1 _) (hacc 5)
            (fun r l => ld7 X7 _ 1 (rowOf k0_t1.val 5 + 8) (offx11 k0_t1) r l _ rfl)
            (fun l => ld3 X3 _ _ ⟨4 * k.val + 0, by omega⟩ (offs k 0) l) (fun l => ld3 X4 _ _ ⟨4 * k.val + 0, by omega⟩ (offs k 0) l) s l
      refine W8D_cons 4 (4 * k.val + 0) (by omega) (offw4 k 0) ?_ ?_
      · intro s p l
        dsimp only
        sl_unfold_words
        unfold_payloads
        refine pack_val ?_ ?_ s p l
        · exact fun s l => tile_at hS t1 t2 4 0 0 _ rfl (row_lt t1 _) (hacc 4)
            (fun r l => ld7 X7 _ 1 (rowOf k0_t1.val 4 + 0) (offx8 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 4 0 1 _ rfl (row_lt t1 _) (hacc 4)
            (fun r l => ld7 X7 _ 1 (rowOf k0_t1.val 4 + 8) (offx9 k0_t1) r l _ rfl)
            (fun l => ld3 X3 _ _ ⟨4 * k.val + 0, by omega⟩ (offs k 0) l) (fun l => ld3 X4 _ _ ⟨4 * k.val + 0, by omega⟩ (offs k 0) l) s l
      refine W8D_cons 3 (4 * k.val + 0) (by omega) (offw3 k 0) ?_ ?_
      · intro s p l
        dsimp only
        sl_unfold_words
        unfold_payloads
        refine pack_val ?_ ?_ s p l
        · exact fun s l => tile_at hS t1 t2 3 0 0 _ rfl (row_lt t1 _) (hacc 3)
            (fun r l => ld7 X7 _ 0 (rowOf k0_t1.val 3 + 0) (offx6 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 3 0 1 _ rfl (row_lt t1 _) (hacc 3)
            (fun r l => ld7 X7 _ 0 (rowOf k0_t1.val 3 + 8) (offx7 k0_t1) r l _ rfl)
            (fun l => ld3 X3 _ _ ⟨4 * k.val + 0, by omega⟩ (offs k 0) l) (fun l => ld3 X4 _ _ ⟨4 * k.val + 0, by omega⟩ (offs k 0) l) s l
      refine W8D_cons 2 (4 * k.val + 0) (by omega) (offw2 k 0) ?_ ?_
      · intro s p l
        dsimp only
        sl_unfold_words
        unfold_payloads
        refine pack_val ?_ ?_ s p l
        · exact fun s l => tile_at hS t1 t2 2 0 0 _ rfl (row_lt t1 _) (hacc 2)
            (fun r l => ld7 X7 _ 0 (rowOf k0_t1.val 2 + 0) (offx4 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 2 0 1 _ rfl (row_lt t1 _) (hacc 2)
            (fun r l => ld7 X7 _ 0 (rowOf k0_t1.val 2 + 8) (offx5 k0_t1) r l _ rfl)
            (fun l => ld3 X3 _ _ ⟨4 * k.val + 0, by omega⟩ (offs k 0) l) (fun l => ld3 X4 _ _ ⟨4 * k.val + 0, by omega⟩ (offs k 0) l) s l
      refine W8D_cons 1 (4 * k.val + 0) (by omega) (offw1 k 0) ?_ ?_
      · intro s p l
        dsimp only
        sl_unfold_words
        unfold_payloads
        refine pack_val ?_ ?_ s p l
        · exact fun s l => tile_at hS t1 t2 1 0 0 _ rfl (row_lt t1 _) (hacc 1)
            (fun r l => ld7 X7 _ 0 (rowOf k0_t1.val 1 + 0) (offx2 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 1 0 1 _ rfl (row_lt t1 _) (hacc 1)
            (fun r l => ld7 X7 _ 0 (rowOf k0_t1.val 1 + 8) (offx3 k0_t1) r l _ rfl)
            (fun l => ld3 X3 _ _ ⟨4 * k.val + 0, by omega⟩ (offs k 0) l) (fun l => ld3 X4 _ _ ⟨4 * k.val + 0, by omega⟩ (offs k 0) l) s l
      refine W8D_cons 0 (4 * k.val + 0) (by omega) (offw0 k 0) ?_ ?_
      · intro s p l
        dsimp only
        sl_unfold_words
        unfold_payloads
        refine pack_val ?_ ?_ s p l
        · exact fun s l => tile_at hS t1 t2 0 0 0 _ rfl (row_lt t1 _) (hacc 0)
            (fun r l => ld7 X7 _ 0 (rowOf k0_t1.val 0 + 0) (offx0 k0_t1) r l _ rfl)
            (fun l => ld3 X3 _ _ ⟨4 * k.val + 0, by omega⟩ (offs k 0) l) (fun l => ld3 X4 _ _ ⟨4 * k.val + 0, by omega⟩ (offs k 0) l) s l
        · exact fun s l => tile_at hS t1 t2 0 0 1 _ rfl (row_lt t1 _) (hacc 0)
            (fun r l => ld7 X7 _ 0 (rowOf k0_t1.val 0 + 8) (offx1 k0_t1) r l _ rfl)
            (fun l => ld3 X3 _ _ ⟨4 * k.val + 0, by omega⟩ (offs k 0) l) (fun l => ld3 X4 _ _ ⟨4 * k.val + 0, by omega⟩ (offs k 0) l) s l
      exact h8
    ipureintro; exact hS

end Cert.Proof.KernelIdeal.Val

end
-- ==== Proof.ValT3.lean ====
/-
  The unpacking of a chunk, with what it computes.
-/
module

public import proofs.«01_k».proof.Defs
public import proofs.«01_k».proof.Proof.ValScore
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

theorem k0_off28_eq : ∀ (k0_t1 : Fin k0_t1_loop.trips) (k0_t3 : Fin k0_t3_loop.trips), k0_off28 k0_t1 k0_t3 = ![32 * k0_t1.val + k0_t3.val / 16 % 2 * (352 - 64 * k0_t1.val) + 16 * (k0_t3.val / 8 % 2) + k0_t3.val % 8, k0_t3.val / 32, 0, 0, 0] := by decide +kernel
instance (k0_t1 : Fin k0_t1_loop.trips) (k0_t3 : Fin k0_t3_loop.trips) : ClosedOff (k0_off28 k0_t1 k0_t3) := ⟨_, k0_off28_eq k0_t1 k0_t3⟩
theorem k0_off29_eq : ∀ (k0_t1 : Fin k0_t1_loop.trips) (k0_t3 : Fin k0_t3_loop.trips), k0_off29 k0_t1 k0_t3 = ![32 * k0_t1.val + k0_t3.val / 16 % 2 * (352 - 64 * k0_t1.val) + 16 * (k0_t3.val / 8 % 2) + k0_t3.val % 8 + 8, k0_t3.val / 32, 0, 0, 0] := by decide +kernel
instance (k0_t1 : Fin k0_t1_loop.trips) (k0_t3 : Fin k0_t3_loop.trips) : ClosedOff (k0_off29 k0_t1 k0_t3) := ⟨_, k0_off29_eq k0_t1 k0_t3⟩
theorem k0_off30_eq : ∀ (k0_t1 : Fin k0_t1_loop.trips) (k0_t3 : Fin k0_t3_loop.trips), k0_off30 k0_t1 k0_t3 = ![32 * k0_t1.val + k0_t3.val / 16 % 2 * (352 - 64 * k0_t1.val) + 16 * (k0_t3.val / 8 % 2) + k0_t3.val % 8, k0_t3.val / 32, 1, 0, 0] := by decide +kernel
instance (k0_t1 : Fin k0_t1_loop.trips) (k0_t3 : Fin k0_t3_loop.trips) : ClosedOff (k0_off30 k0_t1 k0_t3) := ⟨_, k0_off30_eq k0_t1 k0_t3⟩
theorem k0_off31_eq : ∀ (k0_t1 : Fin k0_t1_loop.trips) (k0_t3 : Fin k0_t3_loop.trips), k0_off31 k0_t1 k0_t3 = ![32 * k0_t1.val + k0_t3.val / 16 % 2 * (352 - 64 * k0_t1.val) + 16 * (k0_t3.val / 8 % 2) + k0_t3.val % 8 + 8, k0_t3.val / 32, 1, 0, 0] := by decide +kernel
instance (k0_t1 : Fin k0_t1_loop.trips) (k0_t3 : Fin k0_t3_loop.trips) : ClosedOff (k0_off31 k0_t1 k0_t3) := ⟨_, k0_off31_eq k0_t1 k0_t3⟩
theorem k0_off32_eq : ∀ (k0_t1 : Fin k0_t1_loop.trips) (k0_t3 : Fin k0_t3_loop.trips), k0_off32 k0_t1 k0_t3 = ![32 * k0_t1.val + k0_t3.val / 16 % 2 * (352 - 64 * k0_t1.val) + 16 * (k0_t3.val / 8 % 2) + k0_t3.val % 8, k0_t3.val / 32, 2, 0, 0] := by decide +kernel
instance (k0_t1 : Fin k0_t1_loop.trips) (k0_t3 : Fin k0_t3_loop.trips) : ClosedOff (k0_off32 k0_t1 k0_t3) := ⟨_, k0_off32_eq k0_t1 k0_t3⟩
theorem k0_off33_eq : ∀ (k0_t1 : Fin k0_t1_loop.trips) (k0_t3 : Fin k0_t3_loop.trips), k0_off33 k0_t1 k0_t3 = ![32 * k0_t1.val + k0_t3.val / 16 % 2 * (352 - 64 * k0_t1.val) + 16 * (k0_t3.val / 8 % 2) + k0_t3.val % 8 + 8, k0_t3.val / 32, 2, 0, 0] := by decide +kernel
instance (k0_t1 : Fin k0_t1_loop.trips) (k0_t3 : Fin k0_t3_loop.trips) : ClosedOff (k0_off33 k0_t1 k0_t3) := ⟨_, k0_off33_eq k0_t1 k0_t3⟩
theorem k0_off34_eq : ∀ (k0_t1 : Fin k0_t1_loop.trips) (k0_t3 : Fin k0_t3_loop.trips), k0_off34 k0_t1 k0_t3 = ![32 * k0_t1.val + k0_t3.val / 16 % 2 * (352 - 64 * k0_t1.val) + 16 * (k0_t3.val / 8 % 2) + k0_t3.val % 8, k0_t3.val / 32, 3, 0, 0] := by decide +kernel
instance (k0_t1 : Fin k0_t1_loop.trips) (k0_t3 : Fin k0_t3_loop.trips) : ClosedOff (k0_off34 k0_t1 k0_t3) := ⟨_, k0_off34_eq k0_t1 k0_t3⟩
theorem k0_off35_eq : ∀ (k0_t1 : Fin k0_t1_loop.trips) (k0_t3 : Fin k0_t3_loop.trips), k0_off35 k0_t1 k0_t3 = ![32 * k0_t1.val + k0_t3.val / 16 % 2 * (352 - 64 * k0_t1.val) + 16 * (k0_t3.val / 8 % 2) + k0_t3.val % 8 + 8, k0_t3.val / 32, 3, 0, 0] := by decide +kernel
instance (k0_t1 : Fin k0_t1_loop.trips) (k0_t3 : Fin k0_t3_loop.trips) : ClosedOff (k0_off35 k0_t1 k0_t3) := ⟨_, k0_off35_eq k0_t1 k0_t3⟩

theorem off27_eq : ∀ (k : Fin k0_t3_loop.trips), k0_off27 k 0#32 0#32 = ![k.val / 8, 33 * (k.val % 8) + 0, 0, 0] ∧ k0_off27 k 0#32 8#32 = ![k.val / 8, 33 * (k.val % 8) + 8, 0, 0]
    ∧ k0_off27 k 16#32 0#32 = ![k.val / 8, 33 * (k.val % 8) + 16, 0, 0] ∧ k0_off27 k 16#32 8#32 = ![k.val / 8, 33 * (k.val % 8) + 24, 0, 0] := by decide +kernel

theorem Done_succ {t1 k t b o : ℕ} (ho : o < 4) (h : Done t1 (k + 1) t b o) :
    (t = rowOf t1 (k / 8) + k % 8 + 8 ∧ b = k / 32 ∧ o = 3) ∨ (t = rowOf t1 (k / 8) + k % 8 ∧ b = k / 32 ∧ o = 3)
    ∨ (t = rowOf t1 (k / 8) + k % 8 + 8 ∧ b = k / 32 ∧ o = 2) ∨ (t = rowOf t1 (k / 8) + k % 8 ∧ b = k / 32 ∧ o = 2)
    ∨ (t = rowOf t1 (k / 8) + k % 8 + 8 ∧ b = k / 32 ∧ o = 1) ∨ (t = rowOf t1 (k / 8) + k % 8 ∧ b = k / 32 ∧ o = 1)
    ∨ (t = rowOf t1 (k / 8) + k % 8 + 8 ∧ b = k / 32 ∧ o = 0) ∨ (t = rowOf t1 (k / 8) + k % 8 ∧ b = k / 32 ∧ o = 0) ∨ Done t1 k t b o := by
  rcases h with h | ⟨m, hm, hb, ht⟩
  · iterate 8 right
    exact Or.inl h
  · by_cases hk : m = k
    · subst hk
      omega
    · iterate 8 right
      exact Or.inr ⟨m, by omega, hb, ht⟩

theorem rowOf_pass {t1 k : ℕ} : rowOf t1 (k / 8) + k % 8 = 32 * t1 + k / 16 % 2 * (352 - 64 * t1) + 16 * (k / 8 % 2) + k % 8 := by
  unfold rowOf
  have : k / 8 / 2 % 2 = k / 16 % 2 := by omega
  rw [this]

set_option warn.classDefReducibility false in
/-- The loop over the groups and rows of a chunk, with what it computes. -/
@[sl_loop] noncomputable def val3 [Scr] (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec Ideal S128x128 .f32) (k0_t1 : Fin k0_t1_loop.trips) (v399 : BitVec 32) (v403 : BitVec 32) :
    Cert.KernelIdeal.Gen.LoopInvTy_k0_t3 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 k0_t1 v399 v403 where
  inv := fun k acc => iprop((∃ f, (arg8.view.loc (c : Thread nD τ) ↦[arg8.view.set]{fullShare} f) ∗ ⌜W8D Scr.S k0_t1.val (fun _ u => u < 4 * Scf.trips k0_t2_loop.lb k0_t2_loop.ub k0_t2_loop.st) (arg8.view.read (Elt Ideal) f)⌝) ∗ (∃ f, (arg9.view.loc (c : Thread nD τ) ↦[arg9.view.set]{fullShare} f) ∗ ⌜E9D Scr.S (Done k0_t1.val (k)) (arg9.view.read (Elt Ideal) f)⌝) ∗ ⌜SIx v118 v121 v131 v139 v141 v144⌝)
  step := fun k acc => by
    unfold k0_t3_body
    have t3 : k.val < 96 := lt_of_lt_of_le k.isLt (by decide)
    obtain ⟨o1, o2, o3, o4⟩ := off27_eq k
    iintro ⟨⟨%f8, H8, %h8⟩, ⟨%f9, H9, %h9⟩, %HI⟩
    have h8' : W8 Scr.S k0_t1.val 32 (arg8.view.read (Elt Ideal) f8) := fun g s u p l _ => h8 g s u p l (lt_of_lt_of_le u.isLt (by decide))
    sl_exec
    sl_step
    isplitl [H8]
    · iexists _; isplitl [H8]; · iexact H8
      ipureintro; exact h8
    isplitl [H9]
    · iexists _; isplitl [H9]; · iexact H9
      ipureintro
      refine E9D_mono (D := fun t b o => (t = rowOf k0_t1.val (k.val / 8) + k.val % 8 + 8 ∧ b = k.val / 32 ∧ o = 3) ∨ (t = rowOf k0_t1.val (k.val / 8) + k.val % 8 ∧ b = k.val / 32 ∧ o = 3)
        ∨ (t = rowOf k0_t1.val (k.val / 8) + k.val % 8 + 8 ∧ b = k.val / 32 ∧ o = 2) ∨ (t = rowOf k0_t1.val (k.val / 8) + k.val % 8 ∧ b = k.val / 32 ∧ o = 2)
        ∨ (t = rowOf k0_t1.val (k.val / 8) + k.val % 8 + 8 ∧ b = k.val / 32 ∧ o = 1) ∨ (t = rowOf k0_t1.val (k.val / 8) + k.val % 8 ∧ b = k.val / 32 ∧ o = 1)
        ∨ (t = rowOf k0_t1.val (k.val / 8) + k.val % 8 + 8 ∧ b = k.val / 32 ∧ o = 0) ∨ (t = rowOf k0_t1.val (k.val / 8) + k.val % 8 ∧ b = k.val / 32 ∧ o = 0) ∨ Done k0_t1.val k.val t b o)
        ?_ (fun t b o _ _ ho hd => Done_succ ho hd)
      refine E9D_cons (rowOf k0_t1.val (k.val / 8) + k.val % 8 + 8) (k.val / 32) 3 ((k0_off35_eq k0_t1 k).trans (congrArg (fun n : ℕ => ![n + 8, k.val / 32, 3, 0, 0]) rowOf_pass.symm)) ?_ ?_
      · intro b' o' hb ho r l
        dsimp only
        sl_unfold_words
        unfold_payloads
        refine exp_lay1 HI b' (rowOf k0_t1.val (k.val / 8) + k.val % 8 + 8) 1 o' (ho.trans rfl) ?_ ?_ _ _ _ r l
        · intro r l
          rw [hb]
          exact ld8 h8' _ 1 _ _ _ k.val 16 t3 (by omega) o3 r l
        · intro r l
          rw [hb]
          exact ld8 h8' _ 1 _ _ _ k.val 24 t3 (by omega) o4 r l
      refine E9D_cons (rowOf k0_t1.val (k.val / 8) + k.val % 8) (k.val / 32) 3 ((k0_off34_eq k0_t1 k).trans (congrArg (fun n : ℕ => ![n, k.val / 32, 3, 0, 0]) rowOf_pass.symm)) ?_ ?_
      · intro b' o' hb ho r l
        dsimp only
        sl_unfold_words
        unfold_payloads
        refine exp_lay1 HI b' (rowOf k0_t1.val (k.val / 8) + k.val % 8) 1 o' (ho.trans rfl) ?_ ?_ _ _ _ r l
        · intro r l
          rw [hb]
          exact ld8 h8' _ 0 _ _ _ k.val 16 t3 (by omega) o3 r l
        · intro r l
          rw [hb]
          exact ld8 h8' _ 0 _ _ _ k.val 24 t3 (by omega) o4 r l
      refine E9D_cons (rowOf k0_t1.val (k.val / 8) + k.val % 8 + 8) (k.val / 32) 2 ((k0_off33_eq k0_t1 k).trans (congrArg (fun n : ℕ => ![n + 8, k.val / 32, 2, 0, 0]) rowOf_pass.symm)) ?_ ?_
      · intro b' o' hb ho r l
        dsimp only
        sl_unfold_words
        unfold_payloads
        refine exp_lay0 HI b' (rowOf k0_t1.val (k.val / 8) + k.val % 8 + 8) 1 o' (ho.trans rfl) ?_ ?_ _ _ _ r l
        · intro r l
          rw [hb]
          exact ld8 h8' _ 1 _ _ _ k.val 16 t3 (by omega) o3 r l
        · intro r l
          rw [hb]
          exact ld8 h8' _ 1 _ _ _ k.val 24 t3 (by omega) o4 r l
      refine E9D_cons (rowOf k0_t1.val (k.val / 8) + k.val % 8) (k.val / 32) 2 ((k0_off32_eq k0_t1 k).trans (congrArg (fun n : ℕ => ![n, k.val / 32, 2, 0, 0]) rowOf_pass.symm)) ?_ ?_
      · intro b' o' hb ho r l
        dsimp only
        sl_unfold_words
        unfold_payloads
        refine exp_lay0 HI b' (rowOf k0_t1.val (k.val / 8) + k.val % 8) 1 o' (ho.trans rfl) ?_ ?_ _ _ _ r l
        · intro r l
          rw [hb]
          exact ld8 h8' _ 0 _ _ _ k.val 16 t3 (by omega) o3 r l
        · intro r l
          rw [hb]
          exact ld8 h8' _ 0 _ _ _ k.val 24 t3 (by omega) o4 r l
      refine E9D_cons (rowOf k0_t1.val (k.val / 8) + k.val % 8 + 8) (k.val / 32) 1 ((k0_off31_eq k0_t1 k).trans (congrArg (fun n : ℕ => ![n + 8, k.val / 32, 1, 0, 0]) rowOf_pass.symm)) ?_ ?_
      · intro b' o' hb ho r l
        dsimp only
        sl_unfold_words
        unfold_payloads
        refine exp_lay1 HI b' (rowOf k0_t1.val (k.val / 8) + k.val % 8 + 8) 0 o' (ho.trans rfl) ?_ ?_ _ _ _ r l
        · intro r l
          rw [hb]
          exact ld8 h8' _ 1 _ _ _ k.val 0 t3 (by omega) o1 r l
        · intro r l
          rw [hb]
          exact ld8 h8' _ 1 _ _ _ k.val 8 t3 (by omega) o2 r l
      refine E9D_cons (rowOf k0_t1.val (k.val / 8) + k.val % 8) (k.val / 32) 1 ((k0_off30_eq k0_t1 k).trans (congrArg (fun n : ℕ => ![n, k.val / 32, 1, 0, 0]) rowOf_pass.symm)) ?_ ?_
      · intro b' o' hb ho r l
        dsimp only
        sl_unfold_words
        unfold_payloads
        refine exp_lay1 HI b' (rowOf k0_t1.val (k.val / 8) + k.val % 8) 0 o' (ho.trans rfl) ?_ ?_ _ _ _ r l
        · intro r l
          rw [hb]
          exact ld8 h8' _ 0 _ _ _ k.val 0 t3 (by omega) o1 r l
        · intro r l
          rw [hb]
          exact ld8 h8' _ 0 _ _ _ k.val 8 t3 (by omega) o2 r l
      refine E9D_cons (rowOf k0_t1.val (k.val / 8) + k.val % 8 + 8) (k.val / 32) 0 ((k0_off29_eq k0_t1 k).trans (congrArg (fun n : ℕ => ![n + 8, k.val / 32, 0, 0, 0]) rowOf_pass.symm)) ?_ ?_
      · intro b' o' hb ho r l
        dsimp only
        sl_unfold_words
        unfold_payloads
        refine exp_lay0 HI b' (rowOf k0_t1.val (k.val / 8) + k.val % 8 + 8) 0 o' (ho.trans rfl) ?_ ?_ _ _ _ r l
        · intro r l
          rw [hb]
          exact ld8 h8' _ 1 _ _ _ k.val 0 t3 (by omega) o1 r l
        · intro r l
          rw [hb]
          exact ld8 h8' _ 1 _ _ _ k.val 8 t3 (by omega) o2 r l
      refine E9D_cons (rowOf k0_t1.val (k.val / 8) + k.val % 8) (k.val / 32) 0 ((k0_off28_eq k0_t1 k).trans (congrArg (fun n : ℕ => ![n, k.val / 32, 0, 0, 0]) rowOf_pass.symm)) ?_ ?_
      · intro b' o' hb ho r l
        dsimp only
        sl_unfold_words
        unfold_payloads
        refine exp_lay0 HI b' (rowOf k0_t1.val (k.val / 8) + k.val % 8) 0 o' (ho.trans rfl) ?_ ?_ _ _ _ r l
        · intro r l
          rw [hb]
          exact ld8 h8' _ 0 _ _ _ k.val 0 t3 (by omega) o1 r l
        · intro r l
          rw [hb]
          exact ld8 h8' _ 0 _ _ _ k.val 8 t3 (by omega) o2 r l
      exact h9
    ipureintro; exact HI

end Cert.Proof.KernelIdeal.Val

end
-- ==== Proof.ValT1.lean ====
/-
  The first phase: scores and factors, chunk by chunk.
-/
module

public import proofs.«01_k».proof.Defs
public import proofs.«01_k».proof.Proof.ValT2
public import proofs.«01_k».proof.Proof.ValT3
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

theorem done_next {S : ℕ → ℕ → ℕ → ℝ} {t1 n : ℕ} (h : t1 < 6) (hn : n = 96) {x : S384x3x4x8x128.Idx → EReal} (hx : E9D S (Done t1 n) x) : E9D S (Done (t1 + 1) 0) x := by
  subst hn
  exact E9D_mono hx fun t b o ht hb _ hd => Done_chunk h ht hb hd

set_option warn.classDefReducibility false in
/-- The loop over the chunks, with what it computes. -/
noncomputable def val1 [Scr] (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (v5 : FVec Ideal S8x128 .f32) (v17 : IVec S8x128 1) (v21 : IVec S8x128 1) (v25 : IVec S8x128 1) (v27 : IVec S8x128 32) (v29 : IVec S8x128 32) (v31 : IVec S8x128 32) (v33 : IVec S8x128 32) (v46 : IVec S8x128 32) (v52 : IVec S8x128 32) (v67 : IVec S8x128 32) (v80 : IVec S8x128 32) (v86 : IVec S8x128 32) (v93 : IVec S8x128 32) (v100 : IVec S8x128 32) (v107 : IVec S8x128 32) (v114 : IVec S8x128 32) (v118 : IVec S8x128 1) (v121 : IVec S8x128 32) (v131 : IVec S8x128 32) (v139 : IVec S8x128 32) (v141 : IVec S8x128 1) (v144 : IVec S8x128 32) (v237 : FVec Ideal S128x128 .f32) (X0 : BufTy.Contents (Elt Ideal) arg0.view.ty) (X2 : BufTy.Contents (Elt Ideal) arg2.view.ty) (X3 : BufTy.Contents (Elt Ideal) arg3.view.ty) (X4 : BufTy.Contents (Elt Ideal) arg4.view.ty) (X7 : BufTy.Contents (Elt Ideal) arg7.view.ty) :
    Cert.KernelIdeal.Gen.LoopInvTy_k0_t1 (F := Ideal) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v17 v21 v25 v27 v29 v31 v33 v46 v52 v67 v80 v86 v93 v100 v107 v114 v118 v121 v131 v139 v141 v144 v237 where
  inv := fun k acc => iprop((arg0.view.loc (c : Thread nD τ) ↦[arg0.view.set]{fullShare} X0) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f) ∗ ⌜E9D Scr.S (Done k 0) (arg9.view.read (Elt Ideal) f)⌝) ∗ ⌜Sco Scr.S (arg0.view.read (Elt Ideal) X0) (arg2.view.read (Elt Ideal) X2) (arg3.view.read (Elt Ideal) X3) (arg4.view.read (Elt Ideal) X4) (arg7.view.read (Elt Ideal) X7)⌝ ∗ ⌜SIx v118 v121 v131 v139 v141 v144⌝)
  step := fun k acc => by
    unfold k0_t1_body
    have t1 : k.val < 6 := lt_of_lt_of_le k.isLt (by decide)
    have n3 : k0_t3_loop.trips = 96 := by decide
    iintro ⟨H0, H2, H3, H4, H7, ⟨%f8, H8⟩, ⟨%f9, H9, %h9⟩, %hS, %HI⟩
    have h8 : W8D Scr.S k.val (fun _ u => u < 4 * 0) (arg8.view.read (Elt Ideal) f8) := fun g s u p l h => absurd h (Nat.not_lt_zero _)
    sl_exec
    sl_step
    isplitl [H0]; · iexact H0
    isplitl [H2]; · iexact H2
    isplitl [H3]; · iexact H3
    isplitl [H4]; · iexact H4
    isplitl [H7]; · iexact H7
    isplitl [H8]; · iexists _; iexact H8
    isplitl [H9]
    · iexists _; isplitl [H9]; · iexact H9
      ipureintro
      exact done_next t1 n3 ‹_›
    isplitl []; · ipureintro; exact hS
    ipureintro; exact HI

end Cert.Proof.KernelIdeal.Val

end
-- ==== Proof.ValRun.lean ====
/-
  The whole kernel, with the first result it leaves.
-/
module

public import proofs.«01_k».proof.Defs
public import proofs.«01_k».proof.Proof.ValFin
public import proofs.«01_k».proof.Proof.ValT1
public import proofs.«01_k».proof.Proof.ValT6
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

/-- The array of row scales repeats each scale along the lanes, in the rows of `D`. -/
def XD (D : ℕ → ℕ → Prop) (x1 : S3x384.Idx → EReal) (x : S3x384x128.Idx → EReal) : Prop :=
  ∀ (b : Fin 3) (t : Fin 384) (l : Fin 128), D b.val t.val → x (ix3 b t l) = x1 (ix2 b t)

theorem scale_row (v : Vec Ideal S1x128 .f32) (q l : Fin 128) : k0_pay670 (F := Ideal) v (ix3 (0 : Fin 1) q l) = v (ix2 (0 : Fin 1) q) := by
  unfold k0_pay670
  pointwise

theorem XD_cons {arg1 : Memref sig .tc .vmem S3x384 .f32} {arg7 : Memref sig .tc .vmem S3x384x128 .f32} {D : ℕ → ℕ → Prop} {f1 : BufTy.Contents (Elt Ideal) arg1.view.ty} {f7 : BufTy.Contents (Elt Ideal) arg7.view.ty}
    {L : List (View.Piece (Elt Ideal) S3x384x128 .f32)} {o1 : Fin 2 → ℕ} {o7 : Fin 3 → ℕ} {i1 : ∀ a, o1 a + S1x128.size a ≤ S3x384.size a} {i7 : ∀ a, o7 a + S1x128x128.size a ≤ S3x384x128.size a}
    (b j : ℕ) (e1 : o1 = ![b, 128 * j]) (e7 : o7 = ![b, 128 * j, 0]) {y : FVec Ideal S1x128x128 .f32}
    (hy : y = k0_pay670 (F := Ideal) (View.readAt (Elt Ideal) arg1.view (Rect.unit (s := S3x384) o1 S1x128.size i1).toLoadRect f1))
    (h : XD D (arg1.view.read (Elt Ideal) f1) (arg7.view.read (Elt Ideal) (arg7.view.writes (Elt Ideal) f7 L))) :
    XD (fun b' t' => (b' = b ∧ t' / 128 = j) ∨ D b' t') (arg1.view.read (Elt Ideal) f1)
      (arg7.view.read (Elt Ideal) (arg7.view.writes (Elt Ideal) f7 (⟨Rect.unit o7 S1x128x128.size i7, y⟩ :: L))) := by
  subst e1 e7 hy
  intro b' t' l hd
  by_cases ht : b'.val = b ∧ t'.val / 128 = j
  · have hq : t'.val - 128 * j < 128 := by omega
    rw [View.read_writes_cons_unit_of_mem _ _ i7 _ _ _ (ix3 (0 : Fin 1) (⟨t'.val - 128 * j, hq⟩ : Fin 128) l) rfl ?_]
    · refine (scale_row _ _ l).trans ?_
      rw [View.readAt_apply]
      congr 1
      funext a
      match a with
      | ⟨0, _⟩ => exact Fin.ext (by show b + 1 * 0 = b'.val; omega)
      | ⟨1, _⟩ => exact Fin.ext (by show 128 * j + 1 * (t'.val - 128 * j) = t'.val; omega)
    · intro q
      match q with
      | ⟨0, _⟩ => show b'.val = b + 0; omega
      | ⟨1, _⟩ => show t'.val = 128 * j + (t'.val - 128 * j); omega
      | ⟨2, _⟩ => show l.val = 0 + l.val; omega
  · refine Eq.trans ?_ (h b' t' l (hd.resolve_left ht))
    by_cases h0 : b'.val = b
    · have h1 : t'.val / 128 ≠ j := fun h1 => ht ⟨h0, h1⟩
      exact View.read_writes_cons_unit_of_not_mem _ _ i7 _ _ _ rfl 1 (by show t'.val < 128 * j ∨ 128 * j + 128 ≤ t'.val; omega)
    · exact View.read_writes_cons_unit_of_not_mem _ _ i7 _ _ _ rfl 0 (by show b'.val < b ∨ b + 1 ≤ b'.val; omega)

theorem read_ones {arg15 : Memref sig .tc .vmem S3x392x128 .f32} (W : Fin 3 → ℕ → Fin 4 → Blk) (f : BufTy.Contents (Elt Ideal) arg15.view.ty) :
    FR W 0 (arg15.view.read (Elt Ideal) (arg15.view.writes (Elt Ideal) f
      [⟨Rect.unit (s := S3x392x128) ![0, 0, 0] S3x392x128.size inb_S3x392x128_S3x392x128_0_0_0, k0_pay687 (F := Ideal)⟩])) := by
  intro b t l
  rw [View.read_writes_cons_unit_of_mem _ _ inb_S3x392x128_S3x392x128_0_0_0 _ _ _ (ix3 b t l) rfl ?_]
  · exact ones_FR W b t l
  · intro q
    match q with
    | ⟨0, _⟩ => show b.val = 0 + b.val; omega
    | ⟨1, _⟩ => show t.val = 0 + t.val; omega
    | ⟨2, _⟩ => show l.val = 0 + l.val; omega

attribute [sl_loop] val1 val4' val6
set_option maxHeartbeats 800000 in
/-- The kernel run, with the first result it leaves. -/
theorem valueRun [Scr] (c : Dev nD) (arg0 : Memref sig .tc .vmem S3x384x2048 .fp8e4m3) (harg0 : arg0.IsWhole) (arg1 : Memref sig .tc .vmem S3x384 .f32) (harg1 : arg1.IsWhole) (arg2 : Memref sig .tc .vmem S2048x4096 .fp8e4m3) (harg2 : arg2.IsWhole) (arg3 : Memref sig .tc .vmem S32x128 .f32) (harg3 : arg3.IsWhole) (arg4 : Memref sig .tc .vmem S32x128 .f32) (harg4 : arg4.IsWhole) (arg5 : Memref sig .tc .vmem S3x384 .f32) (harg5 : arg5.IsWhole) (arg6 : Memref sig .tc .vmem S3x5x384x1024 .bf16) (harg6 : arg6.IsWhole) (arg7 : Memref sig .tc .vmem S3x384x128 .f32) (harg7 : arg7.IsWhole) (arg8 : Memref sig .tc .vmem S12x264x2x128 .bf16) (harg8 : arg8.IsWhole) (arg9 : Memref sig .tc .vmem S384x3x4x8x128 .f32) (harg9 : arg9.IsWhole) (arg10 : Memref sig .tc .vmem S392x3x8x128 .f32) (harg10 : arg10.IsWhole) (arg11 : Memref sig .tc .vmem S192x3x8x128 .f32) (harg11 : arg11.IsWhole) (arg12 : Memref sig .tc .vmem S192x3x8x128 .f32) (harg12 : arg12.IsWhole) (arg13 : Memref sig .tc .vmem S48x3x8x128 .f32) (harg13 : arg13.IsWhole) (arg14 : Memref sig .tc .vmem S48x3x8x128 .f32) (harg14 : arg14.IsWhole) (arg15 : Memref sig .tc .vmem S3x392x128 .f32) (harg15 : arg15.IsWhole) (arg16 : Memref sig .tc .vmem S3x392x128 .f32) (harg16 : arg16.IsWhole) (arg17 : Memref sig .tc .vmem S2x3x360x2x128 .bf16) (harg17 : arg17.IsWhole) (X0 : S3x384x2048.Idx → Elt Ideal .fp8e4m3) (X1 : S3x384.Idx → Elt Ideal .f32) (X2 : S2048x4096.Idx → Elt Ideal .fp8e4m3) (X3 : S32x128.Idx → Elt Ideal .f32) (X4 : S32x128.Idx → Elt Ideal .f32)
    (hS : ∀ x7 : S3x384x128.Idx → EReal, (∀ b t l, x7 (ix3 b t l) = X1 (ix2 b t)) → Sco Scr.S X0 X2 X3 X4 x7) (K : PUnit → sProp (MT nD τ sig Unit (Elt Ideal) ℕ (UR sig nD τ) ℕ)) :
    iprop(owns (c : Thread nD τ) arg0 fullShare X0
        ∗ owns (c : Thread nD τ) arg1 fullShare X1
        ∗ owns (c : Thread nD τ) arg2 fullShare X2
        ∗ owns (c : Thread nD τ) arg3 fullShare X3
        ∗ owns (c : Thread nD τ) arg4 fullShare X4
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (iprop(owns (c : Thread nD τ) arg0 fullShare X0
        ∗ owns (c : Thread nD τ) arg1 fullShare X1
        ∗ owns (c : Thread nD τ) arg2 fullShare X2
        ∗ owns (c : Thread nD τ) arg3 fullShare X3
        ∗ owns (c : Thread nD τ) arg4 fullShare X4
        ∗ owns (c : Thread nD τ) arg5 fullShare (nV Fac.W)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)) -∗ K ⟨⟩))
      ⊢ wp frame (wpE (defs₀ (F := Ideal)) Variants.none c none) Set.univ (cc0_crf arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_crf_eq_skeleton]; unfold cc0_crf_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst e0 e1 e2 e3 e4
  have hD : ∀ (b : Fin 3) (t : Fin 384), (b.val = 2 ∧ t.val / 128 = 2) ∨ (b.val = 2 ∧ t.val / 128 = 1) ∨ (b.val = 2 ∧ t.val / 128 = 0) ∨ (b.val = 1 ∧ t.val / 128 = 2) ∨ (b.val = 1 ∧ t.val / 128 = 1) ∨ (b.val = 1 ∧ t.val / 128 = 0) ∨ (b.val = 0 ∧ t.val / 128 = 2) ∨ (b.val = 0 ∧ t.val / 128 = 1) ∨ (b.val = 0 ∧ t.val / 128 = 0) ∨ False := by omega
  have h7 : Sco Scr.S (arg0.view.read (Elt Ideal) f0) (arg2.view.read (Elt Ideal) f2) (arg3.view.read (Elt Ideal) f3) (arg4.view.read (Elt Ideal) f4)
      (arg7.view.read (Elt Ideal) (arg7.view.writes (Elt Ideal) arg7.view.junk [
      ⟨Rect.unit (s := S3x384x128) ![2, 256, 0] S1x128x128.size inb_S3x384x128_S1x128x128_2_256_0, k0_pay680 (View.readAt (Elt Ideal) arg1.view (Rect.unit (s := S3x384) ![2, 256] S1x128.size inb_S3x384_S1x128_2_256).toLoadRect f1)⟩,
      ⟨Rect.unit (s := S3x384x128) ![2, 128, 0] S1x128x128.size inb_S3x384x128_S1x128x128_2_128_0, k0_pay679 (k0_pay678 (View.readAt (Elt Ideal) arg1.view (Rect.unit (s := S3x384) ![2, 128] S1x128.size inb_S3x384_S1x128_2_128).toLoadRect f1))⟩,
      ⟨Rect.unit (s := S3x384x128) ![2, 0, 0] S1x128x128.size inb_S3x384x128_S1x128x128_2_0_0, k0_pay677 (View.readAt (Elt Ideal) arg1.view (Rect.unit (s := S3x384) ![2, 0] S1x128.size inb_S3x384_S1x128_2_0).toLoadRect f1)⟩,
      ⟨Rect.unit (s := S3x384x128) ![1, 256, 0] S1x128x128.size inb_S3x384x128_S1x128x128_1_256_0, k0_pay676 (View.readAt (Elt Ideal) arg1.view (Rect.unit (s := S3x384) ![1, 256] S1x128.size inb_S3x384_S1x128_1_256).toLoadRect f1)⟩,
      ⟨Rect.unit (s := S3x384x128) ![1, 128, 0] S1x128x128.size inb_S3x384x128_S1x128x128_1_128_0, k0_pay675 (View.readAt (Elt Ideal) arg1.view (Rect.unit (s := S3x384) ![1, 128] S1x128.size inb_S3x384_S1x128_1_128).toLoadRect f1)⟩,
      ⟨Rect.unit (s := S3x384x128) ![1, 0, 0] S1x128x128.size inb_S3x384x128_S1x128x128_1_0_0, k0_pay674 (k0_pay673 (View.readAt (Elt Ideal) arg1.view (Rect.unit (s := S3x384) ![1, 0] S1x128.size inb_S3x384_S1x128_1_0).toLoadRect f1))⟩,
      ⟨Rect.unit (s := S3x384x128) ![0, 256, 0] S1x128x128.size inb_S3x384x128_S1x128x128_0_256_0, k0_pay672 (View.readAt (Elt Ideal) arg1.view (Rect.unit (s := S3x384) ![0, 256] S1x128.size inb_S3x384_S1x128_0_256).toLoadRect f1)⟩,
      ⟨Rect.unit (s := S3x384x128) ![0, 128, 0] S1x128x128.size inb_S3x384x128_S1x128x128_0_128_0, k0_pay671 (View.readAt (Elt Ideal) arg1.view (Rect.unit (s := S3x384) ![0, 128] S1x128.size inb_S3x384_S1x128_0_128).toLoadRect f1)⟩,
      ⟨Rect.unit (s := S3x384x128) ![0, 0, 0] S1x128x128.size inb_S3x384x128_S1x128x128_0_0_0, k0_pay670 (View.readAt (Elt Ideal) arg1.view (Rect.unit (s := S3x384) ![0, 0] S1x128.size inb_S3x384_S1x128_0_0).toLoadRect f1)⟩])) := by
    refine hS _ fun b t l => ?_
    refine XD_cons (D := fun b t => (b = 2 ∧ t / 128 = 1) ∨ (b = 2 ∧ t / 128 = 0) ∨ (b = 1 ∧ t / 128 = 2) ∨ (b = 1 ∧ t / 128 = 1) ∨ (b = 1 ∧ t / 128 = 0) ∨ (b = 0 ∧ t / 128 = 2) ∨ (b = 0 ∧ t / 128 = 1) ∨ (b = 0 ∧ t / 128 = 0) ∨ False) 2 2 rfl rfl rfl ?_ b t l (hD b t)
    refine XD_cons (D := fun b t => (b = 2 ∧ t / 128 = 0) ∨ (b = 1 ∧ t / 128 = 2) ∨ (b = 1 ∧ t / 128 = 1) ∨ (b = 1 ∧ t / 128 = 0) ∨ (b = 0 ∧ t / 128 = 2) ∨ (b = 0 ∧ t / 128 = 1) ∨ (b = 0 ∧ t / 128 = 0) ∨ False) 2 1 rfl rfl rfl ?_
    refine XD_cons (D := fun b t => (b = 1 ∧ t / 128 = 2) ∨ (b = 1 ∧ t / 128 = 1) ∨ (b = 1 ∧ t / 128 = 0) ∨ (b = 0 ∧ t / 128 = 2) ∨ (b = 0 ∧ t / 128 = 1) ∨ (b = 0 ∧ t / 128 = 0) ∨ False) 2 0 rfl rfl rfl ?_
    refine XD_cons (D := fun b t => (b = 1 ∧ t / 128 = 1) ∨ (b = 1 ∧ t / 128 = 0) ∨ (b = 0 ∧ t / 128 = 2) ∨ (b = 0 ∧ t / 128 = 1) ∨ (b = 0 ∧ t / 128 = 0) ∨ False) 1 2 rfl rfl rfl ?_
    refine XD_cons (D := fun b t => (b = 1 ∧ t / 128 = 0) ∨ (b = 0 ∧ t / 128 = 2) ∨ (b = 0 ∧ t / 128 = 1) ∨ (b = 0 ∧ t / 128 = 0) ∨ False) 1 1 rfl rfl rfl ?_
    refine XD_cons (D := fun b t => (b = 0 ∧ t / 128 = 2) ∨ (b = 0 ∧ t / 128 = 1) ∨ (b = 0 ∧ t / 128 = 0) ∨ False) 1 0 rfl rfl rfl ?_
    refine XD_cons (D := fun b t => (b = 0 ∧ t / 128 = 1) ∨ (b = 0 ∧ t / 128 = 0) ∨ False) 0 2 rfl rfl rfl ?_
    refine XD_cons (D := fun b t => (b = 0 ∧ t / 128 = 0) ∨ False) 0 1 rfl rfl rfl ?_
    refine XD_cons (D := fun b t => False) 0 0 rfl rfl rfl ?_
    exact fun b t l h => h.elim
  have h9 : E9D Scr.S (Done 0 0) (arg9.view.read (Elt Ideal) f9) := fun t b o r l h => h.elim (fun h => by omega) fun ⟨m, hm, _⟩ => by omega
  have h10 : A10 Fac.W (kaps Fac.W) (8 * 0) (arg10.view.read (Elt Ideal) f10) := fun t b r l h => absurd h (by omega)
  have h15 := read_ones (arg15 := arg15) Fac.W arg15.view.junk
  have hC := ones_C4 Fac.W
  have hF := printed_FIx
  have hI := printed_SIx
  clear hD
  sl_exec
  clear hC hF hI h7 h15 h10 h9
  have n6 : 24 + 2 * Scf.trips k0_t6_loop.lb k0_t6_loop.ub k0_t6_loop.st = 48 := by decide
  have n10 : Scf.trips k0_t10_loop.lb k0_t10_loop.ub k0_t10_loop.st = 385 := by decide
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    refine out_read (fun t => ?_) (fun t => ?_) (fun t => ?_)
    · exact n_row Fac.pos n10 n6 (last_row n6 hL25 hL35) hL38 hL33 0 _ _ rfl rfl t
    · exact n_row Fac.pos n10 n6 (last_row n6 hL25 hL35) hL38 hL33 1 _ _ rfl rfl t
    · exact n_row Fac.pos n10 n6 (last_row n6 hL25 hL35) hL38 hL33 2 _ _ rfl rfl t
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Proof.KernelIdeal.Val

end
-- ==== Proof.ValLaunch.lean ====
/-
  The launch of the kernel over the extended reals, with the first result it leaves.
-/
module

public import proofs.«01_k».proof.Defs
public import proofs.«01_k».proof.Proof.ValRun
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Spec

variable (m : (ℓ : Loc nD τ sig) → Buf (Elt Ideal) ℓ) (ρ : Dev nD → PrngReg)

/-- The scaled products of the arguments. -/
def Ym (c : Dev nD) : Fin 3 → Fin 384 → Fin 4096 → EReal :=
  yE (fun t b k => (m ((c : Thread nD τ).loc main_arg0) : S384x3x2048.Idx → EReal) (ix3 t b k)) (fun t b => (m ((c : Thread nD τ).loc main_arg1) : S384x3.Idx → EReal) (ix2 t b))
    (fun k n => (m ((c : Thread nD τ).loc main_arg2) : S2048x4096.Idx → EReal) (ix2 k n)) (fun n => (m ((c : Thread nD τ).loc main_arg3) : S4096.Idx → EReal) (ix1 n))
    (fun n => (m ((c : Thread nD τ).loc main_arg4) : S4096.Idx → EReal) (ix1 n))

/-- The scores of the arguments. -/
def Sm (c : Dev nD) : ℕ → ℕ → ℕ → ℝ := Sof (Ym m c)

theorem V_v0 (c : Dev nD) : V m c main_v0 = transpose S3x384x2048 [1, 0, 2] (m ((c : Thread nD τ).loc main_arg0)) transposes_S384x3x2048_S3x384x2048_1_0_2 := by
  simp only [V, hostOps0]
  after_results
theorem V_v1 (c : Dev nD) : V m c main_v1 = transpose S3x384 [1, 0] (m ((c : Thread nD τ).loc main_arg1)) transposes_S384x3_S3x384_1_0 := by
  simp only [V, hostOps0]
  after_results
theorem V_v2 (c : Dev nD) : V m c main_v2 = shapeCast S32x128 (m ((c : Thread nD τ).loc main_arg3)) shapeCasts_S4096_S32x128 := by
  simp only [V, hostOps0]
  after_results
  rfl
theorem V_v3 (c : Dev nD) : V m c main_v3 = shapeCast S32x128 (m ((c : Thread nD τ).loc main_arg4)) shapeCasts_S4096_S32x128 := by
  simp only [V, hostOps0]
  after_results
  rfl

theorem iblk_0 (c : Dev nD) (t : Fin cfg0.N) : iblk m c 0 t = V m c main_v0 := by
  have hz : (fun a => (win0_0.index t) a * main_v0.ty.shape.size a) = fun _ => 0 := by
    rw [fin_N0 t]; exact funext fun a => by fin_cases a <;> decide
  exact Memref.read_access_unit_zero (Elt Ideal) main_v0 hz (fun a => by rw [fin_N0 t]; fin_cases a <;> decide) _

theorem iblk_1 (c : Dev nD) (t : Fin cfg0.N) : iblk m c 1 t = V m c main_v1 := by
  have hz : (fun a => (win0_1.index t) a * main_v1.ty.shape.size a) = fun _ => 0 := by
    rw [fin_N0 t]; exact funext fun a => by fin_cases a <;> decide
  exact Memref.read_access_unit_zero (Elt Ideal) main_v1 hz (fun a => by rw [fin_N0 t]; fin_cases a <;> decide) _

theorem iblk_2 (c : Dev nD) (t : Fin cfg0.N) : iblk m c 2 t = V m c main_arg2 := by
  have hz : (fun a => (win0_2.index t) a * main_arg2.ty.shape.size a) = fun _ => 0 := by
    rw [fin_N0 t]; exact funext fun a => by fin_cases a <;> decide
  exact Memref.read_access_unit_zero (Elt Ideal) main_arg2 hz (fun a => by rw [fin_N0 t]; fin_cases a <;> decide) _

theorem iblk_3 (c : Dev nD) (t : Fin cfg0.N) : iblk m c 3 t = V m c main_v2 := by
  have hz : (fun a => (win0_3.index t) a * main_v2.ty.shape.size a) = fun _ => 0 := by
    rw [fin_N0 t]; exact funext fun a => by fin_cases a <;> decide
  exact Memref.read_access_unit_zero (Elt Ideal) main_v2 hz (fun a => by rw [fin_N0 t]; fin_cases a <;> decide) _

theorem iblk_4 (c : Dev nD) (t : Fin cfg0.N) : iblk m c 4 t = V m c main_v3 := by
  have hz : (fun a => (win0_4.index t) a * main_v3.ty.shape.size a) = fun _ => 0 := by
    rw [fin_N0 t]; exact funext fun a => by fin_cases a <;> decide
  exact Memref.read_access_unit_zero (Elt Ideal) main_v3 hz (fun a => by rw [fin_N0 t]; fin_cases a <;> decide) _

theorem fold_at (v : S4096.Idx → EReal) (h : S4096.ShapeCasts S32x128) (u : Fin 32) (l : Fin 128) : shapeCast S32x128 v h (ix2 u l) = v (ix1 (⟨128 * u.val + l.val, by omega⟩ : Fin 4096)) := by
  pointwise
  exact congrArg v (congrArg ix1 (Fin.ext (show u.val * 128 + l.val = 128 * u.val + l.val by omega)))

theorem Sco_of {a0 : S384x3x2048.Idx → EReal} {a1 : S384x3.Idx → EReal} {a2 : S2048x4096.Idx → EReal} {a3 a4 : S4096.Idx → EReal}
    {x0 : S3x384x2048.Idx → EReal} {x2 : S2048x4096.Idx → EReal} {x3 x4 : S32x128.Idx → EReal} {x7 : S3x384x128.Idx → EReal}
    (e0 : ∀ (b : Fin 3) (t : Fin 384) (k : Fin 2048), x0 (ix3 b t k) = a0 (ix3 t b k)) (e1 : ∀ (b : Fin 3) (t : Fin 384) (l : Fin 128), x7 (ix3 b t l) = a1 (ix2 t b)) (e2 : x2 = a2)
    (e3 : ∀ (u : Fin 32) (l : Fin 128), x3 (ix2 u l) = a3 (ix1 (⟨128 * u.val + l.val, by omega⟩ : Fin 4096)))
    (e4 : ∀ (u : Fin 32) (l : Fin 128), x4 (ix2 u l) = a4 (ix1 (⟨128 * u.val + l.val, by omega⟩ : Fin 4096))) :
    Sco (Sof (yE (fun t b k => a0 (ix3 t b k)) (fun t b => a1 (ix2 t b)) (fun k n => a2 (ix2 k n)) (fun n => a3 (ix1 n)) (fun n => a4 (ix1 n)))) x0 x2 x3 x4 x7 := by
  subst e2
  intro b t u l
  have key : ∀ y : EReal, sE y = ((5 * th y : ℝ) : EReal) := by
    intro y
    rw [EReal.coe_mul, ← tanh_th, ← five_is]
    rfl
  have e := Sof_at (yE (fun t b k => a0 (ix3 t b k)) (fun t b => a1 (ix2 t b)) (fun k n => x2 (ix2 k n)) (fun n => a3 (ix1 n)) (fun n => a4 (ix1 n))) b t ⟨128 * u.val + l.val, by omega⟩
  dsimp only at e
  rw [e, key, e1, e3, e4, dotE, yE]
  simp only [e0]

theorem hS (c : Dev nD) (t : Fin cfg0.N) (x7 : S3x384x128.Idx → EReal) (h7 : ∀ b t' l, x7 (ix3 b t' l) = iblk m c 1 t (ix2 b t')) :
    Sco (Sm m c) (iblk m c 0 t) (iblk m c 2 t) (iblk m c 3 t) (iblk m c 4 t) x7 := by
  unfold Sm Ym
  refine Sco_of (fun b t' k => ?_) (fun b t' l => (h7 b t' l).trans ?_) ((iblk_2 m c t).trans (V_main_arg2 m c)) (fun u l => ?_) (fun u l => ?_)
  · refine (congrFun ((iblk_0 m c t).trans (V_v0 m c)) _).trans ?_
    pointwise
  · refine (congrFun ((iblk_1 m c t).trans (V_v1 m c)) _).trans ?_
    pointwise
  · exact (congrFun ((iblk_3 m c t).trans (V_v2 m c)) _).trans (fold_at _ _ u l)
  · exact (congrFun ((iblk_4 m c t).trans (V_v3 m c)) _).trans (fold_at _ _ u l)

/-! ## The proof data and the body obligation -/

/-- The second output window is FORGOTTEN: nothing here reads what the kernel leaves in it. -/
def forgets0 : Fin 7 → Bool := ![false, false, false, false, false, false, true]

/-- The proof data on core `c`: every array as the region finds it; the inputs' blocks left in place, the first output named, the second not. -/
def dats (_ : Fin 1) (c : Dev nD) : Pipeline.Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => nV (facOf (Sm m c))
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem before_0 (c : Dev nD) (t : Fin cfg0.N) (d) : (dats m 0 c).before 0 t d = iblk m c 0 t :=
  before0_0_of m (dats m 0 c) (A_eq m c 0) (fun _ => rfl) t d
theorem after_0 (c : Dev nD) (t : Fin cfg0.N) : (dats m 0 c).after 0 t = iblk m c 0 t := rfl
theorem before_1 (c : Dev nD) (t : Fin cfg0.N) (d) : (dats m 0 c).before 1 t d = iblk m c 1 t :=
  before0_1_of m (dats m 0 c) (A_eq m c 1) (fun _ => rfl) t d
theorem after_1 (c : Dev nD) (t : Fin cfg0.N) : (dats m 0 c).after 1 t = iblk m c 1 t := rfl
theorem before_2 (c : Dev nD) (t : Fin cfg0.N) (d) : (dats m 0 c).before 2 t d = iblk m c 2 t :=
  before0_2_of m (dats m 0 c) (A_eq m c 2) (fun _ => rfl) t d
theorem after_2 (c : Dev nD) (t : Fin cfg0.N) : (dats m 0 c).after 2 t = iblk m c 2 t := rfl
theorem before_3 (c : Dev nD) (t : Fin cfg0.N) (d) : (dats m 0 c).before 3 t d = iblk m c 3 t :=
  before0_3_of m (dats m 0 c) (A_eq m c 3) (fun _ => rfl) t d
theorem after_3 (c : Dev nD) (t : Fin cfg0.N) : (dats m 0 c).after 3 t = iblk m c 3 t := rfl
theorem before_4 (c : Dev nD) (t : Fin cfg0.N) (d) : (dats m 0 c).before 4 t d = iblk m c 4 t :=
  before0_4_of m (dats m 0 c) (A_eq m c 4) (fun _ => rfl) t d
theorem after_4 (c : Dev nD) (t : Fin cfg0.N) : (dats m 0 c).after 4 t = iblk m c 4 t := rfl

theorem after_5 (c : Dev nD) (t : Fin cfg0.N) : (dats m 0 c).after 5 t = nV (facOf (Sm m c)) := rfl

theorem Phi_eq (c : Dev nD) :
    (Pipeline.ΦA spec0 c : sProp (MT nD τ sig Unit (Elt Ideal) ℕ (UR sig nD τ) ℕ)) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d))
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ d, owns (c : Thread nD τ) (win0_6.stage (cfg0.slots t 6)) fullShare d))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, after_0, after_1, after_2, after_3, after_4, after_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨⟨S0, S1, S2, S3, S4, S5, S6, S7, S8, S9, S10⟩, Hg⟩, Ho, ⟨%d0, H0⟩, ⟨%d1, H1⟩, ⟨%d2, H2⟩, ⟨%d3, H3⟩, ⟨%d4, H4⟩, ⟨%d5, H5⟩, H6⟩
  iapply (@valueRun ⟨Sm m c⟩ c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (iblk m c 0 t) (iblk m c 1 t) (iblk m c 2 t) (iblk m c 3 t) (iblk m c 4 t) (hS m c t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := Ideal) .tc cfg0.body (cfg0.bodyArgs t (cfg0.slots t)) = bodyAt0 t := by
  unfold defs₀; rw [Defs.onTc_tc]

theorem body_obligation (c : Dev nD) :
    Pipeline.BodyObligation (dats m 0 c) (defs₀ (F := Ideal)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters every weakly fair execution of @main terminates; every array no window stages ends as the
    region found it, every input array too, and every semaphore counter ends at zero. -/
theorem run_main :
    θ_run defs (onTc (τ := τ) (main (F := Ideal))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The first result array after the run. -/
theorem final_5 (c : Dev nD) : (dats m 0 c).arrAt 5 cfg0.N = nV (facOf (Sm m c)) := by
  have ho : ((cfg0.win 5).blk t0_0).view.read (Elt Ideal) ((dats m 0 c).arrAt 5 cfg0.N) = (dats m 0 c).flushed 5 t0_0 := by
    rw [show cfg0.N = (t0_0 : Fin cfg0.N).val + 1 from rfl, (dats m 0 c).arrAt_succ 5 t0_0]
    rw [show (cfg0.win 5).flush t0_0 = true from by decide, if_pos rfl]
    exact View.read_write_univ _ _
  have hz : (fun a => (win0_5.index t0_0) a * main_v4_0.ty.shape.size a) = fun _ => 0 := funext fun a => by fin_cases a <;> decide
  have hr := fun f => Memref.read_access_unit_zero (Elt Ideal) main_v4_0 hz (fun a => by fin_cases a <;> decide) f
  exact (hr _).symm.trans ho

/-- THE VALUE: the run terminates with the first result at its value and every argument array unchanged. -/
theorem value_main :
    θ_run defs (onTc (τ := τ) (main (F := Ideal))) ⟨m, fun _ => 0, ρ⟩ (fun r => ∀ c : Dev nD,
      r.2.mem ((c.tc : Thread nD τ).loc main_v4_0) = nV (facOf (Sm m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((Pipeline.Dat.toRForget_arrAt_iff (dats m 0 c) (fgt := forgets0) (w := 5) rfl _ _).mp ((h.1 c).1 5)).trans (final_5 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((congrFun (((dats m 0 c).toRForget forgets0).ArrAt_in 2 rfl _) _).mp ((h.1 c).1 2)).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

end Cert.Proof.KernelIdeal.Val

end
-- ==== Proof.ValStates.lean ====
/-
  One step of the reference's recursion, on real numbers: the kernel's arrangement of states agrees with the plain one.
-/
module

public import proofs.«01_k».proof.Proof.ValS

@[expose] public section

noncomputable section

namespace Cert.Proof.Spec

open Idealize.ShloMosaic

/-- The row of state `(c, p)` of a batch. -/
def rOf (p : Fin 256) : Fin 8 := ⟨4 * (p.val / 32 % 2) + p.val / 64, by omega⟩
/-- The lane of state `(c, p)` of a batch. -/
def lOf (c : Fin 4) (p : Fin 256) : Fin 128 := ⟨4 * (p.val % 32) + c.val, by omega⟩

/-- The states `(c, p)` and the positions `(r, l)` of a block. -/
def posEquiv : Fin 4 × Fin 256 ≃ Fin 8 × Fin 128 where
  toFun x := (rOf x.2, lOf x.1 x.2)
  invFun y := (⟨y.2.val % 4, by omega⟩, ⟨64 * (y.1.val % 4) + 32 * (y.1.val / 4) + y.2.val / 4, by omega⟩)
  left_inv := by
    rintro ⟨c, p⟩
    refine Prod.ext (Fin.ext ?_) (Fin.ext ?_)
    · show (4 * (p.val % 32) + c.val) % 4 = c.val
      omega
    · exact (by decide +kernel : ∀ (c : Fin 4) (p : Fin 256), 64 * ((4 * (p.val / 32 % 2) + p.val / 64) % 4) + 32 * ((4 * (p.val / 32 % 2) + p.val / 64) / 4) + (4 * (p.val % 32) + c.val) / 4 = p.val) c p
  right_inv := by
    rintro ⟨r, l⟩
    refine Prod.ext (Fin.ext ?_) (Fin.ext ?_)
    · exact (by decide +kernel : ∀ (r : Fin 8) (l : Fin 128), 4 * ((64 * (r.val % 4) + 32 * (r.val / 4) + l.val / 4) / 32 % 2) + (64 * (r.val % 4) + 32 * (r.val / 4) + l.val / 4) / 64 = r.val) r l
    · exact (by decide +kernel : ∀ (r : Fin 8) (l : Fin 128), 4 * ((64 * (r.val % 4) + 32 * (r.val / 4) + l.val / 4) % 32) + l.val % 4 = l.val) r l

theorem tot_states (a : Blk) : tot a = ∑ c : Fin 4, ∑ p : Fin 256, a (rOf p) (lOf c p) := by
  unfold tot
  rw [← Fintype.sum_prod_type', ← Fintype.sum_prod_type']
  exact (Fintype.sum_equiv posEquiv _ _ fun _ => rfl).symm

/-- The `j`-th predecessor of state `(c, p)`: its base. -/
def pb (p : Fin 256) : Fin 4 := ⟨p.val % 4, by omega⟩
/-- The `j`-th predecessor of state `(c, p)`: its place. -/
def pp (j : Fin 4) (p : Fin 256) : Fin 256 := ⟨64 * j.val + p.val / 4, by omega⟩

/-- A step, state by state. -/
theorem up_states (S : ℕ → ℕ → ℕ → ℝ) (b : Fin 3) (t : ℕ) (a : Blk) (c : Fin 4) (p : Fin 256) :
    up (facOf S b t) a (rOf p) (lOf c p)
      = Real.exp 2 * a (rOf p) (lOf c p) + ∑ j : Fin 4, Real.exp (S b.val t (16 * p.val + 4 * c.val + j.val)) * a (rOf (pp j p)) (lOf (pb p) (pp j p)) := by
  unfold up
  refine congrArg _ (Finset.sum_congr rfl fun j _ => ?_)
  have hr : preRow (rOf p) j = rOf (pp j p) := Fin.ext ((by decide +kernel : ∀ (j : Fin 4) (p : Fin 256),
    4 * ((4 * (p.val / 32 % 2) + p.val / 64) / 2 % 2) + j.val = 4 * ((64 * j.val + p.val / 4) / 32 % 2) + (64 * j.val + p.val / 4) / 64) j p)
  have hl : srcLane (rOf p) (lOf c p) = lOf (pb p) (pp j p) := Fin.ext ((by decide +kernel : ∀ (c j : Fin 4) (p : Fin 256),
    64 * ((4 * (p.val / 32 % 2) + p.val / 64) % 2) + 32 * ((4 * (p.val / 32 % 2) + p.val / 64) / 4) + (4 * (p.val % 32) + c.val) / 4 = 4 * ((64 * j.val + p.val / 4) % 32) + p.val % 4) c j p)
  have hw : facOf S b t (plane (rOf p) (lOf c p)) (facRow (lOf c p) j) (srcLane (rOf p) (lOf c p)) = Real.exp (S b.val t (16 * p.val + 4 * c.val + j.val)) := by
    unfold facOf
    refine congrArg Real.exp (congrArg (S b.val t) ?_)
    exact (by decide +kernel : ∀ (c j : Fin 4) (p : Fin 256), 2048 * ((2 * ((4 * (p.val / 32 % 2) + p.val / 64) / 2 % 2) + (4 * (p.val % 32) + c.val) / 2 % 2) / 2)
      + 16 * (64 * ((4 * (p.val / 32 % 2) + p.val / 64) % 2) + 32 * ((4 * (p.val / 32 % 2) + p.val / 64) / 4) + (4 * (p.val % 32) + c.val) / 4)
      + 8 * ((2 * ((4 * (p.val / 32 % 2) + p.val / 64) / 2 % 2) + (4 * (p.val % 32) + c.val) / 2 % 2) % 2) + (4 * ((4 * (p.val % 32) + c.val) % 2) + j.val) = 16 * p.val + 4 * c.val + j.val) c j p
  rw [hw, hr, hl]

/-- The logarithm of a sum of exponentials does not depend on the number subtracted before. -/
theorem lse_shift {ι : Type*} [Fintype ι] [Nonempty ι] (f : ι → ℝ) (m : ℝ) : m + Real.log (∑ i, Real.exp (f i - m)) = Real.log (∑ i, Real.exp (f i)) := by
  have h : ∑ i, Real.exp (f i) = Real.exp m * ∑ i, Real.exp (f i - m) := by
    rw [Finset.mul_sum]
    refine Finset.sum_congr rfl fun i _ => ?_
    rw [← Real.exp_add]
    congr 1
    ring
  rw [h, Real.log_mul (Real.exp_ne_zero _) (Finset.sum_pos (fun i _ => Real.exp_pos _) Finset.univ_nonempty).ne', Real.log_exp]

/-- The same with one more term set apart. -/
theorem lse_shift' {ι : Type*} [Fintype ι] (f : ι → ℝ) (g m : ℝ) :
    m + Real.log (∑ i, Real.exp (f i - m) + Real.exp (g - m)) = Real.log (∑ i, Real.exp (f i) + Real.exp g) := by
  have h := lse_shift (fun o : Option ι => o.elim g f) m
  rw [Fintype.sum_option, Fintype.sum_option] at h
  rw [add_comm (∑ i, Real.exp (f i - m)), add_comm (∑ i, Real.exp (f i))]
  exact h

/-- The maximum of real numbers, taken from minus infinity over a nonempty set, is a real number. -/
theorem fold_max_real {ι : Type*} (s : Finset ι) (hs : s.Nonempty) (f : ι → ℝ) :
    ∃ m : ℝ, s.fold (max : EReal → EReal → EReal) ⊥ (fun i => ((f i : ℝ) : EReal)) = ((m : ℝ) : EReal) := by
  classical
  induction hs using Finset.Nonempty.cons_induction with
  | singleton a => exact ⟨f a, by rw [Finset.fold_singleton]; exact max_eq_left bot_le⟩
  | cons a s ha hs ih =>
    obtain ⟨m, e⟩ := ih
    exact ⟨max (f a) m, by rw [Finset.fold_cons, e]; exact (EReal.coe_strictMono.monotone.map_max).symm⟩

theorem coe_fsum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The number a trip computes for a state, from the logarithms before it. -/
def L43 (S : ℕ → ℕ → ℕ → ℝ) (k : ℕ) (A : Fin 3 → Fin 4 → Fin 256 → ℝ) (b : Fin 3) (c : Fin 4) (p : Fin 256) : ℝ :=
  Real.log (∑ j : Fin 4, Real.exp (A b (pb p) (pp j p) + S b.val k (16 * p.val + 4 * c.val + j.val)) + Real.exp (A b c p + 2))

/-- What has been subtracted before position `k`. -/
def Zof (S : ℕ → ℕ → ℕ → ℝ) (k : ℕ) (b : Fin 3) : ℝ := if k = 0 then 0 else Real.log (tot (al (facOf S b) k))

/-- The reference's state before position `k`: the logarithms of the recursion, scaled to total one. -/
def Aof (S : ℕ → ℕ → ℕ → ℝ) (k : ℕ) (b : Fin 3) (c : Fin 4) (p : Fin 256) : ℝ :=
  Real.log (al (facOf S b) k (rOf p) (lOf c p)) - Zof S k b

theorem al_facOf_pos (S : ℕ → ℕ → ℕ → ℝ) (b : Fin 3) (k : ℕ) (r : Fin 8) (l : Fin 128) : 0 < al (facOf S b) k r l :=
  al_pos (fun _ _ _ _ => Real.exp_pos _) k r l

theorem exp_Aof (S : ℕ → ℕ → ℕ → ℝ) (k : ℕ) (b : Fin 3) (c : Fin 4) (p : Fin 256) :
    Real.exp (Aof S k b c p) = Real.exp (-Zof S k b) * al (facOf S b) k (rOf p) (lOf c p) := by
  rw [Aof, sub_eq_add_neg, add_comm, Real.exp_add, Real.exp_log (al_facOf_pos S b k _ _)]

theorem L43_Aof (S : ℕ → ℕ → ℕ → ℝ) (k : ℕ) (b : Fin 3) (c : Fin 4) (p : Fin 256) :
    L43 S k (Aof S k) b c p = Real.log (al (facOf S b) (k + 1) (rOf p) (lOf c p)) - Zof S k b := by
  have h : ∑ j : Fin 4, Real.exp (Aof S k b (pb p) (pp j p) + S b.val k (16 * p.val + 4 * c.val + j.val)) + Real.exp (Aof S k b c p + 2)
      = Real.exp (-Zof S k b) * al (facOf S b) (k + 1) (rOf p) (lOf c p) := by
    show _ = _ * up (facOf S b k) (al (facOf S b) k) (rOf p) (lOf c p)
    rw [up_states, mul_add, Finset.mul_sum, add_comm]
    simp only [Real.exp_add, exp_Aof]
    congr 1
    · ring
    · exact Finset.sum_congr rfl fun j _ => by ring
  rw [L43, h, Real.log_mul (Real.exp_ne_zero _) (al_facOf_pos S b _ _ _).ne', Real.log_exp]
  ring

theorem norm_Aof (S : ℕ → ℕ → ℕ → ℝ) (k : ℕ) (b : Fin 3) :
    Real.log (∑ c : Fin 4, ∑ p : Fin 256, Real.exp (L43 S k (Aof S k) b c p)) = nR (facOf S b) k := by
  have h : ∑ c : Fin 4, ∑ p : Fin 256, Real.exp (L43 S k (Aof S k) b c p) = Real.exp (-Zof S k b) * tot (al (facOf S b) (k + 1)) := by
    rw [tot_states, Finset.mul_sum]
    refine Finset.sum_congr rfl fun c _ => ?_
    rw [Finset.mul_sum]
    refine Finset.sum_congr rfl fun p _ => ?_
    rw [L43_Aof, sub_eq_add_neg, add_comm, Real.exp_add, Real.exp_log (al_facOf_pos S b _ _ _)]
  rw [h, Real.log_mul (Real.exp_ne_zero _) (tot_pos (al_facOf_pos S b _)).ne', Real.log_exp]
  show -Zof S k b + _ = _ - Zof S k b
  ring

/-- A trip takes the state to the next one. -/
theorem next_Aof (S : ℕ → ℕ → ℕ → ℝ) (k : ℕ) (b : Fin 3) (c : Fin 4) (p : Fin 256) :
    L43 S k (Aof S k) b c p - nR (facOf S b) k = Aof S (k + 1) b c p := by
  rw [L43_Aof]
  show _ - (Real.log (tot (al (facOf S b) (k + 1))) - Zof S k b) = _ - Zof S (k + 1) b
  rw [show Zof S (k + 1) b = Real.log (tot (al (facOf S b) (k + 1))) from if_neg (Nat.succ_ne_zero k)]
  ring

theorem Aof_zero (S : ℕ → ℕ → ℕ → ℝ) (b : Fin 3) (c : Fin 4) (p : Fin 256) : Aof S 0 b c p = 0 := by
  show Real.log 1 - (if (0 : ℕ) = 0 then (0 : ℝ) else _) = 0
  rw [Real.log_one, if_pos rfl, sub_zero]

end Cert.Proof.Spec

end
-- ==== Proof.ValRefStep.lean ====
/-
  One trip of the reference's loop, read at the ideal instance.
-/
module

public import proofs.«01_k».proof.Proof.ValStates
public import proofs.«01_k».proof.Proof.Gen.ReferenceIdeal.Run
public import Idealize.ShloMosaic.Lib.Pointwise

@[expose] public section

noncomputable section

namespace Cert.Proof.ReferenceIdeal.Val

open Cert.ReferenceIdeal Cert.ReferenceIdeal.Gen Cert.ReferenceIdeal.Value Cert.Proof.Spec
open Idealize.ShloMosaic Idealize.ShloMosaic.TcCoe Idealize.ShloMosaic.Tactic

theorem two_is : Ideal.ofBits .f32 0x40000000#32 = ((2 : ℝ) : EReal) := by
  simp [Ideal.ofBits, Ideal.ieee]; rw [← EReal.coe_mul]; norm_num

theorem bot_is : Ideal.ofBits .f32 0xFF800000#32 = ⊥ := by
  simp [Ideal.ofBits, Ideal.ieee]

theorem start_toInt (k : ℕ) (hk : k < 384) : (BitVec.ofNat 32 k).toInt = (k : ℤ) := by
  rw [BitVec.toInt_eq_toNat_of_lt (by rw [BitVec.toNat_ofNat, Nat.mod_eq_of_lt (by omega)]; omega), BitVec.toNat_ofNat, Nat.mod_eq_of_lt (by omega)]

/-- The carried buffers before trip `k`: the counter, the scores, and the logarithms `A` of the state. -/
structure At (S : ℕ → ℕ → ℕ → ℝ) (k : ℕ) (A : Fin 3 → Fin 4 → Fin 256 → ℝ) (V0 : Valuation τ sig (Elt Ideal)) : Prop where
  cnt : (V0 (Proc.devRef .tc main_v22_1) : S_.Idx → BitVec 32) = fun _ => BitVec.ofNat 32 k
  sco : ∀ (t : Fin 384) (b : Fin 3) (c j : Fin 4) (p : Fin 256), (V0 (Proc.devRef .tc main_v22_0) : S384x3x4x4x256.Idx → EReal) (ix5 t b c j p) = ((S b.val t.val (16 * p.val + 4 * c.val + j.val) : ℝ) : EReal)
  st : ∀ (b : Fin 3) (c : Fin 4) (p : Fin 256), (V0 (Proc.devRef .tc main_v22_2) : S3x4x256.Idx → EReal) (ix3 b c p) = ((A b c p : ℝ) : EReal)

section
variable {S : ℕ → ℕ → ℕ → ℝ} {k : ℕ} {A : Fin 3 → Fin 4 → Fin 256 → ℝ} {V0 : Valuation τ sig (Elt Ideal)}

theorem slice_at (x : S384x3x4x4x256.Idx → EReal) (start : Fin 5 → ℤ) (h : S384x3x4x4x256.Slices (fun _ => 0) S1x3x4x4x256) (hk : k < 384)
    (h0 : start 0 = k) (h1 : start 1 = 0) (h2 : start 2 = 0) (h3 : start 3 = 0) (h4 : start 4 = 0) (b : Fin 3) (c j : Fin 4) (p : Fin 256) :
    Host.dynamicSlice S1x3x4x4x256 x start h (ix5 0 b c j p) = x (ix5 ⟨k, hk⟩ b c j p) := by
  rw [Host.dynamicSlice_apply]
  refine congrArg x (funext fun a => Fin.ext ?_)
  fin_cases a
  · show Host.clampedStart _ _ h.1 start (0 : Fin 5) + 0 = k
    rw [Host.clampedStart_of_le h.1 start (0 : Fin 5) k h0 (by show k + 1 ≤ 384; omega), Nat.add_zero]
  · show Host.clampedStart _ _ h.1 start (1 : Fin 5) + b.val = b.val
    rw [Host.clampedStart_of_le h.1 start (1 : Fin 5) 0 h1 (by show 0 + 3 ≤ 3; omega), Nat.zero_add]
  · show Host.clampedStart _ _ h.1 start (2 : Fin 5) + c.val = c.val
    rw [Host.clampedStart_of_le h.1 start (2 : Fin 5) 0 h2 (by show 0 + 4 ≤ 4; omega), Nat.zero_add]
  · show Host.clampedStart _ _ h.1 start (3 : Fin 5) + j.val = j.val
    rw [Host.clampedStart_of_le h.1 start (3 : Fin 5) 0 h3 (by show 0 + 4 ≤ 4; omega), Nat.zero_add]
  · show Host.clampedStart _ _ h.1 start (4 : Fin 5) + p.val = p.val
    rw [Host.clampedStart_of_le h.1 start (4 : Fin 5) 0 h4 (by show 0 + 256 ≤ 256; omega), Nat.zero_add]

theorem v29_at (H : At S k A V0) (hk : k < 384) (b : Fin 3) (c j : Fin 4) (p : Fin 256) :
    (res_main_while0b_v29 V0 : S3x4x4x256.Idx → EReal) (ix4 b c j p) = ((A b (pb p) (pp j p) + S b.val k (16 * p.val + 4 * c.val + j.val) : ℝ) : EReal) := by
  have hs := slice_at (V0 (Proc.devRef .tc main_v22_0) : S384x3x4x4x256.Idx → EReal) (fun k => (((![V0 (Proc.devRef .tc main_v22_1), constantI S_ 32 0#32, constantI S_ 32 0#32, constantI S_ 32 0#32, constantI S_ 32 0#32] : Fin 5 → (⟨S_, .i32⟩ : BufTy).Contents (Elt Ideal))) k (Shape.Idx.first h_S_)).toInt)
    sliceFits_S384x3x4x4x256_S1x3x4x4x256 hk (by
      show ((V0 (Proc.devRef .tc main_v22_1) : S_.Idx → BitVec 32) (Shape.Idx.first h_S_)).toInt = _
      rw [H.cnt]; exact start_toInt k hk) rfl rfl rfl rfl b c j p
  rw [H.sco] at hs
  have hp : shapeCast S3x4x256 (transpose S3x256x4 [0, 2, 1] (V0 (Proc.devRef .tc main_v22_2) : S3x4x256.Idx → EReal) transposes_S3x4x256_S3x256x4_0_2_1) shapeCasts_S3x256x4_S3x4x256 (ix3 b j p)
      = ((A b (pb p) (pp j p) : ℝ) : EReal) := by
    rw [shapeCast_apply _ _ _ (ix3 b (pp j p) (pb p)) (by
      rw [Shape.rowMajor_val_three, Shape.rowMajor_val_three]
      show (b.val * 256 + (64 * j.val + p.val / 4)) * 4 + p.val % 4 = (b.val * 4 + j.val) * 256 + p.val
      omega), ← H.st]
    pointwise
  have hc : shapeCast S3x4x4x256 (Host.dynamicSlice S1x3x4x4x256 (V0 (Proc.devRef .tc main_v22_0) : S384x3x4x4x256.Idx → EReal) (fun k => (((![V0 (Proc.devRef .tc main_v22_1), constantI S_ 32 0#32, constantI S_ 32 0#32, constantI S_ 32 0#32, constantI S_ 32 0#32] : Fin 5 → (⟨S_, .i32⟩ : BufTy).Contents (Elt Ideal))) k (Shape.Idx.first h_S_)).toInt) sliceFits_S384x3x4x4x256_S1x3x4x4x256) shapeCasts_S1x3x4x4x256_S3x4x4x256 (ix4 b c j p)
      = ((S b.val k (16 * p.val + 4 * c.val + j.val) : ℝ) : EReal) := by
    rw [← hs]
    refine shapeCast_apply _ _ _ (ix5 0 b c j p) ?_
    rw [Shape.rowMajor_val_five, Shape.rowMajor_val_four]
    show (((0 * 3 + b.val) * 4 + c.val) * 4 + j.val) * 256 + p.val = ((b.val * 4 + c.val) * 4 + j.val) * 256 + p.val
    omega
  rw [EReal.coe_add, ← hp, ← hc]
  unfold res_main_while0b_v29
  generalize shapeCast S3x4x256 _ _ = P
  generalize shapeCast S3x4x4x256 _ _ = Q
  pointwise

theorem v31_at (H : At S k A V0) (b : Fin 3) (c : Fin 4) (p : Fin 256) :
    (res_main_while0b_v31 V0 : S3x4x256.Idx → EReal) (ix3 b c p) = ((A b c p + 2 : ℝ) : EReal) := by
  rw [EReal.coe_add, ← H.st, ← two_is]
  rfl

theorem rmax4 (Q : S3x4x4x256.Idx → EReal) (b : Fin 3) (c : Fin 4) (p : Fin 256) :
    Host.reduce (FloatOps.maximumf (F := Ideal) (φ := .f32)) Q (constant (F := Ideal) S_ .f32 0xFF800000#32) reducesTo_S3x4x4x256_S3x4x256_d2 h_S_ (ix3 b c p)
      = (Finset.univ : Finset (Fin 4)).fold max ⊥ fun j => Q (ix4 b c j p) := by
  show Host.reduce (max : EReal → EReal → EReal) Q (constant (F := Ideal) S_ .f32 0xFF800000#32) reducesTo_S3x4x4x256_S3x4x256_d2 h_S_ (ix3 b c p) = _
  rw [Host.reduce_eq_fold, Shape.ReducesTo.fold_fiber_r4_a2]
  exact congrArg (fun z : EReal => Finset.fold max z _ _) bot_is

theorem rmax3 (Q : S3x4x256.Idx → EReal) (b : Fin 3) :
    Host.reduce (FloatOps.maximumf (F := Ideal) (φ := .f32)) Q (constant (F := Ideal) S_ .f32 0xFF800000#32) reducesTo_S3x4x256_S3_d1_2 h_S_ (ix1 b)
      = (Finset.univ : Finset (Fin 4 × Fin 256)).fold max ⊥ fun x => Q (ix3 b x.1 x.2) := by
  show Host.reduce (max : EReal → EReal → EReal) Q (constant (F := Ideal) S_ .f32 0xFF800000#32) reducesTo_S3x4x256_S3_d1_2 h_S_ (ix1 b) = _
  rw [Host.reduce_eq_fold, Shape.ReducesTo.fold_fiber_r3_a12]
  exact congrArg (fun z : EReal => Finset.fold max z _ _) bot_is

theorem log_pos {x : ℝ} (h : 0 < x) : Ideal.log ((x : ℝ) : EReal) = ((Real.log x : ℝ) : EReal) := by
  rw [Ideal.log_coe, if_neg (not_le.mpr h)]

theorem arr43 (Q : S3x4x4x256.Idx → EReal) (P M : S3x4x256.Idx → EReal) (b : Fin 3) (c : Fin 4) (p : Fin 256) (q : Fin 4 → ℝ) (g m : ℝ)
    (hQ : ∀ j, Q (ix4 b c j p) = ((q j : ℝ) : EReal)) (hP : P (ix3 b c p) = ((g : ℝ) : EReal)) (hM : M (ix3 b c p) = ((m : ℝ) : EReal)) :
    (addf (F := Ideal) (φ := .f32) M (Host.log (addf (Host.reduceAdd (Host.exp (subf Q (broadcastInDim S3x4x4x256 ![0, 1, 2, 3] bcast_S3x4x1x256_S3x4x4x256_0_1_2_3 (broadcastInDim S3x4x1x256 ![0, 1, 3] bcast_S3x4x256_S3x4x1x256_0_1_3 M)))) (constant S_ .f32 0x00000000#32) reducesTo_S3x4x4x256_S3x4x256_d2 h_S_) (Host.exp (subf P M)))) : S3x4x256.Idx → EReal) (ix3 b c p)
      = ((Real.log (∑ j, Real.exp (q j) + Real.exp g) : ℝ) : EReal) := by
  pointwise
  rw [← lse_shift' q g m, EReal.coe_add, ← log_pos (add_pos_of_nonneg_of_pos (Finset.sum_nonneg fun _ _ => (Real.exp_pos _).le) (Real.exp_pos _)), EReal.coe_add, coe_fsum]
  simp only [hM, hP, hQ, ← EReal.coe_sub, Ideal.exp_coe, zero_add]

theorem arr51 (Q : S3x4x256.Idx → EReal) (M : S3.Idx → EReal) (b : Fin 3) (q : Fin 4 → Fin 256 → ℝ) (m : ℝ)
    (hQ : ∀ c p, Q (ix3 b c p) = ((q c p : ℝ) : EReal)) (hM : M (ix1 b) = ((m : ℝ) : EReal)) :
    (addf (F := Ideal) (φ := .f32) M (Host.log (Host.reduceAdd (Host.exp (subf Q (broadcastInDim S3x4x256 ![0, 1, 2] bcast_S3x1x1_S3x4x256_0_1_2 (broadcastInDim S3x1x1 ![0] bcast_S3_S3x1x1_0 M)))) (constant S_ .f32 0x00000000#32) reducesTo_S3x4x256_S3_d1_2 h_S_)) : S3.Idx → EReal) (ix1 b)
      = ((Real.log (∑ c, ∑ p, Real.exp (q c p)) : ℝ) : EReal) := by
  pointwise
  have h := lse_shift (fun x : Fin 4 × Fin 256 => q x.1 x.2) m
  rw [Fintype.sum_prod_type, Fintype.sum_prod_type] at h
  rw [← h, EReal.coe_add, ← log_pos (Finset.sum_pos (fun _ _ => Finset.sum_pos (fun _ _ => Real.exp_pos _) Finset.univ_nonempty) Finset.univ_nonempty)]
  simp only [coe_fsum, hM, hQ, ← EReal.coe_sub, Ideal.exp_coe, zero_add]

theorem v33_at (H : At S k A V0) (hk : k < 384) (b : Fin 3) (c : Fin 4) (p : Fin 256) :
    ∃ m : ℝ, (res_main_while0b_v33 V0 : S3x4x256.Idx → EReal) (ix3 b c p) = ((m : ℝ) : EReal) := by
  obtain ⟨m, e⟩ := fold_max_real (Finset.univ : Finset (Fin 4)) Finset.univ_nonempty fun j => A b (pb p) (pp j p) + S b.val k (16 * p.val + 4 * c.val + j.val)
  refine ⟨max m (A b c p + 2), ?_⟩
  rw [EReal.coe_strictMono.monotone.map_max, ← v31_at H, ← e]
  refine (congrArg₂ (max : EReal → EReal → EReal) (rmax4 (res_main_while0b_v29 V0) b c p) rfl).trans ?_
  simp only [v29_at H hk]

theorem v43_at (H : At S k A V0) (hk : k < 384) (b : Fin 3) (c : Fin 4) (p : Fin 256) :
    (res_main_while0b_v43 V0 : S3x4x256.Idx → EReal) (ix3 b c p) = ((L43 S k A b c p : ℝ) : EReal) := by
  obtain ⟨m, e⟩ := v33_at H hk b c p
  exact arr43 (res_main_while0b_v29 V0) (res_main_while0b_v31 V0) (res_main_while0b_v33 V0) b c p _ _ m (fun j => v29_at H hk b c j p) (v31_at H b c p) e

theorem v51_at (H : At S k A V0) (hk : k < 384) (b : Fin 3) :
    (res_main_while0b_v51 V0 : S3.Idx → EReal) (ix1 b) = ((Real.log (∑ c : Fin 4, ∑ p : Fin 256, Real.exp (L43 S k A b c p)) : ℝ) : EReal) := by
  obtain ⟨m, e⟩ := fold_max_real (Finset.univ : Finset (Fin 4 × Fin 256)) Finset.univ_nonempty fun x => L43 S k A b x.1 x.2
  refine arr51 (res_main_while0b_v43 V0) (res_main_while0b_v44 V0) b _ m (fun c p => v43_at H hk b c p) ?_
  refine (rmax3 (res_main_while0b_v43 V0) b).trans ?_
  simp only [v43_at H hk]
  exact e

theorem arr22 (Q : S3x4x256.Idx → EReal) (M : S3.Idx → EReal) (b : Fin 3) (c : Fin 4) (p : Fin 256) :
    (id (subf (F := Ideal) (φ := .f32) Q (broadcastInDim S3x4x256 ![0, 1, 2] bcast_S3x1x1_S3x4x256_0_1_2 (broadcastInDim S3x1x1 ![0] bcast_S3_S3x1x1_0 M))) : S3x4x256.Idx → EReal) (ix3 b c p)
      = Q (ix3 b c p) - M (ix1 b) := by
  simp only [id_eq]
  pointwise

theorem update_at (x : S384x3.Idx → EReal) (M : S3.Idx → EReal) (start : Fin 2 → ℤ) (h : S384x3.Slices (fun _ => 0) S1x3) (hk : k < 384)
    (h0 : start 0 = k) (h1 : start 1 = 0) (t : Fin 384) (b : Fin 3) :
    Host.dynamicUpdateSlice x (broadcastInDim S1x3 ![1] bcast_S3_S1x3_1 M) start h (ix2 t b) = if t.val = k then M (ix1 b) else x (ix2 t b) := by
  have c0 : Host.clampedStart S384x3 S1x3 h.1 start (0 : Fin 2) = k := Host.clampedStart_of_le h.1 start (0 : Fin 2) k h0 (by show k + 1 ≤ 384; omega)
  have c1 : Host.clampedStart S384x3 S1x3 h.1 start (1 : Fin 2) = 0 := Host.clampedStart_of_le h.1 start (1 : Fin 2) 0 h1 (by show 0 + 3 ≤ 3; omega)
  rw [Host.dynamicUpdateSlice_apply]
  by_cases ht : t.val = k
  · rw [if_pos ht, dif_pos]
    · refine congrArg M (funext fun a => Fin.ext ?_)
      fin_cases a
      show b.val - Host.clampedStart S384x3 S1x3 h.1 start (1 : Fin 2) = b.val
      rw [c1, Nat.sub_zero]
    · intro a
      fin_cases a
      · show Host.clampedStart S384x3 S1x3 h.1 start (0 : Fin 2) ≤ t.val ∧ t.val < Host.clampedStart S384x3 S1x3 h.1 start (0 : Fin 2) + 1
        rw [c0]; omega
      · show Host.clampedStart S384x3 S1x3 h.1 start (1 : Fin 2) ≤ b.val ∧ b.val < Host.clampedStart S384x3 S1x3 h.1 start (1 : Fin 2) + 3
        rw [c1]; omega
  · rw [if_neg ht, dif_neg]
    intro hin
    have h := hin (0 : Fin 2)
    change Host.clampedStart S384x3 S1x3 _ start (0 : Fin 2) ≤ t.val ∧ t.val < Host.clampedStart S384x3 S1x3 _ start (0 : Fin 2) + 1 at h
    rw [c0] at h
    omega

theorem At.step (H : At S k (Aof S k) V0) (hk : k < 384) : At S (k + 1) (Aof S (k + 1)) (STEP V0) where
  cnt := by
    rw [STEP_main_v22_1]
    unfold step_main_v22_1
    rw [H.cnt]
    funext i
    show BitVec.ofNat 32 k + 1#32 = BitVec.ofNat 32 (k + 1)
    rw [BitVec.ofNat_add]
  sco := by
    rw [STEP_main_v22_0]
    exact H.sco
  st := by
    intro b c p
    rw [STEP_main_v22_2]
    unfold step_main_v22_2
    refine (arr22 (res_main_while0b_v43 V0) (res_main_while0b_v51 V0) b c p).trans ?_
    rw [v43_at H hk, v51_at H hk, norm_Aof, ← EReal.coe_sub, next_Aof]

theorem STEP_row (H : At S k (Aof S k) V0) (hk : k < 384) (t : Fin 384) (b : Fin 3) :
    (STEP V0 (Proc.devRef .tc main_v22_3) : S384x3.Idx → EReal) (ix2 t b) = if t.val = k then ((nR (facOf S b) k : ℝ) : EReal) else (V0 (Proc.devRef .tc main_v22_3) : S384x3.Idx → EReal) (ix2 t b) := by
  rw [STEP_main_v22_3, ← norm_Aof, ← v51_at H hk]
  unfold step_main_v22_3
  exact update_at (V0 (Proc.devRef .tc main_v22_3) : S384x3.Idx → EReal) (res_main_while0b_v51 V0) _ updateFits_S384x3_S1x3 hk (by
      show ((V0 (Proc.devRef .tc main_v22_1) : S_.Idx → BitVec 32) (Shape.Idx.first h_S_)).toInt = _
      rw [H.cnt]; exact start_toInt k hk) rfl t b

/-- Before trip `k`. -/
theorem At.iterate (H : At S 0 (Aof S 0) V0) : ∀ k, k ≤ 384 → At S k (Aof S k) (STEP^[k] V0)
    ∧ ∀ (t : Fin 384) (b : Fin 3), t.val < k → (STEP^[k] V0 (Proc.devRef .tc main_v22_3) : S384x3.Idx → EReal) (ix2 t b) = ((nR (facOf S b) t.val : ℝ) : EReal)
  | 0, _ => ⟨H, fun t _ h => absurd h (Nat.not_lt_zero _)⟩
  | k + 1, hk => by
    obtain ⟨h1, h2⟩ := At.iterate H k (by omega)
    rw [Function.iterate_succ_apply']
    refine ⟨h1.step (by omega), fun t b ht => ?_⟩
    rw [STEP_row h1 (by omega)]
    by_cases e : t.val = k
    · rw [if_pos e, e]
    · rw [if_neg e]
      exact h2 t b (by omega)

/-- After the loop the fourth buffer holds the first result. -/
theorem loop_out (H : At S 0 (Aof S 0) V0) (t : Fin 384) (b : Fin 3) :
    (out_main_v23 (STEP^[Gen.nT] V0) : S3x384.Idx → EReal) (ix2 b t) = ((nR (facOf S b) t.val : ℝ) : EReal) := by
  rw [← (At.iterate H 384 (Nat.le_refl _)).2 t b t.isLt]
  show (out_main_v23 (STEP^[384] V0) : S3x384.Idx → EReal) (ix2 b t) = _
  unfold out_main_v23
  generalize STEP^[384] V0 = V1
  pointwise

end

end Cert.Proof.ReferenceIdeal.Val

end
-- ==== Proof.ValRefEntry.lean ====
/-
  What the reference's loop finds: the scores of the arguments, a state of zeros and the counter at zero.
-/
module

public import proofs.«01_k».proof.Proof.ValRefStep

@[expose] public section

noncomputable section

namespace Cert.Proof.ReferenceIdeal.Val

open Cert.ReferenceIdeal Cert.ReferenceIdeal.Gen Cert.ReferenceIdeal.Value Cert.Proof.Spec
open Idealize.ShloMosaic Idealize.ShloMosaic.TcCoe Idealize.ShloMosaic.Tactic
open Idealize.SL Idealize.SL.RA Idealize.SL.BI
open Idealize.ShloMosaic.StableHlo Idealize.ShloMosaic.Pipeline

/-- The product's payload at an entry. -/
theorem acc_at (v0 : S1152x2048.Idx → EReal) (v2 : S2048x4096.Idx → EReal) (i : Fin 1152) (n : Fin 4096) :
    (k0_pay1 (F := Ideal) v0 v2 : S1152x4096.Idx → EReal) (ix2 i n) = ∑ k : Fin 2048, v0 (ix2 i k) * v2 (ix2 k n) := by
  unfold k0_pay1
  pointwise

/-- The scores' array, from the product and the arguments. -/
def scoArr (x1 : S1152x4096.Idx → EReal) (a1 : S384x3.Idx → EReal) (a3 a4 : S4096.Idx → EReal) : S384x3x4x4x256.Idx → EReal :=
  transpose S384x3x4x4x256 [0, 1, 3, 4, 2] (shapeCast S384x3x256x4x4 (shapeCast S384x3x1024x4
    (extf (F := Ideal) .f32 (truncf (F := Ideal) .bf16 (mulf (F := Ideal) (φ := .f32) (broadcastInDim S384x3x4096 ![] bcast_S_S384x3x4096 (constant S_ .f32 0x40A00000#32))
      (Host.tanh (addf (mulf (mulf (shapeCast S384x3x4096 x1 shapeCasts_S1152x4096_S384x3x4096)
          (broadcastInDim S384x3x4096 ![0, 1, 2] bcast_S384x3x1_S384x3x4096_0_1_2 (broadcastInDim S384x3x1 ![0, 1] bcast_S384x3_S384x3x1_0_1 a1)))
        (broadcastInDim S384x3x4096 ![0, 1, 2] bcast_S1x1x4096_S384x3x4096_0_1_2 (broadcastInDim S1x1x4096 ![2] bcast_S4096_S1x1x4096_2 a3)))
        (broadcastInDim S384x3x4096 ![0, 1, 2] bcast_S1x1x4096_S384x3x4096_0_1_2 (broadcastInDim S1x1x4096 ![2] bcast_S4096_S1x1x4096_2 a4))))) bitsLt_bf16_f32) bitsLt_bf16_f32)
    shapeCasts_S384x3x4096_S384x3x1024x4) shapeCasts_S384x3x1024x4_S384x3x256x4x4) transposes_S384x3x256x4x4_S384x3x4x4x256_0_1_3_4_2

/-- The column of the score of state `(c, p)` and its `j`-th predecessor. -/
def col (c j : Fin 4) (p : Fin 256) : Fin 4096 := ⟨16 * p.val + 4 * c.val + j.val, by omega⟩
/-- The row of position `t` of batch `b`. -/
def row (t : Fin 384) (b : Fin 3) : Fin 1152 := ⟨3 * t.val + b.val, by omega⟩

theorem scoArr_at (x1 : S1152x4096.Idx → EReal) (a1 : S384x3.Idx → EReal) (a3 a4 : S4096.Idx → EReal) (t : Fin 384) (b : Fin 3) (c j : Fin 4) (p : Fin 256) :
    scoArr x1 a1 a3 a4 (ix5 t b c j p)
      = ((5 * th (x1 (ix2 (row t b) (col c j p)) * a1 (ix2 t b) * a3 (ix1 (col c j p)) + a4 (ix1 (col c j p))) : ℝ) : EReal) := by
  rw [EReal.coe_mul, ← tanh_th, ← five_is]
  have e1 : shapeCast S384x3x4096 x1 shapeCasts_S1152x4096_S384x3x4096 (ix3 t b (col c j p)) = x1 (ix2 (row t b) (col c j p)) := by
    refine shapeCast_apply _ _ _ (ix2 (row t b) (col c j p)) ?_
    rw [Shape.rowMajor_val_two, Shape.rowMajor_val_three]
    show (3 * t.val + b.val) * 4096 + (col c j p).val = (t.val * 3 + b.val) * 4096 + (col c j p).val
    omega
  rw [← e1]
  unfold scoArr
  generalize shapeCast S384x3x4096 x1 shapeCasts_S1152x4096_S384x3x4096 = X
  have cut : ∀ (Y : S384x3x4096.Idx → EReal), transpose S384x3x4x4x256 [0, 1, 3, 4, 2] (shapeCast S384x3x256x4x4 (shapeCast S384x3x1024x4 Y
      shapeCasts_S384x3x4096_S384x3x1024x4) shapeCasts_S384x3x1024x4_S384x3x256x4x4) transposes_S384x3x256x4x4_S384x3x4x4x256_0_1_3_4_2 (ix5 t b c j p) = Y (ix3 t b (col c j p)) := by
    intro Y
    have e2 : shapeCast S384x3x256x4x4 (shapeCast S384x3x1024x4 Y shapeCasts_S384x3x4096_S384x3x1024x4) shapeCasts_S384x3x1024x4_S384x3x256x4x4 (ix5 t b p c j) = Y (ix3 t b (col c j p)) := by
      rw [shapeCast_apply _ _ _ (ix4 t b (⟨4 * p.val + c.val, by omega⟩ : Fin 1024) j) (by
          rw [Shape.rowMajor_val_four, Shape.rowMajor_val_five]
          show ((t.val * 3 + b.val) * 1024 + (4 * p.val + c.val)) * 4 + j.val = (((t.val * 3 + b.val) * 256 + p.val) * 4 + c.val) * 4 + j.val
          omega),
        shapeCast_apply _ _ _ (ix3 t b (col c j p)) (by
          rw [Shape.rowMajor_val_three, Shape.rowMajor_val_four]
          show (t.val * 3 + b.val) * 4096 + (16 * p.val + 4 * c.val + j.val) = ((t.val * 3 + b.val) * 1024 + (4 * p.val + c.val)) * 4 + j.val
          omega)]
    rw [← e2]
    generalize shapeCast S384x3x256x4x4 _ _ = P
    pointwise
  rw [cut]
  pointwise

theorem ent_sco (W : Valuation τ sig (Elt Ideal)) :
    (afterL preI W (Proc.devRef .tc main_v22_0) : S384x3x4x4x256.Idx → EReal)
      = scoArr (W (Proc.devRef .tc main_v1)) (W (Proc.devRef .tc main_arg1)) (W (Proc.devRef .tc main_arg3)) (W (Proc.devRef .tc main_arg4)) := by
  simp only [preI, afterL_cons, afterL_nil, hostOps1]
  after_results
  rfl

theorem ent_st (W : Valuation τ sig (Elt Ideal)) :
    (afterL preI W (Proc.devRef .tc main_v22_2) : S3x4x256.Idx → EReal) = broadcastInDim S3x4x256 ![] bcast_S_S3x4x256 (constant (F := Ideal) S_ .f32 0x00000000#32) := by
  simp only [preI, afterL_cons, afterL_nil, hostOps1]
  after_results
  try rfl

variable (m : (l : Loc nD τ sig) → Buf (Elt Ideal) l) (ρ : Dev nD → PrngReg)

theorem v0_is (c : Dev nD) : (W1 m ρ c (Proc.devRef .tc main_v0) : S1152x2048.Idx → EReal) = shapeCast S1152x2048 (m ((c : Thread nD τ).loc main_arg0) : S384x3x2048.Idx → EReal) shapeCasts_S384x3x2048_S1152x2048 := by
  simp only [W1, hostOps0]
  after_results
  rfl

def t₀ : Fin cfg0.N := ⟨0, by decide⟩

theorem out_eq (x0 : Vec Ideal S1152x2048 .fp8e4m3) (x1 : Vec Ideal S2048x4096 .fp8e4m3) : out0_2 x0 x1 = k0_pay1 x0 x1 := by
  have hz2 : (![0, 0] : Fin S1152x4096.rank → Nat) = fun _ => 0 := funext fun a => by fin_cases a <;> rfl
  have hz0 : (![0, 0] : Fin S1152x2048.rank → Nat) = fun _ => 0 := funext fun a => by fin_cases a <;> rfl
  have hz1 : (![0, 0] : Fin S2048x4096.rank → Nat) = fun _ => 0 := funext fun a => by fin_cases a <;> rfl
  unfold out0_2
  rw [View.canon_unit_zero hz2, View.ld_unit_zero hz0, View.ld_unit_zero hz1]

theorem final_out (c : Dev nD) :
    ((cfg0.win (2 : Fin 3)).blk t₀).view.read (Elt Ideal) ((dat0 (V1 m ρ) c).arrAt (2 : Fin 3) cfg0.N) = (dat0 (V1 m ρ) c).flushed (2 : Fin 3) t₀ := by
  rw [show cfg0.N = (t₀ : Fin cfg0.N).val + 1 from rfl, (dat0 (V1 m ρ) c).arrAt_succ (2 : Fin 3) t₀]
  rw [show (cfg0.win (2 : Fin 3)).flush t₀ = true from by decide, if_pos rfl]
  exact View.read_write_univ _ _

theorem v1_is (c : Dev nD) : (W2 m ρ c (Proc.devRef .tc main_v1) : S1152x4096.Idx → EReal)
    = k0_pay1 (F := Ideal) (shapeCast S1152x2048 (m ((c : Thread nD τ).loc main_arg0) : S384x3x2048.Idx → EReal) shapeCasts_S384x3x2048_S1152x2048) (m ((c : Thread nD τ).loc main_arg2)) := by
  refine (W2_arr m ρ c (2 : Fin 3)).trans ?_
  have ho := final_out m ρ c
  have hz2 : (fun a => (win0_2.index t₀) a * main_v1.ty.shape.size a) = fun _ => 0 := funext fun a => by fin_cases a <;> decide
  have hr2 := fun f => Memref.read_access_unit_zero (Elt Ideal) main_v1 hz2 (fun a => by fin_cases a <;> decide) f
  have hz0 : (fun a => (win0_0.index t₀) a * main_v0.ty.shape.size a) = fun _ => 0 := funext fun a => by fin_cases a <;> decide
  have hr0 := fun f => Memref.read_access_unit_zero (Elt Ideal) main_v0 hz0 (fun a => by fin_cases a <;> decide) f
  have hz1 : (fun a => (win0_1.index t₀) a * main_arg2.ty.shape.size a) = fun _ => 0 := funext fun a => by fin_cases a <;> decide
  have hr1 := fun f => Memref.read_access_unit_zero (Elt Ideal) main_arg2 hz1 (fun a => by fin_cases a <;> decide) f
  rw [hr2] at ho
  rw [ho]
  show (cfg0.win (2 : Fin 3)).cut _ ((dat0 (V1 m ρ) c).after 2 t₀) = _
  rw [after0_2, out_eq, ← v0_is m ρ c]
  unfold iblk0
  rw [hr0, hr1]
  rfl

/-- The scaled product of the arguments. -/
def Yr (c : Dev nD) : Fin 3 → Fin 384 → Fin 4096 → EReal :=
  yE (fun t b k => (m ((c : Thread nD τ).loc main_arg0) : S384x3x2048.Idx → EReal) (ix3 t b k)) (fun t b => (m ((c : Thread nD τ).loc main_arg1) : S384x3.Idx → EReal) (ix2 t b))
    (fun k n => (m ((c : Thread nD τ).loc main_arg2) : S2048x4096.Idx → EReal) (ix2 k n)) (fun n => (m ((c : Thread nD τ).loc main_arg3) : S4096.Idx → EReal) (ix1 n))
    (fun n => (m ((c : Thread nD τ).loc main_arg4) : S4096.Idx → EReal) (ix1 n))

theorem entry (c : Dev nD) : At (Sof (Yr m c)) 0 (Aof (Sof (Yr m c)) 0) (Went m ρ c) where
  cnt := ctr_entry m ρ c
  sco := by
    intro t b q j p
    refine (congrFun (ent_sco (W2 m ρ c)) (ix5 t b q j p)).trans ?_
    rw [scoArr_at, v1_is, acc_at]
    rw [show (16 * p.val + 4 * q.val + j.val : ℕ) = (col q j p).val from rfl, Sof_at]
    refine congrArg (fun y : EReal => ((5 * th y : ℝ) : EReal)) ?_
    unfold Yr yE
    rw [W2_args m ρ c main_arg1 (by decide), W2_args m ρ c main_arg3 (by decide), W2_args m ρ c main_arg4 (by decide)]
    have e : ∀ k : Fin 2048, shapeCast S1152x2048 (m ((c : Thread nD τ).loc main_arg0) : S384x3x2048.Idx → EReal) shapeCasts_S384x3x2048_S1152x2048 (ix2 (row t b) k)
        = (m ((c : Thread nD τ).loc main_arg0) : S384x3x2048.Idx → EReal) (ix3 t b k) := by
      intro k
      refine shapeCast_apply _ _ _ (ix3 t b k) ?_
      rw [Shape.rowMajor_val_three, Shape.rowMajor_val_two]
      show (t.val * 3 + b.val) * 2048 + k.val = (3 * t.val + b.val) * 2048 + k.val
      omega
    simp only [e]
  st := by
    intro b q p
    refine (congrFun (ent_st (W2 m ρ c)) (ix3 b q p)).trans ?_
    rw [Aof_zero]
    pointwise
    exact EReal.coe_zero.symm

/-- The reference's result. -/
theorem ref_out (c : Dev nD) (b : Fin 3) (t : Fin 384) :
    (WN m ρ c (Proc.devRef .tc main_v23) : S3x384.Idx → EReal) (ix2 b t) = ((nR (facOf (Sof (Yr m c)) b) t.val : ℝ) : EReal) := by
  rw [final_main_v23]
  exact loop_out (entry m ρ c) t b

end Cert.Proof.ReferenceIdeal.Val

end
-- ==== Proof.ValAlg.lean ====
/-
  The kernel and the reference leave the same first result, at the ideal instance.
-/
module

public import proofs.«01_k».proof.Defs
public import proofs.«01_k».proof.Proof.ValLaunch
public import proofs.«01_k».proof.Proof.ValRefEntry

@[expose] public section

noncomputable section

namespace Cert.Proof

open Idealize.ShloMosaic Idealize.ShloMosaic.TcCoe Idealize.SL.Sem
open Cert.Proof.Spec

theorem ref_value {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (g' : Dev Cert.ReferenceIdeal.nD → PrngReg) (c : Dev Cert.KernelIdeal.nD)
    (h : ReferenceIdeal.Val.Yr m' c = KernelIdeal.Val.Ym m c) :
    Cert.ReferenceIdeal.Gen.WN m' g' c (Proc.devRef .tc Cert.ReferenceIdeal.main_v23) = KernelIdeal.Val.nV (facOf (KernelIdeal.Val.Sm m c)) := by
  funext i
  obtain ⟨b, t, rfl⟩ : ∃ (b : Fin 3) (t : Fin 384), i = ix2 b t := ⟨i 0, i 1, funext fun a => by fin_cases a <;> rfl⟩
  refine (ReferenceIdeal.Val.ref_out m' g' c b t).trans ?_
  rw [h]
  rfl

theorem algebraic : Cert.algebraic_KernelIdeal_ReferenceIdeal (hKernelIdeal := Cert.KernelIdeal.Gen.facts) (hReferenceIdeal := Cert.ReferenceIdeal.Gen.facts) := by
  intro m g m' g' _ ha
  refine ⟨fun c => KernelIdeal.Val.nV (facOf (KernelIdeal.Val.Sm m c)), KernelIdeal.Val.value_main m g, ?_⟩
  refine (θ_run _ _ _).mono (fun r h c => ?_) (Cert.ReferenceIdeal.Gen.run_main m' g')
  have hY : ReferenceIdeal.Val.Yr m' c = KernelIdeal.Val.Ym m c := by
    obtain ⟨h0, h1, h2, h3, h4⟩ := ha c
    unfold ReferenceIdeal.Val.Yr KernelIdeal.Val.Ym
    rw [h0, h1, h2, h3, h4]
  exact ⟨(h c _ (Cert.ReferenceIdeal.Gen.mem_uc Cert.ReferenceIdeal.main_v23 (by decide))).trans (ref_value g' c hY),
    (h c _ (Cert.ReferenceIdeal.Gen.mem_uc Cert.ReferenceIdeal.main_arg0 (by decide))).trans (Cert.ReferenceIdeal.Gen.WN_main_arg0 m' g' c),
    (h c _ (Cert.ReferenceIdeal.Gen.mem_uc Cert.ReferenceIdeal.main_arg1 (by decide))).trans (Cert.ReferenceIdeal.Gen.WN_main_arg1 m' g' c),
    (h c _ (Cert.ReferenceIdeal.Gen.mem_uc Cert.ReferenceIdeal.main_arg2 (by decide))).trans (Cert.ReferenceIdeal.Gen.WN_main_arg2 m' g' c),
    (h c _ (Cert.ReferenceIdeal.Gen.mem_uc Cert.ReferenceIdeal.main_arg3 (by decide))).trans (Cert.ReferenceIdeal.Gen.WN_main_arg3 m' g' c),
    (h c _ (Cert.ReferenceIdeal.Gen.mem_uc Cert.ReferenceIdeal.main_arg4 (by decide))).trans (Cert.ReferenceIdeal.Gen.WN_main_arg4 m' g' c)⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.KernelFrame
public import proofs.«01_k».proof.Proof.KernelIdealFrame
public import proofs.«01_k».proof.Proof.ValAlg
public import Idealize.ShloMosaic.Lib.Bf16PairInverse
public import Idealize.ShloMosaic.Adequacy
public import Idealize.ShloMosaic.Init

@[expose] public section

noncomputable section

namespace Cert.Proof

open Idealize.ShloMosaic Idealize.SL.Sem

/-- The ledger's sites: the two re-typed buffers, the packs, and the accesses and exits of the packed words. -/
theorem preserves : Cert.preserves_Kernel_KernelIdeal :=
  open Cert.KernelIdeal IdealRules.bf16_pair in
  ⟨bufferStatement S12x264x2x128 S12x264x1x128, bufferStatement S2x3x360x2x128 S2x3x360x1x128, packStatement S8x128,
    statement S1x8x2x128 S1x8x1x128, statement S16x128 S8x128, statement S1x1x8x2x128 S1x1x8x1x128⟩

theorem claim : Cert.Claim := ⟨Cert.Kernel.Gen.facts, Cert.KernelIdeal.Gen.facts, Cert.ReferenceIdeal.Gen.facts,
  fun m ρ _ => Cert.Proof.Kernel.frame_main m ρ, fun m ρ _ => Cert.Proof.KernelIdeal.frame_main m ρ,
  fun m ρ _ => Cert.ReferenceIdeal.Gen.frame m ρ, preserves, Cert.Proof.algebraic⟩

end Cert.Proof

end
